-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_bounded [hPre_bounded : Cert.Pre_bounded.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_bounded.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_bounded [hPre_bounded : Cert.Pre_bounded.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_bounded.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_bounded [hKernel6Ideal : Cert.Kernel6Ideal.Facts] [hPre_bounded : Cert.Pre_bounded.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_bounded m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_bounded [hReference6Ideal : Cert.Reference6Ideal.Facts] [hPre_bounded : Cert.Pre_bounded.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_bounded m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v105)) (v1 : (c : Dev Cert.KernelIdeal.nD) → Buf (Elt Ideal) ((c.tc : Thread Cert.KernelIdeal.nD Cert.KernelIdeal.τ).loc Cert.KernelIdeal.main_v108)) (v2 : (c : Dev Cert.KernelIdeal.nD) → Buf (Elt Ideal) ((c.tc : Thread Cert.KernelIdeal.nD Cert.KernelIdeal.τ).loc Cert.KernelIdeal.main_v109)) (v3 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_v108) = v1 c
          ∧ r.2.mem ((c.tc : Thread Cert.KernelIdeal.nD Cert.KernelIdeal.τ).loc Cert.KernelIdeal.main_v109) = v2 c
          ∧ r.2.mem ((c.tc : Thread Cert.KernelIdeal.nD Cert.KernelIdeal.τ).loc Cert.KernelIdeal.main_v102) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_bounded [hKernel6Ideal : Cert.Kernel6Ideal.Facts] [hReference6Ideal : Cert.Reference6Ideal.Facts] [hPre_bounded : Cert.Pre_bounded.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_bounded m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v21_0)) (v1 : (c : Dev Cert.Kernel6Ideal.nD) → Buf (Elt Ideal) ((c.tc : Thread Cert.Kernel6Ideal.nD Cert.Kernel6Ideal.τ).loc Cert.Kernel6Ideal.main_v21_1)) (v2 : (c : Dev Cert.Kernel6Ideal.nD) → Buf (Elt Ideal) ((c.tc : Thread Cert.Kernel6Ideal.nD Cert.Kernel6Ideal.τ).loc Cert.Kernel6Ideal.main_v21_2)) (v3 : (c : Dev Cert.Kernel6Ideal.nD) → Buf (Elt Ideal) ((c.tc : Thread Cert.Kernel6Ideal.nD Cert.Kernel6Ideal.τ).loc Cert.Kernel6Ideal.main_v21_3)) (v4 : (c : Dev Cert.Kernel6Ideal.nD) → Buf (Elt Ideal) ((c.tc : Thread Cert.Kernel6Ideal.nD Cert.Kernel6Ideal.τ).loc Cert.Kernel6Ideal.main_v21_4)) (v5 : (c : Dev Cert.Kernel6Ideal.nD) → Buf (Elt Ideal) ((c.tc : Thread Cert.Kernel6Ideal.nD Cert.Kernel6Ideal.τ).loc Cert.Kernel6Ideal.main_v21_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21_0) = v0 c
          ∧ r.2.mem ((c.tc : Thread Cert.Kernel6Ideal.nD Cert.Kernel6Ideal.τ).loc Cert.Kernel6Ideal.main_v21_1) = v1 c
          ∧ r.2.mem ((c.tc : Thread Cert.Kernel6Ideal.nD Cert.Kernel6Ideal.τ).loc Cert.Kernel6Ideal.main_v21_2) = v2 c
          ∧ r.2.mem ((c.tc : Thread Cert.Kernel6Ideal.nD Cert.Kernel6Ideal.τ).loc Cert.Kernel6Ideal.main_v21_3) = v3 c
          ∧ r.2.mem ((c.tc : Thread Cert.Kernel6Ideal.nD Cert.Kernel6Ideal.τ).loc Cert.Kernel6Ideal.main_v21_4) = v4 c
          ∧ r.2.mem ((c.tc : Thread Cert.Kernel6Ideal.nD Cert.Kernel6Ideal.τ).loc Cert.Kernel6Ideal.main_v21_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_v52) = v2 c
          ∧ r.2.mem ((c.tc : Thread Cert.Reference6Ideal.nD Cert.Reference6Ideal.τ).loc Cert.Reference6Ideal.main_v53) = v3 c
          ∧ r.2.mem ((c.tc : Thread Cert.Reference6Ideal.nD Cert.Reference6Ideal.τ).loc Cert.Reference6Ideal.main_v54) = v4 c
          ∧ r.2.mem ((c.tc : Thread Cert.Reference6Ideal.nD Cert.Reference6Ideal.τ).loc Cert.Reference6Ideal.main_v33) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)) (v3 : (c : Dev Cert.Kernel8Ideal.nD) → Buf (Elt Ideal) ((c.tc : Thread Cert.Kernel8Ideal.nD Cert.Kernel8Ideal.τ).loc Cert.Kernel8Ideal.main_v5_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_v5_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_v18) = v2 c
          ∧ r.2.mem ((c.tc : Thread Cert.Reference8Ideal.nD Cert.Reference8Ideal.τ).loc Cert.Reference8Ideal.main_v19) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_bounded : Cert.Pre_bounded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_bounded (hKernel6Ideal := hKernel6Ideal) (hPre_bounded := hPre_bounded)
    ∧ quiescent_Reference6Ideal (hReference6Ideal := hReference6Ideal)
    ∧ quiescent_Reference6Ideal_pre_bounded (hReference6Ideal := hReference6Ideal) (hPre_bounded := hPre_bounded)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_bounded (hKernel6Ideal := hKernel6Ideal) (hReference6Ideal := hReference6Ideal) (hPre_bounded := hPre_bounded)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_bounded.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S1 : Shape := ⟨1, ![1]⟩
abbrev S4 : Shape := ⟨1, ![4]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_v3 : IVec S_ 1) (main_v7 : IVec S_ 1) (main_v11 : IVec S_ 1) (main_v15 : IVec S_ 1) : IVec S4 1 :=
  let main_v16 : IVec S1 1 := broadcastInDim S1 ![] bcast_S_S1 main_v3
  let main_v17 : IVec S1 1 := broadcastInDim S1 ![] bcast_S_S1 main_v7
  let main_v18 : IVec S1 1 := broadcastInDim S1 ![] bcast_S_S1 main_v11
  let main_v19 : IVec S1 1 := broadcastInDim S1 ![] bcast_S_S1 main_v15
  let main_v20 : IVec S4 1 := concatenate S4 0 [⟨S1, main_v16⟩, ⟨S1, main_v17⟩, ⟨S1, main_v18⟩, ⟨S1, main_v19⟩] concatenates_S1_S1_S1_S1_S4_d0
  main_v20

def fn {F : FTy → Type} [FloatOps F] (main_arg0 : FVec F S4096x1024 .f32) (main_arg1 : FVec F S1x1024 .f32) (main_arg2 : FVec F S1024x5632 .f32) (main_arg3 : FVec F S2816x1024 .f32) (main_arg4 : FVec F S4096x1024 .f32) : IVec S4 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x5632 .f32 := Host.absf main_arg2
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : FVec F S2816x1024 .f32 := Host.absf main_arg3
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S4096x1024 .f32 := Host.absf main_arg4
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_v3 main_v7 main_v11 main_v15
-- ==== Pre_finite.lean ====
abbrev S8x4096x64 : Shape := ⟨3, ![8, 4096, 64]⟩
abbrev S8x4096 : Shape := ⟨2, ![8, 4096]⟩
abbrev S_ : Shape := ⟨0, ![]⟩
abbrev S8x4096x1 : Shape := ⟨3, ![8, 4096, 1]⟩

class Facts : Prop where
  bcast_S_S8x4096x64 : S_.BroadcastsInDim S8x4096x64 (![] : Fin 0 → Fin S8x4096x64.rank)
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x64_0_1_2 : S8x4096x1.BroadcastsInDim S8x4096x64 (![0, 1, 2] : Fin 3 → Fin S8x4096x64.rank)

variable [Facts]

def fn_part1 {F : FTy → Type} [FloatOps F] (main_v14 : IVec S8x4096x64 1) (main_v18 : IVec S8x4096x1 1) : IVec S8x4096x64 1 :=
  let main_v19 : IVec S8x4096x64 1 := broadcastInDim S8x4096x64 ![0, 1, 2] bcast_S8x4096x1_S8x4096x64_0_1_2 main_v18
  let main_v20 : IVec S8x4096x64 1 := andi main_v14 main_v19
  main_v20

def fn {F : FTy → Type} [FloatOps F] (main_arg0 : FVec F S8x4096x64 .f32) (main_arg1 : FVec F S8x4096x64 .f32) (main_arg2 : FVec F S8x4096x64 .f32) (main_arg3 : FVec F S8x4096 .f32) (main_arg4 : FVec F S8x4096x64 .f32) : IVec S8x4096x64 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_v3 : FVec F S8x4096x64 .f32 := Host.absf main_arg1
  let main_cst_0 : FVec F S_ .f32 := constant S_ .f32 0x7F800000#32
  let main_v4 : FVec F S8x4096x64 .f32 := broadcastInDim S8x4096x64 ![] bcast_S_S8x4096x64 main_cst_0
  let main_v5 : IVec S8x4096x64 1 := cmpf .olt main_v3 main_v4
  let main_v6 : IVec S8x4096x64 1 := andi main_v2 main_v5
  let main_v7 : FVec F S8x4096x64 .f32 := Host.absf main_arg2
  let main_cst_1 : FVec F S_ .f32 := constant S_ .f32 0x7F800000#32
  let main_v8 : FVec F S8x4096x64 .f32 := broadcastInDim S8x4096x64 ![] bcast_S_S8x4096x64 main_cst_1
  let main_v9 : IVec S8x4096x64 1 := cmpf .olt main_v7 main_v8
  let main_v10 : IVec S8x4096x64 1 := andi main_v6 main_v9
  let main_v11 : FVec F S8x4096x64 .f32 := Host.absf main_arg4
  let main_cst_2 : FVec F S_ .f32 := constant S_ .f32 0x7F800000#32
  let main_v12 : FVec F S8x4096x64 .f32 := broadcastInDim S8x4096x64 ![] bcast_S_S8x4096x64 main_cst_2
  let main_v13 : IVec S8x4096x64 1 := cmpf .olt main_v11 main_v12
  let main_v14 : IVec S8x4096x64 1 := andi main_v10 main_v13
  let main_v15 : FVec F S8x4096 .f32 := Host.absf main_arg3
  let main_cst_3 : FVec F S_ .f32 := constant S_ .f32 0x7F800000#32
  let main_v16 : FVec F S8x4096 .f32 := broadcastInDim S8x4096 ![] bcast_S_S8x4096 main_cst_3
  let main_v17 : IVec S8x4096 1 := cmpf .olt main_v15 main_v16
  let main_v18 : IVec S8x4096x1 1 := broadcastInDim S8x4096x1 ![0, 1] bcast_S8x4096_S8x4096x1_0_1 main_v17
  fn_part1 (F := F) main_v14 main_v18
-- ==== Kernel.lean ====
abbrev S8x4096x64 : Shape := ⟨3, ![8, 4096, 64]⟩
abbrev S8x4096 : Shape := ⟨2, ![8, 4096]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096x3 : Shape := ⟨3, ![8, 4096, 3]⟩
abbrev S8x4096x55 : Shape := ⟨3, ![8, 4096, 55]⟩
abbrev S8x4096x128 : Shape := ⟨3, ![8, 4096, 128]⟩
abbrev S8x4096x4 : Shape := ⟨3, ![8, 4096, 4]⟩
abbrev S8x4096x60 : Shape := ⟨3, ![8, 4096, 60]⟩
abbrev S2x4096x128 : Shape := ⟨3, ![2, 4096, 128]⟩
abbrev S2x1024x128 : Shape := ⟨3, ![2, 1024, 128]⟩
abbrev S1x1024x128 : Shape := ⟨3, ![1, 1024, 128]⟩
abbrev S1024x128 : Shape := ⟨2, ![1024, 128]⟩
abbrev S512x128 : Shape := ⟨2, ![512, 128]⟩
abbrev S1024x512 : Shape := ⟨2, ![1024, 512]⟩
abbrev S1x512x128 : Shape := ⟨3, ![1, 512, 128]⟩
abbrev S512x512 : Shape := ⟨2, ![512, 512]⟩
abbrev S1024x1024 : Shape := ⟨2, ![1024, 1024]⟩

abbrev nBuf : Space → Nat
  | .hbm => 142
  | .vmem => 14
  | .smem => 0
  | _ => 0

abbrev hbmTy0_0 (i : Nat) : BufTy := match i % 128 with
  | 0 => ⟨S8x4096x64, .f32⟩
  | 1 => ⟨S8x4096x64, .f32⟩
  | 2 => ⟨S8x4096x64, .f32⟩
  | 3 => ⟨S8x4096, .f32⟩
  | 4 => ⟨S8x4096x64, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S8x4096, .f32⟩
  | 12 => ⟨S8x4096x4096, .f32⟩
  | 13 => ⟨S_, .f32⟩
  | 14 => ⟨S8x4096x4096, .f32⟩
  | 15 => ⟨S8x4096x4096, .f32⟩
  | 16 => ⟨S8x4096x1, .f32⟩
  | 17 => ⟨S8x1x4096, .f32⟩
  | 18 => ⟨S8x4096x4096, .f32⟩
  | 19 => ⟨S8x4096x4096, .f32⟩
  | 20 => ⟨S8x4096x4096, .f32⟩
  | 21 => ⟨S8x4096x4096, .f32⟩
  | 22 => ⟨S4096, .i32⟩
  | 23 => ⟨S4096x1, .i32⟩
  | 24 => ⟨S4096, .i32⟩
  | 25 => ⟨S1x4096, .i32⟩
  | 26 => ⟨S4096x4096, .i32⟩
  | 27 => ⟨S4096x4096, .i32⟩
  | 28 => ⟨S4096x4096, .i1⟩
  | 29 => ⟨S_, .f32⟩
  | 30 => ⟨S_, .f32⟩
  | 31 => ⟨S8x4096x4096, .i1⟩
  | 32 => ⟨S8x4096x4096, .f32⟩
  | 33 => ⟨S8x4096x4096, .f32⟩
  | 34 => ⟨S_, .f32⟩
  | 35 => ⟨S8x4096, .f32⟩
  | 36 => ⟨S8x4096x1, .f32⟩
  | 37 => ⟨S8x4096x4096, .f32⟩
  | 38 => ⟨S8x4096x4096, .f32⟩
  | 39 => ⟨S8x4096x4096, .f32⟩
  | 40 => ⟨S_, .f32⟩
  | 41 => ⟨S8x4096, .f32⟩
  | 42 => ⟨S8x4096x1, .f32⟩
  | 43 => ⟨S8x4096x4096, .f32⟩
  | 44 => ⟨S8x4096x4096, .f32⟩
  | 45 => ⟨S8x4096x64, .f32⟩
  | 46 => ⟨S8x4096, .f32⟩
  | 47 => ⟨S8x4096, .f32⟩
  | 48 => ⟨S8x4096x64, .f32⟩
  | 49 => ⟨S_, .f32⟩
  | 50 => ⟨S8x4096, .f32⟩
  | 51 => ⟨S8x4096, .f32⟩
  | 52 => ⟨S8x4096, .f32⟩
  | 53 => ⟨S8x4096, .bf16⟩
  | 54 => ⟨S8x4096, .f32⟩
  | 55 => ⟨S8x4096, .f32⟩
  | 56 => ⟨S8x4096, .bf16⟩
  | 57 => ⟨S8x4096, .f32⟩
  | 58 => ⟨S8x4096, .f32⟩
  | 59 => ⟨S8x4096, .bf16⟩
  | 60 => ⟨S_, .f32⟩
  | 61 => ⟨S_, .f32⟩
  | 62 => ⟨S8x4096x64, .f32⟩
  | 63 => ⟨S8x4096x64, .f32⟩
  | 64 => ⟨S8x4096x64, .bf16⟩
  | 65 => ⟨S8x4096x1, .bf16⟩
  | 66 => ⟨S8x4096x1, .bf16⟩
  | 67 => ⟨S8x4096x1, .bf16⟩
  | 68 => ⟨S_, .bf16⟩
  | 69 => ⟨S8x4096x3, .bf16⟩
  | 70 => ⟨S8x4096, .f32⟩
  | 71 => ⟨S8x4096, .f32⟩
  | 72 => ⟨S8x4096, .f32⟩
  | 73 => ⟨S8x4096, .bf16⟩
  | 74 => ⟨S8x4096, .f32⟩
  | 75 => ⟨S8x4096, .f32⟩
  | 76 => ⟨S8x4096, .bf16⟩
  | 77 => ⟨S8x4096, .f32⟩
  | 78 => ⟨S8x4096, .f32⟩
  | 79 => ⟨S8x4096, .bf16⟩
  | 80 => ⟨S8x4096x1, .bf16⟩
  | 81 => ⟨S8x4096x1, .bf16⟩
  | 82 => ⟨S8x4096x1, .bf16⟩
  | 83 => ⟨S_, .bf16⟩
  | 84 => ⟨S8x4096x55, .bf16⟩
  | 85 => ⟨S8x4096x128, .bf16⟩
  | 86 => ⟨S8x4096x64, .bf16⟩
  | 87 => ⟨S_, .bf16⟩
  | 88 => ⟨S8x4096x3, .bf16⟩
  | 89 => ⟨S8x4096, .bf16⟩
  | 90 => ⟨S8x4096, .bf16⟩
  | 91 => ⟨S8x4096, .bf16⟩
  | 92 => ⟨S8x4096x1, .bf16⟩
  | 93 => ⟨S8x4096x1, .bf16⟩
  | 94 => ⟨S8x4096x1, .bf16⟩
  | 95 => ⟨S_, .bf16⟩
  | 96 => ⟨S8x4096x3, .bf16⟩
  | 97 => ⟨S_, .bf16⟩
  | 98 => ⟨S8x4096x55, .bf16⟩
  | 99 => ⟨S8x4096x128, .bf16⟩
  | 100 => ⟨S8x4096x64, .bf16⟩
  | 101 => ⟨S_, .bf16⟩
  | 102 => ⟨S8x4096x4, .bf16⟩
  | 103 => ⟨S_, .bf16⟩
  | 104 => ⟨S8x4096x60, .bf16⟩
  | 105 => ⟨S8x4096x128, .bf16⟩
  | 106 => ⟨S8x4096x64, .bf16⟩
  | 107 => ⟨S_, .bf16⟩
  | 108 => ⟨S8x4096x1, .bf16⟩
  | 109 => ⟨S8x4096, .f32⟩
  | 110 => ⟨S8x4096, .bf16⟩
  | 111 => ⟨S8x4096, .f32⟩
  | 112 => ⟨S8x4096, .f32⟩
  | 113 => ⟨S8x4096, .bf16⟩
  | 114 => ⟨S8x4096, .f32⟩
  | 115 => ⟨S8x4096, .f32⟩
  | 116 => ⟨S8x4096, .bf16⟩
  | 117 => ⟨S8x4096x1, .bf16⟩
  | 118 => ⟨S8x4096x1, .bf16⟩
  | 119 => ⟨S8x4096x1, .bf16⟩
  | 120 => ⟨S_, .bf16⟩
  | 121 => ⟨S8x4096x60, .bf16⟩
  | 122 => ⟨S8x4096x128, .bf16⟩
  | 123 => ⟨S8x4096x128, .f32⟩
  | 124 => ⟨S8x4096x128, .f32⟩
  | 125 => ⟨S8x4096x128, .f32⟩
  | 126 => ⟨S8x4096x1, .f32⟩
  | 127 => ⟨S8x4096, .f32⟩
  | _ => ⟨S8x4096x64, .f32⟩

abbrev hbmTy0_1 (i : Nat) : BufTy := match i % 128 with
  | 0 => ⟨S8x4096x1, .f32⟩
  | 1 => ⟨S8x4096, .f32⟩
  | 2 => ⟨S8x4096, .f32⟩
  | 3 => ⟨S_, .f32⟩
  | 4 => ⟨S_, .f32⟩
  | 5 => ⟨S8x4096, .f32⟩
  | 6 => ⟨S8x4096x64, .f32⟩
  | 7 => ⟨S_, .f32⟩
  | 8 => ⟨S8x4096x64, .f32⟩
  | 9 => ⟨S8x4096x64, .f32⟩
  | 10 => ⟨S8x4096x64, .f32⟩
  | 11 => ⟨S8x4096x64, .f32⟩
  | 12 => ⟨S8x4096x64, .f32⟩
  | 13 => ⟨S8x4096x64, .f32⟩
  | _ => ⟨S8x4096x64, .f32⟩

abbrev hbmTy (i : Nat) : BufTy := match i / 128 with
  | 0 => hbmTy0_0 i
  | 1 => hbmTy0_1 i
  | _ => ⟨S8x4096x64, .f32⟩

abbrev bufTy : (tb : Table) → Fin (tcTables nBuf tb) → BufTy
  | .hbm, ⟨i, _⟩ => hbmTy i
  | .local _ .vmem, ⟨0, _⟩ => ⟨S2x4096x128, .bf16⟩
  | .local _ .vmem, ⟨1, _⟩ => ⟨S2x4096x128, .bf16⟩
  | .local _ .vmem, ⟨2, _⟩ => ⟨S2x1024x128, .bf16⟩
  | .local _ .vmem, ⟨3, _⟩ => ⟨S2x1024x128, .bf16⟩
  | .local _ .vmem, ⟨4, _⟩ => ⟨S2x1024x128, .bf16⟩
  | .local _ .vmem, ⟨5, _⟩ => ⟨S2x1024x128, .bf16⟩
  | .local _ .vmem, ⟨6, _⟩ => ⟨S2x4096x128, .bf16⟩
  | .local _ .vmem, ⟨7, _⟩ => ⟨S2x4096x128, .bf16⟩
  | .local _ .vmem, ⟨8, _⟩ => ⟨S2x4096x128, .f32⟩
  | .local _ .vmem, ⟨9, _⟩ => ⟨S2x4096x128, .f32⟩
  | .local _ .vmem, ⟨10, _⟩ => ⟨S2x1024x128, .f32⟩
  | .local _ .vmem, ⟨11, _⟩ => ⟨S2x1024x128, .f32⟩
  | .local _ .vmem, ⟨12, _⟩ => ⟨S2x1024x128, .f32⟩
  | .local _ .vmem, ⟨13, _⟩ => ⟨S2x1024x128, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_call0_call0_cst : Ref sig .tc := ⟨.hbm, 9, rfl⟩
abbrev main_call0_call0_v0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_10 : Ref sig .tc := ⟨.hbm, 95, rfl⟩
abbrev main_v74 : Ref sig .tc := ⟨.hbm, 96, rfl⟩
abbrev main_cst_11 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_12 : Ref sig .tc := ⟨.hbm, 101, rfl⟩
abbrev main_v78 : Ref sig .tc := ⟨.hbm, 102, rfl⟩
abbrev main_cst_13 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_15 : Ref sig .tc := ⟨.hbm, 120, rfl⟩
abbrev main_v94 : Ref sig .tc := ⟨.hbm, 121, rfl⟩
abbrev main_v95 : Ref sig .tc := ⟨.hbm, 122, rfl⟩
abbrev main_v96_0 : Ref sig .tc := ⟨.hbm, 123, rfl⟩
abbrev main_v96_1 : Ref sig .tc := ⟨.hbm, 124, rfl⟩
abbrev main_v96_2 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_call2_cst : Ref sig .tc := ⟨.hbm, 131, rfl⟩
abbrev main_call2_v0 : Ref sig .tc := ⟨.hbm, 132, rfl⟩
abbrev main_v102 : Ref sig .tc := ⟨.hbm, 133, rfl⟩
abbrev main_v103 : Ref sig .tc := ⟨.hbm, 134, rfl⟩
abbrev main_cst_16 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v11 : BitVec 32 := Scalar.muli arg1 c1024_i32
  v11
def k0_off1 (i : grid0.Coords) : Fin 3 → Nat :=
  let c0_11 : Index := 0#32
  let arg1 : BitVec 32 := BitVec.ofNat 32 (i 1).val
  let c1024_i32 : BitVec 32 := 1024#32
  let v11 : BitVec 32 := Scalar.muli arg1 c1024_i32
  let v12 : BitVec 32 := v11
  let v13 : Index := Scalar.indexCast v12
  let c0_12 : Index := 0#32
  ![0, v13.toNat, 0]
def k0_mult2 (i : grid0.Coords) : BitVec 32 :=
  let arg1 : BitVec 32 := BitVec.ofNat 32 (i 1).val
  let c1024_i32 : BitVec 32 := 1024#32
  let v11 : BitVec 32 := Scalar.muli arg1 c1024_i32
  let v12 : BitVec 32 := v11
  let c512_i32 : BitVec 32 := 512#32
  let v43 : BitVec 32 := Scalar.addi v12 c512_i32
  v43
def k0_off2 (i : grid0.Coords) : Fin 3 → Nat :=
  let c0_24 : Index := 0#32
  let arg1 : BitVec 32 := BitVec.ofNat 32 (i 1).val
  let c1024_i32 : BitVec 32 := 1024#32
  let v11 : BitVec 32 := Scalar.muli arg1 c1024_i32
  let v12 : BitVec 32 := v11
  let c512_i32 : BitVec 32 := 512#32
  let v43 : BitVec 32 := Scalar.addi v12 c512_i32
  let v44 : BitVec 32 := v43
  let v45 : Index := Scalar.indexCast v44
  let c0_25 : Index := 0#32
  ![0, v45.toNat, 0]
def k0_off3 (i : grid0.Coords) : Fin 3 → Nat :=
  let c1_38 : Index := 1#32
  let arg1 : BitVec 32 := BitVec.ofNat 32 (i 1).val
  let c1024_i32 : BitVec 32 := 1024#32
  let v11 : BitVec 32 := Scalar.muli arg1 c1024_i32
  let v12 : BitVec 32 := v11
  let v77 : Index := Scalar.indexCast v12
  let c0_39 : Index := 0#32
  ![1, v77.toNat, 0]
def k0_mult3 (i : grid0.Coords) : BitVec 32 :=
  let arg1 : BitVec 32 := BitVec.ofNat 32 (i 1).val
  let c1024_i32 : BitVec 32 := 1024#32
  let v11 : BitVec 32 := Scalar.muli arg1 c1024_i32
  let v12 : BitVec 32 := v11
  let c512_i32_52 : BitVec 32 := 512#32
  let v107 : BitVec 32 := Scalar.addi v12 c512_i32_52
  v107
def k0_off4 (i : grid0.Coords) : Fin 3 → Nat :=
  let c1_53 : Index := 1#32
  let arg1 : BitVec 32 := BitVec.ofNat 32 (i 1).val
  let c1024_i32 : BitVec 32 := 1024#32
  let v11 : BitVec 32 := Scalar.muli arg1 c1024_i32
  let v12 : BitVec 32 := v11
  let c512_i32_52 : BitVec 32 := 512#32
  let v107 : BitVec 32 := Scalar.addi v12 c512_i32_52
  let v108 : BitVec 32 := v107
  let v109 : Index := Scalar.indexCast v108
  let c0_54 : Index := 0#32
  ![1, v109.toNat, 0]
@[reducible] def k0_t1_loop (i : grid0.Coords) : Scf.Loop 32 :=
  let arg1 : BitVec 32 := BitVec.ofNat 32 (i 1).val
  let c1_i32 : BitVec 32 := 1#32
  let v141 : BitVec 32 := Scalar.addi arg1 c1_i32
  let c4_i32 : BitVec 32 := 4#32
  let v142 : BitVec 32 := Scalar.subi c4_i32 v141
  let c1_i32_67 : BitVec 32 := 1#32
  let v144 : BitVec 32 := Scalar.divsi v142 c1_i32_67
  let v145 : BitVec 32 := Scalar.muli v144 c1_i32_67
  let v146 : BitVec 32 := Scalar.addi v141 v145
  let c1_i32_68 : BitVec 32 := 1#32
  ⟨v141, v146, c1_i32_68⟩
def k0_mult4 (i : grid0.Coords) (k0_t1 : Fin (k0_t1_loop i).trips) : BitVec 32 :=
  let arg1 : BitVec 32 := BitVec.ofNat 32 (i 1).val
  let c1_i32 : BitVec 32 := 1#32
  let v141 : BitVec 32 := Scalar.addi arg1 c1_i32
  let c1_i32_68 : BitVec 32 := 1#32
  let arg9 : BitVec 32 := Scf.iv v141 c1_i32_68 k0_t1
  let c1024_i32_82 : BitVec 32 := 1024#32
  let v161 : BitVec 32 := Scalar.muli arg9 c1024_i32_82
  v161
def k0_off5 (i : grid0.Coords) (k0_t1 : Fin (k0_t1_loop i).trips) : Fin 3 → Nat :=
  let c0_83 : Index := 0#32
  let arg1 : BitVec 32 := BitVec.ofNat 32 (i 1).val
  let c1_i32 : BitVec 32 := 1#32
  let v141 : BitVec 32 := Scalar.addi arg1 c1_i32
  let c1_i32_68 : BitVec 32 := 1#32
  let arg9 : BitVec 32 := Scf.iv v141 c1_i32_68 k0_t1
  let c1024_i32_82 : BitVec 32 := 1024#32
  let v161 : BitVec 32 := Scalar.muli arg9 c1024_i32_82
  let v162 : BitVec 32 := v161
  let v163 : Index := Scalar.indexCast v162
  let c0_84 : Index := 0#32
  ![0, v163.toNat, 0]
def k0_off6 (i : grid0.Coords) (k0_t1 : Fin (k0_t1_loop i).trips) : Fin 3 → Nat :=
  let c1_96 : Index := 1#32
  let arg1 : BitVec 32 := BitVec.ofNat 32 (i 1).val
  let c1_i32 : BitVec 32 := 1#32
  let v141 : BitVec 32 := Scalar.addi arg1 c1_i32
  let c1_i32_68 : BitVec 32 := 1#32
  let arg9 : BitVec 32 := Scf.iv v141 c1_i32_68 k0_t1
  let c1024_i32_82 : BitVec 32 := 1024#32
  let v161 : BitVec 32 := Scalar.muli arg9 c1024_i32_82
  let v162 : BitVec 32 := v161
  let v188 : Index := Scalar.indexCast v162
  let c0_97 : Index := 0#32
  ![1, v188.toNat, 0]
@[reducible] def k0_t2_loop (i : grid0.Coords) : Scf.Loop 32 :=
  let arg1 : BitVec 32 := BitVec.ofNat 32 (i 1).val
  let c1_i32 : BitVec 32 := 1#32
  let v141 : BitVec 32 := Scalar.addi arg1 c1_i32
  let c4_i32 : BitVec 32 := 4#32
  let v142 : BitVec 32 := Scalar.subi c4_i32 v141
  let c1_i32_67 : BitVec 32 := 1#32
  let v144 : BitVec 32 := Scalar.divsi v142 c1_i32_67
  let v145 : BitVec 32 := Scalar.muli v144 c1_i32_67
  let v146 : BitVec 32 := Scalar.addi v141 v145
  let v143 : BitVec 32 := Scalar.addi v141 v142
  let c1_i32_69 : BitVec 32 := 1#32
  ⟨v146, v143, c1_i32_69⟩
def k0_mult5 (i : grid0.Coords) (k0_t2 : Fin (k0_t2_loop i).trips) : BitVec 32 :=
  let arg1 : BitVec 32 := BitVec.ofNat 32 (i 1).val
  let c1_i32 : BitVec 32 := 1#32
  let v141 : BitVec 32 := Scalar.addi arg1 c1_i32
  let c4_i32 : BitVec 32 := 4#32
  let v142 : BitVec 32 := Scalar.subi c4_i32 v141
  let c1_i32_67 : BitVec 32 := 1#32
  let v144 : BitVec 32 := Scalar.divsi v142 c1_i32_67
  let v145 : BitVec 32 := Scalar.muli v144 c1_i32_67
  let v146 : BitVec 32 := Scalar.addi v141 v145
  let c1_i32_69 : BitVec 32 := 1#32
  let arg9 : BitVec 32 := Scf.iv v146 c1_i32_69 k0_t2
  let c1024_i32_82 : BitVec 32 := 1024#32
  let v161 : BitVec 32 := Scalar.muli arg9 c1024_i32_82
  v161
def k0_off7 (i : grid0.Coords) (k0_t2 : Fin (k0_t2_loop i).trips) : Fin 3 → Nat :=
  let c0_83 : Index := 0#32
  let arg1 : BitVec 32 := BitVec.ofNat 32 (i 1).val
  let c1_i32 : BitVec 32 := 1#32
  let v141 : BitVec 32 := Scalar.addi arg1 c1_i32
  let c4_i32 : BitVec 32 := 4#32
  let v142 : BitVec 32 := Scalar.subi c4_i32 v141
  let c1_i32_67 : BitVec 32 := 1#32
  let v144 : BitVec 32 := Scalar.divsi v142 c1_i32_67
  let v145 : BitVec 32 := Scalar.muli v144 c1_i32_67
  let v146 : BitVec 32 := Scalar.addi v141 v145
  let c1_i32_69 : BitVec 32 := 1#32
  let arg9 : BitVec 32 := Scf.iv v146 c1_i32_69 k0_t2
  let c1024_i32_82 : BitVec 32 := 1024#32
  let v161 : BitVec 32 := Scalar.muli arg9 c1024_i32_82
  let v162 : BitVec 32 := v161
  let v163 : Index := Scalar.indexCast v162
  let c0_84 : Index := 0#32
  ![0, v163.toNat, 0]
def k0_off8 (i : grid0.Coords) (k0_t2 : Fin (k0_t2_loop i).trips) : Fin 3 → Nat :=
  let c1_96 : Index := 1#32
  let arg1 : BitVec 32 := BitVec.ofNat 32 (i 1).val
  let c1_i32 : BitVec 32 := 1#32
  let v141 : BitVec 32 := Scalar.addi arg1 c1_i32
  let c4_i32 : BitVec 32 := 4#32
  let v142 : BitVec 32 := Scalar.subi c4_i32 v141
  let c1_i32_67 : BitVec 32 := 1#32
  let v144 : BitVec 32 := Scalar.divsi v142 c1_i32_67
  let v145 : BitVec 32 := Scalar.muli v144 c1_i32_67
  let v146 : BitVec 32 := Scalar.addi v141 v145
  let c1_i32_69 : BitVec 32 := 1#32
  let arg9 : BitVec 32 := Scf.iv v146 c1_i32_69 k0_t2
  let c1024_i32_82 : BitVec 32 := 1024#32
  let v161 : BitVec 32 := Scalar.muli arg9 c1024_i32_82
  let v162 : BitVec 32 := v161
  let v188 : Index := Scalar.indexCast v162
  let c0_97 : Index := 0#32
  ![1, v188.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x64 : Shape := ⟨3, ![8, 4096, 64]⟩
abbrev S8x4096 : Shape := ⟨2, ![8, 4096]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x64x4096 : Shape := ⟨3, ![8, 64, 4096]⟩

abbrev nBuf : Space → Nat
  | .hbm => 111
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096, .f32⟩
  | .hbm, ⟨4, _⟩ => ⟨S8x4096x64, .f32⟩
  | .hbm, ⟨5, _⟩ => ⟨S_, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S8x4096x1, .f32⟩
  | .hbm, ⟨13, _⟩ => ⟨S8x1x4096, .f32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S4096, .i32⟩
  | .hbm, ⟨19, _⟩ => ⟨S4096x1, .i32⟩
  | .hbm, ⟨20, _⟩ => ⟨S4096, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .i1⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .i1⟩
  | .hbm, ⟨46, _⟩ => ⟨S_, .f32⟩
  | .hbm, ⟨47, _⟩ => ⟨S8x4096, .f32⟩
  | .hbm, ⟨48, _⟩ => ⟨S8x4096, .i1⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S_, .f32⟩
  | .hbm, ⟨54, _⟩ => ⟨S8x4096, .f32⟩
  | .hbm, ⟨55, _⟩ => ⟨S8x4096, .f32⟩
  | .hbm, ⟨56, _⟩ => ⟨S8x4096, .f32⟩
  | .hbm, ⟨57, _⟩ => ⟨S8x4096x1, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S_, .f32⟩
  | .hbm, ⟨62, _⟩ => ⟨S8x4096, .f32⟩
  | .hbm, ⟨63, _⟩ => ⟨S8x4096x1, .f32⟩
  | .hbm, ⟨64, _⟩ => ⟨S8x4096x4096, .f32⟩
  | .hbm, ⟨65, _⟩ => ⟨S8x4096x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S8x4096x64, .f32⟩
  | .hbm, ⟨71, _⟩ => ⟨S8x64x4096, .f32⟩
  | .hbm, ⟨72, _⟩ => ⟨S8x4096x64, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S8x4096x1, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096, .f32⟩
  | .hbm, ⟨93, _⟩ => ⟨S8x4096x1, .f32⟩
  | .hbm, ⟨94, _⟩ => ⟨S8x4096x4096, .f32⟩
  | .hbm, ⟨95, _⟩ => ⟨S_, .f32⟩
  | .hbm, ⟨96, _⟩ => ⟨S8x4096, .f32⟩
  | .hbm, ⟨97, _⟩ => ⟨S8x1x4096, .f32⟩
  | .hbm, ⟨98, _⟩ => ⟨S_, .f32⟩
  | .hbm, ⟨99, _⟩ => ⟨S8x4096, .f32⟩
  | .hbm, ⟨100, _⟩ => ⟨S_, .f32⟩
  | .hbm, ⟨101, _⟩ => ⟨S8x4096, .f32⟩
  | .hbm, ⟨102, _⟩ => ⟨S8x4096, .f32⟩
  | .hbm, ⟨103, _⟩ => ⟨S_, .f32⟩
  | .hbm, ⟨104, _⟩ => ⟨S8x4096x4096, .f32⟩
  | .hbm, ⟨105, _⟩ => ⟨S8x4096x4096, .f32⟩
  | .hbm, ⟨106, _⟩ => ⟨S8x4096x64, .f32⟩
  | .hbm, ⟨107, _⟩ => ⟨S8x4096x64, .f32⟩
  | .hbm, ⟨108, _⟩ => ⟨S_, .f32⟩
  | .hbm, ⟨109, _⟩ => ⟨S_, .f32⟩
  | .hbm, ⟨110, _⟩ => ⟨S8x4096, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call1_v0 : Ref sig .tc := ⟨.hbm, 26, rfl⟩
abbrev main_v17_1 : Ref sig .tc := ⟨.hbm, 27, rfl⟩
abbrev main_call1_v2 : Ref sig .tc := ⟨.hbm, 28, rfl⟩
abbrev main_v17_0 : Ref sig .tc := ⟨.hbm, 29, rfl⟩
abbrev main_call1_cst : Ref sig .tc := ⟨.hbm, 30, rfl⟩
abbrev main_v17_2 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call2_cst : Ref sig .tc := ⟨.hbm, 88, rfl⟩
abbrev main_call2_v0 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_cst_15 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩
abbrev main_cst_17 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call3_call0_cst : Ref sig .tc := ⟨.hbm, 108, rfl⟩
abbrev main_call3_call0_v0 : Ref sig .tc := ⟨.hbm, 109, rfl⟩
abbrev main_v75 : Ref sig .tc := ⟨.hbm, 110, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x5640 : Shape := ⟨2, ![1024, 5640]⟩
abbrev S4096x5640 : Shape := ⟨2, ![4096, 5640]⟩
abbrev S1024x1536 : Shape := ⟨2, ![1024, 1536]⟩
abbrev S1024x8 : Shape := ⟨2, ![1024, 8]⟩
abbrev S1024x4096 : Shape := ⟨2, ![1024, 4096]⟩
abbrev S4096x1536 : Shape := ⟨2, ![4096, 1536]⟩
abbrev S4096x8 : Shape := ⟨2, ![4096, 8]⟩
abbrev S4096x4096 : Shape := ⟨2, ![4096, 4096]⟩
abbrev S_ : Shape := ⟨0, ![]⟩
abbrev S4096x128 : Shape := ⟨2, ![4096, 128]⟩
abbrev S1024x128 : Shape := ⟨2, ![1024, 128]⟩
abbrev S256x1024 : Shape := ⟨2, ![256, 1024]⟩
abbrev S256x1536 : Shape := ⟨2, ![256, 1536]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S1024 : Shape := ⟨1, ![1024]⟩

abbrev nBuf : Space → Nat
  | .hbm => 21
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5640, .f32⟩
  | .hbm, ⟨3, _⟩ => ⟨S4096x1024, .f32⟩
  | .hbm, ⟨4, _⟩ => ⟨S4096x5640, .f32⟩
  | .hbm, ⟨5, _⟩ => ⟨S1024x5640, .bf16⟩
  | .hbm, ⟨6, _⟩ => ⟨S1024x1536, .bf16⟩
  | .hbm, ⟨7, _⟩ => ⟨S1024x8, .bf16⟩
  | .hbm, ⟨8, _⟩ => ⟨S1024x4096, .bf16⟩
  | .hbm, ⟨9, _⟩ => ⟨S4096x5640, .bf16⟩
  | .hbm, ⟨10, _⟩ => ⟨S4096x1536, .bf16⟩
  | .hbm, ⟨11, _⟩ => ⟨S4096x8, .bf16⟩
  | .hbm, ⟨12, _⟩ => ⟨S4096x4096, .bf16⟩
  | .hbm, ⟨13, _⟩ => ⟨S_, .i32⟩
  | .hbm, ⟨14, _⟩ => ⟨S_, .bf16⟩
  | .hbm, ⟨15, _⟩ => ⟨S4096x128, .bf16⟩
  | .hbm, ⟨16, _⟩ => ⟨S_, .i32⟩
  | .hbm, ⟨17, _⟩ => ⟨S_, .bf16⟩
  | .hbm, ⟨18, _⟩ => ⟨S1024x128, .bf16⟩
  | .hbm, ⟨19, _⟩ => ⟨S4096x1024, .f32⟩
  | .hbm, ⟨20, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1536, .bf16⟩
  | .local _ .vmem, ⟨6, _⟩ => ⟨S256x1536, .bf16⟩
  | .local _ .vmem, ⟨7, _⟩ => ⟨S256x128, .bf16⟩
  | .local _ .vmem, ⟨8, _⟩ => ⟨S256x128, .bf16⟩
  | .local _ .vmem, ⟨9, _⟩ => ⟨S256x4096, .bf16⟩
  | .local _ .vmem, ⟨10, _⟩ => ⟨S256x4096, .bf16⟩
  | .local _ .vmem, ⟨11, _⟩ => ⟨S1024x1536, .bf16⟩
  | .local _ .vmem, ⟨12, _⟩ => ⟨S1024x128, .bf16⟩
  | .local _ .vmem, ⟨13, _⟩ => ⟨S1024x4096, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x1024 : Shape := ⟨2, ![4096, 1024]⟩
abbrev S1x1024 : Shape := ⟨2, ![1, 1024]⟩
abbrev S1024x5640 : Shape := ⟨2, ![1024, 5640]⟩
abbrev S4096x5640 : Shape := ⟨2, ![4096, 5640]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5640, .f32⟩
  | .hbm, ⟨3, _⟩ => ⟨S4096x1024, .f32⟩
  | .hbm, ⟨4, _⟩ => ⟨S4096x5640, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5640, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel3.lean ====
abbrev S4096x1024 : Shape := ⟨2, ![4096, 1024]⟩
abbrev S4096x1536 : Shape := ⟨2, ![4096, 1536]⟩
abbrev S1024x1536 : Shape := ⟨2, ![1024, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x1024, .bf16⟩
  | .hbm, ⟨3, _⟩ => ⟨S4096x1536, .bf16⟩
  | .hbm, ⟨4, _⟩ => ⟨S1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S_, .f32⟩
  | .hbm, ⟨3, _⟩ => ⟨S1024x1536, .f32⟩
  | .hbm, ⟨4, _⟩ => ⟨S4096x1536, .f32⟩
  | .hbm, ⟨5, _⟩ => ⟨S1536x1024, .f32⟩
  | .hbm, ⟨6, _⟩ => ⟨S1024x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S4096x128 : Shape := ⟨2, ![4096, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x1024, .bf16⟩
  | .hbm, ⟨3, _⟩ => ⟨S4096x128, .bf16⟩
  | .hbm, ⟨4, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S_, .f32⟩
  | .hbm, ⟨3, _⟩ => ⟨S1024x128, .f32⟩
  | .hbm, ⟨4, _⟩ => ⟨S4096x128, .f32⟩
  | .hbm, ⟨5, _⟩ => ⟨S128x1024, .f32⟩
  | .hbm, ⟨6, _⟩ => ⟨S1024x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S1x2816x1024 : Shape := ⟨3, ![1, 2816, 1024]⟩
abbrev S1 : Shape := ⟨1, ![1]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S256x1408 : Shape := ⟨2, ![256, 1408]⟩
abbrev S1x1x1024x1408 : Shape := ⟨4, ![1, 1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 35
  | .vmem => 20
  | .smem => 1
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x5632, .bf16⟩
  | .hbm, ⟨22, _⟩ => ⟨S1024x5632, .bf16⟩
  | .hbm, ⟨23, _⟩ => ⟨S1024x4x1408, .bf16⟩
  | .hbm, ⟨24, _⟩ => ⟨S4x1024x1408, .bf16⟩
  | .hbm, ⟨25, _⟩ => ⟨S1x4x1024x1408, .bf16⟩
  | .hbm, ⟨26, _⟩ => ⟨S2816x1024, .bf16⟩
  | .hbm, ⟨27, _⟩ => ⟨S1x2816x1024, .bf16⟩
  | .hbm, ⟨28, _⟩ => ⟨S_, .i32⟩
  | .hbm, ⟨29, _⟩ => ⟨S4096x1024, .f32⟩
  | .hbm, ⟨30, _⟩ => ⟨S4096x5632, .bf16⟩
  | .hbm, ⟨31, _⟩ => ⟨S4096x2816, .bf16⟩
  | .hbm, ⟨32, _⟩ => ⟨S4096x1024, .bf16⟩
  | .hbm, ⟨33, _⟩ => ⟨S4096x1024, .bf16⟩
  | .hbm, ⟨34, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x5632, .bf16⟩
  | .local _ .vmem, ⟨6, _⟩ => ⟨S256x5632, .bf16⟩
  | .local _ .vmem, ⟨7, _⟩ => ⟨S1x4x1024x1408, .bf16⟩
  | .local _ .vmem, ⟨8, _⟩ => ⟨S1x2816x1024, .bf16⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .smem, ⟨0, _⟩ => ⟨S1, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev main_v21_4 : Ref sig .tc := ⟨.hbm, 33, rfl⟩
abbrev main_v21_5 : Ref sig .tc := ⟨.hbm, 34, rfl⟩
abbrev main_v20 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference6Ideal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096x5632 : Shape := ⟨2, ![4096, 5632]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x5632, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x5632, .bf16⟩
  | .hbm, ⟨81, _⟩ => ⟨S4096x2816, .bf16⟩
  | .hbm, ⟨82, _⟩ => ⟨S4096x1024, .bf16⟩
  | .hbm, ⟨83, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S1x2816x1024 : Shape := ⟨3, ![1, 2816, 1024]⟩
abbrev S_ : Shape := ⟨0, ![]⟩
abbrev S1 : Shape := ⟨1, ![1]⟩
abbrev S4096x5632 : Shape := ⟨2, ![4096, 5632]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S1x1x1024x1408 : Shape := ⟨4, ![1, 1, 1024, 1408]⟩
abbrev S1024x1408 : Shape := ⟨2, ![1024, 1408]⟩
abbrev S256x1408 : Shape := ⟨2, ![256, 1408]⟩
abbrev S256x2816 : Shape := ⟨2, ![256, 2816]⟩

abbrev nBuf : Space → Nat
  | .hbm => 13
  | .vmem => 9
  | .smem => 1
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S1x4x1024x1408, .bf16⟩
  | .hbm, ⟨8, _⟩ => ⟨S2816x1024, .bf16⟩
  | .hbm, ⟨9, _⟩ => ⟨S1x2816x1024, .bf16⟩
  | .hbm, ⟨10, _⟩ => ⟨S_, .i32⟩
  | .hbm, ⟨11, _⟩ => ⟨S4096x1024, .f32⟩
  | .hbm, ⟨12, _⟩ => ⟨S4096x5632, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x4x1024x1408, .bf16⟩
  | .local _ .vmem, ⟨4, _⟩ => ⟨S1x2816x1024, .bf16⟩
  | .local _ .vmem, ⟨5, _⟩ => ⟨S256x1024, .f32⟩
  | .local _ .vmem, ⟨6, _⟩ => ⟨S256x1024, .f32⟩
  | .local _ .vmem, ⟨7, _⟩ => ⟨S256x5632, .bf16⟩
  | .local _ .vmem, ⟨8, _⟩ => ⟨S256x5632, .bf16⟩
  | .local _ .smem, ⟨0, _⟩ => ⟨S1, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v7_0 : Ref sig .tc := ⟨.hbm, 11, rfl⟩
abbrev main_v7_1 : Ref sig .tc := ⟨.hbm, 12, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S1024x5640 : Shape := ⟨2, ![1024, 5640]⟩
abbrev S1024x1536 : Shape := ⟨2, ![1024, 1536]⟩
abbrev S1024x8 : Shape := ⟨2, ![1024, 8]⟩
abbrev S1024x4096 : Shape := ⟨2, ![1024, 4096]⟩
abbrev S_ : Shape := ⟨0, ![]⟩
abbrev S1024x128 : Shape := ⟨2, ![1024, 128]⟩
abbrev S4096x1536 : Shape := ⟨2, ![4096, 1536]⟩
abbrev S4096x128 : Shape := ⟨2, ![4096, 128]⟩
abbrev S4096x4096 : Shape := ⟨2, ![4096, 4096]⟩
abbrev S256x1024 : Shape := ⟨2, ![256, 1024]⟩
abbrev S256x1536 : Shape := ⟨2, ![256, 1536]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5640, .f32⟩
  | .hbm, ⟨3, _⟩ => ⟨S1024x5640, .bf16⟩
  | .hbm, ⟨4, _⟩ => ⟨S1024x1536, .bf16⟩
  | .hbm, ⟨5, _⟩ => ⟨S1024x8, .bf16⟩
  | .hbm, ⟨6, _⟩ => ⟨S1024x4096, .bf16⟩
  | .hbm, ⟨7, _⟩ => ⟨S_, .i32⟩
  | .hbm, ⟨8, _⟩ => ⟨S_, .bf16⟩
  | .hbm, ⟨9, _⟩ => ⟨S1024x128, .bf16⟩
  | .hbm, ⟨10, _⟩ => ⟨S4096x1024, .bf16⟩
  | .hbm, ⟨11, _⟩ => ⟨S4096x1536, .bf16⟩
  | .hbm, ⟨12, _⟩ => ⟨S4096x128, .f32⟩
  | .hbm, ⟨13, _⟩ => ⟨S4096x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1536, .bf16⟩
  | .local _ .vmem, ⟨4, _⟩ => ⟨S1024x128, .bf16⟩
  | .local _ .vmem, ⟨5, _⟩ => ⟨S1024x4096, .bf16⟩
  | .local _ .vmem, ⟨6, _⟩ => ⟨S256x1024, .bf16⟩
  | .local _ .vmem, ⟨7, _⟩ => ⟨S256x1024, .bf16⟩
  | .local _ .vmem, ⟨8, _⟩ => ⟨S256x1536, .bf16⟩
  | .local _ .vmem, ⟨9, _⟩ => ⟨S256x1536, .bf16⟩
  | .local _ .vmem, ⟨10, _⟩ => ⟨S256x128, .f32⟩
  | .local _ .vmem, ⟨11, _⟩ => ⟨S256x128, .f32⟩
  | .local _ .vmem, ⟨12, _⟩ => ⟨S256x4096, .bf16⟩
  | .local _ .vmem, ⟨13, _⟩ => ⟨S256x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4096x1024 : Shape := ⟨2, ![4096, 1024]⟩
abbrev S1x1024 : Shape := ⟨2, ![1, 1024]⟩
abbrev S1024x5640 : Shape := ⟨2, ![1024, 5640]⟩
abbrev S_ : Shape := ⟨0, ![]⟩
abbrev S4096 : Shape := ⟨1, ![4096]⟩
abbrev S4096x1 : Shape := ⟨2, ![4096, 1]⟩
abbrev S4096x5640 : Shape := ⟨2, ![4096, 5640]⟩
abbrev S4096x1536 : Shape := ⟨2, ![4096, 1536]⟩
abbrev S4096x8 : Shape := ⟨2, ![4096, 8]⟩
abbrev S4096x4096 : Shape := ⟨2, ![4096, 4096]⟩
abbrev S4096x128 : Shape := ⟨2, ![4096, 128]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5640, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x5640, .f32⟩
  | .hbm, ⟨19, _⟩ => ⟨S4096x1536, .f32⟩
  | .hbm, ⟨20, _⟩ => ⟨S4096x8, .f32⟩
  | .hbm, ⟨21, _⟩ => ⟨S4096x4096, .f32⟩
  | .hbm, ⟨22, _⟩ => ⟨S4096x1024, .bf16⟩
  | .hbm, ⟨23, _⟩ => ⟨S4096x1536, .bf16⟩
  | .hbm, ⟨24, _⟩ => ⟨S_, .i32⟩
  | .hbm, ⟨25, _⟩ => ⟨S_, .f32⟩
  | .hbm, ⟨26, _⟩ => ⟨S4096x128, .f32⟩
  | .hbm, ⟨27, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel9.lean ====
abbrev S4096x1024 : Shape := ⟨2, ![4096, 1024]⟩
abbrev S4096x5632 : Shape := ⟨2, ![4096, 5632]⟩
abbrev S_ : Shape := ⟨0, ![]⟩
abbrev S1x4x1024x1408 : Shape := ⟨4, ![1, 4, 1024, 1408]⟩
abbrev S1 : Shape := ⟨1, ![1]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 8
  | .vmem => 6
  | .smem => 1
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1x4x1024x1408, .f32⟩
  | .hbm, ⟨4, _⟩ => ⟨S4096x1024, .bf16⟩
  | .hbm, ⟨5, _⟩ => ⟨S4096x5632, .bf16⟩
  | .hbm, ⟨6, _⟩ => ⟨S_, .i32⟩
  | .hbm, ⟨7, _⟩ => ⟨S1x4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | .local _ .smem, ⟨0, _⟩ => ⟨S1, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v4 : Ref sig .tc := ⟨.hbm, 7, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S1x4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x2816 : Shape := ⟨2, ![4096, 2816]⟩
abbrev S4096x1024 : Shape := ⟨2, ![4096, 1024]⟩
abbrev S_ : Shape := ⟨0, ![]⟩
abbrev S1x2816x1024 : Shape := ⟨3, ![1, 2816, 1024]⟩
abbrev S1 : Shape := ⟨1, ![1]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 8
  | .vmem => 5
  | .smem => 1
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S1x2816x1024, .f32⟩
  | .hbm, ⟨4, _⟩ => ⟨S4096x2816, .bf16⟩
  | .hbm, ⟨5, _⟩ => ⟨S4096x1024, .bf16⟩
  | .hbm, ⟨6, _⟩ => ⟨S_, .i32⟩
  | .hbm, ⟨7, _⟩ => ⟨S1x2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S1x2816x1024, .f32⟩
  | .local _ .smem, ⟨0, _⟩ => ⟨S1, .i32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v4 : Ref sig .tc := ⟨.hbm, 7, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference10Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S1x2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x1024 : Shape := ⟨2, ![4096, 1024]⟩
abbrev S1x1 : Shape := ⟨2, ![1, 1]⟩
abbrev S256x1024 : Shape := ⟨2, ![256, 1024]⟩
abbrev S256 : Shape := ⟨1, ![256]⟩
abbrev S1x256 : Shape := ⟨2, ![1, 256]⟩
abbrev S1 : Shape := ⟨1, ![1]⟩

abbrev nBuf : Space → Nat
  | .hbm => 4
  | .vmem => 6
  | .smem => 1
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .hbm, ⟨3, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .smem, ⟨0, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel12.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Sem.lean ====
/-
  What one grid point of the kernel computes, as sums of extended reals, and its payloads read at an index.

  Rows are counted by natural numbers: `q t l`, `k s l`, `o t l`, `v s l` are the rows of the four operands of one head,
  `t` over the whole sequence and `s` over the rows of key tile `kt`. `pp` is the masked weight of query `t` on key
  `s`, `ds` the weight times the product of the incoming gradient's row with the value row.
-/
module

public import proofs.«01_k».proof.Proof.Gen.KernelIdeal.Skeleton
public import Idealize.ShloMosaic.Lib.Pointwise
public import Idealize.ShloMosaic.Lib.VecWindow

@[expose] public section

set_option maxRecDepth 16384

noncomputable section

namespace Cert.KernelIdeal.Val
open Cert.KernelIdeal.Gen
open Idealize.ShloMosaic

/-- The rows of one head of one operand. -/
abbrev Rows := ℕ → Fin 128 → EReal

/-- The product of row `t` of `q` with row `s` of `k`. -/
def zz (q k : Rows) (t s : ℕ) : EReal := ∑ l, q t l * k s l

/-- The masked weight of query row `t` on row `s` of key tile `kt`. -/
def pp (kt : ℕ) (q k : Rows) (t s : ℕ) : EReal := if 1024 * kt + s ≤ t then Ideal.exp2 (zz q k t s) else 0

/-- The weight times the gradient that reaches it. -/
def ds (kt : ℕ) (q k o v : Rows) (t s : ℕ) : EReal := pp kt q k t s * zz o v t s

/-- What key tile `kt` adds to row `t` of the queries' gradient. -/
def tq (kt : ℕ) (q k o v : Rows) (t : ℕ) (l : Fin 128) : EReal := ∑ s ∈ Finset.range 1024, ds kt q k o v t s * k s l

/-- What query rows below `n` add to row `s` of the keys' gradient. -/
def tk (n kt : ℕ) (q k o v : Rows) (s : ℕ) (l : Fin 128) : EReal := ∑ t ∈ Finset.range n, ds kt q k o v t s * q t l

/-- What query rows below `n` add to row `s` of the values' gradient. -/
def tv (n kt : ℕ) (q k o : Rows) (s : ℕ) (l : Fin 128) : EReal := ∑ t ∈ Finset.range n, pp kt q k t s * o t l

section Sums
variable (kt : ℕ) (q k o v : Rows)

theorem pp_of_lt {t s : ℕ} (h : t < 1024 * kt + s) : pp kt q k t s = 0 := if_neg (by omega)
theorem pp_of_le {t s : ℕ} (h : 1024 * kt + s ≤ t) : pp kt q k t s = Ideal.exp2 (zz q k t s) := if_pos h
theorem ds_of_lt {t s : ℕ} (h : t < 1024 * kt + s) : ds kt q k o v t s = 0 := by rw [ds, pp_of_lt kt q k h, zero_mul]

/-- A tile that lies after row `t` adds nothing to it. -/
theorem tq_of_lt {t : ℕ} (h : t < 1024 * kt) (l : Fin 128) : tq kt q k o v t l = 0 :=
  Finset.sum_eq_zero fun s _ => by rw [ds_of_lt kt q k o v (by omega), zero_mul]

/-- Only the first half of the tile reaches the rows of its own first half. -/
theorem tq_of_lt_half {t : ℕ} (h : t < 1024 * kt + 512) (l : Fin 128) :
    tq kt q k o v t l = ∑ s ∈ Finset.range 512, ds kt q k o v t s * k s l := by
  rw [tq, show (1024 : ℕ) = 512 + 512 from rfl, Finset.sum_range_add, Finset.sum_eq_zero (s := Finset.range 512) (f := fun x => ds kt q k o v t (512 + x) * k (512 + x) l), add_zero]
  exact fun s _ => by rw [ds_of_lt kt q k o v (by omega), zero_mul]

theorem tq_halves (t : ℕ) (l : Fin 128) :
    tq kt q k o v t l = (∑ s ∈ Finset.range 512, ds kt q k o v t s * k s l) + ∑ s ∈ Finset.range 512, ds kt q k o v t (512 + s) * k (512 + s) l := by
  rw [tq, show (1024 : ℕ) = 512 + 512 from rfl, Finset.sum_range_add]

theorem tk_step (n m s : ℕ) (l : Fin 128) :
    tk (n + m) kt q k o v s l = tk n kt q k o v s l + ∑ r ∈ Finset.range m, ds kt q k o v (n + r) s * q (n + r) l := by
  rw [tk, tk, Finset.sum_range_add]

theorem tv_step (n m s : ℕ) (l : Fin 128) :
    tv (n + m) kt q k o s l = tv n kt q k o s l + ∑ r ∈ Finset.range m, pp kt q k (n + r) s * o (n + r) l := by
  rw [tv, tv, Finset.sum_range_add]

/-- Rows before the key add nothing. -/
theorem tk_of_le {n s : ℕ} (h : n ≤ 1024 * kt + s) (l : Fin 128) : tk n kt q k o v s l = 0 :=
  Finset.sum_eq_zero fun t ht => by rw [ds_of_lt kt q k o v (by have := Finset.mem_range.mp ht; omega), zero_mul]

theorem tv_of_le {n s : ℕ} (h : n ≤ 1024 * kt + s) (l : Fin 128) : tv n kt q k o s l = 0 :=
  Finset.sum_eq_zero fun t ht => by rw [pp_of_lt kt q k (by have := Finset.mem_range.mp ht; omega), zero_mul]

end Sums

/-! ## Scalars -/

theorem named_mask : (Named.named κ "mask" 0xF149F2CA#32 : Ideal .f32) = (⊥ : EReal) := rfl

theorem exp2_eq (x : EReal) : (FloatOps.exp2 (F := Ideal) (φ := .f32) x : EReal) = Ideal.exp2 x := rfl

/-- The kernel's mask on a comparison of two row counters. -/
theorem select_sge {r x : ℕ} (hr : r < 1024) (hx : x < 1024) (a b : EReal) :
    Scalar.select (IntOp.cmpi CmpIPredicate.sge (BitVec.ofNat 32 r) (BitVec.ofNat 32 x)) a b = if x ≤ r then a else b := by
  have h : (IntOp.cmpi CmpIPredicate.sge (BitVec.ofNat 32 r) (BitVec.ofNat 32 x)) = BitVec.ofBool (decide (x ≤ r)) := by
    show BitVec.ofBool ((BitVec.ofNat 32 x).sle (BitVec.ofNat 32 r)) = _
    congr 1
    rw [BitVec.sle_eq_decide]
    have e1 : (BitVec.ofNat 32 x).toInt = x := by rw [BitVec.toInt_eq_toNat_cond, BitVec.toNat_ofNat]; omega
    have e2 : (BitVec.ofNat 32 r).toInt = r := by rw [BitVec.toInt_eq_toNat_cond, BitVec.toNat_ofNat]; omega
    rw [e1, e2]
    simp only [Nat.cast_le]
  rw [h]
  by_cases hxr : x ≤ r <;> simp [Scalar.select, hxr]

/-- A masked weight of the kernel is `pp`'s. -/
theorem exp2_mask {r x : ℕ} (hr : r < 1024) (hx : x < 1024) (z : EReal) :
    (FloatOps.exp2 (F := Ideal) (φ := .f32) (Scalar.select (IntOp.cmpi CmpIPredicate.sge (BitVec.ofNat 32 r) (BitVec.ofNat 32 x)) z (Named.named κ "mask" 0xF149F2CA#32)) : EReal)
      = if x ≤ r then Ideal.exp2 z else 0 := by
  rw [named_mask, select_sge hr hx, exp2_eq]
  split
  · rfl
  · exact Ideal.exp2_bot

end Cert.KernelIdeal.Val
end
-- ==== Proof.Diag.lean ====
/-
  The payloads of the diagonal tile, where the query tile and the key tile hold the same rows: the first half of the
  keys against all the tile's rows, the second half against its second half of rows, both masked.
-/
module

public import proofs.«01_k».proof.Proof.Sem

@[expose] public section

set_option maxRecDepth 16384

noncomputable section

namespace Cert.KernelIdeal.Val
open Cert.KernelIdeal.Gen
open Idealize.ShloMosaic

theorem exp2_mask_a (r : Fin 1024) (x : Fin 512) (z : EReal) :
    (FloatOps.exp2 (F := Ideal) (φ := .f32) (Scalar.select (IntOp.cmpi CmpIPredicate.sge (BitVec.ofNat 32 r) (BitVec.ofNat 32 x)) z (Named.named κ "mask" 0xF149F2CA#32)) : EReal)
      = if x.val ≤ r.val then Ideal.exp2 z else 0 := exp2_mask r.isLt (by omega) z

theorem exp2_mask_b (r x : Fin 512) (z : EReal) :
    (FloatOps.exp2 (F := Ideal) (φ := .f32) (Scalar.select (IntOp.cmpi CmpIPredicate.sge (BitVec.ofNat 32 r) (BitVec.ofNat 32 x)) z (Named.named κ "mask" 0xF149F2CA#32)) : EReal)
      = if x.val ≤ r.val then Ideal.exp2 z else 0 := exp2_mask (by omega) (by omega) z

variable {kt : ℕ} {q k o v : Rows}

theorem pp_diag (r x : ℕ) : (if x ≤ r then Ideal.exp2 (∑ l, q (1024 * kt + r) l * k x l) else 0) = pp kt q k (1024 * kt + r) x := by
  rw [pp, zz]
  simp only [Nat.add_le_add_iff_left]

theorem pp_diag2 (r x : ℕ) : (if x ≤ r then Ideal.exp2 (∑ l, q (1024 * kt + 512 + r) l * k (512 + x) l) else 0) = pp kt q k (1024 * kt + 512 + r) (512 + x) := by
  rw [pp, zz]
  simp only [show 1024 * kt + (512 + x) = 1024 * kt + 512 + x by omega, Nat.add_le_add_iff_left]

theorem ds_diag (t s : ℕ) : pp kt q k t s * (∑ l, o t l * v s l) = ds kt q k o v t s := rfl

variable {a b : Vec Ideal S1x1024x128 .bf16} {a2 b2 : Vec Ideal S1x512x128 .bf16} {kk vv : Vec Ideal S1x1024x128 .bf16}
  (ha : ∀ (r : Fin 1024) (l : Fin 128), a (ix3 0 r l) = q (1024 * kt + r) l) (hb : ∀ (r : Fin 1024) (l : Fin 128), b (ix3 0 r l) = o (1024 * kt + r) l)
  (ha2 : ∀ (r : Fin 512) (l : Fin 128), a2 (ix3 0 r l) = q (1024 * kt + 512 + r) l) (hb2 : ∀ (r : Fin 512) (l : Fin 128), b2 (ix3 0 r l) = o (1024 * kt + 512 + r) l)
  (hk : ∀ (s : Fin 1024) (l : Fin 128), kk (ix3 0 s l) = k s l) (hv : ∀ (s : Fin 1024) (l : Fin 128), vv (ix3 0 s l) = v s l)

include ha hb hk hv in
theorem diag_q0a (d : Vec Ideal S1x1024x128 .f32) (r : Fin 1024) (l : Fin 128) :
    k0_pay37 (k0_pay33 kk) (k0_pay36 kk vv a b) d (ix3 0 r l) = d (ix3 0 r l) + ∑ s ∈ Finset.range 512, ds kt q k o v (1024 * kt + r) s * k s l := by
  pointwise [k0_pay27, k0_pay29, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  simp only [exp2_mask_a, exp2_mask_b, Ideal.ofBits_zero, zero_add, ha, hb, hk, hv, pp_diag, ds_diag]
  rw [Finset.sum_range]

include ha2 hb2 hk hv in
theorem diag_q0b (d : Vec Ideal S1x512x128 .f32) (r : Fin 512) (l : Fin 128) :
    k0_pay46 (k0_pay45 (k0_pay27 kk) (k0_pay29 vv) a2 b2 d) (ix3 0 r l) = d (ix3 0 r l) + ∑ s ∈ Finset.range 512, ds kt q k o v (1024 * kt + 512 + r) (512 + s) * k (512 + s) l := by
  pointwise [k0_pay27, k0_pay29, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  simp only [exp2_mask_a, exp2_mask_b, Ideal.ofBits_zero, zero_add, ha2, hb2, hk, hv, pp_diag2, ds_diag]
  rw [Finset.sum_range]

include ha hb hk hv in
theorem diag_q1a (d : Vec Ideal S1x1024x128 .f32) (r : Fin 1024) (l : Fin 128) :
    k0_pay55 (k0_pay28 kk) (k0_pay30 vv) a b d (ix3 0 r l) = d (ix3 0 r l) + ∑ s ∈ Finset.range 512, ds kt q k o v (1024 * kt + r) s * k s l := by
  pointwise [k0_pay28, k0_pay30, k0_pay49, k0_pay50, k0_pay51, k0_pay52, k0_pay53, k0_pay54, k0_pay55, k0_pay56, k0_pay57, k0_pay58, k0_pay59, k0_pay60, k0_pay61, k0_pay62, k0_pay63, k0_pay64]
  simp only [exp2_mask_a, exp2_mask_b, Ideal.ofBits_zero, zero_add, ha, hb, hk, hv, pp_diag, ds_diag]
  rw [Finset.sum_range]

include ha2 hb2 hk hv in
theorem diag_q1b (d : Vec Ideal S1x512x128 .f32) (r : Fin 512) (l : Fin 128) :
    k0_pay62 (k0_pay28 kk) (k0_pay30 vv) (k0_pay57 a2) b2 d (ix3 0 r l) = d (ix3 0 r l) + ∑ s ∈ Finset.range 512, ds kt q k o v (1024 * kt + 512 + r) (512 + s) * k (512 + s) l := by
  pointwise [k0_pay28, k0_pay30, k0_pay49, k0_pay50, k0_pay51, k0_pay52, k0_pay53, k0_pay54, k0_pay55, k0_pay56, k0_pay57, k0_pay58, k0_pay59, k0_pay60, k0_pay61, k0_pay62, k0_pay63, k0_pay64]
  simp only [exp2_mask_a, exp2_mask_b, Ideal.ofBits_zero, zero_add, ha2, hb2, hk, hv, pp_diag2, ds_diag]
  rw [Finset.sum_range]

include ha hb ha2 hb2 hk hv in
theorem diag_k0 (s : Fin 1024) (l : Fin 128) :
    k0_pay47 (k0_pay38 (k0_pay31 a) (k0_pay36 kk vv a b)) (k0_pay39 a2) (k0_pay44 (k0_pay27 kk) (k0_pay29 vv) a2 b2) (ix2 s l) = tk (1024 * (kt + 1)) kt q k o v s l := by
  pointwise [k0_pay27, k0_pay29, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  simp only [exp2_mask_a, exp2_mask_b, Ideal.ofBits_zero, zero_add, ha, hb, ha2, hb2, hk, hv, pp_diag, pp_diag2, ds_diag]
  by_cases h : s.val < 512
  · rw [dif_pos h, show 1024 * (kt + 1) = 1024 * kt + 1024 from rfl, tk_step, tk_of_le _ _ _ _ _ (by omega), zero_add, Finset.sum_range]
    simp only [fun r : Fin 1024 => exp2_mask r.isLt s.isLt, pp_diag, ds_diag]
  · obtain ⟨x, e⟩ : ∃ x, s.val = 512 + x := ⟨s.val - 512, by omega⟩
    have hx : x < 1024 := by omega
    rw [dif_neg h, show 1024 * (kt + 1) = 1024 * kt + 512 + 512 from rfl, tk_step, tk_of_le _ _ _ _ _ (by omega), zero_add, Finset.sum_range]
    simp only [e, Nat.add_sub_cancel_left, fun r : Fin 512 => exp2_mask (show r.val < 1024 by omega) hx, pp_diag2, ds_diag]

include ha hb ha2 hb2 hk in
theorem diag_v0 (s : Fin 1024) (l : Fin 128) :
    k0_pay48 (k0_pay35 kk a b) (k0_pay43 (k0_pay27 kk) a2 b2) (ix2 s l) = tv (1024 * (kt + 1)) kt q k o s l := by
  pointwise [k0_pay27, k0_pay29, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  simp only [exp2_mask_a, exp2_mask_b, Ideal.ofBits_zero, zero_add, ha, hb, ha2, hb2, hk, pp_diag, pp_diag2, ds_diag]
  by_cases h : s.val < 512
  · rw [dif_pos h, show 1024 * (kt + 1) = 1024 * kt + 1024 from rfl, tv_step, tv_of_le _ _ _ _ (by omega), zero_add, Finset.sum_range]
    simp only [fun r : Fin 1024 => exp2_mask r.isLt s.isLt, pp_diag, ds_diag]
  · obtain ⟨x, e⟩ : ∃ x, s.val = 512 + x := ⟨s.val - 512, by omega⟩
    have hx : x < 1024 := by omega
    rw [dif_neg h, show 1024 * (kt + 1) = 1024 * kt + 512 + 512 from rfl, tv_step, tv_of_le _ _ _ _ (by omega), zero_add, Finset.sum_range]
    simp only [e, Nat.add_sub_cancel_left, fun r : Fin 512 => exp2_mask (show r.val < 1024 by omega) hx, pp_diag2, ds_diag]

include ha hb ha2 hb2 hk hv in
theorem diag_k1 (s : Fin 1024) (l : Fin 128) :
    k0_pay63 (k0_pay28 kk) (k0_pay30 vv) (k0_pay56 (k0_pay28 kk) (k0_pay30 vv) a b) (k0_pay57 a2) b2 (ix2 s l) = tk (1024 * (kt + 1)) kt q k o v s l := by
  pointwise [k0_pay28, k0_pay30, k0_pay49, k0_pay50, k0_pay51, k0_pay52, k0_pay53, k0_pay54, k0_pay55, k0_pay56, k0_pay57, k0_pay58, k0_pay59, k0_pay60, k0_pay61, k0_pay62, k0_pay63, k0_pay64]
  simp only [exp2_mask_a, exp2_mask_b, Ideal.ofBits_zero, zero_add, ha, hb, ha2, hb2, hk, hv, pp_diag, pp_diag2, ds_diag]
  by_cases h : s.val < 512
  · rw [dif_pos h, show 1024 * (kt + 1) = 1024 * kt + 1024 from rfl, tk_step, tk_of_le _ _ _ _ _ (by omega), zero_add, Finset.sum_range]
    simp only [fun r : Fin 1024 => exp2_mask r.isLt s.isLt, pp_diag, ds_diag]
  · obtain ⟨x, e⟩ : ∃ x, s.val = 512 + x := ⟨s.val - 512, by omega⟩
    have hx : x < 1024 := by omega
    rw [dif_neg h, show 1024 * (kt + 1) = 1024 * kt + 512 + 512 from rfl, tk_step, tk_of_le _ _ _ _ _ (by omega), zero_add, Finset.sum_range]
    simp only [e, Nat.add_sub_cancel_left, fun r : Fin 512 => exp2_mask (show r.val < 1024 by omega) hx, pp_diag2, ds_diag]

include ha hb ha2 hb2 hk in
theorem diag_v1 (s : Fin 1024) (l : Fin 128) :
    k0_pay64 (k0_pay28 kk) (k0_pay53 (k0_pay28 kk) a b) (k0_pay57 a2) b2 (ix2 s l) = tv (1024 * (kt + 1)) kt q k o s l := by
  pointwise [k0_pay28, k0_pay30, k0_pay49, k0_pay50, k0_pay51, k0_pay52, k0_pay53, k0_pay54, k0_pay55, k0_pay56, k0_pay57, k0_pay58, k0_pay59, k0_pay60, k0_pay61, k0_pay62, k0_pay63, k0_pay64]
  simp only [exp2_mask_a, exp2_mask_b, Ideal.ofBits_zero, zero_add, ha, hb, ha2, hb2, hk, pp_diag, pp_diag2, ds_diag]
  by_cases h : s.val < 512
  · rw [dif_pos h, show 1024 * (kt + 1) = 1024 * kt + 1024 from rfl, tv_step, tv_of_le _ _ _ _ (by omega), zero_add, Finset.sum_range]
    simp only [fun r : Fin 1024 => exp2_mask r.isLt s.isLt, pp_diag, ds_diag]
  · obtain ⟨x, e⟩ : ∃ x, s.val = 512 + x := ⟨s.val - 512, by omega⟩
    have hx : x < 1024 := by omega
    rw [dif_neg h, show 1024 * (kt + 1) = 1024 * kt + 512 + 512 from rfl, tv_step, tv_of_le _ _ _ _ (by omega), zero_add, Finset.sum_range]
    simp only [e, Nat.add_sub_cancel_left, fun r : Fin 512 => exp2_mask (show r.val < 1024 by omega) hx, pp_diag2, ds_diag]

end Cert.KernelIdeal.Val
end
-- ==== Proof.Pay.lean ====
/-
  The payloads of the kernel's stores and of its carried values, each read at an index: what a trip of the loop over
  query tiles and what the diagonal tile add to the three gradients.
-/
module

public import proofs.«01_k».proof.Proof.Sem

@[expose] public section

set_option maxRecDepth 16384

noncomputable section

namespace Cert.KernelIdeal.Val
open Cert.KernelIdeal.Gen
open Idealize.ShloMosaic

variable {kt off : ℕ} {q k o v : Rows}

/-! ## A trip of the loop: query rows `off, …, off + 1023`, all after the key tile -/

section Trip

variable (hoff : 1024 * (kt + 1) ≤ off)
  {a b : Vec Ideal S1x1024x128 .bf16} {kk vv : FVec Ideal S1024x128 .bf16}
  (ha : ∀ (r : Fin 1024) (l : Fin 128), a (ix3 0 r l) = q (off + r) l) (hb : ∀ (r : Fin 1024) (l : Fin 128), b (ix3 0 r l) = o (off + r) l)
  (hk : ∀ (s : Fin 1024) (l : Fin 128), kk (ix2 s l) = k s l) (hv : ∀ (s : Fin 1024) (l : Fin 128), vv (ix2 s l) = v s l)
include hoff ha hb hk

theorem pp_trip (r s : Fin 1024) : Ideal.exp2 (∑ l, a (ix3 0 r l) * kk (ix2 s l)) = pp kt q k (off + r) s := by
  rw [pp_of_le kt q k (by omega), zz]
  simp only [ha, hk]

include hv

theorem ds_trip (r s : Fin 1024) : Ideal.exp2 (∑ l, a (ix3 0 r l) * kk (ix2 s l)) * ∑ l, b (ix3 0 r l) * vv (ix2 s l) = ds kt q k o v (off + r) s := by
  rw [pp_trip hoff ha hb hk, ds, zz]
  simp only [hb, hv]

theorem trip_q0 (d : Vec Ideal S1x1024x128 .f32) (r : Fin 1024) (l : Fin 128) :
    k0_pay8 kk vv a b d (ix3 0 r l) = d (ix3 0 r l) + tq kt q k o v (off + r) l := by
  pointwise [k0_pay8, k0_pay7, k0_pay6, k0_pay5, k0_pay4]
  simp only [exp2_eq, Ideal.ofBits_zero, zero_add, ds_trip hoff ha hb hk hv]
  rw [tq, Finset.sum_range]
  simp only [hk]

theorem trip_q1 (d : Vec Ideal S1x1024x128 .f32) (r : Fin 1024) (l : Fin 128) :
    k0_pay66 kk vv (k0_pay12 b) (k0_pay13 kk a) (constant S1024x1024 .f32 0x00000000#32) d (ix3 0 r l) = d (ix3 0 r l) + tq kt q k o v (off + r) l := by
  pointwise [k0_pay66, k0_pay65, k0_pay13, k0_pay12, k0_pay11]
  simp only [exp2_eq, Ideal.ofBits_zero, zero_add, ds_trip hoff ha hb hk hv]
  rw [tq, Finset.sum_range]
  simp only [hk]

theorem trip_k0 (c : FVec Ideal S1024x128 .f32) (s : Fin 1024) (l : Fin 128) :
    k0_pay9 kk vv c a b (ix2 s l) = c (ix2 s l) + ∑ r ∈ Finset.range 1024, ds kt q k o v (off + r) s * q (off + r) l := by
  pointwise [k0_pay9, k0_pay7, k0_pay6, k0_pay5, k0_pay4]
  simp only [exp2_eq, Ideal.ofBits_zero, zero_add, ds_trip hoff ha hb hk hv]
  rw [Finset.sum_range]
  simp only [ha]

theorem trip_k1 (c : FVec Ideal S1024x128 .f32) (s : Fin 1024) (l : Fin 128) :
    k0_pay67 vv c (k0_pay11 a) (k0_pay12 b) (k0_pay13 kk a) (constant S1024x1024 .f32 0x00000000#32) (ix2 s l) = c (ix2 s l) + ∑ r ∈ Finset.range 1024, ds kt q k o v (off + r) s * q (off + r) l := by
  pointwise [k0_pay67, k0_pay65, k0_pay13, k0_pay12, k0_pay11]
  simp only [exp2_eq, Ideal.ofBits_zero, zero_add, ds_trip hoff ha hb hk hv]
  rw [Finset.sum_range]
  simp only [ha]

omit hv
theorem trip_v0 (c : FVec Ideal S1024x128 .f32) (s : Fin 1024) (l : Fin 128) :
    k0_pay10 kk c a b (ix2 s l) = c (ix2 s l) + ∑ r ∈ Finset.range 1024, pp kt q k (off + r) s * o (off + r) l := by
  pointwise [k0_pay10, k0_pay6, k0_pay5, k0_pay4]
  simp only [exp2_eq, Ideal.ofBits_zero, zero_add, pp_trip hoff ha hb hk]
  rw [Finset.sum_range]
  simp only [hb]

omit hv
theorem trip_v1 (c : FVec Ideal S1024x128 .f32) (s : Fin 1024) (l : Fin 128) :
    k0_pay68 c (k0_pay14 kk a b) (ix2 s l) = c (ix2 s l) + ∑ r ∈ Finset.range 1024, pp kt q k (off + r) s * o (off + r) l := by
  pointwise [k0_pay68, k0_pay14, k0_pay13, k0_pay12, k0_pay11]
  simp only [exp2_eq, Ideal.ofBits_zero, zero_add, pp_trip hoff ha hb hk]
  rw [Finset.sum_range]
  simp only [hb]

end Trip

end Cert.KernelIdeal.Val
end
-- ==== Proof.Rect.lean ====
/-
  Loads and stores of the rows `o, …, o + n - 1` of head `j` of an array of heads, read at an index.
-/
module

public import proofs.«01_k».proof.Proof.Sem

@[expose] public section

set_option maxRecDepth 16384

noncomputable section

namespace Cert.KernelIdeal.Val
open Cert.KernelIdeal.Gen
open Idealize.ShloMosaic

/-- The shape of two heads of `N` rows. -/
abbrev S2 (N : ℕ) : Shape := ⟨3, ![2, N, 128]⟩

section
variable {sig : RefSig} {κ : Kind} {sp : Space} {e : EltTy} {N n o : ℕ} {j : Fin 2} (v : View sig κ sp (S2 N) e) (f : v.ty.Contents (Elt Ideal))
  {off : Fin 3 → ℕ} (inb : ∀ a : Fin 3, off a + (![1, n, 128] : Fin 3 → ℕ) a ≤ (S2 N).size a) (h : off = ![j.val, o, 0])

include inb h in
theorem rows_le : o + n ≤ N := by
  have := inb 1
  rw [h] at this
  exact this

theorem load_at (r : Fin n) (l : Fin 128) :
    v.readAt (Elt Ideal) (Rect.unit (s := S2 N) off ![1, n, 128] inb).toLoadRect f (ix3 (0 : Fin 1) r l)
      = v.read (Elt Ideal) f (ix3 j ⟨o + r.val, by have := rows_le inb h; omega⟩ l) := by
  subst h
  refine congrArg (v.read (Elt Ideal) f) (funext fun a => Fin.ext ?_)
  fin_cases a
  · show j.val + 1 * 0 = j.val
    omega
  · show o + 1 * r.val = o + r.val
    omega
  · show 0 + 1 * l.val = l.val
    omega

include h in
theorem store_at (w : (Rect.unit (s := S2 N) off ![1, n, 128] inb).shape.Idx → Elt Ideal e) (L : List (View.Piece (Elt Ideal) (S2 N) e))
    (j' : Fin 2) (t : Fin N) (l : Fin 128) :
    v.read (Elt Ideal) (v.writes (Elt Ideal) f (⟨Rect.unit (s := S2 N) off ![1, n, 128] inb, w⟩ :: L)) (ix3 j' t l)
      = if hm : j' = j ∧ o ≤ t.val ∧ t.val < o + n then w (ix3 (0 : Fin 1) (⟨t.val - o, by omega⟩ : Fin n) l)
        else v.read (Elt Ideal) (v.writes (Elt Ideal) f L) (ix3 j' t l) := by
  split
  · rename_i hm
    refine View.read_writes_cons_unit_of_mem v f inb w L (ix3 j' t l) _ h fun a => ?_
    fin_cases a
    · show j'.val = j.val + 0
      rw [hm.1]
      omega
    · show t.val = o + (t.val - o)
      omega
    · show l.val = 0 + l.val
      omega
  · rename_i hm
    by_cases hj : j' = j
    · refine View.read_writes_cons_unit_of_not_mem v f inb w L (ix3 j' t l) h 1 ?_
      show t.val < o ∨ o + n ≤ t.val
      have := not_and.mp hm hj
      omega
    · refine View.read_writes_cons_unit_of_not_mem v f inb w L (ix3 j' t l) h 0 ?_
      show j'.val < j.val ∨ j.val + 1 ≤ j'.val
      have : j'.val ≠ j.val := fun e => hj (Fin.ext e)
      omega

end

end Cert.KernelIdeal.Val
end
-- ==== Proof.Loop.lean ====
/-
  The loop over the query tiles after the diagonal one: before trip `n` the queries' gradient holds what the tile adds to
  the rows of the trips before, and the carried values the sums over those rows.
-/
module

public import proofs.«01_k».proof.Proof.Gen.KernelIdeal.Loops
public import proofs.«01_k».proof.Proof.Pay
public import proofs.«01_k».proof.Proof.Rect

@[expose] public section

set_option maxRecDepth 16384

noncomputable section

namespace Cert.KernelIdeal.Val
open Cert.KernelIdeal.Gen
open Idealize.ShloMosaic Idealize.ShloMosaic.TcCoe

/-- What the loop carries: two heads' sums for the keys and for the values. -/
abbrev Carry := FVec Ideal S1024x128 .f32 × FVec Ideal S1024x128 .f32 × FVec Ideal S1024x128 .f32 × FVec Ideal S1024x128 .f32

variable (c : Dev nD) (bd : Option Variants.none.V) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole) (arg1 : BitVec 32) (v4 v6 v8 v10 : FVec Ideal S1024x128 .bf16) (v75 v76 : FVec Ideal S1024x128 .f32) (v93 v106 : FVec Ideal S512x128 .f32) (v108 : BitVec 32) (v111 : FVec Ideal S512x128 .bf16) (v141 : BitVec 32)
  (X2 : BufTy.Contents (Elt Ideal) arg2.view.ty) (X5 : BufTy.Contents (Elt Ideal) arg5.view.ty)

/-- What a trip yields. -/
theorem tripR_eq (k : Fin (k0_t1_loop i).trips) (acc : Carry) (f : BufTy.Contents (Elt Ideal) arg6.view.ty) :
    tripR_k0_t1 (F := Ideal) Variants.none c bd i arg2 harg2 arg3 harg3 arg4 harg4 arg5 harg5 arg6 harg6 arg7 harg7 arg8 harg8 arg1 v4 v6 v8 v10 v75 v76 v93 v106 v108 v111 v141 X2 X5 k acc f
      = (k0_pay9 v4 v8 acc.1 (arg2.view.readAt (Elt Ideal) (Rect.unit (s := S2x4096x128) (k0_off5 i k) S1x1024x128.size (k0_off5_inb i k)).toLoadRect X2) (arg5.view.readAt (Elt Ideal) (Rect.unit (s := S2x4096x128) (k0_off5 i k) S1x1024x128.size (k0_off5_inb i k)).toLoadRect X5),
         k0_pay10 v4 acc.2.1 (arg2.view.readAt (Elt Ideal) (Rect.unit (s := S2x4096x128) (k0_off5 i k) S1x1024x128.size (k0_off5_inb i k)).toLoadRect X2) (arg5.view.readAt (Elt Ideal) (Rect.unit (s := S2x4096x128) (k0_off5 i k) S1x1024x128.size (k0_off5_inb i k)).toLoadRect X5),
         k0_pay67 v10 acc.2.2.1 (k0_pay11 (arg2.view.readAt (Elt Ideal) (Rect.unit (s := S2x4096x128) (k0_off6 i k) S1x1024x128.size (k0_off6_inb i k)).toLoadRect X2)) (k0_pay12 (arg5.view.readAt (Elt Ideal) (Rect.unit (s := S2x4096x128) (k0_off6 i k) S1x1024x128.size (k0_off6_inb i k)).toLoadRect X5)) (k0_pay13 v6 (arg2.view.readAt (Elt Ideal) (Rect.unit (s := S2x4096x128) (k0_off6 i k) S1x1024x128.size (k0_off6_inb i k)).toLoadRect X2)) (constant S1024x1024 .f32 0x00000000#32),
         k0_pay68 acc.2.2.2 (k0_pay14 v6 (arg2.view.readAt (Elt Ideal) (Rect.unit (s := S2x4096x128) (k0_off6 i k) S1x1024x128.size (k0_off6_inb i k)).toLoadRect X2) (arg5.view.readAt (Elt Ideal) (Rect.unit (s := S2x4096x128) (k0_off6 i k) S1x1024x128.size (k0_off6_inb i k)).toLoadRect X5))) := by
  unfold tripR_k0_t1 trip_k0_t1
  rfl

/-- What a trip stores into the queries' gradient. -/
theorem tripL_eq (k : Fin (k0_t1_loop i).trips) (acc : Carry) (f : BufTy.Contents (Elt Ideal) arg6.view.ty) :
    tripL_k0_t1 (F := Ideal) Variants.none c bd i arg2 harg2 arg3 harg3 arg4 harg4 arg5 harg5 arg6 harg6 arg7 harg7 arg8 harg8 arg1 v4 v6 v8 v10 v75 v76 v93 v106 v108 v111 v141 X2 X5 k acc f
      = [⟨Rect.unit (s := S2x4096x128) (k0_off6 i k) S1x1024x128.size (k0_off6_inb i k), k0_pay66 v6 v10 (k0_pay12 (arg5.view.readAt (Elt Ideal) (Rect.unit (s := S2x4096x128) (k0_off6 i k) S1x1024x128.size (k0_off6_inb i k)).toLoadRect X5)) (k0_pay13 v6 (arg2.view.readAt (Elt Ideal) (Rect.unit (s := S2x4096x128) (k0_off6 i k) S1x1024x128.size (k0_off6_inb i k)).toLoadRect X2)) (constant S1024x1024 .f32 0x00000000#32) (arg6.view.readAt (Elt Ideal) (Rect.unit (s := S2x4096x128) (k0_off6 i k) S1x1024x128.size (k0_off6_inb i k)).toLoadRect f)⟩,
         ⟨Rect.unit (s := S2x4096x128) (k0_off5 i k) S1x1024x128.size (k0_off5_inb i k), k0_pay8 v4 v8 (arg2.view.readAt (Elt Ideal) (Rect.unit (s := S2x4096x128) (k0_off5 i k) S1x1024x128.size (k0_off5_inb i k)).toLoadRect X2) (arg5.view.readAt (Elt Ideal) (Rect.unit (s := S2x4096x128) (k0_off5 i k) S1x1024x128.size (k0_off5_inb i k)).toLoadRect X5) (arg6.view.readAt (Elt Ideal) (Rect.unit (s := S2x4096x128) (k0_off5 i k) S1x1024x128.size (k0_off5_inb i k)).toLoadRect f)⟩] := by
  unfold tripL_k0_t1 trip_k0_t1
  rfl

theorem trips_t1 : ∀ i : grid0.Coords, (k0_t1_loop i).trips = 3 - (i 1).val := by decide +kernel
theorem trips_t2 : ∀ i : grid0.Coords, (k0_t2_loop i).trips = 0 := fun i => Nat.le_zero.mp (k0_t2_abs i).2.1

variable (G : BufTy.Contents (Elt Ideal) arg6.view.ty) (init : Carry) {Q K O V : Fin 2 → Rows}
  (hQ : ∀ j t l, arg2.view.read (Elt Ideal) X2 (ix3 j t l) = Q j t.val l) (hO : ∀ j t l, arg5.view.read (Elt Ideal) X5 (ix3 j t l) = O j t.val l)
  (h4 : ∀ s l, v4 (ix2 s l) = K 0 s.val l) (h6 : ∀ s l, v6 (ix2 s l) = K 1 s.val l) (h8 : ∀ s l, v8 (ix2 s l) = V 0 s.val l) (h10 : ∀ s l, v10 (ix2 s l) = V 1 s.val l)

include hQ in
theorem tile_q0 (k : Fin (k0_t1_loop i).trips) (r : Fin 1024) (l : Fin 128) : (arg2.view.readAt (Elt Ideal) (Rect.unit (s := S2x4096x128) (k0_off5 i k) S1x1024x128.size (k0_off5_inb i k)).toLoadRect X2) (ix3 0 r l) = Q 0 (1024 * ((i 1).val + 1 + k.val) + r.val) l := by
  rw [load_at (N := 4096) (j := 0) (o := 1024 * ((i 1).val + 1 + k.val)) arg2.view X2 (k0_off5_inb i k) (by rw [k0_off5_eq]; congr 2; omega), hQ]

include hQ in
theorem tile_q1 (k : Fin (k0_t1_loop i).trips) (r : Fin 1024) (l : Fin 128) : (arg2.view.readAt (Elt Ideal) (Rect.unit (s := S2x4096x128) (k0_off6 i k) S1x1024x128.size (k0_off6_inb i k)).toLoadRect X2) (ix3 0 r l) = Q 1 (1024 * ((i 1).val + 1 + k.val) + r.val) l := by
  rw [load_at (N := 4096) (j := 1) (o := 1024 * ((i 1).val + 1 + k.val)) arg2.view X2 (k0_off6_inb i k) (by rw [k0_off6_eq]; congr 2; omega), hQ]

include hO in
theorem tile_o0 (k : Fin (k0_t1_loop i).trips) (r : Fin 1024) (l : Fin 128) : (arg5.view.readAt (Elt Ideal) (Rect.unit (s := S2x4096x128) (k0_off5 i k) S1x1024x128.size (k0_off5_inb i k)).toLoadRect X5) (ix3 0 r l) = O 0 (1024 * ((i 1).val + 1 + k.val) + r.val) l := by
  rw [load_at (N := 4096) (j := 0) (o := 1024 * ((i 1).val + 1 + k.val)) arg5.view X5 (k0_off5_inb i k) (by rw [k0_off5_eq]; congr 2; omega), hO]

include hO in
theorem tile_o1 (k : Fin (k0_t1_loop i).trips) (r : Fin 1024) (l : Fin 128) : (arg5.view.readAt (Elt Ideal) (Rect.unit (s := S2x4096x128) (k0_off6 i k) S1x1024x128.size (k0_off6_inb i k)).toLoadRect X5) (ix3 0 r l) = O 1 (1024 * ((i 1).val + 1 + k.val) + r.val) l := by
  rw [load_at (N := 4096) (j := 1) (o := 1024 * ((i 1).val + 1 + k.val)) arg5.view X5 (k0_off6_inb i k) (by rw [k0_off6_eq]; congr 2; omega), hO]

include hQ hO h4 h6 h8 h10 in
/-- A trip adds the tile's contribution to the trip's rows of the queries' gradient and leaves the others. -/
theorem trip_store (k : Fin (k0_t1_loop i).trips) (acc : Carry) (f : BufTy.Contents (Elt Ideal) arg6.view.ty) (L : List (View.Piece (Elt Ideal) S2x4096x128 .f32))
    (j : Fin 2) (t : Fin 4096) (l : Fin 128) :
    arg6.view.read (Elt Ideal) (arg6.view.writes (Elt Ideal) f (tripL_k0_t1 (F := Ideal) Variants.none c bd i arg2 harg2 arg3 harg3 arg4 harg4 arg5 harg5 arg6 harg6 arg7 harg7 arg8 harg8 arg1 v4 v6 v8 v10 v75 v76 v93 v106 v108 v111 v141 X2 X5 k acc (arg6.view.writes (Elt Ideal) f L) ++ L)) (ix3 j t l)
      = if 1024 * ((i 1).val + 1 + k.val) ≤ t.val ∧ t.val < 1024 * ((i 1).val + 1 + k.val) + 1024
        then arg6.view.read (Elt Ideal) (arg6.view.writes (Elt Ideal) f L) (ix3 j t l) + tq (i 1).val (Q j) (K j) (O j) (V j) t.val l
        else arg6.view.read (Elt Ideal) (arg6.view.writes (Elt Ideal) f L) (ix3 j t l) := by
  have hoff : 1024 * ((i 1).val + 1) ≤ 1024 * ((i 1).val + 1 + k.val) := by omega
  have e5 : k0_off5 i k = ![0, 1024 * ((i 1).val + 1 + k.val), 0] := by rw [k0_off5_eq]; congr 2; omega
  have e6 : k0_off6 i k = ![1, 1024 * ((i 1).val + 1 + k.val), 0] := by rw [k0_off6_eq]; congr 2; omega
  rw [tripL_eq, List.cons_append, List.cons_append, List.nil_append,
    store_at (N := 4096) (j := 1) (n := 1024) arg6.view f (k0_off6_inb i k) e6,
    store_at (N := 4096) (j := 0) (n := 1024) arg6.view f (k0_off5_inb i k) e5]
  by_cases ht : 1024 * ((i 1).val + 1 + k.val) ≤ t.val ∧ t.val < 1024 * ((i 1).val + 1 + k.val) + 1024
  · rw [if_pos ht]
    have et : 1024 * ((i 1).val + 1 + k.val) + (t.val - 1024 * ((i 1).val + 1 + k.val)) = t.val := by omega
    by_cases hj : j = 1
    · subst hj
      rw [dif_pos ⟨rfl, ht⟩, trip_q1 hoff (tile_q1 (hQ := hQ) (k := k)) (tile_o1 (hO := hO) (k := k)) h6 h10,
        load_at (N := 4096) (j := 1) arg6.view _ (k0_off6_inb i k) e6]
      simp only [et]
    · obtain rfl : j = 0 := by omega
      rw [dif_neg (fun h => hj h.1), dif_pos ⟨rfl, ht⟩, trip_q0 hoff (tile_q0 (hQ := hQ) (k := k)) (tile_o0 (hO := hO) (k := k)) h4 h8,
        load_at (N := 4096) (j := 0) arg6.view _ (k0_off5_inb i k) e5]
      simp only [et]
  · rw [if_neg ht, dif_neg (fun h => ht h.2), dif_neg (fun h => ht h.2)]

include hQ hO h4 h6 h8 h10 in
/-- The queries' gradient before trip `n`. -/
theorem loop_store (n : ℕ) (hn : n ≤ (k0_t1_loop i).trips) (j : Fin 2) (t : Fin 4096) (l : Fin 128) :
    arg6.view.read (Elt Ideal) (arg6.view.writes (Elt Ideal) G (st_k0_t1 (F := Ideal) Variants.none c bd i arg2 harg2 arg3 harg3 arg4 harg4 arg5 harg5 arg6 harg6 arg7 harg7 arg8 harg8 arg1 v4 v6 v8 v10 v75 v76 v93 v106 v108 v111 v141 X2 X5 G init n).2) (ix3 j t l)
      = if 1024 * ((i 1).val + 1) ≤ t.val ∧ t.val < 1024 * ((i 1).val + 1 + n)
        then arg6.view.read (Elt Ideal) G (ix3 j t l) + tq (i 1).val (Q j) (K j) (O j) (V j) t.val l
        else arg6.view.read (Elt Ideal) G (ix3 j t l) := by
  induction n with
  | zero =>
    rw [if_neg (by omega)]
    rfl
  | succ n ih =>
    rw [st_k0_t1_succ (k := ⟨n, hn⟩)]
    dsimp only
    rw [trip_store (hQ := hQ) (hO := hO) (h4 := h4) (h6 := h6) (h8 := h8) (h10 := h10) (k := ⟨n, hn⟩)]
    dsimp only
    rw [ih (by omega)]
    by_cases h1 : 1024 * ((i 1).val + 1 + n) ≤ t.val ∧ t.val < 1024 * ((i 1).val + 1 + n) + 1024
    · rw [if_pos h1, if_neg (by omega), if_pos (by omega)]
    · rw [if_neg h1]
      by_cases h2 : 1024 * ((i 1).val + 1) ≤ t.val ∧ t.val < 1024 * ((i 1).val + 1 + n)
      · rw [if_pos h2, if_pos (by omega)]
      · rw [if_neg h2, if_neg (by omega)]

variable (hik0 : ∀ s l, init.1 (ix2 s l) = tk (1024 * ((i 1).val + 1)) (i 1).val (Q 0) (K 0) (O 0) (V 0) s.val l)
  (hiv0 : ∀ s l, init.2.1 (ix2 s l) = tv (1024 * ((i 1).val + 1)) (i 1).val (Q 0) (K 0) (O 0) s.val l)
  (hik1 : ∀ s l, init.2.2.1 (ix2 s l) = tk (1024 * ((i 1).val + 1)) (i 1).val (Q 1) (K 1) (O 1) (V 1) s.val l)
  (hiv1 : ∀ s l, init.2.2.2 (ix2 s l) = tv (1024 * ((i 1).val + 1)) (i 1).val (Q 1) (K 1) (O 1) s.val l)

include hQ hO h4 h6 h8 h10 hik0 hiv0 hik1 hiv1 in
/-- The carried values before trip `n`. -/
theorem loop_carry (n : ℕ) (hn : n ≤ (k0_t1_loop i).trips) :
    (∀ s l, (st_k0_t1 (F := Ideal) Variants.none c bd i arg2 harg2 arg3 harg3 arg4 harg4 arg5 harg5 arg6 harg6 arg7 harg7 arg8 harg8 arg1 v4 v6 v8 v10 v75 v76 v93 v106 v108 v111 v141 X2 X5 G init n).1.1 (ix2 s l) = tk (1024 * ((i 1).val + 1 + n)) (i 1).val (Q 0) (K 0) (O 0) (V 0) s.val l)
    ∧ (∀ s l, (st_k0_t1 (F := Ideal) Variants.none c bd i arg2 harg2 arg3 harg3 arg4 harg4 arg5 harg5 arg6 harg6 arg7 harg7 arg8 harg8 arg1 v4 v6 v8 v10 v75 v76 v93 v106 v108 v111 v141 X2 X5 G init n).1.2.1 (ix2 s l) = tv (1024 * ((i 1).val + 1 + n)) (i 1).val (Q 0) (K 0) (O 0) s.val l)
    ∧ (∀ s l, (st_k0_t1 (F := Ideal) Variants.none c bd i arg2 harg2 arg3 harg3 arg4 harg4 arg5 harg5 arg6 harg6 arg7 harg7 arg8 harg8 arg1 v4 v6 v8 v10 v75 v76 v93 v106 v108 v111 v141 X2 X5 G init n).1.2.2.1 (ix2 s l) = tk (1024 * ((i 1).val + 1 + n)) (i 1).val (Q 1) (K 1) (O 1) (V 1) s.val l)
    ∧ (∀ s l, (st_k0_t1 (F := Ideal) Variants.none c bd i arg2 harg2 arg3 harg3 arg4 harg4 arg5 harg5 arg6 harg6 arg7 harg7 arg8 harg8 arg1 v4 v6 v8 v10 v75 v76 v93 v106 v108 v111 v141 X2 X5 G init n).1.2.2.2 (ix2 s l) = tv (1024 * ((i 1).val + 1 + n)) (i 1).val (Q 1) (K 1) (O 1) s.val l) := by
  induction n with
  | zero => exact ⟨hik0, hiv0, hik1, hiv1⟩
  | succ n ih =>
    obtain ⟨i1, i2, i3, i4⟩ := ih (by omega)
    have hoff : 1024 * ((i 1).val + 1) ≤ 1024 * ((i 1).val + 1 + n) := by omega
    rw [st_k0_t1_succ (k := ⟨n, hn⟩), tripR_eq]
    dsimp only
    have e : 1024 * ((i 1).val + 1 + (n + 1)) = 1024 * ((i 1).val + 1 + n) + 1024 := by omega
    have q0 := tile_q0 (i := i) (arg2 := arg2) (X2 := X2) (hQ := hQ) (k := ⟨n, hn⟩)
    have q1 := tile_q1 (i := i) (arg2 := arg2) (X2 := X2) (hQ := hQ) (k := ⟨n, hn⟩)
    have o0 := tile_o0 (i := i) (arg5 := arg5) (X5 := X5) (hO := hO) (k := ⟨n, hn⟩)
    have o1 := tile_o1 (i := i) (arg5 := arg5) (X5 := X5) (hO := hO) (k := ⟨n, hn⟩)
    refine ⟨fun s l => ?_, fun s l => ?_, fun s l => ?_, fun s l => ?_⟩
    · rw [e, tk_step, trip_k0 hoff q0 o0 h4 h8, i1]
    · rw [e, tv_step, trip_v0 hoff q0 o0 h4, i2]
    · rw [e, tk_step, trip_k1 hoff q1 o1 h6 h10, i3]
    · rw [e, tv_step, trip_v1 hoff q1 o1 h6, i4]

end Cert.KernelIdeal.Val
end
-- ==== Proof.Store.lean ====
/-
  What the body leaves in the queries' gradient: the four stores of the diagonal tile and the loop after them add the
  key tile's contribution to every row.
-/
module

public import proofs.«01_k».proof.Proof.Diag
public import proofs.«01_k».proof.Proof.Loop

@[expose] public section

set_option maxRecDepth 16384

noncomputable section

namespace Cert.KernelIdeal.Val
open Cert.KernelIdeal.Gen
open Idealize.ShloMosaic Idealize.ShloMosaic.TcCoe

section
variable {sig : RefSig} {κ : Kind} {sp : Space} {e : EltTy} {N n n' o m : ℕ} {j : Fin 2} (v : View sig κ sp (S2 N) e) (f : v.ty.Contents (Elt Ideal))
  {off off' : Fin 3 → ℕ} (inb : ∀ a : Fin 3, off a + (![1, n, 128] : Fin 3 → ℕ) a ≤ (S2 N).size a) (inb' : ∀ a : Fin 3, off' a + (![1, n', 128] : Fin 3 → ℕ) a ≤ (S2 N).size a)

/-- A load of rows the last store covers reads what was stored. -/
theorem cov_at (h : off = ![j.val, o, 0]) (h' : off' = ![j.val, o + m, 0]) (hle : m + n' ≤ n)
    (w : (Rect.unit (s := S2 N) off ![1, n, 128] inb).shape.Idx → Elt Ideal e) (L : List (View.Piece (Elt Ideal) (S2 N) e)) (r : Fin n') (l : Fin 128) :
    v.readCov (⟨Rect.unit (s := S2 N) off ![1, n, 128] inb, w⟩ :: L) (Rect.unit (s := S2 N) off' ![1, n', 128] inb').toLoadRect (ix3 (0 : Fin 1) r l)
      = w (ix3 (0 : Fin 1) (⟨m + r.val, by omega⟩ : Fin n) l) := by
  rw [View.readCov, load_at (j := j) v _ inb' h', store_at (j := j) v _ inb h]
  have hr := r.isLt
  rw [dif_pos ⟨rfl, by show o ≤ o + m + r.val; omega, by show o + m + r.val < o + n; omega⟩]
  congr 2
  refine Fin.ext ?_
  show o + m + r.val - o = m + r.val
  omega

end

variable {sp : Space} (v : View sig .tc sp (S2 4096) .f32) (F : v.ty.Contents (Elt Ideal)) (kt : ℕ)
  {off1 off2 off3 off4 : Fin 3 → ℕ}
  (inb1 : ∀ a : Fin 3, off1 a + (![1, 1024, 128] : Fin 3 → ℕ) a ≤ (S2 4096).size a) (h1 : off1 = ![0, 1024 * kt, 0])
  (inb2 : ∀ a : Fin 3, off2 a + (![1, 512, 128] : Fin 3 → ℕ) a ≤ (S2 4096).size a) (h2 : off2 = ![0, 1024 * kt + 512, 0])
  (inb3 : ∀ a : Fin 3, off3 a + (![1, 1024, 128] : Fin 3 → ℕ) a ≤ (S2 4096).size a) (h3 : off3 = ![1, 1024 * kt, 0])
  (inb4 : ∀ a : Fin 3, off4 a + (![1, 512, 128] : Fin 3 → ℕ) a ≤ (S2 4096).size a) (h4 : off4 = ![1, 1024 * kt + 512, 0])
  {Q K O V : Fin 2 → Rows} {w1 w3 : Vec Ideal S1x1024x128 .f32} {w2 w4 : Vec Ideal S1x512x128 .f32}

/-- The sum over the first half of the tile's keys. -/
abbrev lo (kt : ℕ) (q k o v : Rows) (t : ℕ) (l : Fin 128) : EReal := ∑ s ∈ Finset.range 512, ds kt q k o v t s * k s l

/-- The sum over the second half of the tile's keys. -/
abbrev hi (kt : ℕ) (q k o v : Rows) (t : ℕ) (l : Fin 128) : EReal := ∑ s ∈ Finset.range 512, ds kt q k o v t (512 + s) * k (512 + s) l

variable
  (hw1 : ∀ (r : Fin 1024) (l : Fin 128) (h : 1024 * kt + r.val < 4096), w1 (ix3 0 r l) = v.read (Elt Ideal) F (ix3 0 ⟨1024 * kt + r.val, h⟩ l) + lo kt (Q 0) (K 0) (O 0) (V 0) (1024 * kt + r.val) l)
  (hw2 : ∀ (r : Fin 512) (l : Fin 128) (h : 512 + r.val < 1024), w2 (ix3 0 r l) = w1 (ix3 0 ⟨512 + r.val, h⟩ l) + hi kt (Q 0) (K 0) (O 0) (V 0) (1024 * kt + 512 + r.val) l)
  (hw3 : ∀ (r : Fin 1024) (l : Fin 128) (h : 1024 * kt + r.val < 4096), w3 (ix3 0 r l) = v.read (Elt Ideal) F (ix3 1 ⟨1024 * kt + r.val, h⟩ l) + lo kt (Q 1) (K 1) (O 1) (V 1) (1024 * kt + r.val) l)
  (hw4 : ∀ (r : Fin 512) (l : Fin 128) (h : 512 + r.val < 1024), w4 (ix3 0 r l) = w3 (ix3 0 ⟨512 + r.val, h⟩ l) + hi kt (Q 1) (K 1) (O 1) (V 1) (1024 * kt + 512 + r.val) l)

include h1 h2 h3 h4 hw1 hw2 hw3 hw4 in
theorem diag_store (j : Fin 2) (t : Fin 4096) (l : Fin 128) :
    v.read (Elt Ideal) (v.writes (Elt Ideal) F
        [⟨Rect.unit (s := S2 4096) off4 ![1, 512, 128] inb4, w4⟩, ⟨Rect.unit (s := S2 4096) off3 ![1, 1024, 128] inb3, w3⟩,
         ⟨Rect.unit (s := S2 4096) off2 ![1, 512, 128] inb2, w2⟩, ⟨Rect.unit (s := S2 4096) off1 ![1, 1024, 128] inb1, w1⟩]) (ix3 j t l)
      = if 1024 * kt ≤ t.val ∧ t.val < 1024 * (kt + 1) then v.read (Elt Ideal) F (ix3 j t l) + tq kt (Q j) (K j) (O j) (V j) t.val l
        else v.read (Elt Ideal) F (ix3 j t l) := by
  rw [store_at (j := 1) (o := 1024 * kt + 512) v F inb4 h4, store_at (j := 1) (o := 1024 * kt) v F inb3 h3,
    store_at (j := 0) (o := 1024 * kt + 512) v F inb2 h2, store_at (j := 0) (o := 1024 * kt) v F inb1 h1, View.writes_nil]
  obtain ⟨t, htl⟩ := t
  dsimp only
  by_cases ht : 1024 * kt ≤ t ∧ t < 1024 * (kt + 1)
  · rw [if_pos ht]
    obtain ⟨x, rfl⟩ : ∃ x, t = 1024 * kt + x := ⟨t - 1024 * kt, by omega⟩
    by_cases hx : x < 512
    · by_cases hj : j = 1
      · subst hj
        rw [dif_neg (by omega), dif_pos ⟨rfl, by omega, by omega⟩, hw3 _ _ (by dsimp only; omega), tq_of_lt_half _ _ _ _ _ (by omega)]
        simp only [Nat.add_sub_cancel_left, lo]
      · obtain rfl : j = 0 := by omega
        rw [dif_neg (fun h => hj h.1), dif_neg (fun h => hj h.1), dif_neg (by omega), dif_pos ⟨rfl, by omega, by omega⟩, hw1 _ _ (by dsimp only; omega), tq_of_lt_half _ _ _ _ _ (by omega)]
        simp only [Nat.add_sub_cancel_left, lo]
    · obtain ⟨y, rfl⟩ : ∃ y, x = 512 + y := ⟨x - 512, by omega⟩
      have e' : 1024 * kt + (512 + y) - (1024 * kt + 512) = y := by omega
      by_cases hj : j = 1
      · subst hj
        rw [dif_pos ⟨rfl, by omega, by omega⟩, hw4 _ _ (by dsimp only; omega), hw3 _ _ (by dsimp only; omega), tq_halves, add_assoc]
        simp only [e', lo, hi, Nat.add_assoc]
      · obtain rfl : j = 0 := by omega
        rw [dif_neg (fun h => hj h.1), dif_neg (fun h => hj h.1), dif_pos ⟨rfl, by omega, by omega⟩, hw2 _ _ (by dsimp only; omega), hw1 _ _ (by dsimp only; omega), tq_halves, add_assoc]
        simp only [e', lo, hi, Nat.add_assoc]
  · rw [if_neg ht, dif_neg (by omega), dif_neg (by omega), dif_neg (by omega), dif_neg (by omega)]

end Cert.KernelIdeal.Val
end
-- ==== Proof.Body.lean ====
/-
  The body's triple: on whole blocks it adds the key tile's contribution to every row of the queries' gradient — clearing
  it first at the first tile — and writes the tile's rows of the keys' and the values' gradients.
-/
module

public import proofs.«01_k».proof.Proof.Store
public import proofs.«01_k».proof.Proof.Gen.KernelIdeal.Frame

@[expose] public section

set_option maxRecDepth 16384

noncomputable section

namespace Cert.KernelIdeal.Val
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The rows of head `j` of a block, zero past its end. -/
def rowsOf {N : ℕ} (x : (S2 N).Idx → EReal) (j : Fin 2) : Rows := fun t l => if h : t < N then x (ix3 j ⟨t, h⟩ l) else 0

theorem rowsOf_of_lt {N : ℕ} (x : (S2 N).Idx → EReal) (j : Fin 2) {t : ℕ} (h : t < N) (l : Fin 128) : rowsOf x j t l = x (ix3 j ⟨t, h⟩ l) := dif_pos h

theorem rowsOf_fin {N : ℕ} (x : (S2 N).Idx → EReal) (j : Fin 2) (t : Fin N) (l : Fin 128) : rowsOf x j t.val l = x (ix3 j t l) := dif_pos t.isLt

/-- The queries' gradient after key tile `kt`, from what the block held before. -/
def stepQ (kt : ℕ) (x0 : Vec Ideal S2x4096x128 .bf16) (x1 x2 : Vec Ideal S2x1024x128 .bf16) (x3 : Vec Ideal S2x4096x128 .bf16)
    (d : Vec Ideal S2x4096x128 .f32) : Vec Ideal S2x4096x128 .f32 :=
  fun I => ((if kt = 0 then (0 : EReal) else d I) + tq kt (rowsOf x0 (I 0)) (rowsOf x1 (I 0)) (rowsOf x3 (I 0)) (rowsOf x2 (I 0)) (I 1).val (I 2) : EReal)

/-- The tile's rows of the keys' gradient. -/
def outK (kt : ℕ) (x0 : Vec Ideal S2x4096x128 .bf16) (x1 x2 : Vec Ideal S2x1024x128 .bf16) (x3 : Vec Ideal S2x4096x128 .bf16) : Vec Ideal S2x1024x128 .f32 :=
  fun I => (tk 4096 kt (rowsOf x0 (I 0)) (rowsOf x1 (I 0)) (rowsOf x3 (I 0)) (rowsOf x2 (I 0)) (I 1).val (I 2) : EReal)

/-- The tile's rows of the values' gradient. -/
def outV (kt : ℕ) (x0 : Vec Ideal S2x4096x128 .bf16) (x1 : Vec Ideal S2x1024x128 .bf16) (x3 : Vec Ideal S2x4096x128 .bf16) : Vec Ideal S2x1024x128 .f32 :=
  fun I => (tv 4096 kt (rowsOf x0 (I 0)) (rowsOf x1 (I 0)) (rowsOf x3 (I 0)) (I 1).val (I 2) : EReal)

/-- The test for the first key tile. -/
theorem first_tile : ∀ i : grid0.Coords, (Scalar.cmpi .ne (Scalar.extui (Scalar.cmpi .eq (BitVec.ofNat 32 (i 1).val) 0#32)) 0#32 = 1#1) ↔ (i 1).val = 0 := by decide +kernel

section
variable (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole)
  (x0 : Vec Ideal S2x4096x128 .bf16) (x1 : Vec Ideal S2x1024x128 .bf16) (x2 : Vec Ideal S2x1024x128 .bf16) (x3 : Vec Ideal S2x4096x128 .bf16)

include harg2 harg5 in
omit c in
theorem row_q1 (r : Fin 1024) (l : Fin 128) :
    arg2.view.readAt (Elt Ideal) (Rect.unit (s := S2x4096x128) (k0_off1 i) S1x1024x128.size (k0_off1_inb i)).toLoadRect (harg2.unread x0) (ix3 0 r l)
      = rowsOf x0 0 (1024 * (i 1).val + r.val) l := by
  have hi : (i 1).val < 4 := (i 1).isLt
  rw [load_at (N := 4096) (j := 0) (o := 1024 * (i 1).val) arg2.view _ (k0_off1_inb i) (by rw [k0_off1_eq]; rfl), harg2.read_unread]
  exact (rowsOf_fin x0 0 _ l).symm

include harg2 harg5 in
omit c in
theorem row_o1 (r : Fin 1024) (l : Fin 128) :
    arg5.view.readAt (Elt Ideal) (Rect.unit (s := S2x4096x128) (k0_off1 i) S1x1024x128.size (k0_off1_inb i)).toLoadRect (harg5.unread x3) (ix3 0 r l)
      = rowsOf x3 0 (1024 * (i 1).val + r.val) l := by
  have hi : (i 1).val < 4 := (i 1).isLt
  rw [load_at (N := 4096) (j := 0) (o := 1024 * (i 1).val) arg5.view _ (k0_off1_inb i) (by rw [k0_off1_eq]; rfl), harg5.read_unread]
  exact (rowsOf_fin x3 0 _ l).symm

include harg2 harg5 in
omit c in
theorem row_q2 (r : Fin 512) (l : Fin 128) :
    arg2.view.readAt (Elt Ideal) (Rect.unit (s := S2x4096x128) (k0_off2 i) S1x512x128.size (k0_off2_inb i)).toLoadRect (harg2.unread x0) (ix3 0 r l)
      = rowsOf x0 0 (1024 * (i 1).val + 512 + r.val) l := by
  have hi : (i 1).val < 4 := (i 1).isLt
  rw [load_at (N := 4096) (j := 0) (o := 1024 * (i 1).val + 512) arg2.view _ (k0_off2_inb i) (by rw [k0_off2_eq]; rfl), harg2.read_unread]
  exact (rowsOf_fin x0 0 _ l).symm

include harg2 harg5 in
omit c in
theorem row_o2 (r : Fin 512) (l : Fin 128) :
    arg5.view.readAt (Elt Ideal) (Rect.unit (s := S2x4096x128) (k0_off2 i) S1x512x128.size (k0_off2_inb i)).toLoadRect (harg5.unread x3) (ix3 0 r l)
      = rowsOf x3 0 (1024 * (i 1).val + 512 + r.val) l := by
  have hi : (i 1).val < 4 := (i 1).isLt
  rw [load_at (N := 4096) (j := 0) (o := 1024 * (i 1).val + 512) arg5.view _ (k0_off2_inb i) (by rw [k0_off2_eq]; rfl), harg5.read_unread]
  exact (rowsOf_fin x3 0 _ l).symm

include harg2 harg5 in
omit c in
theorem row_q3 (r : Fin 1024) (l : Fin 128) :
    arg2.view.readAt (Elt Ideal) (Rect.unit (s := S2x4096x128) (k0_off3 i) S1x1024x128.size (k0_off3_inb i)).toLoadRect (harg2.unread x0) (ix3 0 r l)
      = rowsOf x0 1 (1024 * (i 1).val + r.val) l := by
  have hi : (i 1).val < 4 := (i 1).isLt
  rw [load_at (N := 4096) (j := 1) (o := 1024 * (i 1).val) arg2.view _ (k0_off3_inb i) (by rw [k0_off3_eq]; rfl), harg2.read_unread]
  exact (rowsOf_fin x0 1 _ l).symm

include harg2 harg5 in
omit c in
theorem row_o3 (r : Fin 1024) (l : Fin 128) :
    arg5.view.readAt (Elt Ideal) (Rect.unit (s := S2x4096x128) (k0_off3 i) S1x1024x128.size (k0_off3_inb i)).toLoadRect (harg5.unread x3) (ix3 0 r l)
      = rowsOf x3 1 (1024 * (i 1).val + r.val) l := by
  have hi : (i 1).val < 4 := (i 1).isLt
  rw [load_at (N := 4096) (j := 1) (o := 1024 * (i 1).val) arg5.view _ (k0_off3_inb i) (by rw [k0_off3_eq]; rfl), harg5.read_unread]
  exact (rowsOf_fin x3 1 _ l).symm

include harg2 harg5 in
omit c in
theorem row_q4 (r : Fin 512) (l : Fin 128) :
    arg2.view.readAt (Elt Ideal) (Rect.unit (s := S2x4096x128) (k0_off4 i) S1x512x128.size (k0_off4_inb i)).toLoadRect (harg2.unread x0) (ix3 0 r l)
      = rowsOf x0 1 (1024 * (i 1).val + 512 + r.val) l := by
  have hi : (i 1).val < 4 := (i 1).isLt
  rw [load_at (N := 4096) (j := 1) (o := 1024 * (i 1).val + 512) arg2.view _ (k0_off4_inb i) (by rw [k0_off4_eq]; rfl), harg2.read_unread]
  exact (rowsOf_fin x0 1 _ l).symm

include harg2 harg5 in
omit c in
theorem row_o4 (r : Fin 512) (l : Fin 128) :
    arg5.view.readAt (Elt Ideal) (Rect.unit (s := S2x4096x128) (k0_off4 i) S1x512x128.size (k0_off4_inb i)).toLoadRect (harg5.unread x3) (ix3 0 r l)
      = rowsOf x3 1 (1024 * (i 1).val + 512 + r.val) l := by
  have hi : (i 1).val < 4 := (i 1).isLt
  rw [load_at (N := 4096) (j := 1) (o := 1024 * (i 1).val + 512) arg5.view _ (k0_off4_inb i) (by rw [k0_off4_eq]; rfl), harg5.read_unread]
  exact (rowsOf_fin x3 1 _ l).symm

include harg3 in
theorem tile_k0 (s : Fin 1024) (l : Fin 128) :
    arg3.view.readAt (Elt Ideal) (Rect.unit (s := S2x1024x128) ![0, 0, 0] S1x1024x128.size inb_S2x1024x128_S1x1024x128_0_0_0).toLoadRect (harg3.unread x1) (ix3 0 s l)
      = rowsOf x1 0 s.val l := by
  rw [load_at (N := 1024) (j := 0) (o := 0) arg3.view _ inb_S2x1024x128_S1x1024x128_0_0_0 rfl, harg3.read_unread]
  simp only [Nat.zero_add]
  exact (rowsOf_fin x1 0 _ l).symm

include harg3 in
theorem tile_k1 (s : Fin 1024) (l : Fin 128) :
    arg3.view.readAt (Elt Ideal) (Rect.unit (s := S2x1024x128) ![1, 0, 0] S1x1024x128.size inb_S2x1024x128_S1x1024x128_1_0_0).toLoadRect (harg3.unread x1) (ix3 0 s l)
      = rowsOf x1 1 s.val l := by
  rw [load_at (N := 1024) (j := 1) (o := 0) arg3.view _ inb_S2x1024x128_S1x1024x128_1_0_0 rfl, harg3.read_unread]
  simp only [Nat.zero_add]
  exact (rowsOf_fin x1 1 _ l).symm

include harg4 in
theorem tile_v0 (s : Fin 1024) (l : Fin 128) :
    arg4.view.readAt (Elt Ideal) (Rect.unit (s := S2x1024x128) ![0, 0, 0] S1x1024x128.size inb_S2x1024x128_S1x1024x128_0_0_0).toLoadRect (harg4.unread x2) (ix3 0 s l)
      = rowsOf x2 0 s.val l := by
  rw [load_at (N := 1024) (j := 0) (o := 0) arg4.view _ inb_S2x1024x128_S1x1024x128_0_0_0 rfl, harg4.read_unread]
  simp only [Nat.zero_add]
  exact (rowsOf_fin x2 0 _ l).symm

include harg4 in
theorem tile_v1 (s : Fin 1024) (l : Fin 128) :
    arg4.view.readAt (Elt Ideal) (Rect.unit (s := S2x1024x128) ![1, 0, 0] S1x1024x128.size inb_S2x1024x128_S1x1024x128_1_0_0).toLoadRect (harg4.unread x2) (ix3 0 s l)
      = rowsOf x2 1 s.val l := by
  rw [load_at (N := 1024) (j := 1) (o := 0) arg4.view _ inb_S2x1024x128_S1x1024x128_1_0_0 rfl, harg4.read_unread]
  simp only [Nat.zero_add]
  exact (rowsOf_fin x2 1 _ l).symm

end

theorem pay27_at (x : Vec Ideal S1x1024x128 .bf16) (s : Fin 1024) (l : Fin 128) : k0_pay27 x (ix2 s l) = x (ix3 0 s l) := by pointwise [k0_pay27]
theorem pay28_at (x : Vec Ideal S1x1024x128 .bf16) (s : Fin 1024) (l : Fin 128) : k0_pay28 x (ix2 s l) = x (ix3 0 s l) := by pointwise [k0_pay28]
theorem pay29_at (x : Vec Ideal S1x1024x128 .bf16) (s : Fin 1024) (l : Fin 128) : k0_pay29 x (ix2 s l) = x (ix3 0 s l) := by pointwise [k0_pay29]
theorem pay30_at (x : Vec Ideal S1x1024x128 .bf16) (s : Fin 1024) (l : Fin 128) : k0_pay30 x (ix2 s l) = x (ix3 0 s l) := by pointwise [k0_pay30]
theorem pay73_at (x : Vec Ideal S1024x128 .f32) (s : Fin 1024) (l : Fin 128) : k0_pay73 (F := Ideal) x (ix3 0 s l) = x (ix2 s l) := by pointwise [k0_pay73]
theorem pay1_at (x : Vec Ideal S1024x128 .f32) (s : Fin 1024) (l : Fin 128) : k0_pay1 (F := Ideal) x (ix3 0 s l) = x (ix2 s l) := by pointwise [k0_pay1]
theorem pay2_at (x : Vec Ideal S1024x128 .f32) (s : Fin 1024) (l : Fin 128) : k0_pay2 (F := Ideal) x (ix3 0 s l) = x (ix2 s l) := by pointwise [k0_pay2]
theorem pay3_at (x : Vec Ideal S1024x128 .f32) (s : Fin 1024) (l : Fin 128) : k0_pay3 (F := Ideal) x (ix3 0 s l) = x (ix2 s l) := by pointwise [k0_pay3]
theorem pay26_at (I : S2x4096x128.Idx) : (k0_pay26 (F := Ideal)) I = (0 : EReal) := by
  pointwise [k0_pay26]

/-- The last loop makes no trip. -/
theorem t2_fst  (c : Dev nD) (bd : Option Variants.none.V) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole) (arg1 : BitVec 32) (v4 : FVec Ideal S1024x128 .bf16) (v6 : FVec Ideal S1024x128 .bf16) (v8 : FVec Ideal S1024x128 .bf16) (v10 : FVec Ideal S1024x128 .bf16) (v75 : FVec Ideal S1024x128 .f32) (v76 : FVec Ideal S1024x128 .f32) (v93 : FVec Ideal S512x128 .f32) (v106 : FVec Ideal S512x128 .f32) (v108 : BitVec 32) (v111 : FVec Ideal S512x128 .bf16) (v146 : BitVec 32) (X_arg2 : BufTy.Contents (Elt Ideal) arg2.view.ty) (X_arg5 : BufTy.Contents (Elt Ideal) arg5.view.ty) (G_arg6 : BufTy.Contents (Elt Ideal) arg6.view.ty) (init : FVec Ideal S1024x128 .f32 × FVec Ideal S1024x128 .f32 × FVec Ideal S1024x128 .f32 × FVec Ideal S1024x128 .f32) :
    (st_k0_t2 (F := Ideal) Variants.none c bd i arg2 harg2 arg3 harg3 arg4 harg4 arg5 harg5 arg6 harg6 arg7 harg7 arg8 harg8 arg1 v4 v6 v8 v10 v75 v76 v93 v106 v108 v111 v146 X_arg2 X_arg5 G_arg6 init (Scf.trips (k0_t2_loop i).lb (k0_t2_loop i).ub (k0_t2_loop i).st)).1 = init := by
  rw [show Scf.trips (k0_t2_loop i).lb (k0_t2_loop i).ub (k0_t2_loop i).st = 0 from trips_t2 i]
  rfl

theorem t2_snd  (c : Dev nD) (bd : Option Variants.none.V) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole) (arg1 : BitVec 32) (v4 : FVec Ideal S1024x128 .bf16) (v6 : FVec Ideal S1024x128 .bf16) (v8 : FVec Ideal S1024x128 .bf16) (v10 : FVec Ideal S1024x128 .bf16) (v75 : FVec Ideal S1024x128 .f32) (v76 : FVec Ideal S1024x128 .f32) (v93 : FVec Ideal S512x128 .f32) (v106 : FVec Ideal S512x128 .f32) (v108 : BitVec 32) (v111 : FVec Ideal S512x128 .bf16) (v146 : BitVec 32) (X_arg2 : BufTy.Contents (Elt Ideal) arg2.view.ty) (X_arg5 : BufTy.Contents (Elt Ideal) arg5.view.ty) (G_arg6 : BufTy.Contents (Elt Ideal) arg6.view.ty) (init : FVec Ideal S1024x128 .f32 × FVec Ideal S1024x128 .f32 × FVec Ideal S1024x128 .f32 × FVec Ideal S1024x128 .f32) :
    (st_k0_t2 (F := Ideal) Variants.none c bd i arg2 harg2 arg3 harg3 arg4 harg4 arg5 harg5 arg6 harg6 arg7 harg7 arg8 harg8 arg1 v4 v6 v8 v10 v75 v76 v93 v106 v108 v111 v146 X_arg2 X_arg5 G_arg6 init (Scf.trips (k0_t2_loop i).lb (k0_t2_loop i).ub (k0_t2_loop i).st)).2 = [] := by
  rw [show Scf.trips (k0_t2_loop i).lb (k0_t2_loop i).ub (k0_t2_loop i).st = 0 from trips_t2 i]
  rfl

/-- The diagonal stores and the loop together reach every row of the queries from the tile on. -/
theorem combine {X R T : EReal} {kt t n : ℕ} (hX : X = if 1024 * kt ≤ t ∧ t < 1024 * (kt + 1) then R + T else R) (h0 : t < 1024 * kt → T = 0)
    (hn : 1024 * (kt + 1 + n) = 4096) (ht : t < 4096) : (if 1024 * (kt + 1) ≤ t ∧ t < 1024 * (kt + 1 + n) then X + T else X) = R + T := by
  subst hX
  by_cases h1 : t < 1024 * kt
  · rw [if_neg (by omega), if_neg (by omega), h0 h1, add_zero]
  · by_cases h2 : t < 1024 * (kt + 1)
    · rw [if_neg (by omega), if_pos (by omega)]
    · rw [if_pos (by omega), if_neg (by omega)]

/-- Two stores that fill a block head by head. -/
theorem two_store {sp : Space} (v : View sig .tc sp (S2 1024) .f32) (f : v.ty.Contents (Elt Ideal)) {off0 off1 : Fin 3 → ℕ}
    (inb0 : ∀ a : Fin 3, off0 a + (![1, 1024, 128] : Fin 3 → ℕ) a ≤ (S2 1024).size a) (h0 : off0 = ![0, 0, 0])
    (inb1 : ∀ a : Fin 3, off1 a + (![1, 1024, 128] : Fin 3 → ℕ) a ≤ (S2 1024).size a) (h1 : off1 = ![1, 0, 0])
    {w0 w1 : Vec Ideal S1x1024x128 .f32} {X : Vec Ideal S2x1024x128 .f32}
    (hw0 : ∀ s l, w0 (ix3 0 s l) = X (ix3 0 s l)) (hw1 : ∀ s l, w1 (ix3 0 s l) = X (ix3 1 s l)) :
    v.read (Elt Ideal) (v.writes (Elt Ideal) f [⟨Rect.unit (s := S2 1024) off1 ![1, 1024, 128] inb1, w1⟩, ⟨Rect.unit (s := S2 1024) off0 ![1, 1024, 128] inb0, w0⟩]) = X := by
  funext I
  obtain ⟨j, s, l, rfl⟩ : ∃ (j : Fin 2) (s : Fin 1024) (l : Fin 128), I = ix3 j s l := ⟨I 0, I 1, I 2, eq_ix3 I⟩
  rw [store_at (j := 1) (o := 0) v f inb1 h1, store_at (j := 0) (o := 0) v f inb0 h0]
  have hs := s.isLt
  by_cases hj : j = 1
  · subst hj
    rw [dif_pos ⟨rfl, by omega, by omega⟩, hw1]
    rfl
  · obtain rfl : j = 0 := by omega
    rw [dif_neg (fun h => hj h.1), dif_pos ⟨rfl, by omega, by omega⟩, hw0]
    rfl

set_option maxHeartbeats 2000000 in
theorem body_run (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole)
    (x0 : Vec Ideal S2x4096x128 .bf16) (x1 : Vec Ideal S2x1024x128 .bf16) (x2 : Vec Ideal S2x1024x128 .bf16) (x3 : Vec Ideal S2x4096x128 .bf16) (x4 : Vec Ideal S2x4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (stepQ (i 1).val x0 x1 x2 x3 x4) ∗ owns (c : Thread nD τ) arg7 fullShare (outK (i 1).val x0 x1 x2 x3) ∗ owns (c : Thread nD τ) arg8 fullShare (outV (i 1).val x0 x1 x3)) -∗ K ⟨⟩))
          ⊢ wp frame (wpE (defs₀ (F := Ideal)) Variants.none c none) E (cc0_attn_bwd i arg2 harg2 arg3 harg3 arg4 harg4 arg5 harg5 arg6 harg6 arg7 harg7 arg8 harg8) K := by
    intro E K
    simp only [cc0_attn_bwd_eq_skeleton]; unfold cc0_attn_bwd_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec
    sl_step
    have hQ : ∀ (j : Fin 2) (t : Fin 4096) (l : Fin 128), arg2.view.read (Elt Ideal) (harg2.unread x0) (ix3 j t l) = rowsOf x0 j t.val l := fun j t l => by
      rw [harg2.read_unread]; exact (rowsOf_fin x0 j t l).symm
    have hO : ∀ (j : Fin 2) (t : Fin 4096) (l : Fin 128), arg5.view.read (Elt Ideal) (harg5.unread x3) (ix3 j t l) = rowsOf x3 j t.val l := fun j t l => by
      rw [harg5.read_unread]; exact (rowsOf_fin x3 j t l).symm
    have hn : 1024 * ((i 1).val + 1 + (k0_t1_loop i).trips) = 4096 := by
      rw [trips_t1]
      have := (i 1).isLt
      change (i 1).val < 4 at this
      omega
    have k0 := tile_k0 (arg3 := arg3) (harg3 := harg3) (x1 := x1)
    have k1 := tile_k1 (arg3 := arg3) (harg3 := harg3) (x1 := x1)
    have v0 := tile_v0 (arg4 := arg4) (harg4 := harg4) (x2 := x2)
    have v1 := tile_v1 (arg4 := arg4) (harg4 := harg4) (x2 := x2)
    have q1 := row_q1 i arg2 harg2 arg5 harg5 x0
    have q2 := row_q2 i arg2 harg2 arg5 harg5 x0
    have q3 := row_q3 i arg2 harg2 arg5 harg5 x0
    have q4 := row_q4 i arg2 harg2 arg5 harg5 x0
    have o1 := row_o1 i arg2 harg2 arg5 harg5 x3
    have o2 := row_o2 i arg2 harg2 arg5 harg5 x3
    have o3 := row_o3 i arg2 harg2 arg5 harg5 x3
    have o4 := row_o4 i arg2 harg2 arg5 harg5 x3
    have hik0 := diag_k0 q1 o1 q2 o2 k0 v0
    have hiv0 := diag_v0 q1 o1 q2 o2 k0
    have hik1 := diag_k1 q3 o3 q4 o4 k1 v1
    have hiv1 := diag_v1 q3 o3 q4 o4 k1
    have hk0 : ∀ (s : Fin 1024) (l : Fin 128), body_run.sl.r c arg3 harg3 x1 (ix2 s l) = rowsOf x1 0 s.val l := fun s l => (pay27_at _ s l).trans (tile_k0 (arg3 := arg3) (harg3 := harg3) (x1 := x1) s l)
    have hk1 : ∀ (s : Fin 1024) (l : Fin 128), body_run.sl.r_1 c arg3 harg3 x1 (ix2 s l) = rowsOf x1 1 s.val l := fun s l => (pay28_at _ s l).trans (tile_k1 (arg3 := arg3) (harg3 := harg3) (x1 := x1) s l)
    have hv0 : ∀ (s : Fin 1024) (l : Fin 128), body_run.sl.r_2 c arg4 harg4 x2 (ix2 s l) = rowsOf x2 0 s.val l := fun s l => (pay29_at _ s l).trans (tile_v0 (arg4 := arg4) (harg4 := harg4) (x2 := x2) s l)
    have hv1 : ∀ (s : Fin 1024) (l : Fin 128), body_run.sl.r_3 c arg4 harg4 x2 (ix2 s l) = rowsOf x2 1 s.val l := fun s l => (pay30_at _ s l).trans (tile_v1 (arg4 := arg4) (harg4 := harg4) (x2 := x2) s l)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (congrArg (arg6.view.read (Elt Ideal)) (congrArg (arg6.view.writes (Elt Ideal) _) (congrArg (· ++ _) (t2_snd ..)))).trans ?_
      funext I
      obtain ⟨j, t, l, rfl⟩ : ∃ (j : Fin 2) (t : Fin 4096) (l : Fin 128), I = ix3 j t l := ⟨I 0, I 1, I 2, eq_ix3 I⟩
      rw [List.nil_append, View.writes_append, loop_store (Q := rowsOf x0) (K := rowsOf x1) (V := rowsOf x2) (O := rowsOf x3) (hQ := hQ) (hO := hO) (h4 := hk0) (h6 := hk1) (h8 := hv0) (h10 := hv1) (n := (k0_t1_loop i).trips) (hn := le_rfl)]
      refine (combine (hX := diag_store arg6.view _ (i 1).val _ (k0_off1_eq i) _ (k0_off2_eq i) _ (k0_off3_eq i) _ (k0_off4_eq i) (Q := rowsOf x0) (K := rowsOf x1) (V := rowsOf x2) (O := rowsOf x3)
        (hw1 := fun r l _ => (diag_q0a q1 o1 k0 v0 _ r l).trans (congrArg (· + _) (load_at (N := 4096) (j := 0) arg6.view _ (k0_off1_inb i) (k0_off1_eq i) r l)))
        (hw2 := fun r l _ => (diag_q0b q2 o2 k0 v0 _ r l).trans (congrArg (· + _) ((cov_at (N := 4096) (j := 0) arg6.view (k0_off1_inb i) (k0_off2_inb i) (k0_off1_eq i) (k0_off2_eq i) (by omega) _ _ r l))))
        (hw3 := fun r l _ => (diag_q1a q3 o3 k1 v1 _ r l).trans (congrArg (· + _) (load_at (N := 4096) (j := 1) arg6.view _ (k0_off3_inb i) (k0_off3_eq i) r l)))
        (hw4 := fun r l _ => (diag_q1b q4 o4 k1 v1 _ r l).trans (congrArg (· + _) ((cov_at (N := 4096) (j := 1) arg6.view (k0_off3_inb i) (k0_off4_inb i) (k0_off3_eq i) (k0_off4_eq i) (by omega) _ _ r l))))
        j t l) (h0 := fun h => tq_of_lt _ _ _ _ _ h l) (hn := hn) (ht := t.isLt)).trans ?_
      refine congrArg (· + _) ?_
      by_cases hz : (i 1).val = 0
      · rw [if_pos hz]
        split
        · rw [View.read_writes_full]
          exact pay26_at _
        · rename_i h
          exact absurd ((first_tile i).mpr hz) h
      · rw [if_neg hz]
        split
        · rename_i h
          exact absurd ((first_tile i).mp h) hz
        · rw [hf4]
    isplitl [H5]
    · iexists _; isplitr; swap; · iexact H5
      ipureintro
      refine two_store arg7.view f5 _ rfl _ rfl (fun s l => ?_) (fun s l => ?_)
      · refine (pay73_at _ s l).trans ?_
        refine (congrFun (congrArg (·.1) (t2_fst ..)) _).trans ?_
        exact ((loop_carry (c := c) (bd := none) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (Q := rowsOf x0) (K := rowsOf x1) (V := rowsOf x2) (O := rowsOf x3) (hQ := hQ) (hO := hO) (h4 := hk0) (h6 := hk1) (h8 := hv0) (h10 := hv1) (arg1 := _) (v75 := _) (v76 := _) (v93 := _) (v106 := _) (v108 := _) (v111 := _) (v141 := _) (G := _) (init := (_, _, _, _)) (hik0 := hik0) (hiv0 := hiv0) (hik1 := hik1) (hiv1 := hiv1) (n := (k0_t1_loop i).trips) (hn := le_rfl)).1 s l).trans (congrArg (fun n => tk n _ _ _ _ _ s.val l) hn)
      · refine (pay2_at _ s l).trans ?_
        refine (congrFun (congrArg (·.2.2.1) (t2_fst ..)) _).trans ?_
        exact ((loop_carry (c := c) (bd := none) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (Q := rowsOf x0) (K := rowsOf x1) (V := rowsOf x2) (O := rowsOf x3) (hQ := hQ) (hO := hO) (h4 := hk0) (h6 := hk1) (h8 := hv0) (h10 := hv1) (arg1 := _) (v75 := _) (v76 := _) (v93 := _) (v106 := _) (v108 := _) (v111 := _) (v141 := _) (G := _) (init := (_, _, _, _)) (hik0 := hik0) (hiv0 := hiv0) (hik1 := hik1) (hiv1 := hiv1) (n := (k0_t1_loop i).trips) (hn := le_rfl)).2.2.1 s l).trans (congrArg (fun n => tk n _ _ _ _ _ s.val l) hn)
    · iexists _; isplitr; swap; · iexact H6
      ipureintro
      refine two_store arg8.view f6 _ rfl _ rfl (fun s l => ?_) (fun s l => ?_)
      · refine (pay1_at _ s l).trans ?_
        refine (congrFun (congrArg (·.2.1) (t2_fst ..)) _).trans ?_
        exact ((loop_carry (c := c) (bd := none) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (Q := rowsOf x0) (K := rowsOf x1) (V := rowsOf x2) (O := rowsOf x3) (hQ := hQ) (hO := hO) (h4 := hk0) (h6 := hk1) (h8 := hv0) (h10 := hv1) (arg1 := _) (v75 := _) (v76 := _) (v93 := _) (v106 := _) (v108 := _) (v111 := _) (v141 := _) (G := _) (init := (_, _, _, _)) (hik0 := hik0) (hiv0 := hiv0) (hik1 := hik1) (hiv1 := hiv1) (n := (k0_t1_loop i).trips) (hn := le_rfl)).2.1 s l).trans (congrArg (fun n => tv n _ _ _ _ s.val l) hn)
      · refine (pay3_at _ s l).trans ?_
        refine (congrFun (congrArg (·.2.2.2) (t2_fst ..)) _).trans ?_
        exact ((loop_carry (c := c) (bd := none) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (Q := rowsOf x0) (K := rowsOf x1) (V := rowsOf x2) (O := rowsOf x3) (hQ := hQ) (hO := hO) (h4 := hk0) (h6 := hk1) (h8 := hv0) (h10 := hv1) (arg1 := _) (v75 := _) (v76 := _) (v93 := _) (v106 := _) (v108 := _) (v111 := _) (v141 := _) (G := _) (init := (_, _, _, _)) (hik0 := hik0) (hiv0 := hiv0) (hik1 := hik1) (hiv1 := hiv1) (n := (k0_t1_loop i).trips) (hn := le_rfl)).2.2.2 s l).trans (congrArg (fun n => tv n _ _ _ _ s.val l) hn)

end Cert.KernelIdeal.Val
end
-- ==== Proof.Run.lean ====
/-
  The launch: what the pipeline's staging buffers hold point by point, the body obligation from the body's triple, and
  the run of the whole program around the one region.
-/
module

public import proofs.«01_k».proof.Proof.Body
public import Idealize.ShloMosaic.Lib.Claim

@[expose] public section

set_option maxRecDepth 16384

noncomputable section

namespace Cert.KernelIdeal.Val
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The key tile of a point. -/
def tileOf (t : Fin cfg0.N) : ℕ := ((grid0.coords t) 1).val

theorem tileOf_eq (t : Fin cfg0.N) : tileOf t = t.val % 4 := by
  have h : (grid0.coords t 1).val = t.val / 1 % 4 := Pipeline.Grid.coords_val t 1 (by decide) rfl
  rw [Nat.div_one] at h
  exact h

/-- The queries' gradient after point `t`, from what it was before. -/
def stepAt (c : Dev nD) (t : Fin cfg0.N) (d : Vec Ideal S2x4096x128 .f32) : Vec Ideal S2x4096x128 .f32 :=
  stepQ (tileOf t) (iblk m c 0 t) (iblk m c 1 t) (iblk m c 2 t) (iblk m c 3 t) d

/-- The queries' gradient after point `n`. -/
def accQ (c : Dev nD) : ℕ → Vec Ideal S2x4096x128 .f32
  | 0 => stepAt m c ⟨0, by decide⟩ 0
  | n + 1 => if h : n + 1 < cfg0.N then stepAt m c ⟨n + 1, h⟩ (accQ c n) else accQ c n

theorem accQ_succ (c : Dev nD) (n : ℕ) (h : n + 1 < cfg0.N) : accQ m c (n + 1) = stepAt m c ⟨n + 1, h⟩ (accQ m c n) := by
  rw [accQ, dif_pos h]

theorem stepAt_first (c : Dev nD) (t : Fin cfg0.N) (h : t.val % 4 = 0) (d d' : Vec Ideal S2x4096x128 .f32) : stepAt m c t d = stepAt m c t d' := by
  unfold stepAt stepQ
  rw [tileOf_eq, h]
  rfl

/-- What the body leaves in each window's buffer at each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accQ m c t.val
    | ⟨5, _⟩ => outK (tileOf t) (iblk m c 0 t) (iblk m c 1 t) (iblk m c 2 t) (iblk m c 3 t)
    | ⟨6, _⟩ => outV (tileOf t) (iblk m c 0 t) (iblk m c 1 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = accQ m c t.val := by dsimp only [dats]
theorem after0_5 (c : Dev nD) (t : Fin cfg0.N) :
    (dats m 0 c).after 5 t = outK (tileOf t) (iblk m c 0 t) (iblk m c 1 t) (iblk m c 2 t) (iblk m c 3 t) := by dsimp only [dats]
theorem after0_6 (c : Dev nD) (t : Fin cfg0.N) :
    (dats m 0 c).after 6 t = outV (tileOf t) (iblk m c 0 t) (iblk m c 1 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- From what the queries' gradient's buffer holds before a point, the body makes what it holds after. -/
theorem step_before (c : Dev nD) (t : Fin cfg0.N) (d : Vec Ideal S2x4096x128 .f32) :
    stepAt m c t ((dats m 0 c).before 4 t d) = accQ m c t.val := by
  obtain ⟨n, hn⟩ := t
  cases n with
  | zero => exact stepAt_first m c _ rfl _ _
  | succ n =>
    by_cases h : (n + 1) % 4 = 0
    · rw [accQ_succ m c n hn]
      exact stepAt_first m c _ h _ _
    · refine (congrArg (stepAt m c ⟨n + 1, hn⟩) (((dats m 0 c).before_out_kept 4 rfl ⟨n + 1, hn⟩ (Nat.succ_ne_zero n) ?_ (fun _ => rfl) (fun _ _ => rfl) d).trans (after0_4 m c _))).trans
        (accQ_succ m c n hn).symm
      refine Bool.eq_false_iff.mpr fun hf => ?_
      have := (flush0_4 _).mp hf
      simp only [Nat.add_sub_cancel] at this
      omega

/-- The staging buffer of each window at a point, and that it is a whole buffer. -/
abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [← step_before m c t d4]
  iapply (body_run c (grid0.coords t) _ _ _ _ _ _ _ _ _ _ _ _ _ _ (iblk m c 0 t) (iblk m c 1 t) (iblk m c 2 t) (iblk m c 3 t) ((dats m 0 c).before 4 t d4) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the memory holds at the end: the arrays of the region after its last point, and every host buffer as the lines
    after the region leave it. -/
abbrev Post (r : PUnit × MemSt nD τ sig (Elt Ideal)) : Prop :=
  Pipeline.FramePost cfgs (dats m) 0 (Pipeline.afterTail₀ cfgs (dats m) 0 (V0 m) [hostOps1, hostOps1_1, hostOps1_2]) r

set_option backward.isDefEq.respectTransparency.types false in
set_option maxHeartbeats 800000 in
theorem run_main : θ_run defs (onTc (τ := τ) (main (F := Ideal))) (s₀ m ρ) (fun r => Post m r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The arguments end unchanged and every semaphore at zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Val
end
-- ==== Proof.Out.lean ====
/-
  The arrays the launch leaves, as sums over the whole sequence of the four operand arrays' rows.
-/
module

public import proofs.«01_k».proof.Proof.Run
public import Idealize.ShloMosaic.Lib.Pipeline.ValueKit

@[expose] public section

set_option maxRecDepth 16384

noncomputable section

namespace Cert.KernelIdeal.Val
open Cert.KernelIdeal.Gen

open Idealize.ShloMosaic Idealize.ShloMosaic.TcCoe Idealize.ShloMosaic.Tactic
open Idealize.ShloMosaic.Pipeline

/-- The rows of one head of an operand array. -/
def rowsAt (X : S8x4096x128.Idx → EReal) (h : Fin 8) : Rows := fun t l => if ht : t < 4096 then X (ix3 h ⟨t, ht⟩ l) else 0

theorem rowsAt_fin (X : S8x4096x128.Idx → EReal) (h : Fin 8) (t : Fin 4096) (l : Fin 128) : rowsAt X h t.val l = X (ix3 h t l) := dif_pos t.isLt

/-- The masked weight of query `t` on key `s`, -/
def wp (q k : Rows) (t s : ℕ) : EReal := if s ≤ t then Ideal.exp2 (zz q k t s) else 0

/-- and the weight times the gradient that reaches it. -/
def wd (q k o v : Rows) (t s : ℕ) : EReal := wp q k t s * zz o v t s

section Tiles
variable {kt : ℕ} {q q' k K o o' v W : Rows}

theorem pp_eq {t s : ℕ} (hq : q t = q' t) (hk : k s = K (1024 * kt + s)) : pp kt q k t s = wp q' K t (1024 * kt + s) := by
  simp only [pp, wp, zz, hq, hk]

theorem ds_eq {t s : ℕ} (hq : q t = q' t) (hk : k s = K (1024 * kt + s)) (ho : o t = o' t) (hv : v s = W (1024 * kt + s)) :
    ds kt q k o v t s = wd q' K o' W t (1024 * kt + s) := by
  rw [ds, wd, pp_eq hq hk]
  simp only [zz, ho, hv]

theorem tq_eq {t : ℕ} (l : Fin 128) (hq : q t = q' t) (ho : o t = o' t) (hk : ∀ s, s < 1024 → k s = K (1024 * kt + s))
    (hv : ∀ s, s < 1024 → v s = W (1024 * kt + s)) :
    tq kt q k o v t l = ∑ s ∈ Finset.range 1024, wd q' K o' W t (1024 * kt + s) * K (1024 * kt + s) l :=
  Finset.sum_congr rfl fun s hs => by
    have hs' := Finset.mem_range.mp hs
    rw [ds_eq hq (hk s hs') ho (hv s hs'), hk s hs']

theorem tk_eq {s : ℕ} (l : Fin 128) (hq : ∀ t, t < 4096 → q t = q' t) (ho : ∀ t, t < 4096 → o t = o' t) (hk : k s = K (1024 * kt + s))
    (hv : v s = W (1024 * kt + s)) :
    tk 4096 kt q k o v s l = ∑ t ∈ Finset.range 4096, wd q' K o' W t (1024 * kt + s) * q' t l :=
  Finset.sum_congr rfl fun t ht => by
    have ht' := Finset.mem_range.mp ht
    rw [ds_eq (hq t ht') hk (ho t ht') hv, hq t ht']

theorem tv_eq {s : ℕ} (l : Fin 128) (hq : ∀ t, t < 4096 → q t = q' t) (ho : ∀ t, t < 4096 → o t = o' t) (hk : k s = K (1024 * kt + s)) :
    tv 4096 kt q k o s l = ∑ t ∈ Finset.range 4096, wp q' K t (1024 * kt + s) * o' t l :=
  Finset.sum_congr rfl fun t ht => by
    have ht' := Finset.mem_range.mp ht
    rw [pp_eq (hq t ht') hk, ho t ht']

end Tiles

variable (m : (ℓ : Loc nD τ sig) → Buf (Elt Ideal) ℓ) (c : Dev nD)

/-- The head that row `j` of the pair of point `t` is. -/
def headOf (t : Fin cfg0.N) (j : Fin 2) : Fin 8 := ⟨2 * (t.val / 4) + j.val, by
  have := t.isLt
  have h : cfg0.N = 16 := by decide
  omega⟩

theorem coord0 (t : Fin grid0.N) : (grid0.coords t 0).val = t.val / 4 := by
  have h : (grid0.coords t 0).val = t.val / 4 % 4 := Pipeline.Grid.coords_val t 0 (by decide) rfl
  have := t.isLt
  have h16 : grid0.N = 16 := by decide
  omega

theorem coord1 (t : Fin grid0.N) : (grid0.coords t 1).val = t.val % 4 := by
  have h : (grid0.coords t 1).val = t.val / 1 % 4 := Pipeline.Grid.coords_val t 1 (by decide) rfl
  rw [Nat.div_one] at h
  exact h

theorem index0 : ∀ t : Fin cfg0.N, win0_0.index t = ![(grid0.coords t 0).val, 0, 0] := (by decide +kernel : ∀ t : Fin grid0.N, _)
theorem index1 : ∀ t : Fin cfg0.N, win0_1.index t = ![(grid0.coords t 0).val, (grid0.coords t 1).val, 0] := (by decide +kernel : ∀ t : Fin grid0.N, _)
theorem index2 : ∀ t : Fin cfg0.N, win0_2.index t = ![(grid0.coords t 0).val, (grid0.coords t 1).val, 0] := (by decide +kernel : ∀ t : Fin grid0.N, _)
theorem index3 : ∀ t : Fin cfg0.N, win0_3.index t = ![(grid0.coords t 0).val, 0, 0] := (by decide +kernel : ∀ t : Fin grid0.N, _)
theorem index4 : ∀ t : Fin cfg0.N, win0_4.index t = ![(grid0.coords t 0).val, 0, 0] := (by decide +kernel : ∀ t : Fin grid0.N, _)
theorem index5 : ∀ t : Fin cfg0.N, win0_5.index t = ![(grid0.coords t 0).val, (grid0.coords t 1).val, 0] := (by decide +kernel : ∀ t : Fin grid0.N, _)
theorem index6 : ∀ t : Fin cfg0.N, win0_6.index t = ![(grid0.coords t 0).val, (grid0.coords t 1).val, 0] := (by decide +kernel : ∀ t : Fin grid0.N, _)

/-- The four operand arrays as the launch finds them. -/
abbrev X0 : S8x4096x128.Idx → EReal := V m c main_v65
abbrev X1 : S8x4096x128.Idx → EReal := V m c main_v76
abbrev X2 : S8x4096x128.Idx → EReal := V m c main_v80
abbrev X3 : S8x4096x128.Idx → EReal := V m c main_v95

theorem rows0 (t : Fin cfg0.N) (j : Fin 2) (r : ℕ) (h : r < 4096) : rowsOf (iblk m c 0 t) j r = rowsAt (X0 m c) (headOf t j) r := by
  funext l
  rw [rowsOf_of_lt (iblk m c 0 t) j h, rowsAt, dif_pos h]
  blk_simp [iblk]
  refine congrArg (V m c main_v65) ?_
  blk_ext [index0, coord0, headOf]

theorem rows3 (t : Fin cfg0.N) (j : Fin 2) (r : ℕ) (h : r < 4096) : rowsOf (iblk m c 3 t) j r = rowsAt (X3 m c) (headOf t j) r := by
  funext l
  rw [rowsOf_of_lt (iblk m c 3 t) j h, rowsAt, dif_pos h]
  blk_simp [iblk]
  refine congrArg (V m c main_v95) ?_
  blk_ext [index3, coord0, headOf]

theorem rows1 (t : Fin cfg0.N) (j : Fin 2) (s : ℕ) (h : s < 1024) : rowsOf (iblk m c 1 t) j s = rowsAt (X1 m c) (headOf t j) (1024 * tileOf t + s) := by
  funext l
  have hs : 1024 * tileOf t + s < 4096 := by rw [tileOf_eq]; omega
  rw [rowsOf_of_lt (iblk m c 1 t) j h, rowsAt, dif_pos hs]
  blk_simp [iblk]
  refine congrArg (V m c main_v76) ?_
  blk_ext [index1, coord0, coord1, headOf, tileOf_eq]

theorem rows2 (t : Fin cfg0.N) (j : Fin 2) (s : ℕ) (h : s < 1024) : rowsOf (iblk m c 2 t) j s = rowsAt (X2 m c) (headOf t j) (1024 * tileOf t + s) := by
  funext l
  have hs : 1024 * tileOf t + s < 4096 := by rw [tileOf_eq]; omega
  rw [rowsOf_of_lt (iblk m c 2 t) j h, rowsAt, dif_pos hs]
  blk_simp [iblk]
  refine congrArg (V m c main_v80) ?_
  blk_ext [index2, coord0, coord1, headOf, tileOf_eq]

/-- The queries' gradient of one head, -/
def sumQ (q k o v : Rows) (n t : ℕ) (l : Fin 128) : EReal := ∑ s ∈ Finset.range n, wd q k o v t s * k s l
/-- the keys', -/
def sumK (q k o v : Rows) (s : ℕ) (l : Fin 128) : EReal := ∑ t ∈ Finset.range 4096, wd q k o v t s * q t l
/-- and the values'. -/
def sumV (q k o : Rows) (s : ℕ) (l : Fin 128) : EReal := ∑ t ∈ Finset.range 4096, wp q k t s * o t l

/-- The three over the operand arrays, head by head. -/
def outQ : S8x4096x128.Idx → EReal := fun I =>
  sumQ (rowsAt (X0 m c) (I 0)) (rowsAt (X1 m c) (I 0)) (rowsAt (X3 m c) (I 0)) (rowsAt (X2 m c) (I 0)) 4096 (I 1).val (I 2)
def outKs : S8x4096x128.Idx → EReal := fun I =>
  sumK (rowsAt (X0 m c) (I 0)) (rowsAt (X1 m c) (I 0)) (rowsAt (X3 m c) (I 0)) (rowsAt (X2 m c) (I 0)) (I 1).val (I 2)
def outVs : S8x4096x128.Idx → EReal := fun I =>
  sumV (rowsAt (X0 m c) (I 0)) (rowsAt (X1 m c) (I 0)) (rowsAt (X3 m c) (I 0)) (I 1).val (I 2)

theorem stepAt_at (t : Fin cfg0.N) (d : Vec Ideal S2x4096x128 .f32) (j : Fin 2) (r : Fin 4096) (l : Fin 128) :
    (stepAt m c t d (ix3 j r l) : EReal) = (if t.val % 4 = 0 then (0 : EReal) else d (ix3 j r l))
      + ∑ s ∈ Finset.range 1024, wd (rowsAt (X0 m c) (headOf t j)) (rowsAt (X1 m c) (headOf t j)) (rowsAt (X3 m c) (headOf t j)) (rowsAt (X2 m c) (headOf t j)) r.val (1024 * (t.val % 4) + s)
          * rowsAt (X1 m c) (headOf t j) (1024 * (t.val % 4) + s) l := by
  rw [← tileOf_eq t]
  exact congrArg (_ + ·) (tq_eq l (rows0 m c t j _ r.isLt) (rows3 m c t j _ r.isLt) (fun s hs => rows1 m c t j s hs) (fun s hs => rows2 m c t j s hs))

theorem sumQ_add (q k o v : Rows) (n t : ℕ) (l : Fin 128) :
    sumQ q k o v (1024 * (n + 1)) t l = sumQ q k o v (1024 * n) t l + ∑ s ∈ Finset.range 1024, wd q k o v t (1024 * n + s) * k (1024 * n + s) l := by
  rw [sumQ, sumQ, Nat.mul_succ, Finset.sum_range_add]

/-- What the queries' gradient's buffer holds after a point: the sum over the key tiles so far. -/
theorem accQ_at (n : ℕ) (hn : n < cfg0.N) (j : Fin 2) (r : Fin 4096) (l : Fin 128) :
    (accQ m c n (ix3 j r l) : EReal) = sumQ (rowsAt (X0 m c) (headOf ⟨n, hn⟩ j)) (rowsAt (X1 m c) (headOf ⟨n, hn⟩ j)) (rowsAt (X3 m c) (headOf ⟨n, hn⟩ j)) (rowsAt (X2 m c) (headOf ⟨n, hn⟩ j))
      (1024 * (n % 4 + 1)) r.val l := by
  induction n with
  | zero =>
    refine (stepAt_at m c ⟨0, hn⟩ 0 j r l).trans ?_
    rw [if_pos (Nat.zero_mod 4), sumQ_add]
    simp only [sumQ, Nat.zero_mod, Nat.mul_zero, Finset.range_zero, Finset.sum_empty]
  | succ n ih =>
    rw [accQ_succ m c n hn, stepAt_at, sumQ_add]
    have ih := ih (by omega)
    by_cases h : (n + 1) % 4 = 0
    · rw [if_pos h]
      simp only [h, sumQ, Nat.mul_zero, Finset.range_zero, Finset.sum_empty]
    · rw [if_neg h, ih]
      have hh : headOf ⟨n, by omega⟩ j = headOf ⟨n + 1, hn⟩ j := by
        refine Fin.ext ?_
        simp only [headOf]
        omega
      have hm : n % 4 + 1 = (n + 1) % 4 := by omega
      rw [hh, hm]

theorem arr_Q : (dats m 0 c).arrAt 4 cfg0.N = outQ m c := by
  refine (dats m 0 c).arrAt_eq_of_covers 4 _ (by decide +kernel) fun t hf y => ?_
  blk_simp
  rw [after0_4]
  have h3 := (flush0_4 t).mp hf
  refine (congrArg (accQ m c t.val) (eq_ix3 y)).trans ((accQ_at m c t.val t.isLt (y 0) (y 1) (y 2)).trans ?_)
  rw [h3]
  unfold outQ
  have e0 : (win0_4.blk t).view.emb y 0 = headOf t (y 0) := by
    refine Fin.ext ?_
    blk_simp [index4, coord0, headOf]
    try simp
    try omega
  have e1 : ((win0_4.blk t).view.emb y 1).val = (y 1).val := by
    blk_simp [index4, coord0, headOf]
    try simp
  have e2 : (win0_4.blk t).view.emb y 2 = y 2 := by
    refine Fin.ext ?_
    blk_simp [index4, coord0, headOf]
    try simp
  rw [e0, e1, e2]

theorem arr_K : (dats m 0 c).arrAt 5 cfg0.N = outKs m c := by
  refine (dats m 0 c).arrAt_eq_of_covers 5 _ (by decide +kernel) fun t hf y => ?_
  blk_simp
  rw [after0_5]
  have hy : (y 1).val < 1024 := (y 1).isLt
  refine (tk_eq (y 2) (fun r hr => rows0 m c t (y 0) r hr) (fun r hr => rows3 m c t (y 0) r hr) (rows1 m c t (y 0) _ hy) (rows2 m c t (y 0) _ hy)).trans ?_
  unfold outKs sumK
  have e0 : (win0_5.blk t).view.emb y 0 = headOf t (y 0) := by
    refine Fin.ext ?_
    blk_simp [index5, coord0, headOf]
    try simp
    try omega
  have e1 : ((win0_5.blk t).view.emb y 1).val = 1024 * tileOf t + (y 1).val := by
    blk_simp [index5, coord1, headOf, tileOf_eq]
    try simp
    try omega
  have e2 : (win0_5.blk t).view.emb y 2 = y 2 := by
    refine Fin.ext ?_
    blk_simp [index5, coord0, headOf]
    try simp
  rw [e0, e1, e2]

theorem arr_V : (dats m 0 c).arrAt 6 cfg0.N = outVs m c := by
  refine (dats m 0 c).arrAt_eq_of_covers 6 _ (by decide +kernel) fun t hf y => ?_
  blk_simp
  rw [after0_6]
  have hy : (y 1).val < 1024 := (y 1).isLt
  refine (tv_eq (y 2) (fun r hr => rows0 m c t (y 0) r hr) (fun r hr => rows3 m c t (y 0) r hr) (rows1 m c t (y 0) _ hy)).trans ?_
  unfold outVs sumV
  have e0 : (win0_6.blk t).view.emb y 0 = headOf t (y 0) := by
    refine Fin.ext ?_
    blk_simp [index6, coord0, headOf]
    try simp
    try omega
  have e1 : ((win0_6.blk t).view.emb y 1).val = 1024 * tileOf t + (y 1).val := by
    blk_simp [index6, coord1, headOf, tileOf_eq]
    try simp
    try omega
  have e2 : (win0_6.blk t).view.emb y 2 = y 2 := by
    refine Fin.ext ?_
    blk_simp [index6, coord0, headOf]
    try simp
  rw [e0, e1, e2]

end Cert.KernelIdeal.Val
end
-- ==== Proof.Host.lean ====
/-
  The host lines before and after the launch as functions of the program's arguments, one definition to a value.
-/
module

public import proofs.«01_k».proof.Proof.Out

@[expose] public section

set_option maxRecDepth 16384

noncomputable section

namespace Cert.KernelIdeal.Val
open Cert.KernelIdeal.Gen

open Idealize.ShloMosaic Idealize.ShloMosaic.TcCoe Idealize.ShloMosaic.Tactic

section Terms
variable (q k v ct : Vec Ideal S8x4096x64 .f32) (lf : Vec Ideal S8x4096 .f32)

/-- The logarithm of 2 and its inverse. -/
def hLn2 : Vec Ideal S_ .f32 := Host.log (F := Ideal) (φ := .f32) (constant (F := Ideal) S_ .f32 0x40000000#32)
def hLog2e : Vec Ideal S_ .f32 := Host.divf (F := Ideal) (φ := .f32) (constant (F := Ideal) S_ .f32 0x3F800000#32) hLn2

/-- The running sum of the log forget gates. -/
def hC : Vec Ideal S8x4096 .f32 :=
  Host.reduceWindowAdd (F := Ideal) (φ := .f32) ![1, 4096] ![1, 1] ![0, 4095] ![0, 0] lf (broadcastInDim S_ ![] bcast_S_S_ (constant (F := Ideal) S_ .f32 0x00000000#32)) reduceWindows_S8x4096_S8x4096_w1s1p0_0_w4096s1p4095_0 h_S_

/-- The scores with the decay bias, the mask of the visible ones, and the scores masked. -/
def hZ : Vec Ideal S8x4096x4096 .f32 :=
  addf (F := Ideal) (φ := .f32)
    (mulf (F := Ideal) (φ := .f32) (Host.dotGeneral (F := Ideal) (φ₁ := .f32) (φ₂ := .f32) dot_S8x4096x64_S8x4096x64_S8x4096x4096_2_2_1_1_0_0 none q k)
      (broadcastInDim S8x4096x4096 ![] bcast_S_S8x4096x4096 (constant (F := Ideal) S_ .f32 0x3E000000#32)))
    (subf (F := Ideal) (φ := .f32)
      (broadcastInDim S8x4096x4096 ![0, 1, 2] bcast_S8x4096x1_S8x4096x4096_0_1_2 (broadcastInDim S8x4096x1 ![0, 1] bcast_S8x4096_S8x4096x1_0_1 (hC lf)))
      (broadcastInDim S8x4096x4096 ![0, 1, 2] bcast_S8x1x4096_S8x4096x4096_0_1_2 (broadcastInDim S8x1x4096 ![0, 2] bcast_S8x4096_S8x1x4096_0_2 (hC lf))))
def hMask : IVec S8x4096x4096 1 :=
  broadcastInDim S8x4096x4096 ![1, 2] bcast_S4096x4096_S8x4096x4096_1_2
    (cmpi .sge (broadcastInDim S4096x4096 ![0, 1] bcast_S4096x1_S4096x4096_0_1 (broadcastInDim S4096x1 ![0] bcast_S4096_S4096x1_0 (iotaInDim S4096 32 0)))
      (broadcastInDim S4096x4096 ![0, 1] bcast_S1x4096_S4096x4096_0_1 (broadcastInDim S1x4096 ![1] bcast_S4096_S1x4096_1 (iotaInDim S4096 32 0))))
def hZm : Vec Ideal S8x4096x4096 .f32 :=
  select hMask (hZ q k lf) (broadcastInDim S8x4096x4096 ![] bcast_S_S8x4096x4096 (constant (F := Ideal) S_ .f32 0xFF800000#32))

/-- The softmax row by row: the maximum, the exponentials, their sum, the weights. -/
def hM : Vec Ideal S8x4096 .f32 :=
  Host.reduce (FloatOps.maximumf (F := Ideal) (φ := .f32)) (hZm q k lf) (constant (F := Ideal) S_ .f32 0xFF800000#32) reducesTo_S8x4096x4096_S8x4096_d2 h_S_
def wide (x : Vec Ideal S8x4096 .f32) : Vec Ideal S8x4096x4096 .f32 :=
  broadcastInDim S8x4096x4096 ![0, 1, 2] bcast_S8x4096x1_S8x4096x4096_0_1_2 (broadcastInDim S8x4096x1 ![0, 1] bcast_S8x4096_S8x4096x1_0_1 x)
def hE (x : Vec Ideal S8x4096 .f32) : Vec Ideal S8x4096x4096 .f32 :=
  Host.exp (F := Ideal) (φ := .f32) (subf (F := Ideal) (φ := .f32) (hZm q k lf) (wide x))
def hL (x : Vec Ideal S8x4096 .f32) : Vec Ideal S8x4096 .f32 :=
  Host.reduceAdd (F := Ideal) (φ := .f32) (hE q k lf x) (constant (F := Ideal) S_ .f32 0x00000000#32) reducesTo_S8x4096x4096_S8x4096_d2 h_S_
def hP (x : Vec Ideal S8x4096 .f32) : Vec Ideal S8x4096x4096 .f32 :=
  Host.divf (F := Ideal) (φ := .f32) (hE q k lf x) (wide (hL q k lf x))

/-- The rows' logarithms of the sums of exponentials, and what the weights' gradients average to. -/
def hLse : Vec Ideal S8x4096 .f32 := addf (F := Ideal) (φ := .f32) (hM q k lf) (Host.log (F := Ideal) (φ := .f32) (hL q k lf (hM q k lf)))
def hDelta : Vec Ideal S8x4096 .f32 :=
  Host.reduceAdd (F := Ideal) (φ := .f32)
    (mulf (F := Ideal) (φ := .f32) ct (Host.dotGeneral (F := Ideal) (φ₁ := .f32) (φ₂ := .f32) dot_S8x4096x4096_S8x4096x64_S8x4096x64_2_1_1_2_0_0 none (hP q k lf (hM q k lf)) v))
    (constant (F := Ideal) S_ .f32 0x00000000#32) reducesTo_S8x4096x64_S8x4096_d2 h_S_

/-- The three pieces a number is split into, and a row of them as one lane. -/
def pc1 (x : Vec Ideal S8x4096 .f32) : Vec Ideal S8x4096 .bf16 := truncf (F := Ideal) .bf16 x bitsLt_bf16_f32
def rest1 (x : Vec Ideal S8x4096 .f32) : Vec Ideal S8x4096 .f32 := subf (F := Ideal) (φ := .f32) x (extf (F := Ideal) .f32 (pc1 x) bitsLt_bf16_f32)
def pc2 (x : Vec Ideal S8x4096 .f32) : Vec Ideal S8x4096 .bf16 := pc1 (rest1 x)
def pc3 (x : Vec Ideal S8x4096 .f32) : Vec Ideal S8x4096 .bf16 := pc1 (rest1 (rest1 x))
def lane (x : Vec Ideal S8x4096 .bf16) : Vec Ideal S8x4096x1 .bf16 := broadcastInDim S8x4096x1 ![0, 1] bcast_S8x4096_S8x4096x1_0_1 x
def neg (x : Vec Ideal S8x4096 .bf16) : Vec Ideal S8x4096 .bf16 := Host.negf (F := Ideal) (φ := .bf16) x

/-- What is split: the running sum over ln 2, the negated logarithm over ln 2, the negated average. -/
def hC2 : Vec Ideal S8x4096 .f32 := mulf (F := Ideal) (φ := .f32) (hC lf) (broadcastInDim S8x4096 ![] bcast_S_S8x4096 hLog2e)
def hLse2 : Vec Ideal S8x4096 .f32 :=
  Host.negf (F := Ideal) (φ := .f32) (mulf (F := Ideal) (φ := .f32) (hLse q k lf) (broadcastInDim S8x4096 ![] bcast_S_S8x4096 hLog2e))
def hNd : Vec Ideal S8x4096 .f32 := Host.negf (F := Ideal) (φ := .f32) (hDelta q k v ct lf)

/-- The four operands of the launch. -/
def hQx : Vec Ideal S8x4096x128 .bf16 :=
  concatenate S8x4096x128 2
    [⟨S8x4096x64, (truncf (F := Ideal) .bf16 (mulf (F := Ideal) (φ := .f32) q (broadcastInDim S8x4096x64 ![] bcast_S_S8x4096x64 (mulf (F := Ideal) (φ := .f32) (constant (F := Ideal) S_ .f32 0x3E000000#32) hLog2e))) bitsLt_bf16_f32 : Vec Ideal S8x4096x64 .bf16)⟩,
      ⟨S8x4096x1, lane (pc1 (hC2 lf))⟩, ⟨S8x4096x1, lane (pc2 (hC2 lf))⟩, ⟨S8x4096x1, lane (pc3 (hC2 lf))⟩,
      ⟨S8x4096x3, (broadcastInDim S8x4096x3 ![] bcast_S_S8x4096x3 (constant (F := Ideal) S_ .bf16 0x3F80#16) : Vec Ideal S8x4096x3 .bf16)⟩,
      ⟨S8x4096x1, lane (pc1 (hLse2 q k lf))⟩, ⟨S8x4096x1, lane (pc2 (hLse2 q k lf))⟩, ⟨S8x4096x1, lane (pc3 (hLse2 q k lf))⟩,
      ⟨S8x4096x55, (broadcastInDim S8x4096x55 ![] bcast_S_S8x4096x55 (constant (F := Ideal) S_ .bf16 0x0000#16) : Vec Ideal S8x4096x55 .bf16)⟩]
    concatenates_S8x4096x64_S8x4096x1_S8x4096x1_S8x4096x1_S8x4096x3_S8x4096x1_S8x4096x1_S8x4096x1_S8x4096x55_S8x4096x128_d2
def hKx : Vec Ideal S8x4096x128 .bf16 :=
  concatenate S8x4096x128 2
    [⟨S8x4096x64, (truncf (F := Ideal) .bf16 k bitsLt_bf16_f32 : Vec Ideal S8x4096x64 .bf16)⟩,
      ⟨S8x4096x3, (broadcastInDim S8x4096x3 ![] bcast_S_S8x4096x3 (constant (F := Ideal) S_ .bf16 0x3F80#16) : Vec Ideal S8x4096x3 .bf16)⟩,
      ⟨S8x4096x1, lane (neg (pc1 (hC2 lf)))⟩, ⟨S8x4096x1, lane (neg (pc2 (hC2 lf)))⟩, ⟨S8x4096x1, lane (neg (pc3 (hC2 lf)))⟩,
      ⟨S8x4096x3, (broadcastInDim S8x4096x3 ![] bcast_S_S8x4096x3 (constant (F := Ideal) S_ .bf16 0x3F80#16) : Vec Ideal S8x4096x3 .bf16)⟩,
      ⟨S8x4096x55, (broadcastInDim S8x4096x55 ![] bcast_S_S8x4096x55 (constant (F := Ideal) S_ .bf16 0x0000#16) : Vec Ideal S8x4096x55 .bf16)⟩]
    concatenates_S8x4096x64_S8x4096x3_S8x4096x1_S8x4096x1_S8x4096x1_S8x4096x3_S8x4096x55_S8x4096x128_d2
def hVx : Vec Ideal S8x4096x128 .bf16 :=
  concatenate S8x4096x128 2
    [⟨S8x4096x64, (truncf (F := Ideal) .bf16 v bitsLt_bf16_f32 : Vec Ideal S8x4096x64 .bf16)⟩,
      ⟨S8x4096x4, (broadcastInDim S8x4096x4 ![] bcast_S_S8x4096x4 (constant (F := Ideal) S_ .bf16 0x3F80#16) : Vec Ideal S8x4096x4 .bf16)⟩,
      ⟨S8x4096x60, (broadcastInDim S8x4096x60 ![] bcast_S_S8x4096x60 (constant (F := Ideal) S_ .bf16 0x0000#16) : Vec Ideal S8x4096x60 .bf16)⟩]
    concatenates_S8x4096x64_S8x4096x4_S8x4096x60_S8x4096x128_d2
def hDox : Vec Ideal S8x4096x128 .bf16 :=
  concatenate S8x4096x128 2
    [⟨S8x4096x64, (truncf (F := Ideal) .bf16 ct bitsLt_bf16_f32 : Vec Ideal S8x4096x64 .bf16)⟩,
      ⟨S8x4096x1, (broadcastInDim S8x4096x1 ![] bcast_S_S8x4096x1 (constant (F := Ideal) S_ .bf16 0x0000#16) : Vec Ideal S8x4096x1 .bf16)⟩,
      ⟨S8x4096x1, lane (pc1 (hNd q k v ct lf))⟩, ⟨S8x4096x1, lane (pc2 (hNd q k v ct lf))⟩, ⟨S8x4096x1, lane (pc3 (hNd q k v ct lf))⟩,
      ⟨S8x4096x60, (broadcastInDim S8x4096x60 ![] bcast_S_S8x4096x60 (constant (F := Ideal) S_ .bf16 0x0000#16) : Vec Ideal S8x4096x60 .bf16)⟩]
    concatenates_S8x4096x64_S8x4096x1_S8x4096x1_S8x4096x1_S8x4096x1_S8x4096x60_S8x4096x128_d2

end Terms

section After
variable (a b : Vec Ideal S8x4096x128 .f32)

/-- The four results, of the three arrays the launch leaves. -/
def fDq : Vec Ideal S8x4096x64 .f32 :=
  mulf (F := Ideal) (φ := .f32) (extractStridedSlice S8x4096x64 ![0, 0, 0] a slices_S8x4096x128_S8x4096x64_0_0_0) (broadcastInDim S8x4096x64 ![] bcast_S_S8x4096x64 (constant (F := Ideal) S_ .f32 0x3E000000#32))
def fDk (x : Vec Ideal S_ .f32) : Vec Ideal S8x4096x64 .f32 :=
  mulf (F := Ideal) (φ := .f32) (extractStridedSlice S8x4096x64 ![0, 0, 0] a slices_S8x4096x128_S8x4096x64_0_0_0) (broadcastInDim S8x4096x64 ![] bcast_S_S8x4096x64 x)
def fDv : Vec Ideal S8x4096x64 .f32 := extractStridedSlice S8x4096x64 ![0, 0, 0] a slices_S8x4096x128_S8x4096x64_0_0_0
def fDc : Vec Ideal S8x4096 .f32 :=
  subf (F := Ideal) (φ := .f32) (shapeCast S8x4096 (extractStridedSlice S8x4096x1 ![0, 0, 64] a slices_S8x4096x128_S8x4096x1_0_0_64) shapeCasts_S8x4096x1_S8x4096)
    (shapeCast S8x4096 (extractStridedSlice S8x4096x1 ![0, 0, 67] b slices_S8x4096x128_S8x4096x1_0_0_67) shapeCasts_S8x4096x1_S8x4096)
def revCum (x : Vec Ideal S8x4096 .f32) : Vec Ideal S8x4096 .f32 :=
  Host.reduceWindowAdd (F := Ideal) (φ := .f32) ![1, 4096] ![1, 1] ![0, 0] ![0, 4095] x (broadcastInDim S_ ![] bcast_S_S_ (constant (F := Ideal) S_ .f32 0x00000000#32)) reduceWindows_S8x4096_S8x4096_w1s1p0_0_w4096s1p0_4095 h_S_
end After

variable (m : (ℓ : Loc nD τ sig) → Buf (Elt Ideal) ℓ) (c : Dev nD)

abbrev aQ : Vec Ideal S8x4096x64 .f32 := m ((c : Thread nD τ).loc main_arg0)
abbrev aK : Vec Ideal S8x4096x64 .f32 := m ((c : Thread nD τ).loc main_arg1)
abbrev aV : Vec Ideal S8x4096x64 .f32 := m ((c : Thread nD τ).loc main_arg2)
abbrev aF : Vec Ideal S8x4096 .f32 := m ((c : Thread nD τ).loc main_arg3)
abbrev aG : Vec Ideal S8x4096x64 .f32 := m ((c : Thread nD τ).loc main_arg4)

/-! Two concatenations are equal where their pieces are. -/

theorem cat_q {x0 y0 : Vec Ideal S8x4096x64 .bf16} (h0 : x0 = y0)
    {x1 y1 : Vec Ideal S8x4096x1 .bf16} (h1 : x1 = y1)
    {x2 y2 : Vec Ideal S8x4096x1 .bf16} (h2 : x2 = y2)
    {x3 y3 : Vec Ideal S8x4096x1 .bf16} (h3 : x3 = y3)
    {x4 y4 : Vec Ideal S8x4096x3 .bf16} (h4 : x4 = y4)
    {x5 y5 : Vec Ideal S8x4096x1 .bf16} (h5 : x5 = y5)
    {x6 y6 : Vec Ideal S8x4096x1 .bf16} (h6 : x6 = y6)
    {x7 y7 : Vec Ideal S8x4096x1 .bf16} (h7 : x7 = y7)
    {x8 y8 : Vec Ideal S8x4096x55 .bf16} (h8 : x8 = y8) :
    concatenate S8x4096x128 2 [⟨S8x4096x64, x0⟩, ⟨S8x4096x1, x1⟩, ⟨S8x4096x1, x2⟩, ⟨S8x4096x1, x3⟩, ⟨S8x4096x3, x4⟩, ⟨S8x4096x1, x5⟩, ⟨S8x4096x1, x6⟩, ⟨S8x4096x1, x7⟩, ⟨S8x4096x55, x8⟩]
        concatenates_S8x4096x64_S8x4096x1_S8x4096x1_S8x4096x1_S8x4096x3_S8x4096x1_S8x4096x1_S8x4096x1_S8x4096x55_S8x4096x128_d2
      = concatenate S8x4096x128 2 [⟨S8x4096x64, y0⟩, ⟨S8x4096x1, y1⟩, ⟨S8x4096x1, y2⟩, ⟨S8x4096x1, y3⟩, ⟨S8x4096x3, y4⟩, ⟨S8x4096x1, y5⟩, ⟨S8x4096x1, y6⟩, ⟨S8x4096x1, y7⟩, ⟨S8x4096x55, y8⟩]
        concatenates_S8x4096x64_S8x4096x1_S8x4096x1_S8x4096x1_S8x4096x3_S8x4096x1_S8x4096x1_S8x4096x1_S8x4096x55_S8x4096x128_d2 := by
  subst h0 h1 h2 h3 h4 h5 h6 h7 h8
  rfl

theorem cat_d {x0 y0 : Vec Ideal S8x4096x64 .bf16} (h0 : x0 = y0)
    {x1 y1 : Vec Ideal S8x4096x1 .bf16} (h1 : x1 = y1)
    {x2 y2 : Vec Ideal S8x4096x1 .bf16} (h2 : x2 = y2)
    {x3 y3 : Vec Ideal S8x4096x1 .bf16} (h3 : x3 = y3)
    {x4 y4 : Vec Ideal S8x4096x1 .bf16} (h4 : x4 = y4)
    {x5 y5 : Vec Ideal S8x4096x60 .bf16} (h5 : x5 = y5) :
    concatenate S8x4096x128 2 [⟨S8x4096x64, x0⟩, ⟨S8x4096x1, x1⟩, ⟨S8x4096x1, x2⟩, ⟨S8x4096x1, x3⟩, ⟨S8x4096x1, x4⟩, ⟨S8x4096x60, x5⟩]
        concatenates_S8x4096x64_S8x4096x1_S8x4096x1_S8x4096x1_S8x4096x1_S8x4096x60_S8x4096x128_d2
      = concatenate S8x4096x128 2 [⟨S8x4096x64, y0⟩, ⟨S8x4096x1, y1⟩, ⟨S8x4096x1, y2⟩, ⟨S8x4096x1, y3⟩, ⟨S8x4096x1, y4⟩, ⟨S8x4096x60, y5⟩]
        concatenates_S8x4096x64_S8x4096x1_S8x4096x1_S8x4096x1_S8x4096x1_S8x4096x60_S8x4096x128_d2 := by
  subst h0 h1 h2 h3 h4 h5
  rfl

set_option maxHeartbeats 4000000

theorem V_v0 : V m c main_v0 = hLn2 := by
  unfold V V0
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem V_v80 : V m c main_v80 = hVx (aV m c) := by
  unfold V V0
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem V_v76 : V m c main_v76 = hKx (aK m c) (aF m c) := by
  unfold V V0
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem V_v65 : V m c main_v65 = hQx (aQ m c) (aK m c) (aF m c) := by
  unfold V V0
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  unfold hQx
  refine cat_q ?_ ?_ ?_ ?_ ?_ ?_ ?_ ?_ ?_
  all_goals dsimp only [Matrix.cons_val]
  all_goals after_results_simp
  all_goals rfl

theorem V_v95 : V m c main_v95 = hDox (aQ m c) (aK m c) (aV m c) (aG m c) (aF m c) := by
  unfold V V0
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  unfold hDox
  refine cat_d ?_ ?_ ?_ ?_ ?_ ?_
  all_goals dsimp only [Matrix.cons_val]
  all_goals after_results_simp
  all_goals rfl

end Cert.KernelIdeal.Val
end
-- ==== Proof.Ref.lean ====
/-
  The reference's four results as terms of its arguments, over the softmax's terms both programs share.
-/
module

public import proofs.«01_k».proof.Proof.Host
public import proofs.«01_k».proof.Proof.Gen.ReferenceIdeal.Run

@[expose] public section

set_option maxRecDepth 16384

noncomputable section

namespace Cert.ReferenceIdeal.Val
open Cert.ReferenceIdeal Cert.ReferenceIdeal.Gen
open Cert.KernelIdeal.Val (hMask hZm hM hE hL hP wide)
open Idealize.ShloMosaic Idealize.ShloMosaic.TcCoe

section Terms
variable (q k v ct : Vec Ideal S8x4096x64 .f32) (lf : Vec Ideal S8x4096 .f32)

abbrev zeroF : Vec Ideal S_ .f32 := constant (F := Ideal) S_ .f32 0x00000000#32

/-- The rows' maxima, as the softmax takes them. -/
def rM : Vec Ideal S8x4096 .f32 :=
  maximumf (F := Ideal) (φ := .f32) (broadcastInDim S8x4096 ![] bcast_S_S8x4096 (constant (F := Ideal) S_ .f32 0xFF800000#32)) (hM q k lf)
abbrev rE : Vec Ideal S8x4096x4096 .f32 := hE q k lf (rM q k lf)
def rL1 : Vec Ideal S8x4096x1 .f32 := broadcastInDim S8x4096x1 ![0, 1] bcast_S8x4096_S8x4096x1_0_1 (hL q k lf (rM q k lf))
def widen (x : Vec Ideal S8x4096x1 .f32) : Vec Ideal S8x4096x4096 .f32 := broadcastInDim S8x4096x4096 ![0, 1, 2] bcast_S8x4096x1_S8x4096x4096_0_1_2 x

/-- The gradient of the weights, and what of it the softmax's denominator takes. -/
def rA : Vec Ideal S8x4096x4096 .f32 := Host.dotGeneral (F := Ideal) (φ₁ := .f32) (φ₂ := .f32) dot_S8x4096x64_S8x4096x64_S8x4096x4096_2_2_1_1_0_0 none ct v
def rSq : Vec Ideal S8x4096x1 .f32 :=
  Host.divf (F := Ideal) (φ := .f32) (broadcastInDim S8x4096x1 ![] bcast_S_S8x4096x1 (constant (F := Ideal) S_ .f32 0x3F800000#32)) (mulf (F := Ideal) (φ := .f32) (rL1 q k lf) (rL1 q k lf))
def rDen : Vec Ideal S8x4096 .f32 :=
  Host.reduceAdd (F := Ideal) (φ := .f32) (mulf (F := Ideal) (φ := .f32) (mulf (F := Ideal) (φ := .f32) (rA v ct) (widen (rSq q k lf))) (rE q k lf)) zeroF reducesTo_S8x4096x4096_S8x4096_d2 h_S_
def rDen1 : Vec Ideal S8x4096 .f32 :=
  Host.reduceAdd (F := Ideal) (φ := .f32) (Host.negf (F := Ideal) (φ := .f32) (shapeCast S8x4096x1 (rDen q k v ct lf) shapeCasts_S8x4096_S8x4096x1)) zeroF reducesTo_S8x4096x1_S8x4096_d2 h_S_

/-- The gradient of the masked scores, and of the running sum. -/
def rDz : Vec Ideal S8x4096x4096 .f32 :=
  select hMask
    (mulf (F := Ideal) (φ := .f32)
      (addf (F := Ideal) (φ := .f32) (Host.divf (F := Ideal) (φ := .f32) (rA v ct) (widen (rL1 q k lf)))
        (broadcastInDim S8x4096x4096 ![0, 1] bcast_S8x4096_S8x4096x4096_0_1 (rDen1 q k v ct lf)))
      (rE q k lf))
    (broadcastInDim S8x4096x4096 ![] bcast_S_S8x4096x4096 zeroF)
def rDc : Vec Ideal S8x4096 .f32 :=
  addf (F := Ideal) (φ := .f32)
    (Host.reduceAdd (F := Ideal) (φ := .f32)
      (shapeCast S8x1x4096 (Host.reduceAdd (F := Ideal) (φ := .f32) (Host.negf (F := Ideal) (φ := .f32) (rDz q k v ct lf)) zeroF reducesTo_S8x4096x4096_S8x4096_d1 h_S_) shapeCasts_S8x4096_S8x1x4096)
      zeroF reducesTo_S8x1x4096_S8x4096_d1 h_S_)
    (Host.reduceAdd (F := Ideal) (φ := .f32)
      (shapeCast S8x4096x1 (Host.reduceAdd (F := Ideal) (φ := .f32) (rDz q k v ct lf) zeroF reducesTo_S8x4096x4096_S8x4096_d2 h_S_) shapeCasts_S8x4096_S8x4096x1)
      zeroF reducesTo_S8x4096x1_S8x4096_d2 h_S_)
def rDs : Vec Ideal S8x4096x4096 .f32 :=
  mulf (F := Ideal) (φ := .f32) (rDz q k v ct lf) (broadcastInDim S8x4096x4096 ![] bcast_S_S8x4096x4096 (constant (F := Ideal) S_ .f32 0x3E000000#32))

/-- The four results. -/
def rDq : Vec Ideal S8x4096x64 .f32 := Host.dotGeneral (F := Ideal) (φ₁ := .f32) (φ₂ := .f32) dot_S8x4096x4096_S8x4096x64_S8x4096x64_2_1_1_2_0_0 none (rDs q k v ct lf) k
def rDk : Vec Ideal S8x4096x64 .f32 := Host.dotGeneral (F := Ideal) (φ₁ := .f32) (φ₂ := .f32) dot_S8x4096x4096_S8x4096x64_S8x4096x64_1_1_2_2_0_0 none (rDs q k v ct lf) q
def rDv : Vec Ideal S8x4096x64 .f32 :=
  transpose S8x4096x64 [0, 2, 1]
    (Host.dotGeneral (F := Ideal) (φ₁ := .f32) (φ₂ := .f32) dot_S8x4096x64_S8x4096x4096_S8x64x4096_1_1_2_2_0_0 none ct (hP q k lf (rM q k lf)) : Vec Ideal S8x64x4096 .f32) transposes_S8x64x4096_S8x4096x64_0_2_1
def rDf : Vec Ideal S8x4096 .f32 :=
  Host.reduceWindowAdd (F := Ideal) (φ := .f32) ![1, 4096] ![1, 1] ![0, 0] ![0, 4095] (rDc q k v ct lf) (broadcastInDim S_ ![] bcast_S_S_ zeroF) reduceWindows_S8x4096_S8x4096_w1s1p0_0_w4096s1p0_4095 h_S_

end Terms

variable (m : (ℓ : Loc nD τ sig) → Buf (Elt Ideal) ℓ) (c : Dev nD)

abbrev bQ : Vec Ideal S8x4096x64 .f32 := m ((c : Thread nD τ).loc main_arg0)
abbrev bK : Vec Ideal S8x4096x64 .f32 := m ((c : Thread nD τ).loc main_arg1)
abbrev bV : Vec Ideal S8x4096x64 .f32 := m ((c : Thread nD τ).loc main_arg2)
abbrev bF : Vec Ideal S8x4096 .f32 := m ((c : Thread nD τ).loc main_arg3)
abbrev bG : Vec Ideal S8x4096x64 .f32 := m ((c : Thread nD τ).loc main_arg4)

set_option maxHeartbeats 4000000

theorem res_dv : Value.res_main_v48 m c = rDv (bQ m c) (bK m c) (bG m c) (bF m c) := by
  unfold Value.res_main_v48
  rfl
theorem res_dq : Value.res_main_v74 m c = rDq (bQ m c) (bK m c) (bV m c) (bG m c) (bF m c) := by
  unfold Value.res_main_v74
  rfl
theorem res_dk : Value.res_main_v73 m c = rDk (bQ m c) (bK m c) (bV m c) (bG m c) (bF m c) := by
  unfold Value.res_main_v73
  rfl
theorem res_df : Value.res_main_v75 m c = rDf (bQ m c) (bK m c) (bV m c) (bG m c) (bF m c) := by
  unfold Value.res_main_v75
  rfl

end Cert.ReferenceIdeal.Val
end
-- ==== Proof.Final.lean ====
/-
  What the memory holds of the four results when the program ends.
-/
module

public import proofs.«01_k».proof.Proof.Host

@[expose] public section

set_option maxRecDepth 16384

noncomputable section

namespace Cert.KernelIdeal.Val
open Cert.KernelIdeal.Gen

open Idealize.ShloMosaic Idealize.ShloMosaic.TcCoe Idealize.ShloMosaic.Tactic Idealize.SL.Sem

variable (m : (ℓ : Loc nD τ sig) → Buf (Elt Ideal) ℓ) (c : Dev nD)

set_option maxHeartbeats 4000000

/-- What the launch leaves, read by the lines after it. -/
abbrev after : Valuation τ sig (Elt Ideal) := Pipeline.withArrays (cfgs 0).spec c (V0 m c) (fun w => (dats m 0 c).arrAt w (cfgs 0).N)

theorem arr_distinct : Function.Injective (Pipeline.arrRef spec0) := by decide

theorem after_Q : after m c (Proc.tc.devRef main_v96_0) = outQ m c := (Pipeline.withArrays_arr spec0 arr_distinct c (V0 m c) _ 4).trans (arr_Q m c)
theorem after_K : after m c (Proc.tc.devRef main_v96_1) = outKs m c := (Pipeline.withArrays_arr spec0 arr_distinct c (V0 m c) _ 5).trans (arr_K m c)
theorem after_V : after m c (Proc.tc.devRef main_v96_2) = outVs m c := (Pipeline.withArrays_arr spec0 arr_distinct c (V0 m c) _ 6).trans (arr_V m c)
theorem after_ln2 : after m c (Proc.tc.devRef main_v0) = hLn2 :=
  (Pipeline.withArrays_of_ne _ c (V0 m c) _ main_v0 (by exact (by decide : ∀ w, Pipeline.arrRef spec0 w ≠ main_v0))).trans (V_v0 m c)

theorem tail_v105 : Pipeline.afterTail₀ cfgs (dats m) 0 (V0 m) [hostOps1, hostOps1_1, hostOps1_2] c main_v105 = fDq (outQ m c) := by
  unfold Pipeline.afterTail₀
  simp only [hostOps1, hostOps1_1, hostOps1_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  exact congrArg fDq (after_Q m c)

theorem tail_v108 : Pipeline.afterTail₀ cfgs (dats m) 0 (V0 m) [hostOps1, hostOps1_1, hostOps1_2] c main_v108 = fDk (outKs m c) hLn2 := by
  unfold Pipeline.afterTail₀
  simp only [hostOps1, hostOps1_1, hostOps1_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  exact congrArg₂ fDk (after_K m c) (after_ln2 m c)

theorem tail_v109 : Pipeline.afterTail₀ cfgs (dats m) 0 (V0 m) [hostOps1, hostOps1_1, hostOps1_2] c main_v109 = fDv (outVs m c) := by
  unfold Pipeline.afterTail₀
  simp only [hostOps1, hostOps1_1, hostOps1_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  exact congrArg fDv (after_V m c)

theorem tail_v102 : Pipeline.afterTail₀ cfgs (dats m) 0 (V0 m) [hostOps1, hostOps1_1, hostOps1_2] c main_v102 = revCum (fDc (outQ m c) (outKs m c)) := by
  unfold Pipeline.afterTail₀
  simp only [hostOps1, hostOps1_1, hostOps1_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  exact congrArg₂ (fun a b => revCum (fDc a b)) (after_Q m c) (after_K m c)

variable (ρ : Dev nD → PrngReg)

/-- The run, its four results and its arguments read. -/
theorem run_values : θ_run defs (onTc (τ := τ) (main (F := Ideal))) ⟨m, fun _ => 0, ρ⟩ (fun r => ∀ c : Dev nD,
      r.2.mem ((c.tc : Thread nD τ).loc main_v105) = fDq (outQ m c)
      ∧ r.2.mem ((c.tc : Thread nD τ).loc main_v108) = fDk (outKs m c) hLn2
      ∧ r.2.mem ((c.tc : Thread nD τ).loc main_v109) = fDv (outVs m c)
      ∧ r.2.mem ((c.tc : Thread nD τ).loc main_v102) = revCum (fDc (outQ m c) (outKs m c))) :=
  (θ_run defs _ _).mono (fun _ h c =>
    ⟨((h.1 c).2 main_v105 (Pipeline.mem_restRefs_of main_v105 (by decide) (by decide))).trans (tail_v105 m c),
      ((h.1 c).2 main_v108 (Pipeline.mem_restRefs_of main_v108 (by decide) (by decide))).trans (tail_v108 m c),
      ((h.1 c).2 main_v109 (Pipeline.mem_restRefs_of main_v109 (by decide) (by decide))).trans (tail_v109 m c),
      ((h.1 c).2 main_v102 (Pipeline.mem_restRefs_of main_v102 (by decide) (by decide))).trans (tail_v102 m c)⟩)
    (run_main m ρ)

end Cert.KernelIdeal.Val
end
-- ==== Proof.Read.lean ====
/-
  The host terms of both programs read at an index.
-/
module

public import proofs.«01_k».proof.Proof.Ref
public import proofs.«01_k».proof.Proof.Final

@[expose] public section

set_option maxRecDepth 16384

noncomputable section

namespace Cert.KernelIdeal.Val
open Cert.KernelIdeal Cert.KernelIdeal.Gen
open Idealize.ShloMosaic

/-- The constants of both programs. -/
theorem eighth : (Ideal.ofBits FTy.f32 0x3E000000#32 : EReal) = ((1 / 8 : ℝ) : EReal) := by
  simp [Ideal.ofBits, Ideal.ieee]
  rw [← EReal.coe_mul]
  norm_num
theorem two : (Ideal.ofBits FTy.f32 0x40000000#32 : EReal) = ((2 : ℝ) : EReal) := by
  simp [Ideal.ofBits, Ideal.ieee]
  rw [← EReal.coe_mul]
  norm_num
theorem minus_inf : (Ideal.ofBits FTy.f32 0xFF800000#32 : EReal) = ⊥ := by
  simp [Ideal.ofBits, Ideal.ieee]
theorem plus_inf : (Ideal.ofBits FTy.f32 0x7F800000#32 : EReal) = ⊤ := by
  simp [Ideal.ofBits, Ideal.ieee]

variable (q k v ct : Vec Ideal S8x4096x64 .f32) (lf : Vec Ideal S8x4096 .f32) (x y : Vec Ideal S8x4096 .f32) (h : Fin 8) (t s : Fin 4096) (l : Fin 64) (l' : Fin 128)

theorem sge_mask (a b : EReal) :
    (Scalar.select (IntOp.cmpi CmpIPredicate.sge (BitVec.ofNat 32 t) (BitVec.ofNat 32 s)) a b : EReal) = if s ≤ t then a else b := by
  have ht : (BitVec.ofNat 32 t.val).toInt = t.val := by
    rw [BitVec.toInt_eq_toNat_cond, BitVec.toNat_ofNat]
    omega
  have hs : (BitVec.ofNat 32 s.val).toInt = s.val := by
    rw [BitVec.toInt_eq_toNat_cond, BitVec.toNat_ofNat]
    omega
  by_cases hst : s ≤ t
  · have : s.val ≤ t.val := hst
    simp [Scalar.select, IntOp.cmpi, BitVec.sle, ht, hs, hst]
  · have : ¬ s.val ≤ t.val := hst
    simp [Scalar.select, IntOp.cmpi, BitVec.sle, ht, hs, hst]

/-! Elementwise operations over any operands. -/

theorem add_log_at : (addf (F := Ideal) (φ := .f32) x (Host.log (F := Ideal) (φ := .f32) y) (ix2 h t) : EReal) = x (ix2 h t) + Ideal.log (y (ix2 h t)) := by
  pointwise []
theorem neg_mul_at : (Host.negf (F := Ideal) (φ := .f32) (mulf (F := Ideal) (φ := .f32) x (broadcastInDim S8x4096 ![] bcast_S_S8x4096 hLog2e)) (ix2 h t) : EReal) = -(x (ix2 h t) * hLog2e ix0) := by
  pointwise []
theorem neg_at : (Host.negf (F := Ideal) (φ := .f32) x (ix2 h t) : EReal) = -x (ix2 h t) := by
  pointwise []
theorem max_at : (maximumf (F := Ideal) (φ := .f32) (broadcastInDim S8x4096 ![] bcast_S_S8x4096 (constant (F := Ideal) S_ .f32 0xFF800000#32)) x (ix2 h t) : EReal) = x (ix2 h t) := by
  pointwise []
  rw [minus_inf]
  exact max_eq_right bot_le

/-! The softmax. -/

theorem hZ_at : (hZ q k lf (ix3 h t s) : EReal) = (∑ l, q (ix3 h t l) * k (ix3 h s l)) * ((1 / 8 : ℝ) : EReal) + (hC lf (ix2 h t) - hC lf (ix2 h s)) := by
  pointwise [hZ]
  rw [eighth]
theorem hZm_at : (hZm q k lf (ix3 h t s) : EReal) = if s ≤ t then hZ q k lf (ix3 h t s) else ⊥ := by
  pointwise [hZm, hMask]
  rw [minus_inf]
  exact sge_mask t s _ _
theorem hM_at : (hM q k lf (ix2 h t) : EReal) = Finset.fold max ⊥ (fun s => hZm q k lf (ix3 h t s)) Finset.univ := by
  pointwise [hM]
  rw [minus_inf]
theorem hE_at : (hE q k lf x (ix3 h t s) : EReal) = Ideal.exp (hZm q k lf (ix3 h t s) - x (ix2 h t)) := by
  pointwise [hE, wide]
theorem hL_at : (hL q k lf x (ix2 h t) : EReal) = ∑ s, hE q k lf x (ix3 h t s) := by
  pointwise [hL]
theorem hP_at : (hP q k lf x (ix3 h t s) : EReal) = Ideal.div (hE q k lf x (ix3 h t s)) (hL q k lf x (ix2 h t)) := by
  pointwise [hP, wide]
theorem hLse_at : (hLse q k lf (ix2 h t) : EReal) = hM q k lf (ix2 h t) + Ideal.log (hL q k lf (hM q k lf) (ix2 h t)) :=
  add_log_at (hM q k lf) (hL q k lf (hM q k lf)) h t
theorem hDelta_at : (hDelta q k v ct lf (ix2 h t) : EReal) = ∑ l, ct (ix3 h t l) * ∑ s, hP q k lf (hM q k lf) (ix3 h t s) * v (ix3 h s l) := by
  pointwise [hDelta]

/-! The operands. -/

theorem hLn2_at : (hLn2 ix0 : EReal) = Ideal.log ((2 : ℝ) : EReal) := by
  pointwise [hLn2]
  rw [two]
theorem hLog2e_at : (hLog2e ix0 : EReal) = Ideal.div 1 (Ideal.log ((2 : ℝ) : EReal)) := by
  pointwise [hLog2e, hLn2]
  rw [two]
theorem hC2_at : (hC2 lf (ix2 h t) : EReal) = hC lf (ix2 h t) * hLog2e ix0 := by
  pointwise [hC2]
theorem hLse2_at : (hLse2 q k lf (ix2 h t) : EReal) = -(hLse q k lf (ix2 h t) * hLog2e ix0) := neg_mul_at (hLse q k lf) h t
theorem hNd_at : (hNd q k v ct lf (ix2 h t) : EReal) = -hDelta q k v ct lf (ix2 h t) := neg_at (hDelta q k v ct lf) h t
theorem pc1_at : (pc1 x (ix2 h t) : EReal) = x (ix2 h t) := by
  pointwise [pc1]
theorem pc2_at : (pc2 x (ix2 h t) : EReal) = x (ix2 h t) - x (ix2 h t) := by
  pointwise [pc2, rest1, pc1]
theorem pc3_at : (pc3 x (ix2 h t) : EReal) = x (ix2 h t) - x (ix2 h t) - (x (ix2 h t) - x (ix2 h t)) := by
  pointwise [pc3, rest1, pc1]
theorem neg_bf_at (x : Vec Ideal S8x4096 .bf16) : (neg x (ix2 h t) : EReal) = -x (ix2 h t) := by
  pointwise [neg]

/-- The lanes of the queries: the scaled query, the three pieces of `C`, three ones, the three pieces of the row's level. -/
theorem hQx_at : (hQx q k lf (ix3 h t l') : EReal)
    = if h1 : l'.val < 64 then q (ix3 h t ⟨l'.val, h1⟩) * (((1 / 8 : ℝ) : EReal) * hLog2e ix0)
      else if l'.val - 64 < 1 then pc1 (hC2 lf) (ix2 h t)
      else if l'.val - 64 - 1 < 1 then pc2 (hC2 lf) (ix2 h t)
      else if l'.val - 64 - 1 - 1 < 1 then pc3 (hC2 lf) (ix2 h t)
      else if l'.val - 64 - 1 - 1 - 1 < 3 then 1
      else if l'.val - 64 - 1 - 1 - 1 - 3 < 1 then pc1 (hLse2 q k lf) (ix2 h t)
      else if l'.val - 64 - 1 - 1 - 1 - 3 - 1 < 1 then pc2 (hLse2 q k lf) (ix2 h t)
      else if l'.val - 64 - 1 - 1 - 1 - 3 - 1 - 1 < 1 then pc3 (hLse2 q k lf) (ix2 h t) else 0 := by
  pointwise [hQx, lane]
  simp only [eighth, dite_eq_ite]
/-- The lanes of the keys: the key, three ones, the three pieces of `-C`, three ones. -/
theorem hKx_at : (hKx k lf (ix3 h t l') : EReal)
    = if h1 : l'.val < 64 then k (ix3 h t ⟨l'.val, h1⟩)
      else if l'.val - 64 < 3 then 1
      else if l'.val - 64 - 3 < 1 then -pc1 (hC2 lf) (ix2 h t)
      else if l'.val - 64 - 3 - 1 < 1 then -pc2 (hC2 lf) (ix2 h t)
      else if l'.val - 64 - 3 - 1 - 1 < 1 then -pc3 (hC2 lf) (ix2 h t)
      else if l'.val - 64 - 3 - 1 - 1 - 1 < 3 then 1 else 0 := by
  pointwise [hKx, lane]
  simp only [neg_bf_at, dite_eq_ite]
/-- The lanes of the values: the value and four ones. -/
theorem hVx_at : (hVx v (ix3 h t l') : EReal) = if h1 : l'.val < 64 then v (ix3 h t ⟨l'.val, h1⟩) else if l'.val - 64 < 4 then 1 else 0 := by
  pointwise [hVx, lane]
  simp only [dite_eq_ite]
/-- The lanes of the cotangents: the cotangent, a zero, the three pieces of the negated average. -/
theorem hDox_at : (hDox q k v ct lf (ix3 h t l') : EReal)
    = if h1 : l'.val < 64 then ct (ix3 h t ⟨l'.val, h1⟩)
      else if l'.val - 64 < 1 then 0
      else if l'.val - 64 - 1 < 1 then pc1 (hNd q k v ct lf) (ix2 h t)
      else if l'.val - 64 - 1 - 1 < 1 then pc2 (hNd q k v ct lf) (ix2 h t)
      else if l'.val - 64 - 1 - 1 - 1 < 1 then pc3 (hNd q k v ct lf) (ix2 h t) else 0 := by
  pointwise [hDox, lane]
  simp only [dite_eq_ite]

/-! The results. -/

theorem fDq_at (a : Vec Ideal S8x4096x128 .f32) : (fDq a (ix3 h t l) : EReal) = a (ix3 h t ⟨l.val, by omega⟩) * ((1 / 8 : ℝ) : EReal) := by
  pointwise [fDq]
  rw [eighth]
theorem fDk_at (a : Vec Ideal S8x4096x128 .f32) (x : Vec Ideal S_ .f32) : (fDk a x (ix3 h t l) : EReal) = a (ix3 h t ⟨l.val, by omega⟩) * x ix0 := by
  pointwise [fDk]
theorem fDv_at (a : Vec Ideal S8x4096x128 .f32) : (fDv a (ix3 h t l) : EReal) = a (ix3 h t ⟨l.val, by omega⟩) := by
  pointwise [fDv]
theorem fDc_at (a b : Vec Ideal S8x4096x128 .f32) : (fDc a b (ix2 h t) : EReal) = a (ix3 h t 64) - b (ix3 h t 67) := by
  pointwise [fDc]

end Cert.KernelIdeal.Val

namespace Cert.ReferenceIdeal.Val
open Cert.ReferenceIdeal Cert.ReferenceIdeal.Gen
open Cert.KernelIdeal.Val
open Idealize.ShloMosaic
variable (q k v ct : Vec Ideal S8x4096x64 .f32) (lf : Vec Ideal S8x4096 .f32) (h : Fin 8) (t s : Fin 4096) (l : Fin 64)

theorem rM_eq : rM q k lf = hM q k lf := by
  funext I
  rw [eq_ix2 I]
  exact max_at (hM q k lf) (I 0) (I 1)
theorem rA_at : (rA v ct (ix3 h t s) : EReal) = ∑ l, ct (ix3 h t l) * v (ix3 h s l) := by
  pointwise [rA]
theorem rSq_at : (rSq q k lf (ix3 h t 0) : EReal) = Ideal.div 1 (hL q k lf (rM q k lf) (ix2 h t) * hL q k lf (rM q k lf) (ix2 h t)) := by
  pointwise [rSq, rL1]
theorem rDen_at : (rDen q k v ct lf (ix2 h t) : EReal) = ∑ s, rA v ct (ix3 h t s) * rSq q k lf (ix3 h t 0) * hE q k lf (rM q k lf) (ix3 h t s) := by
  pointwise [rDen, widen]
theorem rDen1_at : (rDen1 q k v ct lf (ix2 h t) : EReal) = -rDen q k v ct lf (ix2 h t) := by
  pointwise [rDen1]
  simp
theorem rDz_at : (rDz q k v ct lf (ix3 h t s) : EReal)
    = if s ≤ t then (Ideal.div (rA v ct (ix3 h t s)) (hL q k lf (rM q k lf) (ix2 h t)) + rDen1 q k v ct lf (ix2 h t)) * hE q k lf (rM q k lf) (ix3 h t s) else 0 := by
  pointwise [rDz, widen, rL1, hMask]
  exact sge_mask t s _ _
theorem rDc_at : (rDc q k v ct lf (ix2 h t) : EReal) = ∑ s, -rDz q k v ct lf (ix3 h s t) + ∑ s, rDz q k v ct lf (ix3 h t s) := by
  pointwise [rDc]
  simp
theorem rDq_at : (rDq q k v ct lf (ix3 h t l) : EReal) = ∑ s, rDz q k v ct lf (ix3 h t s) * ((1 / 8 : ℝ) : EReal) * k (ix3 h s l) := by
  pointwise [rDq, rDs]
  rw [eighth]
theorem rDk_at : (rDk q k v ct lf (ix3 h t l) : EReal) = ∑ s, rDz q k v ct lf (ix3 h s t) * ((1 / 8 : ℝ) : EReal) * q (ix3 h s l) := by
  pointwise [rDk, rDs]
  rw [eighth]
theorem rDv_at : (rDv q k ct lf (ix3 h t l) : EReal) = ∑ s, ct (ix3 h s l) * hP q k lf (rM q k lf) (ix3 h s t) := by
  pointwise [rDv]

end Cert.ReferenceIdeal.Val
end
-- ==== Proof.Math.lean ====
/-
  The mathematics: softmax attention with a decay bias on one head, over the reals, and how the extended reals the two
  programs compute with restrict to it.
-/
module

public import Mathlib.Tactic.FieldSimp
public import Mathlib.Tactic.Ring
public import Mathlib.Analysis.SpecialFunctions.Pow.Real
public import Idealize.ShloMosaic.PureOps.Ideal

@[expose] public section

noncomputable section

namespace Cert.Attn
open Idealize.ShloMosaic

/-! ## Extended reals that are real -/

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem div_coe (x y : ℝ) (hy : y ≠ 0) : Ideal.div (x : EReal) (y : EReal) = ((x / y : ℝ) : EReal) := by
  have h : (y : EReal) ≠ 0 := by exact_mod_cast hy
  rw [Ideal.div, if_neg h, ← EReal.coe_inv, ← EReal.coe_mul, div_eq_mul_inv]

theorem log_coe (x : ℝ) (hx : 0 < x) : Ideal.log (x : EReal) = ((Real.log x : ℝ) : EReal) := by
  rw [Ideal.log_coe, if_neg (not_le.mpr hx)]

theorem exp_coe (x : ℝ) : Ideal.exp (x : EReal) = ((Real.exp x : ℝ) : EReal) := rfl

theorem exp2_coe (x : ℝ) : Ideal.exp2 (x : EReal) = (((2 : ℝ) ^ x : ℝ) : EReal) := rfl

/-- The largest of finitely many numbers, none of them `⊤` and one of them real, is real. -/
theorem fold_max_real {ι : Type*} [Fintype ι] (f : ι → EReal) (hf : ∀ i, f i ≠ ⊤) (i : ι) (hi : f i ≠ ⊥) :
    ∃ M : ℝ, Finset.fold max ⊥ f Finset.univ = (M : EReal) := by
  have htop : Finset.fold max ⊥ f Finset.univ < ⊤ := (Finset.fold_max_lt _).mpr ⟨bot_lt_top, fun j _ => lt_top_iff_ne_top.mpr (hf j)⟩
  have hbot : f i ≤ Finset.fold max ⊥ f Finset.univ := (Finset.le_fold_max _).mpr (Or.inr ⟨i, Finset.mem_univ i, le_rfl⟩)
  refine ⟨(Finset.fold max ⊥ f Finset.univ).toReal, (EReal.coe_toReal htop.ne fun h => hi ?_).symm⟩
  exact le_bot_iff.mp (h ▸ hbot)

/-! ## One head -/

section Head
variable {n d : ℕ} (q k v g : Fin n → Fin d → ℝ) (c M : Fin n → ℝ)

/-- The score of query `t` on key `s`, and its exponential against the row's level `M`, zero where the key is later. -/
def z (t s : Fin n) : ℝ := (∑ l, q t l * k s l) * (1 / 8) + (c t - c s)
def e (t s : Fin n) : ℝ := if s ≤ t then Real.exp (z q k c t s - M t) else 0
/-- The row's sum and the weights. -/
def tot (t : Fin n) : ℝ := ∑ s, e q k c M t s
def p (t s : Fin n) : ℝ := e q k c M t s / tot q k c M t
/-- The gradient of the weights, its average over a row, and the gradient of the scores. -/
def a (t s : Fin n) : ℝ := ∑ l, g t l * v s l
def avg (t : Fin n) : ℝ := ∑ l, g t l * ∑ s, p q k c M t s * v s l
def dz (t s : Fin n) : ℝ := p q k c M t s * (a v g t s - avg q k v g c M t)

theorem e_nonneg (t s : Fin n) : 0 ≤ e q k c M t s := by
  unfold e
  split
  · exact (Real.exp_pos _).le
  · exact le_rfl

theorem tot_pos (t : Fin n) : 0 < tot q k c M t :=
  Finset.sum_pos' (fun s _ => e_nonneg q k c M t s) ⟨t, Finset.mem_univ t, by rw [e, if_pos le_rfl]; exact Real.exp_pos _⟩

/-- The average of the weights' gradient, as the denominator's gradient has it. -/
theorem avg_eq (t : Fin n) : avg q k v g c M t = ∑ s, p q k c M t s * a v g t s := by
  simp only [avg, a, Finset.mul_sum]
  rw [Finset.sum_comm]
  exact Finset.sum_congr rfl fun s _ => Finset.sum_congr rfl fun l _ => by ring

theorem dz_of_lt {t s : Fin n} (h : ¬ s ≤ t) : dz q k v g c M t s = 0 := by rw [dz, p, e, if_neg h, zero_div, zero_mul]

/-- The gradient of the scores as reverse differentiation of the quotient has it. -/
theorem dz_ref (t s : Fin n) :
    (a v g t s / tot q k c M t + -∑ s', a v g t s' * (1 / (tot q k c M t * tot q k c M t)) * e q k c M t s') * e q k c M t s = dz q k v g c M t s := by
  have h := (tot_pos q k c M t).ne'
  have hs : ∑ s', a v g t s' * (1 / (tot q k c M t * tot q k c M t)) * e q k c M t s' = avg q k v g c M t / tot q k c M t := by
    rw [avg_eq, Finset.sum_div]
    refine Finset.sum_congr rfl fun s' _ => ?_
    rw [p]
    field_simp
  rw [hs, dz, p]
  field_simp
  ring

/-- Two to the score less the row's logarithm, over `log 2`, is the weight. -/
theorem two_pow (t s : Fin n) (h : s ≤ t) :
    (2 : ℝ) ^ ((∑ l, q t l * (1 / 8 * (1 / Real.log 2)) * k s l) + c t * (1 / Real.log 2) + -(c s * (1 / Real.log 2)) + -((M t + Real.log (tot q k c M t)) * (1 / Real.log 2)))
      = p q k c M t s := by
  have h2 : Real.log 2 ≠ 0 := (Real.log_pos one_lt_two).ne'
  have hs : (∑ l, q t l * (1 / 8 * (1 / Real.log 2)) * k s l) = (∑ l, q t l * k s l) * (1 / 8) * (1 / Real.log 2) := by
    rw [mul_assoc, Finset.sum_mul]
    exact Finset.sum_congr rfl fun l _ => by ring
  rw [Real.rpow_def_of_pos two_pos, hs, p, e, if_pos h]
  have : Real.log 2 * ((∑ l, q t l * k s l) * (1 / 8) * (1 / Real.log 2) + c t * (1 / Real.log 2) + -(c s * (1 / Real.log 2)) + -((M t + Real.log (tot q k c M t)) * (1 / Real.log 2)))
      = (z q k c t s - M t) - Real.log (tot q k c M t) := by
    rw [z]
    field_simp
    ring
  rw [this, Real.exp_sub, Real.exp_log (tot_pos q k c M t)]

end Head

end Cert.Attn
end
-- ==== Proof.Equal.lean ====
/-
  The kernel's host terms and its three sums over real arguments: each is the coercion of the real quantity of
  Proof/Math.lean, and so are the reference's.
-/
module

public import proofs.«01_k».proof.Proof.Read
public import proofs.«01_k».proof.Proof.Math

@[expose] public section

set_option maxRecDepth 16384

noncomputable section

namespace Cert.KernelIdeal.Val
open Cert.KernelIdeal Cert.KernelIdeal.Gen
open Idealize.ShloMosaic
open Cert.Attn

/-- A sum over the lanes of which the lanes from 73 on are zero. -/
theorem sum_lanes (f : Fin 128 → EReal) (hf : ∀ l : Fin 128, 73 ≤ l.val → f l = 0) :
    ∑ l, f l = (∑ l : Fin 64, f ⟨l.val, by omega⟩) + (f 64 + f 65 + f 66 + f 67 + f 68 + f 69 + f 70 + f 71 + f 72) := by
  have e : ∀ F : ℕ → EReal, (∀ n, 73 ≤ n → F n = 0) →
      ∑ l : Fin 128, F l.val = (∑ l : Fin 64, F l.val) + (F 64 + F 65 + F 66 + F 67 + F 68 + F 69 + F 70 + F 71 + F 72) := by
    intro F hF
    rw [← Finset.sum_range, ← Finset.sum_range, show (128 : ℕ) = 64 + (9 + 55) from rfl, Finset.sum_range_add, Finset.sum_range_add]
    have h0 : ∑ n ∈ Finset.range 55, F (64 + (9 + n)) = 0 := Finset.sum_eq_zero fun n _ => hF _ (by omega)
    rw [h0, add_zero]
    simp only [Finset.sum_range_succ, Finset.sum_range_zero, zero_add]
  have h := e (fun n => if hn : n < 128 then f ⟨n, hn⟩ else 0) (fun n hn => by
    split
    · exact hf _ hn
    · rfl)
  simp only [Fin.is_lt, dite_true] at h
  rw [h]
  congr 1

/-- The arguments, the running sum of the log forget gates and the rows' largest scores are real. -/
structure Real5 (q k v g : Vec Ideal S8x4096x64 .f32) (lf : Vec Ideal S8x4096 .f32)
    (q' k' v' g' : Fin 8 → Fin 4096 → Fin 64 → ℝ) (c M : Fin 8 → Fin 4096 → ℝ) : Prop where
  hq : ∀ h t l, (q (ix3 h t l) : EReal) = (q' h t l : EReal)
  hk : ∀ h t l, (k (ix3 h t l) : EReal) = (k' h t l : EReal)
  hv : ∀ h t l, (v (ix3 h t l) : EReal) = (v' h t l : EReal)
  hg : ∀ h t l, (g (ix3 h t l) : EReal) = (g' h t l : EReal)
  hc : ∀ h t, (hC lf (ix2 h t) : EReal) = (c h t : EReal)
  hM : ∀ h t, (Val.hM q k lf (ix2 h t) : EReal) = (M h t : EReal)

section
variable {q k v g : Vec Ideal S8x4096x64 .f32} {lf : Vec Ideal S8x4096 .f32}
  {q' k' v' g' : Fin 8 → Fin 4096 → Fin 64 → ℝ} {c M : Fin 8 → Fin 4096 → ℝ}

theorem hZ_real (hq : ∀ h t l, (q (ix3 h t l) : EReal) = (q' h t l : EReal)) (hk : ∀ h t l, (k (ix3 h t l) : EReal) = (k' h t l : EReal))
    (hc : ∀ h t, (hC lf (ix2 h t) : EReal) = (c h t : EReal)) (h : Fin 8) (t s : Fin 4096) :
    (hZ q k lf (ix3 h t s) : EReal) = (z (q' h) (k' h) (c h) t s : EReal) := by
  rw [hZ_at, z, EReal.coe_add, EReal.coe_mul, EReal.coe_sub, coe_sum, hc, hc]
  simp only [hq, hk, EReal.coe_mul]

/-- The rows' largest scores are real. -/
theorem hM_real (hq : ∀ h t l, (q (ix3 h t l) : EReal) = (q' h t l : EReal)) (hk : ∀ h t l, (k (ix3 h t l) : EReal) = (k' h t l : EReal))
    (hc : ∀ h t, (hC lf (ix2 h t) : EReal) = (c h t : EReal)) (h : Fin 8) (t : Fin 4096) :
    ∃ r : ℝ, (hM q k lf (ix2 h t) : EReal) = (r : EReal) := by
  rw [hM_at]
  refine fold_max_real _ (fun s => ?_) t ?_
  · rw [hZm_at]
    split
    · rw [hZ_real hq hk hc]
      exact EReal.coe_ne_top _
    · exact bot_ne_top
  · rw [hZm_at, if_pos le_rfl, hZ_real hq hk hc]
    exact EReal.coe_ne_bot _

variable (R : Real5 q k v g lf q' k' v' g' c M) (h : Fin 8) (t s : Fin 4096) (l : Fin 64)
include R

theorem hE_real : (hE q k lf (hM q k lf) (ix3 h t s) : EReal) = (e (q' h) (k' h) (c h) (M h) t s : EReal) := by
  rw [hE_at, hZm_at, R.hM, e]
  split
  · rw [hZ_real R.hq R.hk R.hc, ← EReal.coe_sub, exp_coe]
  · rw [EReal.bot_sub, Ideal.exp_bot, EReal.coe_zero]

theorem hL_real : (hL q k lf (hM q k lf) (ix2 h t) : EReal) = (tot (q' h) (k' h) (c h) (M h) t : EReal) := by
  rw [hL_at, tot, coe_sum]
  simp only [hE_real R]

theorem hP_real : (hP q k lf (hM q k lf) (ix3 h t s) : EReal) = (p (q' h) (k' h) (c h) (M h) t s : EReal) := by
  rw [hP_at, hE_real R, hL_real R, div_coe _ _ (tot_pos _ _ _ _ _).ne', p]

theorem hLse_real : (hLse q k lf (ix2 h t) : EReal) = ((M h t + Real.log (tot (q' h) (k' h) (c h) (M h) t) : ℝ) : EReal) := by
  rw [hLse_at, R.hM, hL_real R, log_coe _ (tot_pos _ _ _ _ _), EReal.coe_add]

theorem hDelta_real : (hDelta q k v g lf (ix2 h t) : EReal) = (avg (q' h) (k' h) (v' h) (g' h) (c h) (M h) t : EReal) := by
  rw [hDelta_at, avg, coe_sum]
  refine Finset.sum_congr rfl fun l _ => ?_
  rw [EReal.coe_mul, coe_sum, R.hg]
  simp only [hP_real R, R.hv, EReal.coe_mul]

omit R in
theorem log2e_real : (hLog2e ix0 : EReal) = ((1 / Real.log 2 : ℝ) : EReal) := by
  rw [hLog2e_at, log_coe _ two_pos, ← EReal.coe_one, div_coe _ _ (Real.log_pos one_lt_two).ne']

omit R in
theorem pc1_real {x : Vec Ideal S8x4096 .f32} {r : ℝ} (hx : (x (ix2 h t) : EReal) = (r : EReal)) : (pc1 x (ix2 h t) : EReal) = (r : EReal) := by rw [pc1_at, hx]
omit R in
theorem pc2_real {x : Vec Ideal S8x4096 .f32} {r : ℝ} (hx : (x (ix2 h t) : EReal) = (r : EReal)) : (pc2 x (ix2 h t) : EReal) = 0 := by
  rw [pc2_at, hx, ← EReal.coe_sub, sub_self, EReal.coe_zero]
omit R in
theorem pc3_real {x : Vec Ideal S8x4096 .f32} {r : ℝ} (hx : (x (ix2 h t) : EReal) = (r : EReal)) : (pc3 x (ix2 h t) : EReal) = 0 := by
  rw [pc3_at, hx, ← EReal.coe_sub, sub_self, EReal.coe_zero, sub_zero]

theorem hC2_real : (hC2 lf (ix2 h t) : EReal) = ((c h t * (1 / Real.log 2) : ℝ) : EReal) := by
  rw [hC2_at, R.hc, log2e_real, EReal.coe_mul]
theorem hLse2_real : (hLse2 q k lf (ix2 h t) : EReal) = ((-((M h t + Real.log (tot (q' h) (k' h) (c h) (M h) t)) * (1 / Real.log 2)) : ℝ) : EReal) := by
  rw [hLse2_at, hLse_real R, log2e_real, EReal.coe_neg, EReal.coe_mul]
theorem hNd_real : (hNd q k v g lf (ix2 h t) : EReal) = ((-avg (q' h) (k' h) (v' h) (g' h) (c h) (M h) t : ℝ) : EReal) := by
  rw [hNd_at, hDelta_real R, EReal.coe_neg]

/-! ## The two products of the kernel -/

/-- The first product is the exponent of the weight. -/
theorem zz_score : zz (rowsAt (hQx q k lf) h) (rowsAt (hKx k lf) h) t.val s.val
    = (((∑ l, q' h t l * (1 / 8 * (1 / Real.log 2)) * k' h s l) + c h t * (1 / Real.log 2) + -(c h s * (1 / Real.log 2))
        + -((M h t + Real.log (tot (q' h) (k' h) (c h) (M h) t)) * (1 / Real.log 2)) : ℝ) : EReal) := by
  unfold zz
  simp only [rowsAt_fin]
  rw [sum_lanes _ (fun l hl => by
    rw [hQx_at]
    rw [dif_neg (by omega), if_neg (by omega), if_neg (by omega), if_neg (by omega), if_neg (by omega), if_neg (by omega), if_neg (by omega), if_neg (by omega), zero_mul])]
  have e0 : (∑ l : Fin 64, hQx q k lf (ix3 h t ⟨l.val, by omega⟩) * hKx k lf (ix3 h s ⟨l.val, by omega⟩) : EReal)
      = ((∑ l, q' h t l * (1 / 8 * (1 / Real.log 2)) * k' h s l : ℝ) : EReal) := by
    rw [coe_sum]
    refine Finset.sum_congr rfl fun l _ => ?_
    rw [hQx_at, hKx_at, dif_pos l.isLt, dif_pos l.isLt, R.hq, R.hk, log2e_real, EReal.coe_mul, EReal.coe_mul, EReal.coe_mul]
  rw [e0]
  simp only [hQx_at, hKx_at, pc1_real h _ (hC2_real R h _), pc2_real h _ (hC2_real R h _), pc3_real h _ (hC2_real R h _),
    pc1_real h _ (hLse2_real R h _), pc2_real h _ (hLse2_real R h _), pc3_real h _ (hLse2_real R h _)]
  simp [add_assoc]

/-- The second product is the weights' gradient less its average. -/
theorem zz_grad : zz (rowsAt (hDox q k v g lf) h) (rowsAt (hVx v) h) t.val s.val
    = ((a (v' h) (g' h) t s - avg (q' h) (k' h) (v' h) (g' h) (c h) (M h) t : ℝ) : EReal) := by
  unfold zz
  simp only [rowsAt_fin]
  rw [sum_lanes _ (fun l hl => by
    rw [hDox_at]
    rw [dif_neg (by omega), if_neg (by omega), if_neg (by omega), if_neg (by omega), if_neg (by omega), zero_mul])]
  have e0 : (∑ l : Fin 64, hDox q k v g lf (ix3 h t ⟨l.val, by omega⟩) * hVx v (ix3 h s ⟨l.val, by omega⟩) : EReal)
      = ((a (v' h) (g' h) t s : ℝ) : EReal) := by
    rw [a, coe_sum]
    refine Finset.sum_congr rfl fun l _ => ?_
    rw [hDox_at, hVx_at, dif_pos l.isLt, dif_pos l.isLt, R.hv, R.hg, EReal.coe_mul]
  rw [e0]
  simp only [hDox_at, hVx_at, pc1_real h _ (hNd_real R h _), pc2_real h _ (hNd_real R h _), pc3_real h _ (hNd_real R h _)]
  simp [sub_eq_add_neg]

theorem wp_real : wp (rowsAt (hQx q k lf) h) (rowsAt (hKx k lf) h) t.val s.val = (p (q' h) (k' h) (c h) (M h) t s : EReal) := by
  unfold wp
  split
  case isTrue hst => rw [zz_score R, exp2_coe, two_pow _ _ _ _ _ _ hst]
  case isFalse hst =>
    have : ¬ s ≤ t := hst
    rw [p, e, if_neg this, zero_div, EReal.coe_zero]

theorem wd_real : wd (rowsAt (hQx q k lf) h) (rowsAt (hKx k lf) h) (rowsAt (hDox q k v g lf) h) (rowsAt (hVx v) h) t.val s.val
    = (dz (q' h) (k' h) (v' h) (g' h) (c h) (M h) t s : EReal) := by
  rw [wd, wp_real R, zz_grad R, dz, EReal.coe_mul]

/-! ## The kernel's results -/

/-- The attention operands the kernel's three results are sums over. -/
def kQ (q k v g : Vec Ideal S8x4096x64 .f32) (lf : Vec Ideal S8x4096 .f32) : Vec Ideal S8x4096x128 .f32 := fun I =>
  sumQ (rowsAt (hQx q k lf) (I 0)) (rowsAt (hKx k lf) (I 0)) (rowsAt (hDox q k v g lf) (I 0)) (rowsAt (hVx v) (I 0)) 4096 (I 1).val (I 2)
def kK (q k v g : Vec Ideal S8x4096x64 .f32) (lf : Vec Ideal S8x4096 .f32) : Vec Ideal S8x4096x128 .f32 := fun I =>
  sumK (rowsAt (hQx q k lf) (I 0)) (rowsAt (hKx k lf) (I 0)) (rowsAt (hDox q k v g lf) (I 0)) (rowsAt (hVx v) (I 0)) (I 1).val (I 2)
def kV (q k v g : Vec Ideal S8x4096x64 .f32) (lf : Vec Ideal S8x4096 .f32) : Vec Ideal S8x4096x128 .f32 := fun I =>
  sumV (rowsAt (hQx q k lf) (I 0)) (rowsAt (hKx k lf) (I 0)) (rowsAt (hDox q k v g lf) (I 0)) (I 1).val (I 2)

theorem kQ_at (l' : Fin 128) : (kQ q k v g lf (ix3 h t l') : EReal)
    = ∑ s, (dz (q' h) (k' h) (v' h) (g' h) (c h) (M h) t s : EReal) * hKx k lf (ix3 h s l') := by
  show sumQ (rowsAt (hQx q k lf) h) (rowsAt (hKx k lf) h) (rowsAt (hDox q k v g lf) h) (rowsAt (hVx v) h) 4096 t.val l' = _
  rw [sumQ, Finset.sum_range]
  simp only [wd_real R, rowsAt_fin]

theorem kK_at (l' : Fin 128) : (kK q k v g lf (ix3 h s l') : EReal)
    = ∑ t, (dz (q' h) (k' h) (v' h) (g' h) (c h) (M h) t s : EReal) * hQx q k lf (ix3 h t l') := by
  show sumK (rowsAt (hQx q k lf) h) (rowsAt (hKx k lf) h) (rowsAt (hDox q k v g lf) h) (rowsAt (hVx v) h) s.val l' = _
  rw [sumK, Finset.sum_range]
  simp only [wd_real R, rowsAt_fin]

theorem kV_at (l' : Fin 128) : (kV q k v g lf (ix3 h s l') : EReal)
    = ∑ t, (p (q' h) (k' h) (c h) (M h) t s : EReal) * hDox q k v g lf (ix3 h t l') := by
  show sumV (rowsAt (hQx q k lf) h) (rowsAt (hKx k lf) h) (rowsAt (hDox q k v g lf) h) s.val l' = _
  rw [sumV, Finset.sum_range]
  simp only [wp_real R, rowsAt_fin]

theorem dq_real : (fDq (kQ q k v g lf) (ix3 h t l) : EReal) = ((∑ s, dz (q' h) (k' h) (v' h) (g' h) (c h) (M h) t s * (1 / 8) * k' h s l : ℝ) : EReal) := by
  rw [fDq_at, kQ_at R]
  have e : ∀ s, (hKx k lf (ix3 h s ⟨l.val, by omega⟩) : EReal) = (k' h s l : EReal) := fun s => by
    rw [hKx_at, dif_pos l.isLt, R.hk]
  simp only [e, ← EReal.coe_mul, ← coe_sum]
  rw [Finset.sum_mul]
  exact congrArg _ (Finset.sum_congr rfl fun s _ => by ring)

theorem dk_real : (fDk (kK q k v g lf) hLn2 (ix3 h s l) : EReal) = ((∑ t, dz (q' h) (k' h) (v' h) (g' h) (c h) (M h) t s * (1 / 8) * q' h t l : ℝ) : EReal) := by
  rw [fDk_at, kK_at R, hLn2_at, log_coe _ two_pos]
  have e : ∀ t, (hQx q k lf (ix3 h t ⟨l.val, by omega⟩) : EReal) = ((q' h t l * (1 / 8 * (1 / Real.log 2)) : ℝ) : EReal) := fun t => by
    rw [hQx_at, dif_pos l.isLt, R.hq, log2e_real, EReal.coe_mul, EReal.coe_mul]
  simp only [e, ← EReal.coe_mul, ← coe_sum]
  rw [Finset.sum_mul]
  have h2 : Real.log 2 ≠ 0 := (Real.log_pos one_lt_two).ne'
  exact congrArg _ (Finset.sum_congr rfl fun s _ => by field_simp)

theorem dv_real : (fDv (kV q k v g lf) (ix3 h s l) : EReal) = ((∑ t, g' h t l * p (q' h) (k' h) (c h) (M h) t s : ℝ) : EReal) := by
  rw [fDv_at, kV_at R]
  have e : ∀ t, (hDox q k v g lf (ix3 h t ⟨l.val, by omega⟩) : EReal) = (g' h t l : EReal) := fun t => by
    rw [hDox_at, dif_pos l.isLt, R.hg]
  simp only [e, ← EReal.coe_mul, ← coe_sum]
  exact congrArg _ (Finset.sum_congr rfl fun s _ => mul_comm _ _)

theorem dc_real : (fDc (kQ q k v g lf) (kK q k v g lf) (ix2 h t) : EReal)
    = ((∑ s, -dz (q' h) (k' h) (v' h) (g' h) (c h) (M h) s t + ∑ s, dz (q' h) (k' h) (v' h) (g' h) (c h) (M h) t s : ℝ) : EReal) := by
  rw [fDc_at, kQ_at R, kK_at R]
  have ek : ∀ s, (hKx k lf (ix3 h s 64) : EReal) = 1 := fun s => by rw [hKx_at]; simp
  have eq : ∀ t, (hQx q k lf (ix3 h t 67) : EReal) = 1 := fun t => by rw [hQx_at]; simp
  simp only [ek, eq, mul_one, ← coe_sum, ← EReal.coe_sub]
  rw [Finset.sum_neg_distrib]
  exact congrArg _ (by ring)

end

end Cert.KernelIdeal.Val

namespace Cert.ReferenceIdeal.Val
open Cert.ReferenceIdeal Cert.ReferenceIdeal.Gen
open Cert.KernelIdeal.Val
open Idealize.ShloMosaic
open Cert.Attn

variable {q k v g : Vec Ideal S8x4096x64 .f32} {lf : Vec Ideal S8x4096 .f32}
  {q' k' v' g' : Fin 8 → Fin 4096 → Fin 64 → ℝ} {c M : Fin 8 → Fin 4096 → ℝ}
variable (R : Real5 q k v g lf q' k' v' g' c M) (h : Fin 8) (t s : Fin 4096) (l : Fin 64)
include R

/-! ## The reference's results -/

theorem rA_real : (rA v g (ix3 h t s) : EReal) = (a (v' h) (g' h) t s : EReal) := by
  rw [rA_at, a, coe_sum]
  simp only [R.hv, R.hg, EReal.coe_mul]

theorem rSq_real : (rSq q k lf (ix3 h t 0) : EReal) = ((1 / (tot (q' h) (k' h) (c h) (M h) t * tot (q' h) (k' h) (c h) (M h) t) : ℝ) : EReal) := by
  have hp := tot_pos (q' h) (k' h) (c h) (M h) t
  rw [rSq_at, rM_eq, hL_real R, ← EReal.coe_mul, ← EReal.coe_one, div_coe _ _ (mul_pos hp hp).ne']

theorem rDen1_real : (rDen1 q k v g lf (ix2 h t) : EReal)
    = ((-∑ s, a (v' h) (g' h) t s * (1 / (tot (q' h) (k' h) (c h) (M h) t * tot (q' h) (k' h) (c h) (M h) t)) * e (q' h) (k' h) (c h) (M h) t s : ℝ) : EReal) := by
  rw [rDen1_at, rDen_at, EReal.coe_neg, coe_sum]
  simp only [rA_real R, rSq_real R, rM_eq, hE_real R, EReal.coe_mul]

/-- The gradient of the scores. -/
theorem rDz_real : (rDz q k v g lf (ix3 h t s) : EReal) = (dz (q' h) (k' h) (v' h) (g' h) (c h) (M h) t s : EReal) := by
  rw [rDz_at]
  split
  case isTrue hst =>
    rw [rM_eq, hL_real R, hE_real R, rA_real R, rDen1_real R, div_coe _ _ (tot_pos _ _ _ _ _).ne', ← EReal.coe_add, ← EReal.coe_mul, dz_ref]
  case isFalse hst => rw [dz_of_lt _ _ _ _ _ _ hst, EReal.coe_zero]

theorem rDq_real : (rDq q k v g lf (ix3 h t l) : EReal) = ((∑ s, dz (q' h) (k' h) (v' h) (g' h) (c h) (M h) t s * (1 / 8) * k' h s l : ℝ) : EReal) := by
  rw [rDq_at, coe_sum]
  simp only [rDz_real R, R.hk, EReal.coe_mul]
theorem rDk_real : (rDk q k v g lf (ix3 h s l) : EReal) = ((∑ t, dz (q' h) (k' h) (v' h) (g' h) (c h) (M h) t s * (1 / 8) * q' h t l : ℝ) : EReal) := by
  rw [rDk_at, coe_sum]
  simp only [rDz_real R, R.hq, EReal.coe_mul]
theorem rDv_real : (rDv q k g lf (ix3 h s l) : EReal) = ((∑ t, g' h t l * p (q' h) (k' h) (c h) (M h) t s : ℝ) : EReal) := by
  rw [rDv_at, coe_sum]
  simp only [rM_eq, hP_real R, R.hg, EReal.coe_mul]
theorem rDc_real : (rDc q k v g lf (ix2 h t) : EReal)
    = ((∑ s, -dz (q' h) (k' h) (v' h) (g' h) (c h) (M h) s t + ∑ s, dz (q' h) (k' h) (v' h) (g' h) (c h) (M h) t s : ℝ) : EReal) := by
  rw [rDc_at, EReal.coe_add, coe_sum, coe_sum]
  simp only [rDz_real R, EReal.coe_neg]

/-! ## The results agree -/

theorem dq_eq : fDq (kQ q k v g lf) = rDq q k v g lf := by
  funext I
  rw [eq_ix3 I]
  exact (dq_real R _ _ _).trans (rDq_real R _ _ _).symm
theorem dk_eq : fDk (kK q k v g lf) hLn2 = rDk q k v g lf := by
  funext I
  rw [eq_ix3 I]
  exact (dk_real R _ _ _).trans (rDk_real R _ _ _).symm
theorem dv_eq : fDv (kV q k v g lf) = rDv q k g lf := by
  funext I
  rw [eq_ix3 I]
  exact (dv_real R _ _ _).trans (rDv_real R _ _ _).symm
theorem dc_eq : fDc (kQ q k v g lf) (kK q k v g lf) = rDc q k v g lf := by
  funext I
  rw [eq_ix2 I]
  exact (dc_real R _ _).trans (rDc_real R _ _).symm
theorem df_eq : revCum (fDc (kQ q k v g lf) (kK q k v g lf)) = rDf q k v g lf := by
  rw [dc_eq R]
  rfl

end Cert.ReferenceIdeal.Val
end
-- ==== Proof.Finite.lean ====
/-
  What the precondition gives: the arguments are real, and so is the running sum of the log forget gates.
-/
module

public import proofs.«01_k».proof.Defs
public import proofs.«01_k».proof.Proof.Equal

@[expose] public section

set_option maxRecDepth 16384

noncomputable section

namespace Cert.KernelIdeal.Val
open Cert.KernelIdeal Cert.KernelIdeal.Gen
open Idealize.ShloMosaic

/-- The shape facts of the precondition. -/
theorem finite_facts : Cert.Pre_finite.Facts where
  bcast_S_S8x4096x64 := by decide
  bcast_S_S8x4096 := by decide
  bcast_S8x4096_S8x4096x1_0_1 := by decide
  bcast_S8x4096x1_S8x4096x64_0_1_2 := by decide

attribute [local instance] finite_facts

/-- A number smaller than `⊤` in absolute value is real. -/
theorem real_of_abs {x : EReal} (h : BitVec.ofBool (decide (FloatOps.absf (F := Ideal) (φ := .f32) x < Ideal.ofBits FTy.f32 0x7F800000#32)) = 1#1) :
    ∃ r : ℝ, x = (r : EReal) := by
  have hlt : max x (-x) < ⊤ := by
    rw [plus_inf] at h
    by_contra hn
    rw [show (FloatOps.absf (F := Ideal) (φ := .f32) x : EReal) = max x (-x) from rfl, decide_eq_false hn] at h
    exact absurd h (by decide)
  have h1 := (max_lt_iff.mp hlt).1
  have h2 := (max_lt_iff.mp hlt).2
  refine ⟨x.toReal, (EReal.coe_toReal h1.ne fun hb => ?_).symm⟩
  rw [hb, EReal.neg_bot] at h2
  exact lt_irrefl _ h2

theorem and_one {x y : BitVec 1} (h : IntOp.andi x y = 1#1) : x = 1#1 ∧ y = 1#1 := by
  revert x y
  decide

section
variable {q k v g : Vec Ideal S8x4096x64 .f32} {lf : Vec Ideal S8x4096 .f32}

theorem reals_at (hpre : Cert.Pre_finite.fn (F := Ideal) q k v lf g = fun _ => 1#1) (h : Fin 8) (t : Fin 4096) (l : Fin 64) :
    (∃ r : ℝ, (q (ix3 h t l) : EReal) = (r : EReal)) ∧ (∃ r : ℝ, (k (ix3 h t l) : EReal) = (r : EReal)) ∧ (∃ r : ℝ, (v (ix3 h t l) : EReal) = (r : EReal))
      ∧ (∃ r : ℝ, (g (ix3 h t l) : EReal) = (r : EReal)) ∧ (∃ r : ℝ, (lf (ix2 h t) : EReal) = (r : EReal)) := by
  have e := congrFun hpre (ix3 h t l)
  pointwise [Cert.Pre_finite.fn, Cert.Pre_finite.fn_part1] at e
  obtain ⟨e, el⟩ := and_one e
  obtain ⟨e, eg⟩ := and_one e
  obtain ⟨e, ev⟩ := and_one e
  obtain ⟨eq, ek⟩ := and_one e
  exact ⟨real_of_abs eq, real_of_abs ek, real_of_abs ev, real_of_abs eg, real_of_abs el⟩

/-- Adding real numbers to a real number gives a real number. -/
theorem foldl_real {ι : Type} (L : List ι) (f : ι → EReal) (hf : ∀ i, ∃ r : ℝ, f i = (r : EReal)) :
    ∀ x : ℝ, ∃ r : ℝ, L.foldl (fun y i => y + f i) (x : EReal) = (r : EReal) := by
  induction L with
  | nil => exact fun x => ⟨x, rfl⟩
  | cons i L ih =>
    intro x
    obtain ⟨r, hr⟩ := hf i
    obtain ⟨s, hs⟩ := ih (x + r)
    exact ⟨s, by rw [List.foldl_cons, hr, ← EReal.coe_add, hs]⟩

/-- The sums over the windows of a real array are real. -/
theorem windows_real {S T U : Shape} (window strides lo hi : Fin S.rank → ℕ) (x : Vec Ideal S .f32) (init : Vec Ideal U .f32)
    (hw : S.ReduceWindows window strides lo hi T) (hu : 0 < U.numel) (hx : ∀ I, ∃ r : ℝ, (x I : EReal) = (r : EReal))
    (hi0 : ∀ I, ∃ r : ℝ, (init I : EReal) = (r : EReal)) (I : T.Idx) :
    ∃ r : ℝ, (Host.reduceWindowAdd (F := Ideal) (φ := .f32) window strides lo hi x init hw hu I : EReal) = (r : EReal) := by
  obtain ⟨r0, h0⟩ := hi0 (Shape.Idx.first hu)
  unfold Host.reduceWindowAdd
  rw [Ideal.hostReduceWindowAdd_def, Ideal.hostReduceWindowAdd, Host.reduceWindow]
  simp only [h0]
  refine foldl_real _ _ (fun n => ?_) r0
  split
  · exact hx _
  · exact ⟨r0, rfl⟩

theorem zero_at (I : S_.Idx) : (broadcastInDim S_ ![] bcast_S_S_ (constant (F := Ideal) S_ .f32 0x00000000#32) I : EReal) = ((0 : ℝ) : EReal) := by
  rw [show I = ix0 from Subsingleton.elim _ _]
  pointwise []
  simp

/-- The running sum of the log forget gates is real. -/
theorem hC_real (hl : ∀ h t, ∃ r : ℝ, (lf (ix2 h t) : EReal) = (r : EReal)) (h : Fin 8) (t : Fin 4096) :
    ∃ r : ℝ, (hC lf (ix2 h t) : EReal) = (r : EReal) :=
  windows_real _ _ _ _ lf _ _ _ (fun I => by rw [eq_ix2 I]; exact hl _ _) (fun I => ⟨0, zero_at I⟩) (ix2 h t)

/-- Under the precondition the arguments and what the proof needs of them are real. -/
theorem exists_real (hpre : Cert.Pre_finite.fn (F := Ideal) q k v lf g = fun _ => 1#1) : ∃ q' k' v' g' c M, Real5 q k v g lf q' k' v' g' c M := by
  have H := reals_at hpre
  choose q' hq using fun h t l => (H h t l).1
  choose k' hk using fun h t l => (H h t l).2.1
  choose v' hv using fun h t l => (H h t l).2.2.1
  choose g' hg using fun h t l => (H h t l).2.2.2.1
  choose c hc using hC_real fun h t => (H h t 0).2.2.2.2
  choose M hM using hM_real (lf := lf) hq hk hc
  exact ⟨q', k', v', g', c, M, hq, hk, hv, hg, hc, hM⟩

end

/-! ## The kernel's results under the precondition -/

section
variable (m : (ℓ : Loc nD τ sig) → Buf (Elt Ideal) ℓ) (c : Dev nD)

theorem outQ_eq : outQ m c = kQ (aQ m c) (aK m c) (aV m c) (aG m c) (aF m c) := by
  unfold outQ kQ X0 X1 X2 X3
  rw [V_v65, V_v76, V_v80, V_v95]
theorem outKs_eq : outKs m c = kK (aQ m c) (aK m c) (aV m c) (aG m c) (aF m c) := by
  unfold outKs kK X0 X1 X2 X3
  rw [V_v65, V_v76, V_v80, V_v95]
theorem outVs_eq : outVs m c = kV (aQ m c) (aK m c) (aV m c) (aG m c) (aF m c) := by
  unfold outVs kV X0 X1 X3
  rw [V_v65, V_v76, V_v95]

end

end Cert.KernelIdeal.Val
end
-- ==== Proof.Frame.lean ====
/-
  The frame of the kernel as printed, over any float values: the body runs on any contents of its windows, the inputs'
  blocks are left as they were and nothing is said of the outputs.
-/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Claim

@[expose] public section

set_option maxRecDepth 16384

noncomputable section

namespace Cert.Kernel.Val
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The key tile is the first of its head pair, as the body asks it. -/
abbrev isFirst (i : grid0.Coords) : Prop :=
  (Scalar.cmpi .ne (Scalar.extui (Scalar.cmpi .eq (BitVec.ofNat 32 (i 1).val) 0#32)) 0#32) = 1#1

set_option maxHeartbeats 1000000 in
/-- The body at the first key tile of a head pair, which clears the queries' gradient. -/
theorem run_first (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole) (hc : isFirst i)
    (x0 : Vec F S2x4096x128 .bf16) (x1 x2 : Vec F S2x1024x128 .bf16) (x3 : Vec F S2x4096x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_attn_bwd i arg2 harg2 arg3 harg3 arg4 harg4 arg5 harg5 arg6 harg6 arg7 harg7 arg8 harg8) K := by
  simp only [cc0_attn_bwd_eq_skeleton]; unfold cc0_attn_bwd_skel
  simp only [k0_part3_eq_skeleton, k0_part4_eq_skeleton, k0_part5_eq_skeleton, k0_part6_eq_skeleton]
  unfold owns
  iintro ⟨⟨%f0, %h0, H0⟩, ⟨%f1, %h1, H1⟩, ⟨%f2, %h2, H2⟩, ⟨%f3, %h3, H3⟩, ⟨%d4, %f4, -, H4⟩, ⟨%d5, %f5, -, H5⟩, ⟨%d6, %f6, -, H6⟩, Hk⟩
  obtain rfl := harg2.eq_unread h0; obtain rfl := harg3.eq_unread h1; obtain rfl := harg4.eq_unread h2; obtain rfl := harg5.eq_unread h3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  iexists _, _; isplitr; swap; · iexact H6
  ipureintro; rfl

set_option maxHeartbeats 1000000 in
/-- The body at a later key tile, which adds to the queries' gradient. -/
theorem run_later (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S2x1024x128 .bf16) (harg4 : arg4.IsWhole) (arg5 : Memref sig .tc .vmem S2x4096x128 .bf16) (harg5 : arg5.IsWhole) (arg6 : Memref sig .tc .vmem S2x4096x128 .f32) (harg6 : arg6.IsWhole) (arg7 : Memref sig .tc .vmem S2x1024x128 .f32) (harg7 : arg7.IsWhole) (arg8 : Memref sig .tc .vmem S2x1024x128 .f32) (harg8 : arg8.IsWhole) (hc : ¬ isFirst i)
    (x0 : Vec F S2x4096x128 .bf16) (x1 x2 : Vec F S2x1024x128 .bf16) (x3 : Vec F S2x4096x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_attn_bwd i arg2 harg2 arg3 harg3 arg4 harg4 arg5 harg5 arg6 harg6 arg7 harg7 arg8 harg8) K := by
  simp only [cc0_attn_bwd_eq_skeleton]; unfold cc0_attn_bwd_skel
  simp only [k0_part3_eq_skeleton, k0_part4_eq_skeleton, k0_part5_eq_skeleton, k0_part6_eq_skeleton]
  unfold owns
  iintro ⟨⟨%f0, %h0, H0⟩, ⟨%f1, %h1, H1⟩, ⟨%f2, %h2, H2⟩, ⟨%f3, %h3, H3⟩, ⟨%d4, %f4, -, H4⟩, ⟨%d5, %f5, -, H5⟩, ⟨%d6, %f6, -, H6⟩, Hk⟩
  obtain rfl := harg2.eq_unread h0; obtain rfl := harg3.eq_unread h1; obtain rfl := harg4.eq_unread h2; obtain rfl := harg5.eq_unread h3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  iexists _, _; isplitr; swap; · iexact H6
  ipureintro; rfl

/-- The windows of which nothing is said: the three outputs. -/
def outputs : Fin 7 → Bool := fun w => decide (4 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  by_cases hc : isFirst (grid0.coords t)
  · iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ hc (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ hc (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ outputs := fun t => by
  rw [bigSep_W0, bigSep_W0, defs₀_row]
  exact triple_restated (sound_body m c t) rfl .rfl fun _ => .rfl

/-- What the lines after the region write. -/
def tail : Finset (Ref sig .tc) := {main_call2_cst, main_call2_v0, main_cst_16, main_v100, main_v101, main_v102, main_v103, main_v104, main_v105, main_v106, main_v107, main_v108, main_v109, main_v97, main_v98, main_v99}

theorem tail_writes : ∀ ops ∈ ([hostOps1, hostOps1_1, hostOps1_2] : List (List (HloOp τ sig (Elt F)))), ∀ op ∈ ops,
    ∀ b : Ref sig .tc, Proc.devRef .tc b ∈ op.writes → b ∈ tail := by
  intro ops hops op hop b hb
  simp only [List.mem_cons, List.mem_nil_iff, or_false] at hops
  rcases hops with rfl | rfl | rfl <;>
    simp only [hostOps1, hostOps1_1, hostOps1_2, List.mem_cons, List.mem_nil_iff, or_false] at hop
  · rcases hop with rfl | rfl | rfl | rfl | rfl <;>
      (simp only [StableHlo.nullary_writes, StableHlo.unary_writes, StableHlo.binary_writes, StableHlo.ternary_writes, StableHlo.reshape_writes, StableHlo.unaryIndexed_writes, StableHlo.binaryIndexed_writes, StableHlo.nary_writes, Finset.mem_singleton] at hb; cases Proc.devRef_injective _ hb; decide)
  · rcases hop with rfl | rfl | rfl <;>
      (simp only [StableHlo.nullary_writes, StableHlo.unary_writes, StableHlo.binary_writes, StableHlo.ternary_writes, StableHlo.reshape_writes, StableHlo.unaryIndexed_writes, StableHlo.binaryIndexed_writes, StableHlo.nary_writes, Finset.mem_singleton] at hb; cases Proc.devRef_injective _ hb; decide)
  · rcases hop with rfl | rfl | rfl | rfl | rfl | rfl | rfl | rfl <;>
      (simp only [StableHlo.nullary_writes, StableHlo.unary_writes, StableHlo.binary_writes, StableHlo.ternary_writes, StableHlo.reshape_writes, StableHlo.unaryIndexed_writes, StableHlo.binaryIndexed_writes, StableHlo.nary_writes, Finset.mem_singleton] at hb; cases Proc.devRef_injective _ hb; decide)

set_option backward.isDefEq.respectTransparency.types false in
set_option maxHeartbeats 800000 in
theorem run_main : θ_run defs (onTc (τ := τ) (main (F := F))) (s₀ m ρ)
    (fun r => (Pipeline.RDat.FramePostR (cfgs 0) (fun c => (dats m 0 c).toRForget outputs) tail (V m)) r ∧ r.2.sem = fun _ => 0) :=
  Pipeline.θ_run_frame_around_T_forget (Q' := _) cfgs (dats m) (0 : Fin 1) launch0 defs₀ Variants.none outputs tail m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps) (hT := tail_writes)
    (hmain := hmain m Variants.none) (hA := A_eq m) (hΦ := fun _ _ => rfl)

theorem outside (b : Ref sig .tc) (h : b ∈ Pipeline.restRefs sig spec0) (h' : b ∉ tail) : b ∈ Pipeline.restRefs sig spec0 \ tail :=
  Finset.mem_sdiff.mpr ⟨h, h'⟩

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (outside main_arg0 (Pipeline.mem_restRefs_of main_arg0 (by decide) (by decide)) (by decide))).trans (V_main_arg0 m c),
      ((h.1 c).2 main_arg1 (outside main_arg1 (Pipeline.mem_restRefs_of main_arg1 (by decide) (by decide)) (by decide))).trans (V_main_arg1 m c),
      ((h.1 c).2 main_arg2 (outside main_arg2 (Pipeline.mem_restRefs_of main_arg2 (by decide) (by decide)) (by decide))).trans (V_main_arg2 m c),
      ((h.1 c).2 main_arg3 (outside main_arg3 (Pipeline.mem_restRefs_of main_arg3 (by decide) (by decide)) (by decide))).trans (V_main_arg3 m c),
      ((h.1 c).2 main_arg4 (outside main_arg4 (Pipeline.mem_restRefs_of main_arg4 (by decide) (by decide)) (by decide))).trans (V_main_arg4 m c)⟩, h.2⟩) (run_main m ρ)

end Cert.Kernel.Val
end
-- ==== Proof.Norm.lean ====
/-
  The gradient of an RMS norm in one row, over the extended reals: the two forms of it agree on every row, whether its
  numbers are real or not.
-/
module

public import proofs.«01_k».proof.Proof.Math

@[expose] public section

noncomputable section

namespace Cert.Norm
open Idealize.ShloMosaic

variable {n : ℕ}

/-- The number added to the mean square, 2⁻⁴³ · 8796093. -/
def ε : ℝ := 8796093 / 8796093022208

theorem ε_pos : 0 < ε := by unfold ε; norm_num

/-- The row's mean square with `ε` added, and its reciprocal root. -/
def level (x : Fin n → EReal) : EReal := Ideal.div (∑ e, x e * x e) ((1024 : ℝ) : EReal) + (ε : EReal)
def scale (x : Fin n → EReal) : EReal := Ideal.rsqrt (level x)

/-- A row is real, or its sum of squares is infinite. -/
theorem row_cases (x : Fin n → EReal) : (∃ q : Fin n → ℝ, ∀ e, x e = (q e : EReal)) ∨ ∑ e, x e * x e = ⊤ := by
  by_cases h : ∀ e, x e ≠ ⊤ ∧ x e ≠ ⊥
  · exact Or.inl ⟨fun e => (x e).toReal, fun e => (EReal.coe_toReal (h e).1 (h e).2).symm⟩
  · push Not at h
    obtain ⟨e, he⟩ := h
    have hsq : x e * x e = ⊤ := by
      by_cases ht : x e = ⊤
      · rw [ht, EReal.top_mul_top]
      · rw [he ht, EReal.bot_mul_bot]
    have hn : ∀ i ∈ Finset.univ, 0 ≤ x i * x i := fun i _ => by
      induction x i with
      | bot => rw [EReal.bot_mul_bot]; exact le_top
      | top => rw [EReal.top_mul_top]; exact le_top
      | coe r => rw [← EReal.coe_mul]; exact_mod_cast mul_self_nonneg r
    exact Or.inr (top_le_iff.mp (hsq ▸ Finset.single_le_sum hn (Finset.mem_univ e)))

/-- A real factor that is not negative goes into a sum. -/
theorem mul_sum {ι : Type*} (S : Finset ι) (f : ι → EReal) (r : ℝ) (hr : 0 ≤ r) : (r : EReal) * ∑ i ∈ S, f i = ∑ i ∈ S, (r : EReal) * f i := by
  classical
  induction S using Finset.induction_on with
  | empty => simp
  | insert a S ha ih =>
    rw [Finset.sum_insert ha, Finset.sum_insert ha, EReal.left_distrib_of_nonneg_of_ne_top (by exact_mod_cast hr) (EReal.coe_ne_top r), ih]

theorem div_real (x : EReal) : Ideal.div x ((1024 : ℝ) : EReal) = x * ((1 / 1024 : ℝ) : EReal) := Ideal.div_coe (by norm_num) x

/-- The gradient in one row: the scale times the cotangent less its part along the row, or the product rule with the
    scale's own derivative. -/
theorem grad_eq (x u : Fin n → EReal) (ct : EReal) (d : Fin n) :
    ct + scale x * (u d - x d * scale x * Ideal.div (∑ e, x e * scale x * u e) ((1024 : ℝ) : EReal))
      = ct + u d * scale x
        + x d * Ideal.div ((∑ e, x e * u e) * (((-1 / 2 : ℝ) : EReal) * Ideal.div (scale x) (level x))) ((1024 : ℝ) : EReal)
        + Ideal.div ((∑ e, x e * u e) * (((-1 / 2 : ℝ) : EReal) * Ideal.div (scale x) (level x))) ((1024 : ℝ) : EReal) * x d := by
  rcases row_cases x with ⟨q, hq⟩ | htop
  · have hs : ∑ e, x e * x e = ((∑ e, q e * q e : ℝ) : EReal) := by
      rw [Cert.Attn.coe_sum]
      exact Finset.sum_congr rfl fun e _ => by rw [hq e, EReal.coe_mul]
    obtain ⟨y, hy, hy0⟩ : ∃ y : ℝ, level x = (y : EReal) ∧ 0 < y := by
      refine ⟨(∑ e, q e * q e) * (1 / 1024) + ε, ?_, ?_⟩
      · rw [level, hs, div_real, EReal.coe_add, EReal.coe_mul]
      · have := Finset.sum_nonneg fun e (_ : e ∈ Finset.univ) => mul_self_nonneg (q e)
        have := ε_pos
        positivity
    obtain ⟨r, hr, hr0, hry⟩ : ∃ r : ℝ, scale x = (r : EReal) ∧ 0 < r ∧ r / y = r * r * r := by
      refine ⟨(Real.sqrt y)⁻¹, ?_, inv_pos.mpr (Real.sqrt_pos.mpr hy0), ?_⟩
      · rw [scale, hy, Ideal.rsqrt_coe, if_neg (not_lt.mpr hy0.le), if_neg hy0.ne']
      · have h := Real.mul_self_sqrt hy0.le
        have h0 := (Real.sqrt_pos.mpr hy0).ne'
        rw [div_eq_mul_inv, mul_assoc, ← mul_inv (Real.sqrt y) (Real.sqrt y), h]
    have hS : ∑ e, x e * scale x * u e = (r : EReal) * ∑ e, x e * u e := by
      rw [mul_sum _ _ r hr0.le, hr]
      exact Finset.sum_congr rfl fun e _ => by rw [mul_comm (x e), mul_assoc]
    rw [hS, hr, hy, Cert.Attn.div_coe r y hy0.ne', hry, div_real, div_real]
    generalize (∑ e, x e * u e) = S
    generalize u d = w
    generalize x d = z
    have hb : (0 : EReal) ≤ ((r * r * r / 2048 : ℝ) : EReal) := by exact_mod_cast (by positivity : (0 : ℝ) ≤ r * r * r / 2048)
    have e1 : (r : EReal) * (z * r * (r * S * ((1 / 1024 : ℝ) : EReal))) = z * S * ((r * r * r / 2048 + r * r * r / 2048 : ℝ) : EReal) := by
      have : (r * r * r / 2048 + r * r * r / 2048 : ℝ) = r * (r * (r * (1 / 1024))) := by ring
      rw [this, EReal.coe_mul, EReal.coe_mul, EReal.coe_mul]
      ac_rfl
    have e2 : S * (((-1 / 2 : ℝ) : EReal) * ((r * r * r : ℝ) : EReal)) * ((1 / 1024 : ℝ) : EReal) = S * -((r * r * r / 2048 : ℝ) : EReal) := by
      have : -(r * r * r / 2048 : ℝ) = -1 / 2 * (r * r * r) * (1 / 1024) := by ring
      rw [← EReal.coe_neg, this, EReal.coe_mul, EReal.coe_mul]
      ac_rfl
    rw [EReal.mul_sub_of_nonneg_of_ne_top (by exact_mod_cast hr0.le) (EReal.coe_ne_top r), e1, e2, EReal.coe_add, sub_eq_add_neg, ← neg_mul,
      EReal.left_distrib_of_nonneg hb hb, mul_comm (S * _) z, ← mul_assoc z S, mul_neg, neg_mul, mul_comm (r : EReal) w, add_assoc, add_assoc]
  · have hl : level x = ⊤ := by
      rw [level, htop, div_real, EReal.top_mul_coe_of_pos (by norm_num)]
      exact EReal.top_add_coe _
    have hr : scale x = 0 := by rw [scale, hl, Ideal.rsqrt_top]
    have h0 : Ideal.div 0 ⊤ = 0 := by simp [Ideal.div]
    rw [hr, hl, h0]
    simp [div_real]

end Cert.Norm
end
-- ==== Proof.Point.lean ====
/-
  The input projection's backward call: what one point leaves, the host's operands, and the two arrays after the launch.
-/
module

public import proofs.«01_k».proof.Defs
public import proofs.«01_k».proof.Proof.Norm
public import proofs.«01_k».proof.Proof.Gen.Kernel2Ideal.Value
public import Idealize.ShloMosaic.Lib.Pipeline.ValueKit

@[expose] public section

set_option maxRecDepth 16384

noncomputable section

namespace Cert.Kernel2Ideal.Val
open Cert.Kernel2Ideal Cert.Kernel2Ideal.Gen Cert.Kernel2Ideal.Value

open Idealize.ShloMosaic Idealize.ShloMosaic.TcCoe Idealize.ShloMosaic.Tactic Idealize.SL.Sem
open Idealize.ShloMosaic.Pipeline
open Cert.Norm (scale level ε)

/-! ## What the body leaves -/

theorem hz2 : (![0, 0] : Fin 2 → Nat) = fun _ => 0 := funext fun a => by fin_cases a <;> rfl

section Body
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x1536 .bf16) (harg4 : arg4.IsWhole) (arg5 : Memref sig .tc .vmem S256x128 .bf16) (harg5 : arg5.IsWhole) (arg6 : Memref sig .tc .vmem S256x4096 .bf16) (harg6 : arg6.IsWhole) (arg7 : Memref sig .tc .vmem S1024x1536 .bf16) (harg7 : arg7.IsWhole) (arg8 : Memref sig .tc .vmem S1024x128 .bf16) (harg8 : arg8.IsWhole) (arg9 : Memref sig .tc .vmem S1024x4096 .bf16) (harg9 : arg9.IsWhole) (arg10 : Memref sig .tc .vmem S256x1024 .f32) (harg10 : arg10.IsWhole) (arg11 : Memref sig .tc .vmem S1x1024 .f32) (harg11 : arg11.IsWhole)
  (x0 : Vec Ideal S256x1024 .f32) (x1 : Vec Ideal S1x1024 .f32) (x2 : Vec Ideal S256x1024 .f32) (x3 : Vec Ideal S256x1536 .bf16) (x4 : Vec Ideal S256x128 .bf16) (x5 : Vec Ideal S256x4096 .bf16) (x6 : Vec Ideal S1024x1536 .bf16) (x7 : Vec Ideal S1024x128 .bf16) (x8 : Vec Ideal S1024x4096 .bf16) (xo : Vec Ideal S1x1024 .f32)

/-- The activations' gradient of one block, and the norm weight's after it. -/
abbrev payX : Vec Ideal S256x1024 .f32 := k0_pay2 (k0_pay4 x3 x6 x4 x7 x5 x8) (k0_pay5 x0) (k0_pay6 x0) x1 x2
abbrev payG : Vec Ideal S1x1024 .f32 := k0_pay1 (k0_pay7 xo) (k0_pay8 x3 x6 x4 x7 x5 x8 x0)

theorem out_A_9 (hc0 : cond0_0 i) : out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8 = payX x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz2, View.ld_unit_zero (S := S1x1024) hz2, View.ld_unit_zero (S := S256x1536) hz2, View.ld_unit_zero (S := S256x128) hz2, View.ld_unit_zero (S := S256x4096) hz2, View.ld_unit_zero (S := S1024x1536) hz2, View.ld_unit_zero (S := S1024x128) hz2, View.ld_unit_zero (S := S1024x4096) hz2, shapeCast_self]

theorem out_B_9 (hc0 : ¬cond0_0 i) : out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo = payX x0 x1 x2 x3 x4 x5 x6 x7 x8 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz2, View.ld_unit_zero (S := S1x1024) hz2, View.ld_unit_zero (S := S256x1536) hz2, View.ld_unit_zero (S := S256x128) hz2, View.ld_unit_zero (S := S256x4096) hz2, View.ld_unit_zero (S := S1024x1536) hz2, View.ld_unit_zero (S := S1024x128) hz2, View.ld_unit_zero (S := S1024x4096) hz2, shapeCast_self]

theorem out_A_10 (hc0 : cond0_0 i) : out0_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8 = payG x0 x3 x4 x5 x6 x7 x8 (k0_pay3 (F := Ideal)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  try sl_unfold_words
  rw [View.canon_cons_unit_zero (S := S1x1024) hz2, View.readCov_unit_zero (S := S1x1024) _ hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz2, View.ld_unit_zero (S := S1x1024) hz2, View.ld_unit_zero (S := S256x1536) hz2, View.ld_unit_zero (S := S256x128) hz2, View.ld_unit_zero (S := S256x4096) hz2, View.ld_unit_zero (S := S1024x1536) hz2, View.ld_unit_zero (S := S1024x128) hz2, View.ld_unit_zero (S := S1024x4096) hz2, shapeCast_self]

theorem out_B_10 (hc0 : ¬cond0_0 i) : out0_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo = payG x0 x3 x4 x5 x6 x7 x8 xo := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz2, View.ld_unit_zero (S := S1x1024) hz2, View.ld_unit_zero (S := S256x1536) hz2, View.ld_unit_zero (S := S256x128) hz2, View.ld_unit_zero (S := S256x4096) hz2, View.ld_unit_zero (S := S1024x1536) hz2, View.ld_unit_zero (S := S1024x128) hz2, View.ld_unit_zero (S := S1024x4096) hz2, shapeCast_self]

end Body

/-! ## The payloads read at an index -/

theorem size : (Ideal.ofBits FTy.f32 0x44800000#32 : EReal) = ((1024 : ℝ) : EReal) := by
  simp [Ideal.ofBits, Ideal.ieee]
  rw [← EReal.coe_mul]
  norm_num
theorem eps : (Ideal.ofBits FTy.f32 0x358637BD#32 : EReal) = ((ε : ℝ) : EReal) := by
  simp [Ideal.ofBits, Ideal.ieee, ε]
  rw [← EReal.coe_mul]
  norm_num

theorem dh_at (a : Vec Ideal S256x1536 .bf16) (wa : Vec Ideal S1024x1536 .bf16) (f : Vec Ideal S256x128 .bf16) (wf : Vec Ideal S1024x128 .bf16)
    (b : Vec Ideal S256x4096 .bf16) (wb : Vec Ideal S1024x4096 .bf16) (s : Fin 256) (d : Fin 1024) :
    (k0_pay4 a wa f wf b wb (ix2 s d) : EReal)
      = ∑ j, a (ix2 s j) * wa (ix2 d j) + ∑ j, f (ix2 s j) * wf (ix2 d j) + ∑ j, b (ix2 s j) * wb (ix2 d j) := by
  pointwise [k0_pay4]

theorem r_at (x : Vec Ideal S256x1024 .f32) (s : Fin 256) : (k0_pay5 x (ix2 s 0) : EReal) = scale fun e => x (ix2 s e) := by
  pointwise [k0_pay5]
  rw [size, eps]
  rfl

theorem xhat_at (x : Vec Ideal S256x1024 .f32) (s : Fin 256) (d : Fin 1024) : (k0_pay6 x (ix2 s d) : EReal) = x (ix2 s d) * scale fun e => x (ix2 s e) := by
  rw [← r_at]
  unfold k0_pay6
  pointwise []

theorem dx_at (dh : Vec Ideal S256x1024 .f32) (r : Vec Ideal S256x1 .f32) (xh : Vec Ideal S256x1024 .f32) (g : Vec Ideal S1x1024 .f32) (ct : Vec Ideal S256x1024 .f32) (s : Fin 256) (d : Fin 1024) :
    (k0_pay2 dh r xh g ct (ix2 s d) : EReal)
      = ct (ix2 s d) + r (ix2 s 0) * (dh (ix2 s d) * g (ix2 0 d) - xh (ix2 s d) * Ideal.div (∑ e, xh (ix2 s e) * (dh (ix2 s e) * g (ix2 0 e))) ((1024 : ℝ) : EReal)) := by
  pointwise [k0_pay2]
  rw [size]

theorem dg_at (xo : Vec Ideal S1x1024 .f32) (p : Vec Ideal S256x1024 .f32) (d : Fin 1024) :
    (k0_pay1 (k0_pay7 xo) p (ix2 0 d) : EReal) = xo (ix2 0 d) + ∑ s, p (ix2 s d) := by
  pointwise [k0_pay1, k0_pay7]

theorem zero_at (d : Fin 1024) : (k0_pay3 (F := Ideal) (ix2 0 d) : EReal) = 0 := by
  pointwise [k0_pay3]

end Cert.Kernel2Ideal.Val
end
-- ==== Proof.Input.lean ====
/-
  The two arrays the input projection's backward call leaves, of the arguments: the columns of the projection in three
  parts are one product, and the norm weight's gradient is gathered over the blocks of tokens.
-/
module

public import proofs.«01_k».proof.Proof.Point

@[expose] public section

set_option maxRecDepth 16384

noncomputable section

namespace Cert.Kernel2Ideal.Val
open Cert.Kernel2Ideal Cert.Kernel2Ideal.Gen Cert.Kernel2Ideal.Value

open Idealize.ShloMosaic Idealize.ShloMosaic.TcCoe Idealize.ShloMosaic.Tactic Idealize.SL.Sem
open Idealize.ShloMosaic.Pipeline
open Cert.Norm (scale level ε)

/-! ## The columns in three parts -/

/-- A sum over the columns is the sums over the first 1536, the 8 after them, filled up with zeros, and the rest. -/
theorem sum_columns (f : Fin 5640 → EReal) :
    (∑ j : Fin 1536, f ⟨j.val, by omega⟩) + (∑ j : Fin 128, if h : j.val < 8 then f ⟨1536 + j.val, by omega⟩ else 0) + ∑ j : Fin 4096, f ⟨1544 + j.val, by omega⟩ = ∑ j, f j := by
  have h8 : (∑ j : Fin 128, if h : j.val < 8 then f ⟨1536 + j.val, by omega⟩ else 0) = ∑ j : Fin 8, f ⟨1536 + j.val, by omega⟩ := by
    refine (Fin.sum_univ_add (a := 8) (b := 120) fun j : Fin (8 + 120) => if h : j.val < 8 then f ⟨1536 + j.val, by omega⟩ else 0).trans ?_
    refine (congrArg₂ (· + ·) (Finset.sum_congr rfl fun j _ => dif_pos j.isLt) (Finset.sum_eq_zero fun j _ => dif_neg ?_)).trans (add_zero _)
    simp
  rw [h8]
  refine ((Fin.sum_univ_add (a := 1544) (b := 4096) f).trans (congrArg₂ (· + ·) ?_ rfl)).symm
  exact Fin.sum_univ_add (a := 1536) (b := 8) fun j : Fin (1536 + 8) => f ⟨j.val, by omega⟩

/-- Eight columns filled up to 128. -/
theorem pad_at {n : ℕ} (x : (⟨2, ![n, 8]⟩ : Shape).Idx → EReal) (v : S_.Idx → EReal) (h : (⟨2, ![n, 8]⟩ : Shape).Pads (![0, 0] : Fin 2 → Nat) ![0, 120] ![0, 0] ⟨2, ![n, 128]⟩)
    (hu : 0 < S_.numel) (i : Fin n) (j : Fin 128) :
    pad (s := ⟨2, ![n, 8]⟩) ⟨2, ![n, 128]⟩ ![0, 0] ![0, 120] ![0, 0] x v h hu (ix2 i j) = if hj : j.val < 8 then x (ix2 i ⟨j.val, hj⟩) else v (Shape.Idx.first hu) := by
  unfold pad
  by_cases hj : j.val < 8
  · rw [dif_pos hj, dif_pos]
    · refine congrArg x (funext fun a => Fin.ext ?_)
      fin_cases a
      · exact Nat.div_one _
      · exact Nat.div_one _
    · intro a
      fin_cases a
      · exact ⟨Nat.zero_le _, Nat.mod_one _, lt_of_eq_of_lt (Nat.div_one _) i.isLt⟩
      · exact ⟨Nat.zero_le _, Nat.mod_one _, lt_of_eq_of_lt (Nat.div_one _) hj⟩
  · rw [dif_neg hj, dif_neg]
    intro ha
    exact hj (lt_of_eq_of_lt (Nat.div_one _).symm (ha 1).2.2)

/-! ## The arguments and the host's operands -/

variable (m : (ℓ : Loc nD τ sig) → Buf (Elt Ideal) ℓ) (c : Dev nD)

/-- The stream, the norm's weight, the projection's weight, the stream's cotangent and the projection's. -/
abbrev aX : S4096x1024.Idx → EReal := m ((c : Thread nD τ).loc main_arg0)
abbrev aG : S1x1024.Idx → EReal := m ((c : Thread nD τ).loc main_arg1)
abbrev aW : S1024x5640.Idx → EReal := m ((c : Thread nD τ).loc main_arg2)
abbrev aT : S4096x1024.Idx → EReal := m ((c : Thread nD τ).loc main_arg3)
abbrev aP : S4096x5640.Idx → EReal := m ((c : Thread nD τ).loc main_arg4)

abbrev oA (x : Vec Ideal S4096x5640 .f32) : Vec Ideal S4096x1536 .bf16 := extractStridedSlice S4096x1536 ![0, 0] (truncf (F := Ideal) .bf16 x bitsLt_bf16_f32) slices_S4096x5640_S4096x1536_0_0
abbrev oF (x : Vec Ideal S4096x5640 .f32) : Vec Ideal S4096x8 .bf16 := extractStridedSlice S4096x8 ![0, 1536] (truncf (F := Ideal) .bf16 x bitsLt_bf16_f32) slices_S4096x5640_S4096x8_0_1536
abbrev oB (x : Vec Ideal S4096x5640 .f32) : Vec Ideal S4096x4096 .bf16 := extractStridedSlice S4096x4096 ![0, 1544] (truncf (F := Ideal) .bf16 x bitsLt_bf16_f32) slices_S4096x5640_S4096x4096_0_1544
abbrev oWA (x : Vec Ideal S1024x5640 .f32) : Vec Ideal S1024x1536 .bf16 := extractStridedSlice S1024x1536 ![0, 0] (truncf (F := Ideal) .bf16 x bitsLt_bf16_f32) slices_S1024x5640_S1024x1536_0_0
abbrev oWF (x : Vec Ideal S1024x5640 .f32) : Vec Ideal S1024x8 .bf16 := extractStridedSlice S1024x8 ![0, 1536] (truncf (F := Ideal) .bf16 x bitsLt_bf16_f32) slices_S1024x5640_S1024x8_0_1536
abbrev oWB (x : Vec Ideal S1024x5640 .f32) : Vec Ideal S1024x4096 .bf16 := extractStridedSlice S1024x4096 ![0, 1544] (truncf (F := Ideal) .bf16 x bitsLt_bf16_f32) slices_S1024x5640_S1024x4096_0_1544
abbrev zeroB : Vec Ideal S_ .bf16 := sitofp (F := Ideal) .bf16 (constantI S_ 32 0#32)
abbrev oFp (x : Vec Ideal S4096x5640 .f32) : Vec Ideal S4096x128 .bf16 := pad S4096x128 ![0, 0] ![0, 120] ![0, 0] (oF x) zeroB pads_S4096x8_S4096x128_000_01200 h_S_
abbrev oWFp (x : Vec Ideal S1024x5640 .f32) : Vec Ideal S1024x128 .bf16 := pad S1024x128 ![0, 0] ![0, 120] ![0, 0] (oWF x) zeroB pads_S1024x8_S1024x128_000_01200 h_S_

theorem V_v5 : V m c main_v5 = oA (aP m c) := by
  simp only [V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp <;> rfl
theorem V_v8 : V m c main_v8 = oFp (aP m c) := by
  simp only [V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp <;> rfl
theorem V_v7 : V m c main_v7 = oB (aP m c) := by
  simp only [V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp <;> rfl
theorem V_v1 : V m c main_v1 = oWA (aW m c) := by
  simp only [V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp <;> rfl
theorem V_v9 : V m c main_v9 = oWFp (aW m c) := by
  simp only [V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp <;> rfl
theorem V_v3 : V m c main_v3 = oWB (aW m c) := by
  simp only [V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp <;> rfl

theorem oA_at (x : Vec Ideal S4096x5640 .f32) (s : Fin 4096) (j : Fin 1536) : (oA x (ix2 s j) : EReal) = x (ix2 s ⟨j.val, by omega⟩) := by
  pointwise []
theorem oF_at (x : Vec Ideal S4096x5640 .f32) (s : Fin 4096) (j : Fin 8) : (oF x (ix2 s j) : EReal) = x (ix2 s ⟨1536 + j.val, by omega⟩) := by
  pointwise []
theorem oB_at (x : Vec Ideal S4096x5640 .f32) (s : Fin 4096) (j : Fin 4096) : (oB x (ix2 s j) : EReal) = x (ix2 s ⟨1544 + j.val, by omega⟩) := by
  pointwise []
theorem oWA_at (x : Vec Ideal S1024x5640 .f32) (s : Fin 1024) (j : Fin 1536) : (oWA x (ix2 s j) : EReal) = x (ix2 s ⟨j.val, by omega⟩) := by
  pointwise []
theorem oWF_at (x : Vec Ideal S1024x5640 .f32) (s : Fin 1024) (j : Fin 8) : (oWF x (ix2 s j) : EReal) = x (ix2 s ⟨1536 + j.val, by omega⟩) := by
  pointwise []
theorem oWB_at (x : Vec Ideal S1024x5640 .f32) (s : Fin 1024) (j : Fin 4096) : (oWB x (ix2 s j) : EReal) = x (ix2 s ⟨1544 + j.val, by omega⟩) := by
  pointwise []
theorem zeroB_at (I : S_.Idx) : (zeroB I : EReal) = 0 := by
  pointwise []
  show (((0#32 : BitVec 32).toInt : ℝ) : EReal) = 0
  simp

/-- The cotangent of the norm's output. -/
def dh (p : S4096x5640.Idx → EReal) (w : S1024x5640.Idx → EReal) (s : Fin 4096) (d : Fin 1024) : EReal := ∑ j, p (ix2 s j) * w (ix2 d j)

/-- The three products of the host's operands make up the one. -/
theorem parts_eq (s : Fin 4096) (d : Fin 1024) :
    (∑ j, oA (aP m c) (ix2 s j) * oWA (aW m c) (ix2 d j) : EReal)
      + ∑ j, (oFp (aP m c) (ix2 s j) : EReal)
          * oWFp (aW m c) (ix2 d j)
      + ∑ j, oB (aP m c) (ix2 s j) * oWB (aW m c) (ix2 d j) = dh (aP m c) (aW m c) s d := by
  rw [dh, ← sum_columns fun j => aP m c (ix2 s j) * aW m c (ix2 d j)]
  refine congrArg₂ (· + ·) (congrArg₂ (· + ·) (Finset.sum_congr rfl fun j _ => ?_) (Finset.sum_congr rfl fun j _ => ?_)) (Finset.sum_congr rfl fun j _ => ?_)
  · rw [oA_at, oWA_at]
  · refine (congrArg₂ (· * ·) (pad_at _ _ _ _ s j) (pad_at _ _ _ _ d j)).trans ?_
    by_cases hj : j.val < 8
    · simp only [dif_pos hj]
      rw [oF_at, oWF_at]
    · simp only [dif_neg hj]
      rw [zeroB_at, zero_mul]
  · rw [oB_at, oWB_at]

/-! ## The blocks -/

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![0, 0] := (by decide +kernel : ∀ t : Fin grid0.N, _)

abbrev b0 (t : Fin cfg0.N) : Vec Ideal S256x1024 .f32 := iblk m c 0 t
abbrev b1 (t : Fin cfg0.N) : Vec Ideal S1x1024 .f32 := iblk m c 1 t
abbrev b2 (t : Fin cfg0.N) : Vec Ideal S256x1024 .f32 := iblk m c 2 t
abbrev b3 (t : Fin cfg0.N) : Vec Ideal S256x1536 .bf16 := iblk m c 3 t
abbrev b4 (t : Fin cfg0.N) : Vec Ideal S256x128 .bf16 := iblk m c 4 t
abbrev b5 (t : Fin cfg0.N) : Vec Ideal S256x4096 .bf16 := iblk m c 5 t
abbrev b6 (t : Fin cfg0.N) : Vec Ideal S1024x1536 .bf16 := iblk m c 6 t
abbrev b7 (t : Fin cfg0.N) : Vec Ideal S1024x128 .bf16 := iblk m c 7 t
abbrev b8 (t : Fin cfg0.N) : Vec Ideal S1024x4096 .bf16 := iblk m c 8 t

/-- The token that row `s` of a point's block is. -/
def tok (t : Fin cfg0.N) (s : Fin 256) : Fin 4096 := ⟨256 * t.val + s.val, by
  have := t.isLt
  have h : cfg0.N = 16 := by decide
  omega⟩

theorem b0_at (t : Fin cfg0.N) (s : Fin 256) (d : Fin 1024) : (b0 m c t (ix2 s d) : EReal) = aX m c (ix2 (tok t s) d) := by
  refine Eq.trans ?_ (congrFun (V_main_arg0 m c) _)
  blk_simp [iblk]
  refine congrArg (V m c main_arg0) ?_
  blk_ext [index0, tok]
theorem b1_at (t : Fin cfg0.N) (d : Fin 1024) : (b1 m c t (ix2 0 d) : EReal) = aG m c (ix2 0 d) := by
  refine Eq.trans ?_ (congrFun (V_main_arg1 m c) _)
  blk_simp [iblk]
  refine congrArg (V m c main_arg1) ?_
  blk_ext [index1]
theorem b2_at (t : Fin cfg0.N) (s : Fin 256) (d : Fin 1024) : (b2 m c t (ix2 s d) : EReal) = aT m c (ix2 (tok t s) d) := by
  refine Eq.trans ?_ (congrFun (V_main_arg3 m c) _)
  blk_simp [iblk]
  refine congrArg (V m c main_arg3) ?_
  blk_ext [index2, tok]
theorem b3_at (t : Fin cfg0.N) (s : Fin 256) (j : Fin 1536) : (b3 m c t (ix2 s j) : EReal) = oA (aP m c) (ix2 (tok t s) j) := by
  refine Eq.trans ?_ (congrFun (V_v5 m c) _)
  blk_simp [iblk]
  refine congrArg (V m c main_v5) ?_
  blk_ext [index3, tok]
theorem b4_at (t : Fin cfg0.N) (s : Fin 256) (j : Fin 128) : (b4 m c t (ix2 s j) : EReal) = oFp (aP m c) (ix2 (tok t s) j) := by
  refine Eq.trans ?_ (congrFun (V_v8 m c) _)
  blk_simp [iblk]
  refine congrArg (V m c main_v8) ?_
  blk_ext [index4, tok]
theorem b5_at (t : Fin cfg0.N) (s : Fin 256) (j : Fin 4096) : (b5 m c t (ix2 s j) : EReal) = oB (aP m c) (ix2 (tok t s) j) := by
  refine Eq.trans ?_ (congrFun (V_v7 m c) _)
  blk_simp [iblk]
  refine congrArg (V m c main_v7) ?_
  blk_ext [index5, tok]
theorem b6_at (t : Fin cfg0.N) (d : Fin 1024) (j : Fin 1536) : (b6 m c t (ix2 d j) : EReal) = oWA (aW m c) (ix2 d j) := by
  refine Eq.trans ?_ (congrFun (V_v1 m c) _)
  blk_simp [iblk]
  refine congrArg (V m c main_v1) ?_
  blk_ext [index6]
theorem b7_at (t : Fin cfg0.N) (d : Fin 1024) (j : Fin 128) : (b7 m c t (ix2 d j) : EReal) = oWFp (aW m c) (ix2 d j) := by
  refine Eq.trans ?_ (congrFun (V_v9 m c) _)
  blk_simp [iblk]
  refine congrArg (V m c main_v9) ?_
  blk_ext [index7]
theorem b8_at (t : Fin cfg0.N) (d : Fin 1024) (j : Fin 4096) : (b8 m c t (ix2 d j) : EReal) = oWB (aW m c) (ix2 d j) := by
  refine Eq.trans ?_ (congrFun (V_v3 m c) _)
  blk_simp [iblk]
  refine congrArg (V m c main_v3) ?_
  blk_ext [index8]

/-- A block's cotangent of the norm's output is the tokens'. -/
theorem dh_blk (t : Fin cfg0.N) (s : Fin 256) (d : Fin 1024) :
    (k0_pay4 (b3 m c t) (b6 m c t) (b4 m c t) (b7 m c t) (b5 m c t) (b8 m c t) (ix2 s d) : EReal) = dh (aP m c) (aW m c) (tok t s) d := by
  rw [dh_at, ← parts_eq]
  simp only [b3_at, b4_at, b5_at, b6_at, b7_at, b8_at]

/-- The scale of a token. -/
abbrev sc (x : S4096x1024.Idx → EReal) (s : Fin 4096) : EReal := scale fun e => x (ix2 s e)

theorem scale_blk (t : Fin cfg0.N) (s : Fin 256) : (scale fun e => (b0 m c t (ix2 s e) : EReal)) = sc (aX m c) (tok t s) :=
  congrArg scale (funext fun e => b0_at m c t s e)

/-- The gradient of the stream, -/
def gradX : S4096x1024.Idx → EReal := fun I =>
  aT m c (ix2 (I 0) (I 1)) + sc (aX m c) (I 0) * (dh (aP m c) (aW m c) (I 0) (I 1) * aG m c (ix2 0 (I 1))
    - aX m c (ix2 (I 0) (I 1)) * sc (aX m c) (I 0) * Ideal.div (∑ e, aX m c (ix2 (I 0) e) * sc (aX m c) (I 0) * (dh (aP m c) (aW m c) (I 0) e * aG m c (ix2 0 e))) ((1024 : ℝ) : EReal))

/-- and of the norm's weight. -/
def gradG : S1x1024.Idx → EReal := fun I =>
  ∑ s : Fin 4096, dh (aP m c) (aW m c) s (I 1) * (aX m c (ix2 s (I 1)) * sc (aX m c) s)

/-- What a point leaves of the stream's gradient. -/
theorem payX_at (t : Fin cfg0.N) (s : Fin 256) (d : Fin 1024) :
    (payX (b0 m c t) (b1 m c t) (b2 m c t) (b3 m c t) (b4 m c t) (b5 m c t) (b6 m c t) (b7 m c t) (b8 m c t) (ix2 s d) : EReal) = gradX m c (ix2 (tok t s) d) := by
  refine (dx_at _ _ _ _ _ s d).trans ?_
  simp only [dh_blk, r_at, xhat_at, scale_blk, b0_at, b1_at, b2_at]
  rfl

theorem arr_X : (dats m 0 c).arrAt 9 cfg0.N = gradX m c := by
  refine (dats m 0 c).arrAt_eq_of_covers 9 _ (by decide +kernel) fun t hf y => ?_
  blk_simp
  rw [after0_9]
  have hout : (outsAt0 m c t.val t.isLt).1 = payX (b0 m c t) (b1 m c t) (b2 m c t) (b3 m c t) (b4 m c t) (b5 m c t) (b6 m c t) (b7 m c t) (b8 m c t) := by
    by_cases h0 : t.val % 16 = 0
    · rw [outsAt0_A m c t h0, out_A_9]
    · rw [outsAt0_B m c t h0, out_B_9]
  rw [hout]
  refine (congrArg (payX _ _ _ _ _ _ _ _ _) (eq_ix2 y)).trans ((payX_at m c t (y 0) (y 1)).trans (congrArg (gradX m c) ?_))
  blk_ext [index9, tok]

/-- One token's part of the norm weight's gradient. -/
def part (s : ℕ) (d : Fin 1024) : EReal :=
  if h : s < 4096 then dh (aP m c) (aW m c) ⟨s, h⟩ d * (aX m c (ix2 ⟨s, h⟩ d) * sc (aX m c) ⟨s, h⟩) else 0

theorem payG_at (t : Fin cfg0.N) (xo : Vec Ideal S1x1024 .f32) (d : Fin 1024) :
    (payG (b0 m c t) (b3 m c t) (b4 m c t) (b5 m c t) (b6 m c t) (b7 m c t) (b8 m c t) xo (ix2 0 d) : EReal)
      = xo (ix2 0 d) + ∑ s ∈ Finset.range 256, part m c (256 * t.val + s) d := by
  refine (dg_at _ _ d).trans ?_
  rw [Finset.sum_range]
  refine congrArg (_ + ·) (Finset.sum_congr rfl fun s _ => ?_)
  refine Eq.trans ?_ (dif_pos (tok t s).isLt).symm
  unfold k0_pay8
  refine (congrArg₂ (· * ·) (dh_blk m c t s d) ((xhat_at (b0 m c t) s d).trans ?_))
  rw [scale_blk, b0_at]
  rfl

theorem acc_at (n : ℕ) (hn : n < cfg0.N) (d : Fin 1024) : ((outsAt0 m c n hn).2 (ix2 0 d) : EReal) = ∑ s ∈ Finset.range (256 * (n + 1)), part m c s d := by
  have h16 : cfg0.N = 16 := by decide
  rw [Nat.mul_succ, Finset.sum_range_add]
  induction n with
  | zero =>
    rw [outsAt0_A m c ⟨0, hn⟩ rfl, out_A_10]
    refine (payG_at m c ⟨0, hn⟩ _ d).trans ?_
    rw [zero_at]
    simp
  | succ n ih =>
    rw [outsAt0_B m c ⟨n + 1, hn⟩ (by dsimp only; omega), out_B_10]
    refine (payG_at m c ⟨n + 1, hn⟩ _ d).trans (congrArg (· + _) ?_)
    rw [Nat.mul_succ, Finset.sum_range_add]
    exact ih (by omega)

theorem arr_G : (dats m 0 c).arrAt 10 cfg0.N = gradG m c := by
  refine (dats m 0 c).arrAt_eq_of_covers 10 _ (by decide +kernel) fun t hf y => ?_
  blk_simp
  rw [after0_10]
  have h16 : cfg0.N = 16 := by decide
  have ht : t.val = 15 := by
    have := (flush0_10 t).mp hf
    have := t.isLt
    omega
  have hy0 : (y 0).val = 0 := by
    have : (y 0).val < 1 := (y 0).isLt
    omega
  have hy : y = ix2 0 (y 1) := (eq_ix2 y).trans (congrArg (fun a => ix2 a (y 1)) (Fin.ext hy0))
  have e1 : (win0_10.blk t).view.emb y 1 = y 1 := by
    refine Fin.ext ?_
    blk_simp [index10]
    try simp
  rw [hy]
  refine (acc_at m c t.val t.isLt (y 1)).trans ?_
  rw [← hy, ht]
  unfold gradG
  rw [e1, Finset.sum_range]
  exact Finset.sum_congr rfl fun s _ => dif_pos (show s.val < 4096 from s.isLt)

end Cert.Kernel2Ideal.Val
end
-- ==== Proof.Norms.lean ====
/-
  The input projection's backward call and the reference: the same two gradients, on all arguments.
-/
module

public import proofs.«01_k».proof.Proof.Input
public import proofs.«01_k».proof.Proof.Gen.Reference2Ideal.Run
public import Idealize.ShloMosaic.Adequacy
public import Idealize.ShloMosaic.Init

@[expose] public section

set_option maxRecDepth 16384

noncomputable section

namespace Cert.Reference2Ideal.Val
open Cert.Reference2Ideal Cert.Reference2Ideal.Gen
open Idealize.ShloMosaic Idealize.ShloMosaic.TcCoe Idealize.SL.Sem
open Cert.Norm (scale level ε)
open Cert.Kernel2Ideal.Val (size eps dh sc)

theorem half : (Ideal.ofBits FTy.f32 0xBF000000#32 : EReal) = ((-1 / 2 : ℝ) : EReal) := by
  simp [Ideal.ofBits, Ideal.ieee]
  rw [← EReal.coe_mul, ← EReal.coe_neg]
  norm_num

section Terms
variable (x : Vec Ideal S4096x1024 .f32) (g : Vec Ideal S1x1024 .f32) (w : Vec Ideal S1024x5640 .f32) (ct : Vec Ideal S4096x1024 .f32) (p : Vec Ideal S4096x5640 .f32)

/-- The reference's terms: the level and the scale, the cotangent of the norm's output, its product with the weight, -/
abbrev tLevel : Vec Ideal S4096x1 .f32 :=
  addf (F := Ideal) (φ := .f32) (Host.divf (F := Ideal) (φ := .f32) (broadcastInDim S4096x1 ![0] bcast_S4096_S4096x1_0 (Host.reduceAdd (F := Ideal) (φ := .f32) (mulf (F := Ideal) (φ := .f32) x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32))
abbrev tScale : Vec Ideal S4096x1 .f32 := Host.rsqrt (F := Ideal) (φ := .f32) (tLevel x)
abbrev tDh : Vec Ideal S4096x1024 .f32 := Host.dotGeneral (F := Ideal) (φ₁ := .f32) (φ₂ := .f32) dot_S4096x5640_S1024x5640_S4096x1024_1_1_0_0_n_n none p w
abbrev tU : Vec Ideal S4096x1024 .f32 := mulf (F := Ideal) (φ := .f32) (tDh w p) (broadcastInDim S4096x1024 ![0, 1] bcast_S1x1024_S4096x1024_0_1 g)
/-- the derivative of the mean square, -/
abbrev tK : Vec Ideal S4096 .f32 :=
  Host.reduceAdd (F := Ideal) (φ := .f32) (Host.divf (F := Ideal) (φ := .f32) (mulf (F := Ideal) (φ := .f32) (shapeCast S4096x1 (Host.reduceAdd (F := Ideal) (φ := .f32) (mulf (F := Ideal) (φ := .f32) x (tU g w p)) (constant (F := Ideal) S_ .f32 0x00000000#32) reducesTo_S4096x1024_S4096_d1 h_S_) shapeCasts_S4096_S4096x1)
    (mulf (F := Ideal) (φ := .f32) (broadcastInDim S4096x1 ![] bcast_S_S4096x1 (constant (F := Ideal) S_ .f32 0xBF000000#32)) (Host.divf (F := Ideal) (φ := .f32) (tScale x) (tLevel x)))) (broadcastInDim S4096x1 ![] bcast_S_S4096x1 (constant (F := Ideal) S_ .f32 0x44800000#32))) (constant (F := Ideal) S_ .f32 0x00000000#32) reducesTo_S4096x1_S4096_d1 h_S_
/-- and the two gradients. -/
abbrev tX : Vec Ideal S4096x1024 .f32 :=
  addf (F := Ideal) (φ := .f32) (addf (F := Ideal) (φ := .f32) (addf (F := Ideal) (φ := .f32) ct (mulf (F := Ideal) (φ := .f32) (tU g w p) (broadcastInDim S4096x1024 ![0, 1] bcast_S4096x1_S4096x1024_0_1 (tScale x)))) (mulf (F := Ideal) (φ := .f32) x (broadcastInDim S4096x1024 ![0] bcast_S4096_S4096x1024_0 (tK x g w p))))
    (mulf (F := Ideal) (φ := .f32) (broadcastInDim S4096x1024 ![0] bcast_S4096_S4096x1024_0 (tK x g w p)) x)
abbrev tG : Vec Ideal S1x1024 .f32 :=
  shapeCast S1x1024 (Host.reduceAdd (F := Ideal) (φ := .f32) (mulf (F := Ideal) (φ := .f32) (mulf (F := Ideal) (φ := .f32) x (broadcastInDim S4096x1024 ![0, 1] bcast_S4096x1_S4096x1024_0_1 (tScale x))) (tDh w p)) (constant (F := Ideal) S_ .f32 0x00000000#32) reducesTo_S4096x1024_S1024_d0 h_S_) shapeCasts_S1024_S1x1024

theorem tX_at (s : Fin 4096) (d : Fin 1024) : (tX x g w ct p (ix2 s d) : EReal)
    = ct (ix2 s d) + dh p w s d * g (ix2 0 d) * sc x s
      + x (ix2 s d) * Ideal.div ((∑ e, x (ix2 s e) * (dh p w s e * g (ix2 0 e))) * (((-1 / 2 : ℝ) : EReal) * Ideal.div (sc x s) (level fun e => x (ix2 s e)))) ((1024 : ℝ) : EReal)
      + Ideal.div ((∑ e, x (ix2 s e) * (dh p w s e * g (ix2 0 e))) * (((-1 / 2 : ℝ) : EReal) * Ideal.div (sc x s) (level fun e => x (ix2 s e)))) ((1024 : ℝ) : EReal) * x (ix2 s d) := by
  pointwise []
  simp only [size, half, eps, Finset.univ_unique, Finset.sum_singleton]
  rfl
theorem tG_at (d : Fin 1024) : (tG x w p (ix2 0 d) : EReal) = ∑ s, x (ix2 s d) * sc x s * dh p w s d := by
  pointwise []
  simp only [size, eps]
  rfl

end Terms

theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2, sem_eq_zero_of_no_sems (by decide) r.2⟩) (Value.run (F := Ideal) m ρ)

end Cert.Reference2Ideal.Val

namespace Cert.Kernel2Ideal.Val
open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The reference's gradients of the same arguments. -/
theorem refX : (Cert.Reference2Ideal.Val.tX (aX m c) (aG m c) (aW m c) (aT m c) (aP m c) : S4096x1024.Idx → EReal) = gradX m c := by
  funext I
  rw [eq_ix2 I]
  exact (Cert.Reference2Ideal.Val.tX_at _ _ _ _ _ (I 0) (I 1)).trans (Cert.Norm.grad_eq (fun e => aX m c (ix2 (I 0) e)) (fun e => dh (aP m c) (aW m c) (I 0) e * aG m c (ix2 0 e)) (aT m c (ix2 (I 0) (I 1))) (I 1)).symm

theorem refG : (Cert.Reference2Ideal.Val.tG (aX m c) (aW m c) (aP m c) : S1x1024.Idx → EReal) = gradG m c := by
  funext I
  have hI : I = ix2 0 (I 1) := (eq_ix2 I).trans (congrArg (fun a => ix2 a (I 1)) (Fin.ext (Nat.lt_one_iff.mp (I 0).isLt)))
  rw [hI]
  refine (Cert.Reference2Ideal.Val.tG_at _ _ _ (I 1)).trans (Finset.sum_congr rfl fun s _ => mul_comm _ _)

theorem algebraic : Cert.algebraic_Kernel2Ideal_Reference2Ideal := by
  intro m ρ m' ρ' _ hargs
  refine ⟨fun c => gradX m c, fun c => gradG m c, ?_, ?_⟩
  · exact (θ_run defs _ _).mono (fun r h c => ⟨(h c).1.trans (arr_X m c), (h c).2.1.trans (arr_G m c), (h c).2.2⟩) (Value.run_blocks (F := Ideal) m ρ)
  · refine (θ_run Cert.Reference2Ideal.defs _ _).mono (fun r h c => ?_) (Cert.Reference2Ideal.Value.run (F := Ideal) m' ρ')
    obtain ⟨e0, e1, eargs⟩ := h c
    obtain ⟨h0, h1, h2, h3, h4⟩ := hargs c
    refine ⟨e0.trans ?_, e1.trans ?_, eargs⟩
    · refine Eq.trans ?_ (refX m c)
      show _ = Cert.Reference2Ideal.Val.tX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      rw [← h0, ← h1, ← h2, ← h3, ← h4]
      rfl
    · refine Eq.trans ?_ (refG m c)
      show _ = Cert.Reference2Ideal.Val.tG (m ((c.tc : Thread nD τ).loc main_arg0)) (m ((c.tc : Thread nD τ).loc main_arg2)) (m ((c.tc : Thread nD τ).loc main_arg4))
      rw [← h0, ← h2, ← h4]

end Cert.Kernel2Ideal.Val
end
-- ==== Proof.Halves.lean ====
/-
  A sum over the tokens in two halves.
-/
module

public import Mathlib.Data.EReal.Operations
public import Mathlib.Algebra.BigOperators.Fin

@[expose] public section

namespace Cert.Tokens

/-- A sum over the tokens is the sum over their first half and over their second. -/
theorem sum_halves (f : Fin 4096 → EReal) :
    ∑ s : Fin 2048, f ⟨2048 * 0 + s.val, by omega⟩ + ∑ s : Fin 2048, f ⟨2048 * 1 + s.val, by omega⟩ = ∑ s, f s := by
  refine Eq.trans ?_ (Fin.sum_univ_add (a := 2048) (b := 2048) f).symm
  exact congrArg₂ (· + ·) (Finset.sum_congr rfl fun s _ => congrArg f (Fin.ext (by simp))) (Finset.sum_congr rfl fun s _ => congrArg f (Fin.ext (by simp [add_comm])))

end Cert.Tokens
end
-- ==== Proof.Qkv.lean ====
/-
  The weight gradient of the input projection's query, key and value columns: the two halves of the tokens, summed, are
  the product of the transposed activations with the columns' gradient.
-/
module

public import proofs.«01_k».proof.Defs
public import proofs.«01_k».proof.Proof.Halves
public import proofs.«01_k».proof.Proof.Gen.Kernel3Ideal.Value
public import proofs.«01_k».proof.Proof.Gen.Reference3Ideal.Run
public import Idealize.ShloMosaic.Lib.Pipeline.ValueKit
public import Idealize.ShloMosaic.Adequacy
public import Idealize.ShloMosaic.Init

@[expose] public section

set_option maxRecDepth 16384

noncomputable section

namespace Cert.Kernel3Ideal.Val
open Cert.Kernel3Ideal Cert.Kernel3Ideal.Gen Cert.Kernel3Ideal.Value

open Idealize.ShloMosaic Idealize.ShloMosaic.TcCoe Idealize.ShloMosaic.Tactic Idealize.SL.Sem
open Idealize.ShloMosaic.Pipeline

variable (m : (ℓ : Loc nD τ sig) → Buf (Elt Ideal) ℓ) (c : Dev nD)

/-- The activations and the columns' gradient. -/
abbrev aX : S4096x1024.Idx → EReal := m ((c : Thread nD τ).loc main_arg0)
abbrev aD : S4096x1536.Idx → EReal := m ((c : Thread nD τ).loc main_arg1)

theorem V_v0 : V m c main_v0 = aX m c := by
  simp only [V, hostOps0]
  after_results_simp <;> rfl
theorem V_v1 : V m c main_v1 = aD m c := by
  simp only [V, hostOps0]
  after_results_simp <;> rfl

theorem zero_at (I : S1024x768.Idx) : (k0_pay1 (F := Ideal) I : EReal) = 0 := by
  pointwise [k0_pay1]

theorem step_at (a : Vec Ideal S1024x768 .f32) (x : Vec Ideal S2048x1024 .bf16) (y : Vec Ideal S2048x768 .bf16) (i : Fin 1024) (j : Fin 768) :
    (k0_pay2 a x y (ix2 i j) : EReal) = a (ix2 i j) + ∑ s, x (ix2 s i) * y (ix2 s j) := by
  pointwise [k0_pay2]

theorem index0 : ∀ t : Fin cfg0.N, win0_0.index t = ![t.val % 2, 0] := (by decide +kernel : ∀ t : Fin grid0.N, _)
theorem index1 : ∀ t : Fin cfg0.N, win0_1.index t = ![t.val % 2, t.val / 2] := (by decide +kernel : ∀ t : Fin grid0.N, _)

/-- The blocks of one point. -/
abbrev bX (t : Fin cfg0.N) : Vec Ideal S2048x1024 .bf16 := iblk m c 0 t
abbrev bD (t : Fin cfg0.N) : Vec Ideal S2048x768 .bf16 := iblk m c 1 t

/-- The product of one half of the tokens. -/
theorem half_at (t : Fin cfg0.N) (k : ℕ) (hk : t.val % 2 = k) (b : ℕ) (hb : t.val / 2 = b) (h2 : k < 2) (h2' : b < 2) (i : Fin 1024) (j : Fin 768) :
    (∑ s : Fin 2048, bX m c t (ix2 s i) * bD m c t (ix2 s j))
      = ∑ s : Fin 2048, aX m c (ix2 ⟨2048 * k + s.val, by omega⟩ i) * aD m c (ix2 ⟨2048 * k + s.val, by omega⟩ ⟨768 * b + j.val, by omega⟩) := by
  subst hk hb
  refine Finset.sum_congr rfl fun s _ => congrArg₂ (· * ·) ?_ ?_
  · rw [← V_v0 m c]
    blk_simp [iblk]
    refine congrArg (V m c main_v0) ?_
    blk_ext [index0]
  · rw [← V_v1 m c]
    blk_simp [iblk]
    refine congrArg (V m c main_v1) ?_
    blk_ext [index1]

theorem grad_at (i : Fin 1024) (j : Fin 1536) : (G2 m c (ix2 i j) : EReal) = ∑ s, aX m c (ix2 s i) * aD m c (ix2 s j) := by
  have hN : cfg0.N = 4 := N_0
  have hr : run2Of (ix2 i j) = j.val / 768 := by
    show 2 * (i.val / 1024 - 0) + 1 * (j.val / 768 - 0) = _
    omega
  have hl : loc2Of (ix2 i j) = ix2 i ⟨j.val % 768, Nat.mod_lt _ (by decide)⟩ := by
    refine (eq_ix2 _).trans ?_
    exact congrArg₂ ix2 (Fin.ext (Nat.mod_eq_of_lt i.isLt)) rfl
  unfold G2
  rw [dif_pos (by rw [hr, hN]; omega), hl]
  show (step2 m c _ _ (reset2 m c _ _) _ : EReal) = _
  unfold step2 reset2
  rw [step_at, step_at, zero_at, zero_add,
    half_at m c _ 0 (by simp only [hr]; omega) (j.val / 768) (by simp only [hr]; omega) (by decide) (by omega),
    half_at m c _ 1 (by simp only [hr]; omega) (j.val / 768) (by simp only [hr]; omega) (by decide) (by omega)]
  have hj : (⟨768 * (j.val / 768) + j.val % 768, by omega⟩ : Fin 1536) = j := Fin.ext (Nat.div_add_mod _ _)
  simp only [hj]
  exact Cert.Tokens.sum_halves fun s => aX m c (ix2 s i) * aD m c (ix2 s j)

/-- What the reference computes of the same arguments. -/
theorem ref_at (x : Vec Ideal S4096x1024 .f32) (d : Vec Ideal S4096x1536 .f32) (i : Fin 1024) (j : Fin 1536) :
    (transpose Cert.Reference3Ideal.S1024x1536 [1, 0] (Host.dotGeneral (F := Ideal) (φ₁ := .f32) (φ₂ := .f32) Cert.Reference3Ideal.dot_S4096x1536_S4096x1024_S1536x1024_0_0_1_1_n_n none d x)
      Cert.Reference3Ideal.Facts₀.transposes_S1536x1024_S1024x1536_1_0 (ix2 i j) : EReal) = ∑ s, d (ix2 s j) * x (ix2 s i) := by
  pointwise []

theorem frame_ref (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m ρ m' ρ' _ hargs
  refine ⟨fun c => G2 m c, Value.run (F := Ideal) m ρ, ?_⟩
  refine (θ_run Cert.Reference3Ideal.defs _ _).mono (fun r h c => ⟨(h c).1.trans ?_, (h c).2⟩) (Cert.Reference3Ideal.Value.run (F := Ideal) m' ρ')
  funext I
  rw [eq_ix2 I]
  refine (ref_at _ _ (I 0) (I 1)).trans (Eq.trans ?_ (grad_at m c (I 0) (I 1)).symm)
  refine Finset.sum_congr rfl fun s _ => (mul_comm _ _).trans (congrArg₂ (· * ·) ?_ ?_)
  · exact congrFun (hargs c).1 _
  · exact congrFun (hargs c).2 _

end Cert.Kernel3Ideal.Val
end
-- ==== Proof.Gate.lean ====
/-
  The weight gradient of the input projection's forget-gate columns: the two halves of the tokens, summed, are the product
  of the transposed activations with the columns' gradient.
-/
module

public import proofs.«01_k».proof.Defs
public import proofs.«01_k».proof.Proof.Halves
public import proofs.«01_k».proof.Proof.Gen.Kernel4Ideal.Value
public import proofs.«01_k».proof.Proof.Gen.Reference4Ideal.Run
public import Idealize.ShloMosaic.Lib.Pipeline.ValueKit
public import Idealize.ShloMosaic.Adequacy
public import Idealize.ShloMosaic.Init

@[expose] public section

set_option maxRecDepth 16384

noncomputable section

namespace Cert.Kernel4Ideal.Val
open Cert.Kernel4Ideal Cert.Kernel4Ideal.Gen Cert.Kernel4Ideal.Value

open Idealize.ShloMosaic Idealize.ShloMosaic.TcCoe Idealize.ShloMosaic.Tactic Idealize.SL.Sem
open Idealize.ShloMosaic.Pipeline

variable (m : (ℓ : Loc nD τ sig) → Buf (Elt Ideal) ℓ) (c : Dev nD)

/-- The activations and the columns' gradient. -/
abbrev aX : S4096x1024.Idx → EReal := m ((c : Thread nD τ).loc main_arg0)
abbrev aD : S4096x128.Idx → EReal := m ((c : Thread nD τ).loc main_arg1)

theorem V_v0 : V m c main_v0 = aX m c := by
  simp only [V, hostOps0]
  after_results_simp <;> rfl
theorem V_v1 : V m c main_v1 = aD m c := by
  simp only [V, hostOps0]
  after_results_simp <;> rfl

theorem zero_at (I : S1024x128.Idx) : (k0_pay1 (F := Ideal) I : EReal) = 0 := by
  pointwise [k0_pay1]

theorem step_at (a : Vec Ideal S1024x128 .f32) (x : Vec Ideal S2048x1024 .bf16) (y : Vec Ideal S2048x128 .bf16) (i : Fin 1024) (j : Fin 128) :
    (k0_pay2 a x y (ix2 i j) : EReal) = a (ix2 i j) + ∑ s, x (ix2 s i) * y (ix2 s j) := by
  pointwise [k0_pay2]

theorem index0 : ∀ t : Fin cfg0.N, win0_0.index t = ![t.val % 2, 0] := (by decide +kernel : ∀ t : Fin grid0.N, _)
theorem index1 : ∀ t : Fin cfg0.N, win0_1.index t = ![t.val % 2, t.val / 2] := (by decide +kernel : ∀ t : Fin grid0.N, _)

/-- The blocks of one point. -/
abbrev bX (t : Fin cfg0.N) : Vec Ideal S2048x1024 .bf16 := iblk m c 0 t
abbrev bD (t : Fin cfg0.N) : Vec Ideal S2048x128 .bf16 := iblk m c 1 t

/-- The product of one half of the tokens. -/
theorem half_at (t : Fin cfg0.N) (k : ℕ) (hk : t.val % 2 = k) (b : ℕ) (hb : t.val / 2 = b) (h2 : k < 2) (h2' : b < 1) (i : Fin 1024) (j : Fin 128) :
    (∑ s : Fin 2048, bX m c t (ix2 s i) * bD m c t (ix2 s j))
      = ∑ s : Fin 2048, aX m c (ix2 ⟨2048 * k + s.val, by omega⟩ i) * aD m c (ix2 ⟨2048 * k + s.val, by omega⟩ ⟨128 * b + j.val, by omega⟩) := by
  subst hk hb
  refine Finset.sum_congr rfl fun s _ => congrArg₂ (· * ·) ?_ ?_
  · rw [← V_v0 m c]
    blk_simp [iblk]
    refine congrArg (V m c main_v0) ?_
    blk_ext [index0]
  · rw [← V_v1 m c]
    blk_simp [iblk]
    refine congrArg (V m c main_v1) ?_
    blk_ext [index1]

theorem grad_at (i : Fin 1024) (j : Fin 128) : (G2 m c (ix2 i j) : EReal) = ∑ s, aX m c (ix2 s i) * aD m c (ix2 s j) := by
  have hN : cfg0.N = 2 := N_0
  have hr : run2Of (ix2 i j) = j.val / 128 := by
    show 1 * (i.val / 1024 - 0) + 1 * (j.val / 128 - 0) = _
    omega
  have hl : loc2Of (ix2 i j) = ix2 i ⟨j.val % 128, Nat.mod_lt _ (by decide)⟩ := by
    refine (eq_ix2 _).trans ?_
    exact congrArg₂ ix2 (Fin.ext (Nat.mod_eq_of_lt i.isLt)) rfl
  unfold G2
  rw [dif_pos (by rw [hr, hN]; omega), hl]
  show (step2 m c _ _ (reset2 m c _ _) _ : EReal) = _
  unfold step2 reset2
  rw [step_at, step_at, zero_at, zero_add,
    half_at m c _ 0 (by simp only [hr]; omega) (j.val / 128) (by simp only [hr]; omega) (by decide) (by omega),
    half_at m c _ 1 (by simp only [hr]; omega) (j.val / 128) (by simp only [hr]; omega) (by decide) (by omega)]
  have hj : (⟨128 * (j.val / 128) + j.val % 128, by omega⟩ : Fin 128) = j := Fin.ext (Nat.div_add_mod _ _)
  simp only [hj]
  exact Cert.Tokens.sum_halves fun s => aX m c (ix2 s i) * aD m c (ix2 s j)

/-- What the reference computes of the same arguments. -/
theorem ref_at (x : Vec Ideal S4096x1024 .f32) (d : Vec Ideal S4096x128 .f32) (i : Fin 1024) (j : Fin 128) :
    (transpose Cert.Reference4Ideal.S1024x128 [1, 0] (Host.dotGeneral (F := Ideal) (φ₁ := .f32) (φ₂ := .f32) Cert.Reference4Ideal.dot_S4096x128_S4096x1024_S128x1024_0_0_1_1_n_n none d x)
      Cert.Reference4Ideal.Facts₀.transposes_S128x1024_S1024x128_1_0 (ix2 i j) : EReal) = ∑ s, d (ix2 s j) * x (ix2 s i) := by
  pointwise []

theorem frame_ref (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m ρ m' ρ' _ hargs
  refine ⟨fun c => G2 m c, Value.run (F := Ideal) m ρ, ?_⟩
  refine (θ_run Cert.Reference4Ideal.defs _ _).mono (fun r h c => ⟨(h c).1.trans ?_, (h c).2⟩) (Cert.Reference4Ideal.Value.run (F := Ideal) m' ρ')
  funext I
  rw [eq_ix2 I]
  refine (ref_at _ _ (I 0) (I 1)).trans (Eq.trans ?_ (grad_at m c (I 0) (I 1)).symm)
  refine Finset.sum_congr rfl fun s _ => (mul_comm _ _).trans (congrArg₂ (· * ·) ?_ ?_)
  · exact congrFun (hargs c).1 _
  · exact congrFun (hargs c).2 _

end Cert.Kernel4Ideal.Val
end
-- ==== Proof.Rest.lean ====
/-
  The weight gradient of the input projection's other columns: the two halves of the tokens, summed, are the product of the
  transposed activations with the columns' gradient.
-/
module

public import proofs.«01_k».proof.Defs
public import proofs.«01_k».proof.Proof.Halves
public import proofs.«01_k».proof.Proof.Gen.Kernel5Ideal.Value
public import proofs.«01_k».proof.Proof.Gen.Reference5Ideal.Run
public import Idealize.ShloMosaic.Lib.Pipeline.ValueKit
public import Idealize.ShloMosaic.Adequacy
public import Idealize.ShloMosaic.Init

@[expose] public section

set_option maxRecDepth 16384

noncomputable section

namespace Cert.Kernel5Ideal.Val
open Cert.Kernel5Ideal Cert.Kernel5Ideal.Gen Cert.Kernel5Ideal.Value

open Idealize.ShloMosaic Idealize.ShloMosaic.TcCoe Idealize.ShloMosaic.Tactic Idealize.SL.Sem
open Idealize.ShloMosaic.Pipeline

variable (m : (ℓ : Loc nD τ sig) → Buf (Elt Ideal) ℓ) (c : Dev nD)

/-- The activations and the columns' gradient. -/
abbrev aX : S4096x1024.Idx → EReal := m ((c : Thread nD τ).loc main_arg0)
abbrev aD : S4096x4096.Idx → EReal := m ((c : Thread nD τ).loc main_arg1)

theorem V_v0 : V m c main_v0 = aX m c := by
  simp only [V, hostOps0]
  after_results_simp <;> rfl
theorem V_v1 : V m c main_v1 = aD m c := by
  simp only [V, hostOps0]
  after_results_simp <;> rfl

theorem zero_at (I : S1024x1024.Idx) : (k0_pay1 (F := Ideal) I : EReal) = 0 := by
  pointwise [k0_pay1]

theorem step_at (a : Vec Ideal S1024x1024 .f32) (x : Vec Ideal S2048x1024 .bf16) (y : Vec Ideal S2048x1024 .bf16) (i : Fin 1024) (j : Fin 1024) :
    (k0_pay2 a x y (ix2 i j) : EReal) = a (ix2 i j) + ∑ s, x (ix2 s i) * y (ix2 s j) := by
  pointwise [k0_pay2]

theorem index0 : ∀ t : Fin cfg0.N, win0_0.index t = ![t.val % 2, 0] := (by decide +kernel : ∀ t : Fin grid0.N, _)
theorem index1 : ∀ t : Fin cfg0.N, win0_1.index t = ![t.val % 2, t.val / 2] := (by decide +kernel : ∀ t : Fin grid0.N, _)

/-- The blocks of one point. -/
abbrev bX (t : Fin cfg0.N) : Vec Ideal S2048x1024 .bf16 := iblk m c 0 t
abbrev bD (t : Fin cfg0.N) : Vec Ideal S2048x1024 .bf16 := iblk m c 1 t

/-- The product of one half of the tokens. -/
theorem half_at (t : Fin cfg0.N) (k : ℕ) (hk : t.val % 2 = k) (b : ℕ) (hb : t.val / 2 = b) (h2 : k < 2) (h2' : b < 4) (i : Fin 1024) (j : Fin 1024) :
    (∑ s : Fin 2048, bX m c t (ix2 s i) * bD m c t (ix2 s j))
      = ∑ s : Fin 2048, aX m c (ix2 ⟨2048 * k + s.val, by omega⟩ i) * aD m c (ix2 ⟨2048 * k + s.val, by omega⟩ ⟨1024 * b + j.val, by omega⟩) := by
  subst hk hb
  refine Finset.sum_congr rfl fun s _ => congrArg₂ (· * ·) ?_ ?_
  · rw [← V_v0 m c]
    blk_simp [iblk]
    refine congrArg (V m c main_v0) ?_
    blk_ext [index0]
  · rw [← V_v1 m c]
    blk_simp [iblk]
    refine congrArg (V m c main_v1) ?_
    blk_ext [index1]

theorem grad_at (i : Fin 1024) (j : Fin 4096) : (G2 m c (ix2 i j) : EReal) = ∑ s, aX m c (ix2 s i) * aD m c (ix2 s j) := by
  have hN : cfg0.N = 8 := N_0
  have hr : run2Of (ix2 i j) = j.val / 1024 := by
    show 4 * (i.val / 1024 - 0) + 1 * (j.val / 1024 - 0) = _
    omega
  have hl : loc2Of (ix2 i j) = ix2 i ⟨j.val % 1024, Nat.mod_lt _ (by decide)⟩ := by
    refine (eq_ix2 _).trans ?_
    exact congrArg₂ ix2 (Fin.ext (Nat.mod_eq_of_lt i.isLt)) rfl
  unfold G2
  rw [dif_pos (by rw [hr, hN]; omega), hl]
  show (step2 m c _ _ (reset2 m c _ _) _ : EReal) = _
  unfold step2 reset2
  rw [step_at, step_at, zero_at, zero_add,
    half_at m c _ 0 (by simp only [hr]; omega) (j.val / 1024) (by simp only [hr]; omega) (by decide) (by omega),
    half_at m c _ 1 (by simp only [hr]; omega) (j.val / 1024) (by simp only [hr]; omega) (by decide) (by omega)]
  have hj : (⟨1024 * (j.val / 1024) + j.val % 1024, by omega⟩ : Fin 4096) = j := Fin.ext (Nat.div_add_mod _ _)
  simp only [hj]
  exact Cert.Tokens.sum_halves fun s => aX m c (ix2 s i) * aD m c (ix2 s j)

/-- What the reference computes of the same arguments. -/
theorem ref_at (x : Vec Ideal S4096x1024 .f32) (d : Vec Ideal S4096x4096 .f32) (i : Fin 1024) (j : Fin 4096) :
    (transpose Cert.Reference5Ideal.S1024x4096 [1, 0] (Host.dotGeneral (F := Ideal) (φ₁ := .f32) (φ₂ := .f32) Cert.Reference5Ideal.dot_S4096x4096_S4096x1024_S4096x1024_0_0_1_1_n_n none d x)
      Cert.Reference5Ideal.Facts₀.transposes_S4096x1024_S1024x4096_1_0 (ix2 i j) : EReal) = ∑ s, d (ix2 s j) * x (ix2 s i) := by
  pointwise []

theorem frame_ref (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := by
  intro m ρ m' ρ' _ hargs
  refine ⟨fun c => G2 m c, Value.run (F := Ideal) m ρ, ?_⟩
  refine (θ_run Cert.Reference5Ideal.defs _ _).mono (fun r h c => ⟨(h c).1.trans ?_, (h c).2⟩) (Cert.Reference5Ideal.Value.run (F := Ideal) m' ρ')
  funext I
  rw [eq_ix2 I]
  refine (ref_at _ _ (I 0) (I 1)).trans (Eq.trans ?_ (grad_at m c (I 0) (I 1)).symm)
  refine Finset.sum_congr rfl fun s _ => (mul_comm _ _).trans (congrArg₂ (· * ·) ?_ ?_)
  · exact congrFun (hargs c).1 _
  · exact congrFun (hargs c).2 _

end Cert.Kernel5Ideal.Val
end
-- ==== Proof.Table.lean ====
/-
  The feed-forward backward call's table: its one word, the layer of the stacked weights, is 0, and the blocks it places
  lie inside their arrays.
-/
module

public import proofs.«01_k».proof.Defs
public import proofs.«01_k».proof.Proof.Gen.Kernel6Ideal.Frame.RunA
public import proofs.«01_k».proof.Proof.Gen.Kernel6Ideal.Frame.RunB

@[expose] public section

set_option maxRecDepth 16384

noncomputable section

open Idealize.ShloMosaic Idealize.ShloMosaic.TcCoe Idealize.ShloMosaic.Tactic Idealize.SL.Sem

namespace Cert.Kernel6Ideal.Val
open Cert.Kernel6Ideal Cert.Kernel6Ideal.Gen

variable {F : FTy → Type} [FloatOps F] (m : (ℓ : Loc nD τ sig) → Buf (Elt F) ℓ)

/-- The table's contents: zero. -/
def zeros : pre0.Contents (Elt F) := fun | ⟨0, _⟩ => fun _ => 0#32 | ⟨_ + 1, h⟩ => absurd h (by simp)

theorem V_v20 (c : Dev nD) : V m c main_v20 = fun _ => 0#32 := by
  simp only [V, hostOps0, List.flatten_cons, List.flatten_nil, List.append_nil, List.cons_append, List.nil_append]
  after_results_simp <;> rfl

theorem tbl_eq : tbl m = zeros := by
  funext j
  match j with
  | ⟨0, _⟩ => exact V_v20 m 0

theorem ok : Ok m := by
  unfold Ok
  rw [tbl_eq]
  have h4 : ∀ i, cc0_transform_4 inb_S1_S1_0 numel1_S1 (zeros (F := F)) i = ![0, 0, 0, 0] := fun _ => rfl
  have h5 : ∀ i, cc0_transform_5 inb_S1_S1_0 numel1_S1 (zeros (F := F)) i = ![0, 0, 0] := fun _ => rfl
  have w4 : ∀ h, (Rect.block (s := S1x4x1024x1408) S1x4x1024x1408.size ![0, 0, 0, 0] h).WholeWords (EltTy.packing .bf16) := by decide
  have w5 : ∀ h, (Rect.block (s := S1x2816x1024) S1x2816x1024.size ![0, 0, 0] h).WholeWords (EltTy.packing .bf16) := by decide
  refine ⟨fun i => ⟨fun a => by rw [h4]; revert a; decide, Or.inr ?_⟩, fun i => ⟨fun a => by rw [h5]; revert a; decide, Or.inr ?_⟩⟩
  · simp only [h4]; exact w4 _
  · simp only [h5]; exact w5 _

end Cert.Kernel6Ideal.Val
end
-- ==== Proof.Glu.lean ====
/-
  The feed-forward backward call: what its body leaves of one block of 256 tokens. The norm weight's gradient is added to
  what the block before left (at the first block, to zero); the other five outputs are whole blocks.
-/
module

public import proofs.«01_k».proof.Defs
public import proofs.«01_k».proof.Proof.Gen.Kernel6Ideal.Frame.RunA
public import proofs.«01_k».proof.Proof.Gen.Kernel6Ideal.Frame.RunB
public import Idealize.ShloMosaic.Lib.Pipeline.ValueKit

@[expose] public section

set_option maxRecDepth 16384

noncomputable section

namespace Cert.Kernel6Ideal.Val
open Cert.Kernel6Ideal Cert.Kernel6Ideal.Gen

open Idealize.ShloMosaic Idealize.ShloMosaic.TcCoe Idealize.ShloMosaic.Tactic Idealize.SL.Sem
open Idealize.ShloMosaic.Pipeline

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable (x0 : Vec F S256x1024 .f32) (x1 : Vec F S1x1024 .f32) (x2 : Vec F S256x1024 .f32) (x3 : Vec F S256x5632 .bf16)
  (x4 : Vec F S1x4x1024x1408 .bf16) (x5 : Vec F S1x2816x1024 .bf16) (xo : Vec F S1x1024 .f32)

/-- The gates and the values they multiply: the two halves of the projection. -/
abbrev gt : Vec F S256x2816 .bf16 := View.ld x3 (Rect.unit ![0, 0] ![256, 2816] inb_S256x5632_S256x2816_0_0)
abbrev up : Vec F S256x2816 .bf16 := View.ld x3 (Rect.unit ![0, 2816] ![256, 2816] inb_S256x5632_S256x2816_0_2816)

/-- Their gradients, and the two side by side. -/
abbrev payGt : Vec F S256x2816 .bf16 := k0_pay13 (k0_pay7 (gt x3)) (k0_pay10 (k0_pay3 x2) x5 (up x3)) (k0_pay11 (gt x3)) k0_pay12
abbrev payUp : Vec F S256x2816 .bf16 := k0_pay14 (k0_pay4 (k0_pay3 x2) x5) (k0_pay8 (gt x3))
def payU : Vec F S256x5632 .bf16 := View.canon (Val := Elt F) (s := S256x5632) (e := .bf16)
  [⟨Rect.unit ![0, 2816] ![256, 2816] inb_S256x5632_S256x2816_0_2816, payUp x2 x3 x5⟩,
   ⟨Rect.unit ![0, 0] ![256, 2816] inb_S256x5632_S256x2816_0_0, payGt x2 x3 x5⟩]

/-- Quarter by quarter of the columns, the first three quarters' products summed and the last one's two factors. -/
abbrev threeQ (u : Vec F S256x5632 .bf16) : FVec F S256x1024 .f32 := k0_pay15
  (View.ld u (Rect.unit ![0, 0] ![256, 1408] inb_S256x5632_S256x1408_0_0))
  (View.ld x4 (Rect.unit ![0, 0, 0, 0] ![1, 1, 1024, 1408] inb_S1x4x1024x1408_S1x1x1024x1408_0_0_0_0))
  (View.ld u (Rect.unit ![0, 1408] ![256, 1408] inb_S256x5632_S256x1408_0_1408))
  (View.ld x4 (Rect.unit ![0, 1, 0, 0] ![1, 1, 1024, 1408] inb_S1x4x1024x1408_S1x1x1024x1408_0_1_0_0))
  (View.ld u (Rect.unit ![0, 2816] ![256, 1408] inb_S256x5632_S256x1408_0_2816))
  (View.ld x4 (Rect.unit ![0, 2, 0, 0] ![1, 1, 1024, 1408] inb_S1x4x1024x1408_S1x1x1024x1408_0_2_0_0))
abbrev lastU (u : Vec F S256x5632 .bf16) : FVec F S256x1408 .bf16 := k0_pay16 (View.ld u (Rect.unit ![0, 4224] ![256, 1408] inb_S256x5632_S256x1408_0_4224))
abbrev lastW : Vec F S1x1x1024x1408 .bf16 := View.ld x4 (Rect.unit ![0, 3, 0, 0] ![1, 1, 1024, 1408] inb_S1x4x1024x1408_S1x1x1024x1408_0_3_0_0)

/-- The six outputs: the activations' gradient, the projection's, the gated values, the normed rows, the arriving gradient
    rounded, the norm weight's gradient. -/
abbrev payX : Vec F S256x1024 .f32 := k0_pay1 x2 (k0_pay22 (threeQ x4 (payU x2 x3 x5)) (lastU (payU x2 x3 x5)) (lastW x4) x0 x1) (k0_pay23 x0)
abbrev payA : Vec F S256x2816 .bf16 := k0_pay9 (gt x3) (up x3)
abbrev payH : Vec F S256x1024 .bf16 := k0_pay20 x0 x1
abbrev payD : Vec F S256x1024 .bf16 := k0_pay3 x2
abbrev payG : Vec F S1x1024 .f32 := k0_pay21 (threeQ x4 (payU x2 x3 x5)) (lastU (payU x2 x3 x5)) (lastW x4) x0 xo
end Pieces

section Body
variable (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x5632 .bf16) (harg5 : arg5.IsWhole) (arg6 : Memref sig .tc .vmem S1x4x1024x1408 .bf16) (harg6 : arg6.IsWhole) (arg7 : Memref sig .tc .vmem S1x2816x1024 .bf16) (harg7 : arg7.IsWhole) (arg8 : Memref sig .tc .vmem S256x1024 .f32) (harg8 : arg8.IsWhole) (arg9 : Memref sig .tc .vmem S256x5632 .bf16) (harg9 : arg9.IsWhole) (arg10 : Memref sig .tc .vmem S256x2816 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S1x1024 .f32) (harg13 : arg13.IsWhole)
  (x0 : Vec F S256x1024 .f32) (x1 : Vec F S1x1024 .f32) (x2 : Vec F S256x1024 .f32) (x3 : Vec F S256x5632 .bf16) (x4 : Vec F S1x4x1024x1408 .bf16) (x5 : Vec F S1x2816x1024 .bf16) (xt : TbBuf0 (F := F) c tbM0_0) (xo : Vec F S1x1024 .f32)

/-- At the first block. -/
theorem reads_A (hc0 : cond0_0 i) :
    (∀ f, arg8.view.read (Elt F) (arg8.view.writes (Elt F) f (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 xt).1) = payX x0 x1 x2 x3 x4 x5)
    ∧ (∀ f, arg9.view.read (Elt F) (arg9.view.writes (Elt F) f (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 xt).2.1) = payU x2 x3 x5)
    ∧ (∀ f, arg10.view.read (Elt F) (arg10.view.writes (Elt F) f (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 xt).2.2.1) = payA x3)
    ∧ (∀ f, arg11.view.read (Elt F) (arg11.view.writes (Elt F) f (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 xt).2.2.2.1) = payH x0 x1)
    ∧ (∀ f, arg12.view.read (Elt F) (arg12.view.writes (Elt F) f (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 xt).2.2.2.2.1) = payD x2)
    ∧ (∀ f, arg13.view.read (Elt F) (arg13.view.writes (Elt F) f (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 xt).2.2.2.2.2.1) = payG x0 x2 x3 x4 x5 (k0_pay2 (F := F))) := by
  refine ⟨fun f => ?_, fun f => ?_, fun f => ?_, fun f => ?_, fun f => ?_, fun f => ?_⟩
  · rw [View.read_writes_eq_canon _ _ _ (View.cover_of_tiledL _ S256x1024.size (by sl_kernel_rfl))]
    unfold kernelRun0_A
    dsimp only
    try sl_unfold_words
    rw [View.canon_unit_zero hz2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x1024) hz2, View.ld_unit_zero (S := S1x1024) hz2, View.ld_unit_zero (S := S1x2816x1024) hz3, View.readCov_unit_zero (S := S256x1024) _ hz2]
    simp only [View.readCov_eq_canon']
    rfl
  · rw [View.read_writes_eq_canon _ _ _ (View.cover_of_tiledL _ ![256, 2816] (by sl_kernel_rfl))]
    unfold kernelRun0_A
    dsimp only
    try sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x1024) hz2, View.ld_unit_zero (S := S1x1024) hz2, View.ld_unit_zero (S := S1x2816x1024) hz3, View.readCov_unit_zero (S := S256x1024) _ hz2]
    try rfl
  · rw [View.read_writes_eq_canon _ _ _ (View.cover_of_tiledL _ S256x2816.size (by sl_kernel_rfl))]
    unfold kernelRun0_A
    dsimp only
    try sl_unfold_words
    rw [View.canon_unit_zero hz2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x1024) hz2, View.ld_unit_zero (S := S1x1024) hz2, View.ld_unit_zero (S := S1x2816x1024) hz3, View.readCov_unit_zero (S := S256x1024) _ hz2]
    try rfl
  · rw [View.read_writes_eq_canon _ _ _ (View.cover_of_tiledL _ S256x1024.size (by sl_kernel_rfl))]
    unfold kernelRun0_A
    dsimp only
    try sl_unfold_words
    rw [View.canon_unit_zero hz2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x1024) hz2, View.ld_unit_zero (S := S1x1024) hz2, View.ld_unit_zero (S := S1x2816x1024) hz3, View.readCov_unit_zero (S := S256x1024) _ hz2]
    try rfl
  · rw [View.read_writes_eq_canon _ _ _ (View.cover_of_tiledL _ S256x1024.size (by sl_kernel_rfl))]
    unfold kernelRun0_A
    dsimp only
    try sl_unfold_words
    rw [View.canon_unit_zero hz2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x1024) hz2, View.ld_unit_zero (S := S1x1024) hz2, View.ld_unit_zero (S := S1x2816x1024) hz3, View.readCov_unit_zero (S := S256x1024) _ hz2]
    try rfl
  · rw [View.read_writes_eq_canon _ _ _ (View.cover_of_tiledL _ S1x1024.size (by sl_kernel_rfl))]
    unfold kernelRun0_A
    dsimp only
    try sl_unfold_words
    rw [View.canon_cons_unit_zero (S := S1x1024) hz2, View.readCov_unit_zero (S := S1x1024) _ hz2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x1024) hz2, View.ld_unit_zero (S := S1x1024) hz2, View.ld_unit_zero (S := S1x2816x1024) hz3, View.readCov_unit_zero (S := S256x1024) _ hz2]
    simp only [View.readCov_eq_canon']
    rfl
/-- At a later one. -/
theorem reads_B (hc0 : ¬cond0_0 i) :
    (∀ f, arg8.view.read (Elt F) (arg8.view.writes (Elt F) f (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xt xo).1) = payX x0 x1 x2 x3 x4 x5)
    ∧ (∀ f, arg9.view.read (Elt F) (arg9.view.writes (Elt F) f (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xt xo).2.1) = payU x2 x3 x5)
    ∧ (∀ f, arg10.view.read (Elt F) (arg10.view.writes (Elt F) f (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xt xo).2.2.1) = payA x3)
    ∧ (∀ f, arg11.view.read (Elt F) (arg11.view.writes (Elt F) f (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xt xo).2.2.2.1) = payH x0 x1)
    ∧ (∀ f, arg12.view.read (Elt F) (arg12.view.writes (Elt F) f (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xt xo).2.2.2.2.1) = payD x2)
    ∧ (∀ f, arg13.view.read (Elt F) (arg13.view.writes (Elt F) f (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xt xo).2.2.2.2.2.1) = payG x0 x2 x3 x4 x5 xo) := by
  refine ⟨fun f => ?_, fun f => ?_, fun f => ?_, fun f => ?_, fun f => ?_, fun f => ?_⟩
  · rw [View.read_writes_eq_canon _ _ _ (View.cover_of_tiledL _ S256x1024.size (by sl_kernel_rfl))]
    unfold kernelRun0_B
    dsimp only
    try sl_unfold_words
    rw [View.canon_unit_zero hz2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x1024) hz2, View.ld_unit_zero (S := S1x1024) hz2, View.ld_unit_zero (S := S1x2816x1024) hz3, View.readCov_unit_zero (S := S256x1024) _ hz2]
    simp only [View.readCov_eq_canon']
    rfl
  · rw [View.read_writes_eq_canon _ _ _ (View.cover_of_tiledL _ ![256, 2816] (by sl_kernel_rfl))]
    unfold kernelRun0_B
    dsimp only
    try sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x1024) hz2, View.ld_unit_zero (S := S1x1024) hz2, View.ld_unit_zero (S := S1x2816x1024) hz3, View.readCov_unit_zero (S := S256x1024) _ hz2]
    try rfl
  · rw [View.read_writes_eq_canon _ _ _ (View.cover_of_tiledL _ S256x2816.size (by sl_kernel_rfl))]
    unfold kernelRun0_B
    dsimp only
    try sl_unfold_words
    rw [View.canon_unit_zero hz2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x1024) hz2, View.ld_unit_zero (S := S1x1024) hz2, View.ld_unit_zero (S := S1x2816x1024) hz3, View.readCov_unit_zero (S := S256x1024) _ hz2]
    try rfl
  · rw [View.read_writes_eq_canon _ _ _ (View.cover_of_tiledL _ S256x1024.size (by sl_kernel_rfl))]
    unfold kernelRun0_B
    dsimp only
    try sl_unfold_words
    rw [View.canon_unit_zero hz2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x1024) hz2, View.ld_unit_zero (S := S1x1024) hz2, View.ld_unit_zero (S := S1x2816x1024) hz3, View.readCov_unit_zero (S := S256x1024) _ hz2]
    try rfl
  · rw [View.read_writes_eq_canon _ _ _ (View.cover_of_tiledL _ S256x1024.size (by sl_kernel_rfl))]
    unfold kernelRun0_B
    dsimp only
    try sl_unfold_words
    rw [View.canon_unit_zero hz2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x1024) hz2, View.ld_unit_zero (S := S1x1024) hz2, View.ld_unit_zero (S := S1x2816x1024) hz3, View.readCov_unit_zero (S := S256x1024) _ hz2]
    try rfl
  · rw [View.read_writes_eq_canon _ _ _ (View.cover_of_tiledL _ S1x1024.size (by sl_kernel_rfl))]
    unfold kernelRun0_B
    dsimp only
    try sl_unfold_words
    rw [View.canon_unit_zero hz2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x1024) hz2, View.ld_unit_zero (S := S1x1024) hz2, View.ld_unit_zero (S := S1x2816x1024) hz3, View.readCov_unit_zero (S := S256x1024) _ hz2]
    simp only [View.readCov_eq_canon']
    rfl

end Body

end Cert.Kernel6Ideal.Val
-- ==== Proof.GluRun.lean ====
/-
  The feed-forward backward call: the launch, and the frame. What each output holds after a block is given by its payload
  terms, the norm weight's gradient by the running sum of the blocks'.
-/
module

public import proofs.«01_k».proof.Proof.Table
public import proofs.«01_k».proof.Proof.Glu
public import Idealize.ShloMosaic.Lib.Claim

@[expose] public section

set_option maxRecDepth 16384

noncomputable section

namespace Cert.Kernel6Ideal.Val
open Cert.Kernel6Ideal Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev N : ℕ := (cfgM m (ok m)).N

theorem N_eq : N m = 16 := N_0

/-! ## What each block leaves -/

/-- A block's norm-weight gradient on top of `xo`; after the first `n + 1` blocks. -/
abbrev stepG (c : Dev nD) (t : Fin (N m)) (xo : Vec F S1x1024 .f32) : Vec F S1x1024 .f32 :=
  payG (iblk m (ok m) c 0 t) (iblk m (ok m) c 2 t) (iblk m (ok m) c 3 t) (iblk m (ok m) c 4 t) (iblk m (ok m) c 5 t) xo
def acc (c : Dev nD) : ℕ → Vec F S1x1024 .f32
  | 0 => stepG m c ⟨0, by rw [N_eq]; decide⟩ k0_pay2
  | n + 1 => if h : n + 1 < N m then stepG m c ⟨n + 1, h⟩ (acc c n) else acc c n

theorem acc_zero (c : Dev nD) (t : Fin (N m)) (h : t.val % 16 = 0) : acc m c t.val = stepG m c t k0_pay2 := by
  obtain ⟨n, hn⟩ := t
  obtain rfl : n = 0 := by have : n < 16 := lt_of_lt_of_eq hn (N_eq m); dsimp only at h; omega
  rfl
theorem acc_succ (c : Dev nD) (t : Fin (N m)) (h : ¬t.val % 16 = 0) : acc m c t.val = stepG m c t (acc m c (t.val - 1)) := by
  obtain ⟨n, hn⟩ := t
  cases n with
  | zero => exact absurd rfl h
  | succ n => exact (acc.eq_2 m c n).trans (dif_pos hn)

def dats (_ : Fin 1) (c : Dev nD) : Dat τ (Elt F) Unit ℕ (UR sig nD τ) ℕ (cfgM m (ok m)) c where
  A w := V m c (Pipeline.arrRef spec0 w)
  after w t := match w with
    | ⟨0, _⟩ => iblk m (ok m) c 0 t
    | ⟨1, _⟩ => iblk m (ok m) c 1 t
    | ⟨2, _⟩ => iblk m (ok m) c 2 t
    | ⟨3, _⟩ => iblk m (ok m) c 3 t
    | ⟨4, _⟩ => iblk m (ok m) c 4 t
    | ⟨5, _⟩ => iblk m (ok m) c 5 t
    | ⟨6, _⟩ => payX (iblk m (ok m) c 0 t) (iblk m (ok m) c 1 t) (iblk m (ok m) c 2 t) (iblk m (ok m) c 3 t) (iblk m (ok m) c 4 t) (iblk m (ok m) c 5 t)
    | ⟨7, _⟩ => payU (iblk m (ok m) c 2 t) (iblk m (ok m) c 3 t) (iblk m (ok m) c 5 t)
    | ⟨8, _⟩ => payA (iblk m (ok m) c 3 t)
    | ⟨9, _⟩ => payH (iblk m (ok m) c 0 t) (iblk m (ok m) c 1 t)
    | ⟨10, _⟩ => payD (iblk m (ok m) c 2 t)
    | ⟨11, _⟩ => acc m c t.val
  Φ _ := iprop(Pipeline.ΦA spec0 c ∗ Pipeline.ΦT pre0 (tbl m) c)
  q _ := fullShare
  owed _ := 0

theorem A_eq (c : Dev nD) (w : Fin (cfgM m (ok m)).W) : (dats m 0 c).A w = V m c (Pipeline.arrRef spec0 w) := by
  dsimp only [dats]

theorem after_0 (c : Dev nD) (t : Fin (N m)) : (dats m 0 c).after 0 t = iblk m (ok m) c 0 t := by dsimp only [dats]; try rfl
theorem after_1 (c : Dev nD) (t : Fin (N m)) : (dats m 0 c).after 1 t = iblk m (ok m) c 1 t := by dsimp only [dats]; try rfl
theorem after_2 (c : Dev nD) (t : Fin (N m)) : (dats m 0 c).after 2 t = iblk m (ok m) c 2 t := by dsimp only [dats]; try rfl
theorem after_3 (c : Dev nD) (t : Fin (N m)) : (dats m 0 c).after 3 t = iblk m (ok m) c 3 t := by dsimp only [dats]; try rfl
theorem after_4 (c : Dev nD) (t : Fin (N m)) : (dats m 0 c).after 4 t = iblk m (ok m) c 4 t := by dsimp only [dats]; try rfl
theorem after_5 (c : Dev nD) (t : Fin (N m)) : (dats m 0 c).after 5 t = iblk m (ok m) c 5 t := by dsimp only [dats]; try rfl
theorem after_6 (c : Dev nD) (t : Fin (N m)) : (dats m 0 c).after 6 t = payX (iblk m (ok m) c 0 t) (iblk m (ok m) c 1 t) (iblk m (ok m) c 2 t) (iblk m (ok m) c 3 t) (iblk m (ok m) c 4 t) (iblk m (ok m) c 5 t) := by dsimp only [dats]; try rfl
theorem after_7 (c : Dev nD) (t : Fin (N m)) : (dats m 0 c).after 7 t = payU (iblk m (ok m) c 2 t) (iblk m (ok m) c 3 t) (iblk m (ok m) c 5 t) := by dsimp only [dats]; try rfl
theorem after_8 (c : Dev nD) (t : Fin (N m)) : (dats m 0 c).after 8 t = payA (iblk m (ok m) c 3 t) := by dsimp only [dats]; try rfl
theorem after_9 (c : Dev nD) (t : Fin (N m)) : (dats m 0 c).after 9 t = payH (iblk m (ok m) c 0 t) (iblk m (ok m) c 1 t) := by dsimp only [dats]; try rfl
theorem after_10 (c : Dev nD) (t : Fin (N m)) : (dats m 0 c).after 10 t = payD (iblk m (ok m) c 2 t) := by dsimp only [dats]; try rfl
theorem after_11 (c : Dev nD) (t : Fin (N m)) : (dats m 0 c).after 11 t = acc m c t.val := by dsimp only [dats]; try rfl

theorem before_0 (c : Dev nD) (t : Fin (N m)) (d) : (dats m 0 c).before 0 t d = iblk m (ok m) c 0 t :=
  before0_0_of m (ok m) (dats m 0 c) (A_eq m c 0) (after_0 m c) t d
theorem before_1 (c : Dev nD) (t : Fin (N m)) (d) : (dats m 0 c).before 1 t d = iblk m (ok m) c 1 t :=
  before0_1_of m (ok m) (dats m 0 c) (A_eq m c 1) (after_1 m c) t d
theorem before_2 (c : Dev nD) (t : Fin (N m)) (d) : (dats m 0 c).before 2 t d = iblk m (ok m) c 2 t :=
  before0_2_of m (ok m) (dats m 0 c) (A_eq m c 2) (after_2 m c) t d
theorem before_3 (c : Dev nD) (t : Fin (N m)) (d) : (dats m 0 c).before 3 t d = iblk m (ok m) c 3 t :=
  before0_3_of m (ok m) (dats m 0 c) (A_eq m c 3) (after_3 m c) t d
theorem before_4 (c : Dev nD) (t : Fin (N m)) (d) : (dats m 0 c).before 4 t d = iblk m (ok m) c 4 t :=
  before0_4_of m (ok m) (dats m 0 c) (A_eq m c 4) (after_4 m c) t d
theorem before_5 (c : Dev nD) (t : Fin (N m)) (d) : (dats m 0 c).before 5 t d = iblk m (ok m) c 5 t :=
  before0_5_of m (ok m) (dats m 0 c) (A_eq m c 5) (after_5 m c) t d

/-- At a later block the norm weight's gradient is still held as the block before left it. -/
theorem before_11 (c : Dev nD) (t : Fin (N m)) (h0 : ¬t.val % 16 = 0) (d) : (dats m 0 c).before 11 t d = acc m c (t.val - 1) := by
  have hN : t.val < 16 := lt_of_lt_of_eq t.isLt (N_eq m)
  rw [Dat.before_out_kept _ 11 rfl t (by omega) (Bool.eq_false_iff.mpr fun h => by have := (flush0_11 (adm m (ok m)) _).mp h; dsimp only at this; omega)
    (fun _ => rfl) (fun _ _ => rfl)]
  dsimp only [dats]
  try rfl

/-! ## The body at a block -/

def bodyPre (c : Dev nD) (t : Fin (N m)) : sProp 𝕄 :=
  iprop((dats m 0 c).Φ t.castSucc ∗ (dats m 0 c).owesAt () t.castSucc
    ∗ (∃ d, owns (c : Thread nD τ) (ms0_0 m (ok m) t) fullShare ((dats m 0 c).before 0 t d))
    ∗ (∃ d, owns (c : Thread nD τ) (ms0_1 m (ok m) t) fullShare ((dats m 0 c).before 1 t d))
    ∗ (∃ d, owns (c : Thread nD τ) (ms0_2 m (ok m) t) fullShare ((dats m 0 c).before 2 t d))
    ∗ (∃ d, owns (c : Thread nD τ) (ms0_3 m (ok m) t) fullShare ((dats m 0 c).before 3 t d))
    ∗ (∃ d, owns (c : Thread nD τ) (ms0_4 m (ok m) t) fullShare ((dats m 0 c).before 4 t d))
    ∗ (∃ d, owns (c : Thread nD τ) (ms0_5 m (ok m) t) fullShare ((dats m 0 c).before 5 t d))
    ∗ (∃ d, owns (c : Thread nD τ) (ms0_6 m (ok m) t) fullShare ((dats m 0 c).before 6 t d))
    ∗ (∃ d, owns (c : Thread nD τ) (ms0_7 m (ok m) t) fullShare ((dats m 0 c).before 7 t d))
    ∗ (∃ d, owns (c : Thread nD τ) (ms0_8 m (ok m) t) fullShare ((dats m 0 c).before 8 t d))
    ∗ (∃ d, owns (c : Thread nD τ) (ms0_9 m (ok m) t) fullShare ((dats m 0 c).before 9 t d))
    ∗ (∃ d, owns (c : Thread nD τ) (ms0_10 m (ok m) t) fullShare ((dats m 0 c).before 10 t d))
    ∗ (∃ d, owns (c : Thread nD τ) (ms0_11 m (ok m) t) fullShare ((dats m 0 c).before 11 t d)))

def bodyPost (c : Dev nD) (t : Fin (N m)) : sProp 𝕄 :=
  iprop((dats m 0 c).Φ t.succ ∗ (dats m 0 c).owesAt () t.succ
    ∗ owns (c : Thread nD τ) (ms0_0 m (ok m) t) fullShare ((dats m 0 c).after 0 t)
    ∗ owns (c : Thread nD τ) (ms0_1 m (ok m) t) fullShare ((dats m 0 c).after 1 t)
    ∗ owns (c : Thread nD τ) (ms0_2 m (ok m) t) fullShare ((dats m 0 c).after 2 t)
    ∗ owns (c : Thread nD τ) (ms0_3 m (ok m) t) fullShare ((dats m 0 c).after 3 t)
    ∗ owns (c : Thread nD τ) (ms0_4 m (ok m) t) fullShare ((dats m 0 c).after 4 t)
    ∗ owns (c : Thread nD τ) (ms0_5 m (ok m) t) fullShare ((dats m 0 c).after 5 t)
    ∗ owns (c : Thread nD τ) (ms0_6 m (ok m) t) fullShare ((dats m 0 c).after 6 t)
    ∗ owns (c : Thread nD τ) (ms0_7 m (ok m) t) fullShare ((dats m 0 c).after 7 t)
    ∗ owns (c : Thread nD τ) (ms0_8 m (ok m) t) fullShare ((dats m 0 c).after 8 t)
    ∗ owns (c : Thread nD τ) (ms0_9 m (ok m) t) fullShare ((dats m 0 c).after 9 t)
    ∗ owns (c : Thread nD τ) (ms0_10 m (ok m) t) fullShare ((dats m 0 c).after 10 t)
    ∗ owns (c : Thread nD τ) (ms0_11 m (ok m) t) fullShare ((dats m 0 c).after 11 t))

set_option maxHeartbeats 2400000 in
theorem sound_body (c : Dev nD) (t : Fin (N m)) :
    bodyPre m c t ⊢ wp frame (wpE (defs₀ (F := F)) Variants.none c none) Set.univ (bodyAt0 (adm m (ok m)) t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  rw [show (dats m 0 c).Φ t.castSucc = iprop(Pipeline.ΦA spec0 c ∗ Pipeline.ΦT pre0 (tbl m) c) from rfl, PhiT0_eq]
  by_cases h0 : t.val % 16 = 0
  · rw [acc_zero m c t h0]
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ ((hcond0_0 t).mpr h0) (iblk m (ok m) c 0 t) (iblk m (ok m) c 1 t) (iblk m (ok m) c 2 t) (iblk m (ok m) c 3 t) (iblk m (ok m) c 4 t) (iblk m (ok m) c 5 t) (tbl m 0)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HT0]; · iexact HT0
    iintro ⟨H0, H1, H2, H3, H4, H5, ⟨%e6, H6⟩, ⟨%e7, H7⟩, ⟨%e8, H8⟩, ⟨%e9, H9⟩, ⟨%e10, H10⟩, ⟨%e11, H11⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact (reads_A c (grid0.coords t) _ _ _ _ _ _ _ _ _ _ _ _ _ _ _ _ _ _ _ _ _ _ _ _ (iblk m (ok m) c 0 t) (iblk m (ok m) c 1 t) (iblk m (ok m) c 2 t) (iblk m (ok m) c 3 t) (iblk m (ok m) c 4 t) (iblk m (ok m) c 5 t) (tbl m 0) ((hcond0_0 t).mpr h0)).1 _
    isplitl [H7]
    · unfold owns; iexists _; isplitr
      swap; · iexact H7
      ipureintro; exact (reads_A c (grid0.coords t) _ _ _ _ _ _ _ _ _ _ _ _ _ _ _ _ _ _ _ _ _ _ _ _ (iblk m (ok m) c 0 t) (iblk m (ok m) c 1 t) (iblk m (ok m) c 2 t) (iblk m (ok m) c 3 t) (iblk m (ok m) c 4 t) (iblk m (ok m) c 5 t) (tbl m 0) ((hcond0_0 t).mpr h0)).2.1 _
    isplitl [H8]
    · unfold owns; iexists _; isplitr
      swap; · iexact H8
      ipureintro; exact (reads_A c (grid0.coords t) _ _ _ _ _ _ _ _ _ _ _ _ _ _ _ _ _ _ _ _ _ _ _ _ (iblk m (ok m) c 0 t) (iblk m (ok m) c 1 t) (iblk m (ok m) c 2 t) (iblk m (ok m) c 3 t) (iblk m (ok m) c 4 t) (iblk m (ok m) c 5 t) (tbl m 0) ((hcond0_0 t).mpr h0)).2.2.1 _
    isplitl [H9]
    · unfold owns; iexists _; isplitr
      swap; · iexact H9
      ipureintro; exact (reads_A c (grid0.coords t) _ _ _ _ _ _ _ _ _ _ _ _ _ _ _ _ _ _ _ _ _ _ _ _ (iblk m (ok m) c 0 t) (iblk m (ok m) c 1 t) (iblk m (ok m) c 2 t) (iblk m (ok m) c 3 t) (iblk m (ok m) c 4 t) (iblk m (ok m) c 5 t) (tbl m 0) ((hcond0_0 t).mpr h0)).2.2.2.1 _
    isplitl [H10]
    · unfold owns; iexists _; isplitr
      swap; · iexact H10
      ipureintro; exact (reads_A c (grid0.coords t) _ _ _ _ _ _ _ _ _ _ _ _ _ _ _ _ _ _ _ _ _ _ _ _ (iblk m (ok m) c 0 t) (iblk m (ok m) c 1 t) (iblk m (ok m) c 2 t) (iblk m (ok m) c 3 t) (iblk m (ok m) c 4 t) (iblk m (ok m) c 5 t) (tbl m 0) ((hcond0_0 t).mpr h0)).2.2.2.2.1 _
    unfold owns; iexists _; isplitr
    swap; · iexact H11
    ipureintro; exact (reads_A c (grid0.coords t) _ _ _ _ _ _ _ _ _ _ _ _ _ _ _ _ _ _ _ _ _ _ _ _ (iblk m (ok m) c 0 t) (iblk m (ok m) c 1 t) (iblk m (ok m) c 2 t) (iblk m (ok m) c 3 t) (iblk m (ok m) c 4 t) (iblk m (ok m) c 5 t) (tbl m 0) ((hcond0_0 t).mpr h0)).2.2.2.2.2 _
  · rw [acc_succ m c t h0]
    simp only [before_11 m c t h0]
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ (fun h => h0 ((hcond0_0 t).mp h)) (iblk m (ok m) c 0 t) (iblk m (ok m) c 1 t) (iblk m (ok m) c 2 t) (iblk m (ok m) c 3 t) (iblk m (ok m) c 4 t) (iblk m (ok m) c 5 t) (tbl m 0) _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexact H11
    isplitl [HT0]; · iexact HT0
    iintro ⟨H0, H1, H2, H3, H4, H5, ⟨%e6, H6⟩, ⟨%e7, H7⟩, ⟨%e8, H8⟩, ⟨%e9, H9⟩, ⟨%e10, H10⟩, ⟨%e11, H11⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact (reads_B c (grid0.coords t) _ _ _ _ _ _ _ _ _ _ _ _ _ _ _ _ _ _ _ _ _ _ _ _ (iblk m (ok m) c 0 t) (iblk m (ok m) c 1 t) (iblk m (ok m) c 2 t) (iblk m (ok m) c 3 t) (iblk m (ok m) c 4 t) (iblk m (ok m) c 5 t) (tbl m 0) _ (fun h => h0 ((hcond0_0 t).mp h))).1 _
    isplitl [H7]
    · unfold owns; iexists _; isplitr
      swap; · iexact H7
      ipureintro; exact (reads_B c (grid0.coords t) _ _ _ _ _ _ _ _ _ _ _ _ _ _ _ _ _ _ _ _ _ _ _ _ (iblk m (ok m) c 0 t) (iblk m (ok m) c 1 t) (iblk m (ok m) c 2 t) (iblk m (ok m) c 3 t) (iblk m (ok m) c 4 t) (iblk m (ok m) c 5 t) (tbl m 0) _ (fun h => h0 ((hcond0_0 t).mp h))).2.1 _
    isplitl [H8]
    · unfold owns; iexists _; isplitr
      swap; · iexact H8
      ipureintro; exact (reads_B c (grid0.coords t) _ _ _ _ _ _ _ _ _ _ _ _ _ _ _ _ _ _ _ _ _ _ _ _ (iblk m (ok m) c 0 t) (iblk m (ok m) c 1 t) (iblk m (ok m) c 2 t) (iblk m (ok m) c 3 t) (iblk m (ok m) c 4 t) (iblk m (ok m) c 5 t) (tbl m 0) _ (fun h => h0 ((hcond0_0 t).mp h))).2.2.1 _
    isplitl [H9]
    · unfold owns; iexists _; isplitr
      swap; · iexact H9
      ipureintro; exact (reads_B c (grid0.coords t) _ _ _ _ _ _ _ _ _ _ _ _ _ _ _ _ _ _ _ _ _ _ _ _ (iblk m (ok m) c 0 t) (iblk m (ok m) c 1 t) (iblk m (ok m) c 2 t) (iblk m (ok m) c 3 t) (iblk m (ok m) c 4 t) (iblk m (ok m) c 5 t) (tbl m 0) _ (fun h => h0 ((hcond0_0 t).mp h))).2.2.2.1 _
    isplitl [H10]
    · unfold owns; iexists _; isplitr
      swap; · iexact H10
      ipureintro; exact (reads_B c (grid0.coords t) _ _ _ _ _ _ _ _ _ _ _ _ _ _ _ _ _ _ _ _ _ _ _ _ (iblk m (ok m) c 0 t) (iblk m (ok m) c 1 t) (iblk m (ok m) c 2 t) (iblk m (ok m) c 3 t) (iblk m (ok m) c 4 t) (iblk m (ok m) c 5 t) (tbl m 0) _ (fun h => h0 ((hcond0_0 t).mp h))).2.2.2.2.1 _
    unfold owns; iexists _; isplitr
    swap; · iexact H11
    ipureintro; exact (reads_B c (grid0.coords t) _ _ _ _ _ _ _ _ _ _ _ _ _ _ _ _ _ _ _ _ _ _ _ _ (iblk m (ok m) c 0 t) (iblk m (ok m) c 1 t) (iblk m (ok m) c 2 t) (iblk m (ok m) c 3 t) (iblk m (ok m) c 4 t) (iblk m (ok m) c 5 t) (tbl m 0) _ (fun h => h0 ((hcond0_0 t).mp h))).2.2.2.2.2 _

theorem defs₀_row (t : Fin (N m)) :
    defs₀ (F := F) .tc (cfgM m (ok m)).body ((cfgM m (ok m)).bodyArgs t ((cfgM m (ok m)).slots t)) = bodyAt0 (adm m (ok m)) t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-! ## The launch, and the frame -/

set_option backward.isDefEq.respectTransparency.types false in
theorem run_rest : θ_run defs (onTc (τ := τ) (main (F := F))) (s₀ m ρ) (fun r => (Pipeline.FramePost (Pipeline.pin pcfgs fun _ => adm m (ok m)) (dats m) 0 (V m)) r ∧ r.2.sem = fun _ => 0) :=
  Pipeline.θ_run_frameP (Q' := _) pcfgs (fun _ => adm m (ok m)) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

theorem run_main : θ_run defs (onTc (τ := τ) (main (F := F))) (s₀ m ρ) (Pipeline.FramePost (Pipeline.pin pcfgs fun _ => adm m (ok m)) (dats m) 0 (V m)) :=
  (θ_run defs _ _).mono (fun _ h => h.1) (run_rest m ρ)

theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (ok m) (dats m) (A_eq m) (run_main m ρ)) ((θ_run defs _ _).mono (fun _ h => h.2) (run_rest m ρ))

end Cert.Kernel6Ideal.Val
-- ==== Proof.Silu.lean ====
/-
  The logistic gate and its derivative, over the extended reals: as the hyperbolic tangent gives it and as the quotient does,
  the same at every real number.
-/
module

public import proofs.«01_k».proof.Proof.Norm

@[expose] public section

noncomputable section

namespace Cert.Silu
open Idealize.ShloMosaic

/-- The gate by the hyperbolic tangent, and by the quotient. -/
def sg (x : EReal) : EReal := ((1 / 2 : ℝ) : EReal) * Ideal.tanh (((1 / 2 : ℝ) : EReal) * x) + ((1 / 2 : ℝ) : EReal)
def lg (x : EReal) : EReal := Ideal.div ((1 : ℝ) : EReal) (((1 : ℝ) : EReal) + Ideal.exp (-x))

theorem tanh_half (x : ℝ) : 1 / 2 * Real.tanh (1 / 2 * x) + 1 / 2 = 1 / (1 + Real.exp (-x)) := by
  have h1 : Real.exp (-x) = Real.exp (-(1 / 2 * x)) * Real.exp (-(1 / 2 * x)) := by rw [← Real.exp_add]; ring_nf
  have h2 : Real.exp (1 / 2 * x) * Real.exp (-(1 / 2 * x)) = 1 := by rw [← Real.exp_add]; simp
  rw [Real.tanh_eq_sinh_div_cosh, Real.sinh_eq, Real.cosh_eq, h1]
  have ha := Real.exp_pos (1 / 2 * x)
  have hb := Real.exp_pos (-(1 / 2 * x))
  generalize Real.exp (1 / 2 * x) = a at *
  generalize Real.exp (-(1 / 2 * x)) = b at *
  have hs : a + b ≠ 0 := (add_pos ha hb).ne'
  have ht : 1 + b * b ≠ 0 := by positivity
  field_simp
  linear_combination (2 * b) * h2

theorem lg_real (x : ℝ) : lg (x : EReal) = ((1 / (1 + Real.exp (-x)) : ℝ) : EReal) := by
  rw [lg, ← EReal.coe_neg, Cert.Attn.exp_coe, ← EReal.coe_add, Cert.Attn.div_coe _ _ (by positivity)]
theorem sg_real (x : ℝ) : sg (x : EReal) = lg (x : EReal) := by
  rw [lg_real, ← tanh_half, sg, ← EReal.coe_mul]
  exact (congrArg (_ * · + _) (show Ideal.tanh ((1 / 2 * x : ℝ) : EReal) = ((Real.tanh (1 / 2 * x) : ℝ) : EReal) from rfl)).trans (by rw [← EReal.coe_mul, ← EReal.coe_add])

/-- At the infinities too: both are 0 at the lower one and 1 at the upper. -/
theorem sg_eq (x : EReal) : sg x = lg x := by
  induction x with
  | bot =>
    have h1 : sg ⊥ = ((1 / 2 : ℝ) : EReal) * (-1) + ((1 / 2 : ℝ) : EReal) := by
      rw [sg, EReal.coe_mul_bot_of_pos (by norm_num)]
      rfl
    have h2 : lg ⊥ = Ideal.div ((1 : ℝ) : EReal) (((1 : ℝ) : EReal) + ⊤) := rfl
    rw [h1, h2, EReal.coe_add_top]
    have h3 : Ideal.div ((1 : ℝ) : EReal) ⊤ = 0 := by simp [Ideal.div]
    have h4 : ((1 / 2 : ℝ) : EReal) * (-1) + ((1 / 2 : ℝ) : EReal) = ((1 / 2 * (-1) + 1 / 2 : ℝ) : EReal) := by
      rw [EReal.coe_add, EReal.coe_mul]; rfl
    rw [h3, h4]
    norm_num
  | top =>
    have h1 : sg ⊤ = ((1 / 2 : ℝ) : EReal) * 1 + ((1 / 2 : ℝ) : EReal) := by
      rw [sg, EReal.coe_mul_top_of_pos (by norm_num)]
      rfl
    have h2 : lg ⊤ = Ideal.div ((1 : ℝ) : EReal) (((1 : ℝ) : EReal) + 0) := rfl
    rw [h1, h2, add_zero, Cert.Attn.div_coe _ _ one_ne_zero, mul_one, ← EReal.coe_add]
    norm_num
  | coe r => exact sg_real r

/-- The derivative of `x · gate x` times a real number. -/
theorem grad_eq (x c : ℝ) :
    (c : EReal) * (sg (x : EReal) * (((1 : ℝ) : EReal) + (x : EReal) * (((1 : ℝ) : EReal) - sg (x : EReal))))
      = (c : EReal) * lg (x : EReal) + (x : EReal) * (c : EReal) * (lg (x : EReal) * (((1 : ℝ) : EReal) - lg (x : EReal))) := by
  rw [sg_real, lg_real]
  simp only [← EReal.coe_mul, ← EReal.coe_sub, ← EReal.coe_add]
  congr 1
  ring

/-- A sum of products of real numbers is real. -/
theorem sum_real {n : ℕ} {f g : Fin n → EReal} (hf : ∀ i, ∃ r : ℝ, f i = (r : EReal)) (hg : ∀ i, ∃ r : ℝ, g i = (r : EReal)) :
    ∃ r : ℝ, ∑ i, f i * g i = (r : EReal) := by
  choose a ha using hf
  choose b hb using hg
  refine ⟨∑ i, a i * b i, ?_⟩
  rw [Cert.Attn.coe_sum]
  exact Finset.sum_congr rfl fun i _ => by rw [ha, hb, EReal.coe_mul]

/-- A normed row is real, whatever the row. -/
theorem normed_real {n : ℕ} (x : Fin n → EReal) (d : Fin n) : ∃ r : ℝ, x d * Cert.Norm.scale x = (r : EReal) := by
  rcases Cert.Norm.row_cases x with ⟨q, hq⟩ | htop
  · have hs : ∑ e, x e * x e = ((∑ e, q e * q e : ℝ) : EReal) := by
      rw [Cert.Attn.coe_sum]
      exact Finset.sum_congr rfl fun e _ => by rw [hq e, EReal.coe_mul]
    have hl : Cert.Norm.level x = (((∑ e, q e * q e) * (1 / 1024) + Cert.Norm.ε : ℝ) : EReal) := by
      rw [Cert.Norm.level, hs, Cert.Norm.div_real, EReal.coe_add, EReal.coe_mul]
    have hpos : 0 < (∑ e, q e * q e) * (1 / 1024) + Cert.Norm.ε := by
      have := Finset.sum_nonneg fun e (_ : e ∈ Finset.univ) => mul_self_nonneg (q e)
      have := Cert.Norm.ε_pos
      positivity
    exact ⟨_, by rw [Cert.Norm.scale, hl, Ideal.rsqrt_coe, if_neg (not_lt.mpr hpos.le), if_neg hpos.ne', hq d, ← EReal.coe_mul]⟩
  · refine ⟨0, ?_⟩
    have hl : Cert.Norm.level x = ⊤ := by
      rw [Cert.Norm.level, htop, Cert.Norm.div_real, EReal.top_mul_coe_of_pos (by norm_num)]
      exact EReal.top_add_coe _
    rw [Cert.Norm.scale, hl, Ideal.rsqrt_top, mul_zero, EReal.coe_zero]

end Cert.Silu
end
-- ==== Proof.GluPoint.lean ====
/-
  The feed-forward backward call: what one block leaves, read at an index.
-/
module

public import proofs.«01_k».proof.Proof.GluRun
public import proofs.«01_k».proof.Proof.Silu

@[expose] public section

set_option maxRecDepth 16384

noncomputable section

namespace Cert.Kernel6Ideal.Val
open Cert.Kernel6Ideal Cert.Kernel6Ideal.Gen

open Idealize.ShloMosaic Idealize.ShloMosaic.TcCoe Idealize.ShloMosaic.Tactic Idealize.SL.Sem
open Idealize.ShloMosaic.Pipeline
open Cert.Norm (scale level ε)
open Cert.Silu (sg lg)

theorem size : (Ideal.ofBits FTy.f32 0x44800000#32 : EReal) = ((1024 : ℝ) : EReal) := by
  simp [Ideal.ofBits, Ideal.ieee]
  rw [← EReal.coe_mul]
  norm_num
theorem eps : (Ideal.ofBits FTy.f32 0x358637BD#32 : EReal) = ((ε : ℝ) : EReal) := by
  simp [Ideal.ofBits, Ideal.ieee, ε]
  rw [← EReal.coe_mul]
  norm_num
theorem half : (Ideal.ofBits FTy.f32 0x3F000000#32 : EReal) = ((1 / 2 : ℝ) : EReal) := by
  simp [Ideal.ofBits, Ideal.ieee]
  rw [← EReal.coe_mul]
  norm_num
theorem one : (Ideal.ofBits FTy.f32 0x3F800000#32 : EReal) = ((1 : ℝ) : EReal) := by
  simp [Ideal.ofBits, Ideal.ieee]
  rw [← EReal.coe_mul]
  norm_num

variable (x0 : Vec Ideal S256x1024 .f32) (x1 : Vec Ideal S1x1024 .f32) (x2 : Vec Ideal S256x1024 .f32) (x3 : Vec Ideal S256x5632 .bf16)
  (x4 : Vec Ideal S1x4x1024x1408 .bf16) (x5 : Vec Ideal S1x2816x1024 .bf16) (xo : Vec Ideal S1x1024 .f32)

/-! ## The gates -/

theorem gt_at (s : Fin 256) (j : Fin 2816) : (gt x3 (ix2 s j) : EReal) = x3 (ix2 s ⟨j.val, by omega⟩) :=
  View.ld_unit_apply_of (Val := Elt Ideal) x3 ![0, 0] ![256, 2816] inb_S256x5632_S256x2816_0_0 (ix2 s j) (ix2 s ⟨j.val, by omega⟩) fun a => by
    fin_cases a
    · exact (Nat.zero_add _).symm
    · exact (Nat.zero_add _).symm
theorem up_at (s : Fin 256) (j : Fin 2816) : (up x3 (ix2 s j) : EReal) = x3 (ix2 s ⟨2816 + j.val, by omega⟩) :=
  View.ld_unit_apply_of (Val := Elt Ideal) x3 ![0, 2816] ![256, 2816] inb_S256x5632_S256x2816_0_2816 (ix2 s j) (ix2 s ⟨2816 + j.val, by omega⟩) fun a => by
    fin_cases a
    · exact (Nat.zero_add _).symm
    · rfl

theorem gate_at (x : Vec Ideal S256x2816 .bf16) (s : Fin 256) (j : Fin 2816) : (k0_pay7 x (ix2 s j) : EReal) = sg (x (ix2 s j)) := by
  pointwise [k0_pay7, k0_pay5]
  rw [half]
  rfl

theorem dact_at (d : Vec Ideal S256x1024 .bf16) (w : Vec Ideal S1x2816x1024 .bf16) (s : Fin 256) (j : Fin 2816) :
    (k0_pay4 d w (ix2 s j) : EReal) = ∑ e, d (ix2 s e) * w (ix3 0 j e) := by
  pointwise [k0_pay4]

/-- The gated values' gradient of a block. -/
def dact (s : Fin 256) (j : Fin 2816) : EReal := ∑ e, x2 (ix2 s e) * x5 (ix3 0 j e)

theorem dact_eq (s : Fin 256) (j : Fin 2816) : (k0_pay4 (k0_pay3 x2) x5 (ix2 s j) : EReal) = dact x2 x5 s j :=
  (dact_at _ _ s j).trans (Finset.sum_congr rfl fun e _ => congrArg (· * _) (by pointwise [k0_pay3]))

theorem payGt_at (s : Fin 256) (j : Fin 2816) : (payGt x2 x3 x5 (ix2 s j) : EReal)
    = dact x2 x5 s j * up x3 (ix2 s j) * (sg (gt x3 (ix2 s j)) * (((1 : ℝ) : EReal) + gt x3 (ix2 s j) * (((1 : ℝ) : EReal) - sg (gt x3 (ix2 s j))))) := by
  rw [← dact_eq, ← gate_at, ← one]
  unfold payGt k0_pay13 k0_pay10 k0_pay11 k0_pay12 k0_pay6 k0_pay5
  pointwise []
theorem payUp_at (s : Fin 256) (j : Fin 2816) : (payUp x2 x3 x5 (ix2 s j) : EReal) = dact x2 x5 s j * (gt x3 (ix2 s j) * sg (gt x3 (ix2 s j))) := by
  rw [← dact_eq, ← gate_at]
  unfold payUp k0_pay14 k0_pay8 k0_pay5
  pointwise []
theorem payA_at (s : Fin 256) (j : Fin 2816) : (payA x3 (ix2 s j) : EReal) = gt x3 (ix2 s j) * sg (gt x3 (ix2 s j)) * up x3 (ix2 s j) := by
  rw [← gate_at]
  unfold payA k0_pay9 k0_pay8 k0_pay6 k0_pay5
  pointwise []

/-! ## The projection's gradient, the two halves side by side -/

def bothU (I : S256x5632.Idx) : EReal :=
  if h : (I 1).val < 2816 then payGt x2 x3 x5 (ix2 (I 0) ⟨(I 1).val, h⟩)
  else payUp x2 x3 x5 (ix2 (I 0) ⟨(I 1).val - 2816, by have : (I 1).val < 5632 := (I 1).isLt; omega⟩)

theorem payU_eq : (payU x2 x3 x5 : S256x5632.Idx → EReal) = bothU x2 x3 x5 := by
  funext y
  refine View.canon_apply_of_pieces (Val := Elt Ideal) (S := S256x5632) (e := .bf16) (bothU x2 x3 x5) _ (fun p hp x => ?_) y
    (View.cover_of_tiledL _ ![256, 2816] (by sl_kernel_rfl) y)
  rcases List.mem_cons.mp hp with rfl | hp
  · have h1 : ((Rect.unit (s := S256x5632) ![0, 2816] ![256, 2816] inb_S256x5632_S256x2816_0_2816).emb x 1).val = 2816 + (x 1).val := Rect.idx_unit_val _ _ _ x 1
    have h0 : ((Rect.unit (s := S256x5632) ![0, 2816] ![256, 2816] inb_S256x5632_S256x2816_0_2816).emb x 0).val = 0 + (x 0).val := Rect.idx_unit_val _ _ _ x 0
    refine Eq.trans ?_ (dif_neg (by rw [h1]; omega)).symm
    refine congrArg (payUp x2 x3 x5) (funext fun a => ?_)
    fin_cases a
    · exact Fin.ext (h0.trans (Nat.zero_add _)).symm
    · exact Fin.ext (show (x 1).val = _ - 2816 by rw [h1]; omega)
  · obtain rfl := List.mem_singleton.mp hp
    have h1 : ((Rect.unit (s := S256x5632) ![0, 0] ![256, 2816] inb_S256x5632_S256x2816_0_0).emb x 1).val = 0 + (x 1).val := Rect.idx_unit_val _ _ _ x 1
    have h0 : ((Rect.unit (s := S256x5632) ![0, 0] ![256, 2816] inb_S256x5632_S256x2816_0_0).emb x 0).val = 0 + (x 0).val := Rect.idx_unit_val _ _ _ x 0
    have hx : (x 1).val < 2816 := (x 1).isLt
    refine Eq.trans ?_ (dif_pos (by rw [h1]; omega)).symm
    refine congrArg (payGt x2 x3 x5) (funext fun a => ?_)
    fin_cases a
    · exact Fin.ext (h0.trans (Nat.zero_add _)).symm
    · exact Fin.ext (h1.trans (Nat.zero_add _)).symm

/-! ## The normed rows' gradient, a quarter of the columns at a time -/

/-- A sum over the columns is the four quarters' sums, added from the left. -/
theorem sum_quarters (f : Fin 5632 → EReal) :
    (∑ j : Fin 1408, f ⟨0 + j.val, by omega⟩) + (∑ j : Fin 1408, f ⟨1408 + j.val, by omega⟩) + (∑ j : Fin 1408, f ⟨2816 + j.val, by omega⟩)
      + (∑ j : Fin 1408, f ⟨4224 + j.val, by omega⟩) = ∑ j, f j := by
  refine ((Fin.sum_univ_add (a := 4224) (b := 1408) f).trans (congrArg (· + _) ?_)).symm
  refine (Fin.sum_univ_add (a := 2816) (b := 1408) fun j : Fin (2816 + 1408) => f ⟨j.val, by omega⟩).trans (congrArg (· + _) ?_)
  refine (Fin.sum_univ_add (a := 1408) (b := 1408) fun j : Fin (1408 + 1408) => f ⟨j.val, by omega⟩).trans (congrArg (· + _) ?_)
  exact Finset.sum_congr rfl fun j _ => congrArg f (Fin.ext (Nat.zero_add _).symm)

theorem ldU (u : Vec Ideal S256x5632 .bf16) (k : ℕ) (hk : k + 1408 ≤ 5632) (inb) (s : Fin 256) (j : Fin 1408) :
    (View.ld (Val := Elt Ideal) (e' := .bf16) u (Rect.unit ![0, k] ![256, 1408] inb) (ix2 s j) : EReal) = u (ix2 s ⟨k + j.val, by omega⟩) :=
  View.ld_unit_apply_of (Val := Elt Ideal) u ![0, k] ![256, 1408] inb (ix2 s j) (ix2 s ⟨k + j.val, by omega⟩) fun a => by
    fin_cases a
    · exact (Nat.zero_add _).symm
    · rfl
theorem ldW (k : Fin 4) (inb) (d : Fin 1024) (j : Fin 1408) :
    (View.ld (Val := Elt Ideal) (e' := .bf16) x4 (Rect.unit ![0, k.val, 0, 0] ![1, 1, 1024, 1408] inb) (ix4 0 0 d j) : EReal) = x4 (ix4 0 k d j) :=
  View.ld_unit_apply_of (Val := Elt Ideal) x4 ![0, k.val, 0, 0] ![1, 1, 1024, 1408] inb (ix4 0 0 d j) (ix4 0 k d j) fun a => by
    fin_cases a
    · rfl
    · rfl
    · exact (Nat.zero_add _).symm
    · exact (Nat.zero_add _).symm

theorem three_at (a : Vec Ideal S256x1408 .bf16) (wa : Vec Ideal S1x1x1024x1408 .bf16) (b : Vec Ideal S256x1408 .bf16) (wb : Vec Ideal S1x1x1024x1408 .bf16)
    (e : Vec Ideal S256x1408 .bf16) (we : Vec Ideal S1x1x1024x1408 .bf16) (s : Fin 256) (d : Fin 1024) :
    (k0_pay15 a wa b wb e we (ix2 s d) : EReal)
      = (∑ j, a (ix2 s j) * wa (ix4 0 0 d j)) + (∑ j, b (ix2 s j) * wb (ix4 0 0 d j)) + ∑ j, e (ix2 s j) * we (ix4 0 0 d j) := by
  pointwise [k0_pay15]
theorem four_at (p : FVec Ideal S256x1024 .f32) (a : Vec Ideal S256x1408 .bf16) (wa : Vec Ideal S1x1x1024x1408 .bf16) (s : Fin 256) (d : Fin 1024) :
    (k0_pay17 p (k0_pay16 a) wa (ix2 s d) : EReal) = p (ix2 s d) + ∑ j, a (ix2 s j) * wa (ix4 0 0 d j) := by
  pointwise [k0_pay17, k0_pay16]

/-- The weight's column `j`, where the block keeps it. -/
def col (d : Fin 1024) (j : Fin 5632) : EReal := x4 (ix4 0 ⟨j.val / 1408, by omega⟩ d ⟨j.val % 1408, Nat.mod_lt _ (by decide)⟩)

theorem col_quarter (k : Fin 4) (d : Fin 1024) (j : Fin 1408) (h) : col x4 d ⟨1408 * k.val + j.val, h⟩ = x4 (ix4 0 k d j) := by
  unfold col
  congr 2
  · refine Fin.ext ?_
    show (1408 * k.val + j.val) / 1408 = k.val
    omega
  · refine Fin.ext ?_
    show (1408 * k.val + j.val) % 1408 = j.val
    omega

theorem dh_at (u : Vec Ideal S256x5632 .bf16) (s : Fin 256) (d : Fin 1024) :
    (k0_pay17 (threeQ x4 u) (lastU u) (lastW x4) (ix2 s d) : EReal) = ∑ j, u (ix2 s j) * col x4 d j := by
  rw [← sum_quarters]
  refine (four_at _ _ _ s d).trans (congrArg₂ (· + ·) ((three_at _ _ _ _ _ _ s d).trans (congrArg₂ (· + ·) (congrArg₂ (· + ·) ?_ ?_) ?_)) ?_)
  · exact Finset.sum_congr rfl fun j _ => congrArg₂ (· * ·) (ldU u 0 (by omega) _ s j) ((ldW x4 0 _ d j).trans (col_quarter x4 0 d j _).symm)
  · exact Finset.sum_congr rfl fun j _ => congrArg₂ (· * ·) (ldU u 1408 (by omega) _ s j) ((ldW x4 1 _ d j).trans (col_quarter x4 1 d j _).symm)
  · exact Finset.sum_congr rfl fun j _ => congrArg₂ (· * ·) (ldU u 2816 (by omega) _ s j) ((ldW x4 2 _ d j).trans (col_quarter x4 2 d j _).symm)
  · exact Finset.sum_congr rfl fun j _ => congrArg₂ (· * ·) (ldU u 4224 (by omega) _ s j) ((ldW x4 3 _ d j).trans (col_quarter x4 3 d j _).symm)

/-! ## The norm -/

theorem r_at (s : Fin 256) : (k0_pay18 x0 (ix2 s 0) : EReal) = scale fun e => x0 (ix2 s e) := by
  pointwise [k0_pay18]
  rw [size, eps]
  rfl
theorem xhat_at (s : Fin 256) (d : Fin 1024) : (k0_pay19 x0 (ix2 s d) : EReal) = x0 (ix2 s d) * scale fun e => x0 (ix2 s e) := by
  rw [← r_at]
  unfold k0_pay19
  pointwise []
theorem payH_at (s : Fin 256) (d : Fin 1024) : (payH x0 x1 (ix2 s d) : EReal) = x0 (ix2 s d) * (scale fun e => x0 (ix2 s e)) * x1 (ix2 0 d) := by
  rw [← xhat_at]
  unfold payH k0_pay20
  pointwise []
theorem payD_at (s : Fin 256) (d : Fin 1024) : (payD x2 (ix2 s d) : EReal) = x2 (ix2 s d) := by
  unfold payD k0_pay3
  pointwise []

theorem dx_at (p : FVec Ideal S256x1024 .f32) (q : FVec Ideal S256x1408 .bf16) (w : Vec Ideal S1x1x1024x1408 .bf16) (s : Fin 256) (d : Fin 1024) :
    (k0_pay1 x2 (k0_pay22 p q w x0 x1) (k0_pay23 x0) (ix2 s d) : EReal)
      = x2 (ix2 s d) + k0_pay18 x0 (ix2 s 0) * (k0_pay17 p q w (ix2 s d) * x1 (ix2 0 d)
          - k0_pay19 x0 (ix2 s d) * Ideal.div (∑ e, k0_pay19 x0 (ix2 s e) * (k0_pay17 p q w (ix2 s e) * x1 (ix2 0 e))) ((1024 : ℝ) : EReal)) := by
  unfold k0_pay1 k0_pay22 k0_pay23
  pointwise []
  rw [size]
theorem dg_at (p : FVec Ideal S256x1024 .f32) (q : FVec Ideal S256x1408 .bf16) (w : Vec Ideal S1x1x1024x1408 .bf16) (d : Fin 1024) :
    (k0_pay21 p q w x0 xo (ix2 0 d) : EReal) = xo (ix2 0 d) + ∑ s, k0_pay17 p q w (ix2 s d) * k0_pay19 x0 (ix2 s d) := by
  unfold k0_pay21
  pointwise []
theorem zero_at (d : Fin 1024) : (k0_pay2 (F := Ideal) (ix2 0 d) : EReal) = 0 := by
  pointwise [k0_pay2]

end Cert.Kernel6Ideal.Val
end
-- ==== Proof.GluArr.lean ====
/-
  The six arrays the feed-forward backward call leaves, of the arguments.
-/
module

public import proofs.«01_k».proof.Proof.GluPoint

@[expose] public section

set_option maxRecDepth 16384

noncomputable section

namespace Cert.Kernel6Ideal.Val
open Cert.Kernel6Ideal Cert.Kernel6Ideal.Gen

open Idealize.ShloMosaic Idealize.ShloMosaic.TcCoe Idealize.ShloMosaic.Tactic Idealize.SL.Sem
open Idealize.ShloMosaic.Pipeline
open Cert.Norm (scale level ε)
open Cert.Silu (sg lg)

/-! ## The call's results, of its arguments -/

section Spec
variable (x : S4096x1024.Idx → EReal) (g : S1x1024.Idx → EReal) (w1 : S1024x5632.Idx → EReal) (w2 : S2816x1024.Idx → EReal) (ct : S4096x1024.Idx → EReal)

/-- A token's scale, its normed row, and the projection of that. -/
abbrev sc (s : Fin 4096) : EReal := scale fun e => x (ix2 s e)
def hid (s : Fin 4096) (d : Fin 1024) : EReal := x (ix2 s d) * sc x s * g (ix2 0 d)
def proj (s : Fin 4096) (j : Fin 5632) : EReal := ∑ d, hid x g s d * w1 (ix2 d j)
abbrev gate (s : Fin 4096) (j : Fin 2816) : EReal := proj x g w1 s ⟨j.val, by omega⟩
abbrev value (s : Fin 4096) (j : Fin 2816) : EReal := proj x g w1 s ⟨2816 + j.val, by omega⟩

/-- The gradients of the gated values, of the gates, of what they multiply, of the projection and of the normed rows. -/
def dAct (s : Fin 4096) (j : Fin 2816) : EReal := ∑ e, ct (ix2 s e) * w2 (ix2 j e)
def dGate (s : Fin 4096) (j : Fin 2816) : EReal :=
  dAct w2 ct s j * value x g w1 s j * (sg (gate x g w1 s j) * (((1 : ℝ) : EReal) + gate x g w1 s j * (((1 : ℝ) : EReal) - sg (gate x g w1 s j))))
def dValue (s : Fin 4096) (j : Fin 2816) : EReal := dAct w2 ct s j * (gate x g w1 s j * sg (gate x g w1 s j))
def dProj (I : S4096x5632.Idx) : EReal :=
  if h : (I 1).val < 2816 then dGate x g w1 w2 ct (I 0) ⟨(I 1).val, h⟩
  else dValue x g w1 w2 ct (I 0) ⟨(I 1).val - 2816, by have : (I 1).val < 5632 := (I 1).isLt; omega⟩
def dHid (s : Fin 4096) (d : Fin 1024) : EReal := ∑ j, dProj x g w1 w2 ct (ix2 s j) * w1 (ix2 d j)

/-- The gradient of the stream and of the norm's weight, the gated values and the normed rows. -/
def gradX (I : S4096x1024.Idx) : EReal :=
  ct (ix2 (I 0) (I 1)) + sc x (I 0) * (dHid x g w1 w2 ct (I 0) (I 1) * g (ix2 0 (I 1))
    - x (ix2 (I 0) (I 1)) * sc x (I 0) * Ideal.div (∑ e, x (ix2 (I 0) e) * sc x (I 0) * (dHid x g w1 w2 ct (I 0) e * g (ix2 0 e))) ((1024 : ℝ) : EReal))
def gradG (I : S1x1024.Idx) : EReal := ∑ s : Fin 4096, dHid x g w1 w2 ct s (I 1) * (x (ix2 s (I 1)) * sc x s)
def acts (I : S4096x2816.Idx) : EReal := gate x g w1 (I 0) (I 1) * sg (gate x g w1 (I 0) (I 1)) * value x g w1 (I 0) (I 1)
def hids (I : S4096x1024.Idx) : EReal := hid x g (I 0) (I 1)
end Spec

/-! ## The arguments and the host's operands -/

variable (m : (ℓ : Loc nD τ sig) → Buf (Elt Ideal) ℓ) (c : Dev nD)

/-- The stream, the norm's weight, the two weights, the cotangent. -/
abbrev aX : S4096x1024.Idx → EReal := m ((c : Thread nD τ).loc main_arg0)
abbrev aG : S1x1024.Idx → EReal := m ((c : Thread nD τ).loc main_arg1)
abbrev aW1 : S1024x5632.Idx → EReal := m ((c : Thread nD τ).loc main_arg2)
abbrev aW2 : S2816x1024.Idx → EReal := m ((c : Thread nD τ).loc main_arg3)
abbrev aT : S4096x1024.Idx → EReal := m ((c : Thread nD τ).loc main_arg4)

section Host
variable (x : Vec Ideal S4096x1024 .f32) (g : Vec Ideal S1x1024 .f32) (w1 : Vec Ideal S1024x5632 .f32) (w2 : Vec Ideal S2816x1024 .f32)

abbrev oScale : Vec Ideal S4096x1 .f32 :=
  Host.rsqrt (F := Ideal) (φ := .f32) (addf (F := Ideal) (φ := .f32) (Host.divf (F := Ideal) (φ := .f32) (broadcastInDim S4096x1 ![0] bcast_S4096_S4096x1_0 (Host.reduceAdd (F := Ideal) (φ := .f32) (mulf (F := Ideal) (φ := .f32) x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))
abbrev oHid : Vec Ideal S4096x1024 .f32 :=
  mulf (F := Ideal) (φ := .f32) (mulf (F := Ideal) (φ := .f32) x (broadcastInDim S4096x1024 ![0, 1] bcast_S4096x1_S4096x1024_0_1 (oScale x))) (broadcastInDim S4096x1024 ![0, 1] bcast_S1x1024_S4096x1024_0_1 g)
abbrev oMul (h : Vec Ideal S4096x1024 .f32) : Vec Ideal S4096x5632 .bf16 :=
  truncf (F := Ideal) .bf16 (Host.dotGeneral (F := Ideal) (φ₁ := .f32) (φ₂ := .f32) dot_S4096x1024_S1024x5632_S4096x5632_1_0_0_1_n_n none h w1) bitsLt_bf16_f32
abbrev oU : Vec Ideal S4096x5632 .bf16 :=
  oMul w1 (oHid x g)
abbrev oW1 : Vec Ideal S1x4x1024x1408 .bf16 :=
  broadcastInDim S1x4x1024x1408 ![1, 2, 3] bcast_S4x1024x1408_S1x4x1024x1408_1_2_3 (transpose S4x1024x1408 [1, 0, 2] (shapeCast S1024x4x1408 (truncf (F := Ideal) .bf16 w1 bitsLt_bf16_f32) shapeCasts_S1024x5632_S1024x4x1408) transposes_S1024x4x1408_S4x1024x1408_1_0_2)
abbrev oW2 : Vec Ideal S1x2816x1024 .bf16 := broadcastInDim S1x2816x1024 ![1, 2] bcast_S2816x1024_S1x2816x1024_1_2 (truncf (F := Ideal) .bf16 w2 bitsLt_bf16_f32)

theorem oHid_at (s : Fin 4096) (d : Fin 1024) : (oHid x g (ix2 s d) : EReal) = hid x g s d := by
  pointwise []
  simp only [size, eps]
  rfl
theorem oMul_at (h : Vec Ideal S4096x1024 .f32) (s : Fin 4096) (j : Fin 5632) : (oMul w1 h (ix2 s j) : EReal) = ∑ d, h (ix2 s d) * w1 (ix2 d j) := by
  pointwise []
theorem oU_at (s : Fin 4096) (j : Fin 5632) : (oU x g w1 (ix2 s j) : EReal) = proj x g w1 s j := by
  refine (oMul_at _ _ s j).trans ?_
  simp only [oHid_at]
  rfl
theorem oW2_at (j : Fin 2816) (e : Fin 1024) : (oW2 w2 (ix3 0 j e) : EReal) = w2 (ix2 j e) := by
  pointwise []
theorem oW1_at (k : Fin 4) (d : Fin 1024) (j : Fin 1408) : (oW1 w1 (ix4 0 k d j) : EReal) = w1 (ix2 d ⟨k.val * 1408 + j.val, by omega⟩) := by
  pointwise []
end Host

theorem V_v13 : V m c main_v13 = oU (aX m c) (aG m c) (aW1 m c) := by
  simp only [V, hostOps0, List.flatten_cons, List.flatten_nil, List.append_nil, List.cons_append, List.nil_append]
  after_results_simp <;> rfl
theorem V_v17 : V m c main_v17 = oW1 (aW1 m c) := by
  simp only [V, hostOps0, List.flatten_cons, List.flatten_nil, List.append_nil, List.cons_append, List.nil_append]
  after_results_simp <;> rfl
theorem V_v19 : V m c main_v19 = oW2 (aW2 m c) := by
  simp only [V, hostOps0, List.flatten_cons, List.flatten_nil, List.append_nil, List.cons_append, List.nil_append]
  after_results_simp <;> rfl

/-! ## The blocks -/

theorem index0 : ∀ t : Fin (N m), ((cfgM m (ok m)).win 0).index t = ![t.val, 0] := (by decide +kernel : ∀ t : Fin grid0.N, cc0_transform_0 (grid0.coords t) = ![t.val, 0])
theorem index1 : ∀ t : Fin (N m), ((cfgM m (ok m)).win 1).index t = ![0, 0] := (by decide +kernel : ∀ t : Fin grid0.N, cc0_transform_1 (grid0.coords t) = ![0, 0])
theorem index2 : ∀ t : Fin (N m), ((cfgM m (ok m)).win 2).index t = ![t.val, 0] := (by decide +kernel : ∀ t : Fin grid0.N, cc0_transform_2 (grid0.coords t) = ![t.val, 0])
theorem index3 : ∀ t : Fin (N m), ((cfgM m (ok m)).win 3).index t = ![t.val, 0] := (by decide +kernel : ∀ t : Fin grid0.N, cc0_transform_3 (grid0.coords t) = ![t.val, 0])
theorem index4 (t : Fin (N m)) : ((cfgM m (ok m)).win 4).index t = ![0, 0, 0, 0] := by
  show cc0_transform_4 inb_S1_S1_0 numel1_S1 (tbl m) (grid0.coords t) = _
  rw [tbl_eq]
  rfl
theorem index5 (t : Fin (N m)) : ((cfgM m (ok m)).win 5).index t = ![0, 0, 0] := by
  show cc0_transform_5 inb_S1_S1_0 numel1_S1 (tbl m) (grid0.coords t) = _
  rw [tbl_eq]
  rfl
theorem index6 : ∀ t : Fin (N m), ((cfgM m (ok m)).win 6).index t = ![t.val, 0] := (by decide +kernel : ∀ t : Fin grid0.N, cc0_transform_6 (grid0.coords t) = ![t.val, 0])
theorem index7 : ∀ t : Fin (N m), ((cfgM m (ok m)).win 7).index t = ![t.val, 0] := (by decide +kernel : ∀ t : Fin grid0.N, cc0_transform_7 (grid0.coords t) = ![t.val, 0])
theorem index8 : ∀ t : Fin (N m), ((cfgM m (ok m)).win 8).index t = ![t.val, 0] := (by decide +kernel : ∀ t : Fin grid0.N, cc0_transform_8 (grid0.coords t) = ![t.val, 0])
theorem index9 : ∀ t : Fin (N m), ((cfgM m (ok m)).win 9).index t = ![t.val, 0] := (by decide +kernel : ∀ t : Fin grid0.N, cc0_transform_9 (grid0.coords t) = ![t.val, 0])
theorem index10 : ∀ t : Fin (N m), ((cfgM m (ok m)).win 10).index t = ![t.val, 0] := (by decide +kernel : ∀ t : Fin grid0.N, cc0_transform_10 (grid0.coords t) = ![t.val, 0])
theorem index11 : ∀ t : Fin (N m), ((cfgM m (ok m)).win 11).index t = ![0, 0] := (by decide +kernel : ∀ t : Fin grid0.N, cc0_transform_11 (grid0.coords t) = ![0, 0])

abbrev b0 (t : Fin (N m)) : Vec Ideal S256x1024 .f32 := iblk m (ok m) c 0 t
abbrev b1 (t : Fin (N m)) : Vec Ideal S1x1024 .f32 := iblk m (ok m) c 1 t
abbrev b2 (t : Fin (N m)) : Vec Ideal S256x1024 .f32 := iblk m (ok m) c 2 t
abbrev b3 (t : Fin (N m)) : Vec Ideal S256x5632 .bf16 := iblk m (ok m) c 3 t
abbrev b4 (t : Fin (N m)) : Vec Ideal S1x4x1024x1408 .bf16 := iblk m (ok m) c 4 t
abbrev b5 (t : Fin (N m)) : Vec Ideal S1x2816x1024 .bf16 := iblk m (ok m) c 5 t

/-- The token that row `s` of a block is. -/
def tok (t : Fin (N m)) (s : Fin 256) : Fin 4096 := ⟨256 * t.val + s.val, by
  have : t.val < 16 := lt_of_lt_of_eq t.isLt (N_eq m)
  omega⟩

/-- Where a block's row lies: the block's place times its size, and the row. -/
theorem place {i k n s r : ℕ} (h : i = k) (e : k * n + s = r) : i * n + s = r := h ▸ e

theorem b0_at (t : Fin (N m)) (s : Fin 256) (d : Fin 1024) : (b0 m c t (ix2 s d) : EReal) = aX m c (ix2 (tok m t s) d) := by
  refine Eq.trans ?_ (congrFun (V_main_arg0 m c) _)
  blk_simp [iblk]
  refine congrArg (V m c main_arg0) ?_
  blk_ext [tok]
  · exact place (congrFun (index0 m t) (0 : Fin 2)) (by show t.val * 256 + s.val = 256 * t.val + s.val; omega)
  · exact place (congrFun (index0 m t) (1 : Fin 2)) (by simp)
theorem b1_at (t : Fin (N m)) (d : Fin 1024) : (b1 m c t (ix2 0 d) : EReal) = aG m c (ix2 0 d) := by
  refine Eq.trans ?_ (congrFun (V_main_arg1 m c) _)
  blk_simp [iblk]
  refine congrArg (V m c main_arg1) ?_
  blk_ext []
  · exact (Nat.add_zero _).trans (congrFun (index1 m t) (0 : Fin 2))
  · exact place (congrFun (index1 m t) (1 : Fin 2)) (by simp)
theorem b2_at (t : Fin (N m)) (s : Fin 256) (d : Fin 1024) : (b2 m c t (ix2 s d) : EReal) = aT m c (ix2 (tok m t s) d) := by
  refine Eq.trans ?_ (congrFun (V_main_arg4 m c) _)
  blk_simp [iblk]
  refine congrArg (V m c main_arg4) ?_
  blk_ext [tok]
  · exact place (congrFun (index2 m t) (0 : Fin 2)) (by show t.val * 256 + s.val = 256 * t.val + s.val; omega)
  · exact place (congrFun (index2 m t) (1 : Fin 2)) (by simp)
theorem b3_at (t : Fin (N m)) (s : Fin 256) (j : Fin 5632) : (b3 m c t (ix2 s j) : EReal) = proj (aX m c) (aG m c) (aW1 m c) (tok m t s) j := by
  refine Eq.trans ?_ ((congrFun (V_v13 m c) _).trans (oU_at _ _ _ (tok m t s) j))
  blk_simp [iblk]
  refine congrArg (V m c main_v13) ?_
  blk_ext [tok]
  · exact place (congrFun (index3 m t) (0 : Fin 2)) (by show t.val * 256 + s.val = 256 * t.val + s.val; omega)
  · exact place (congrFun (index3 m t) (1 : Fin 2)) (by simp)
theorem b4_at (t : Fin (N m)) (k : Fin 4) (d : Fin 1024) (j : Fin 1408) : (b4 m c t (ix4 0 k d j) : EReal) = aW1 m c (ix2 d ⟨k.val * 1408 + j.val, by omega⟩) := by
  refine Eq.trans ?_ ((congrFun (V_v17 m c) _).trans (oW1_at _ k d j))
  blk_simp [iblk]
  refine congrArg (V m c main_v17) ?_
  blk_ext []
  · exact (Nat.add_zero _).trans (congrFun (index4 m t) (0 : Fin 4))
  · exact place (congrFun (index4 m t) (1 : Fin 4)) (by simp)
  · exact place (congrFun (index4 m t) (2 : Fin 4)) (by simp)
  · exact place (congrFun (index4 m t) (3 : Fin 4)) (by simp)
theorem b5_at (t : Fin (N m)) (j : Fin 2816) (e : Fin 1024) : (b5 m c t (ix3 0 j e) : EReal) = aW2 m c (ix2 j e) := by
  refine Eq.trans ?_ ((congrFun (V_v19 m c) _).trans (oW2_at _ j e))
  blk_simp [iblk]
  refine congrArg (V m c main_v19) ?_
  blk_ext []
  · exact (Nat.add_zero _).trans (congrFun (index5 m t) (0 : Fin 3))
  · exact place (congrFun (index5 m t) (1 : Fin 3)) (by simp)
  · exact place (congrFun (index5 m t) (2 : Fin 3)) (by simp)

/-! ## The arrays after the launch -/

/-- Blocks of 256 rows, one a point and each written back, cover an array of 4096. -/
theorem rows_covered (n : ℕ) (hn : 0 < n) (ix : Fin grid0.N → Fin 2 → ℕ) (hix : ∀ t, ix t = ![t.val, 0]) (fl : Fin grid0.N → Bool) (hfl : ∀ t, fl t = true)
    (xs : Fin grid0.N → Fin 2 → ℕ) (hxs : ∀ t, xs t = ![256, n]) :
    (∀ a : Fin 2, 0 < (![256, n] : Fin 2 → ℕ) a) ∧ ∀ β : (a : Fin 2) → Fin (((![4096, n] : Fin 2 → ℕ) a + (![256, n] : Fin 2 → ℕ) a - 1) / (![256, n] : Fin 2 → ℕ) a),
      ∃ t : Fin grid0.N, fl t = true ∧ ∀ a, ix t a = β a ∧ (xs t a = (![256, n] : Fin 2 → ℕ) a ∨ (![4096, n] : Fin 2 → ℕ) a ≤ ix t a * (![256, n] : Fin 2 → ℕ) a + xs t a) := by
  refine ⟨fun a => ?_, fun β => ⟨⟨(β 0).val, lt_of_lt_of_eq (β 0).isLt (by decide : (4096 + 256 - 1) / 256 = grid0.N)⟩, hfl _, fun a => ⟨?_, Or.inl (congrFun (hxs _) a)⟩⟩⟩
  · match a with
    | 0 => exact (by decide : 0 < 256)
    | 1 => exact hn
  · refine (congrFun (hix _) a).trans ?_
    have h1 : (n + n - 1) / n = 1 := Nat.div_eq_of_lt_le (by omega) (by omega)
    match a with
    | 0 => rfl
    | 1 => exact (Nat.lt_one_iff.mp (lt_of_lt_of_eq (β 1).isLt h1)).symm

theorem covers6 : ((cfgM m (ok m)).win 6).Covers :=
  rows_covered 1024 (by decide) _ (index6 m) _ (flush0_6 _) _ fun _ => funext fun a => match a with | ⟨0, _⟩ => rfl | ⟨1, _⟩ => rfl
theorem covers7 : ((cfgM m (ok m)).win 7).Covers :=
  rows_covered 5632 (by decide) _ (index7 m) _ (flush0_7 _) _ fun _ => funext fun a => match a with | ⟨0, _⟩ => rfl | ⟨1, _⟩ => rfl
theorem covers8 : ((cfgM m (ok m)).win 8).Covers :=
  rows_covered 2816 (by decide) _ (index8 m) _ (flush0_8 _) _ fun _ => funext fun a => match a with | ⟨0, _⟩ => rfl | ⟨1, _⟩ => rfl
theorem covers9 : ((cfgM m (ok m)).win 9).Covers :=
  rows_covered 1024 (by decide) _ (index9 m) _ (flush0_9 _) _ fun _ => funext fun a => match a with | ⟨0, _⟩ => rfl | ⟨1, _⟩ => rfl
theorem covers10 : ((cfgM m (ok m)).win 10).Covers :=
  rows_covered 1024 (by decide) _ (index10 m) _ (flush0_10 _) _ fun _ => funext fun a => match a with | ⟨0, _⟩ => rfl | ⟨1, _⟩ => rfl
theorem covers11 : ((cfgM m (ok m)).win 11).Covers :=
  ⟨(by decide : ∀ a : Fin 2, 0 < (![1, 1024] : Fin 2 → ℕ) a), fun β => ⟨(⟨15, by decide⟩ : Fin grid0.N), (flush0_11 _ _).mpr rfl,
    fun a => ⟨(congrFun (index11 m _) a).trans (match a with
      | ⟨0, _⟩ => (Nat.lt_one_iff.mp (lt_of_lt_of_eq (β (0 : Fin 2)).isLt (by decide : (1 + 1 - 1) / 1 = 1))).symm
      | ⟨1, _⟩ => (Nat.lt_one_iff.mp (lt_of_lt_of_eq (β (1 : Fin 2)).isLt (by decide : (1024 + 1024 - 1) / 1024 = 1))).symm),
      Or.inl (match a with | ⟨0, _⟩ => rfl | ⟨1, _⟩ => rfl)⟩⟩⟩

/-! What a point computes, of its tokens. -/

theorem scale_blk (t : Fin (N m)) (s : Fin 256) : (scale fun e => (b0 m c t (ix2 s e) : EReal)) = sc (aX m c) (tok m t s) :=
  congrArg scale (funext fun e => b0_at m c t s e)
theorem dact_blk (t : Fin (N m)) (s : Fin 256) (j : Fin 2816) : dact (b2 m c t) (b5 m c t) s j = dAct (aW2 m c) (aT m c) (tok m t s) j := by
  simp only [dact, b2_at, b5_at, dAct]
theorem col_blk (t : Fin (N m)) (d : Fin 1024) (j : Fin 5632) : col (b4 m c t) d j = aW1 m c (ix2 d j) := by
  refine (b4_at m c t _ d _).trans (congrArg (fun k => aW1 m c (ix2 d k)) (Fin.ext ?_))
  show j.val / 1408 * 1408 + j.val % 1408 = j.val
  omega
theorem payU_blk (t : Fin (N m)) (s : Fin 256) (j : Fin 5632) :
    (payU (b2 m c t) (b3 m c t) (b5 m c t) (ix2 s j) : EReal) = dProj (aX m c) (aG m c) (aW1 m c) (aW2 m c) (aT m c) (ix2 (tok m t s) j) := by
  rw [payU_eq]
  unfold bothU dProj
  by_cases h : j.val < 2816
  · refine (dif_pos h).trans (Eq.trans ?_ (dif_pos h).symm)
    refine (payGt_at _ _ _ s _).trans ?_
    rw [dact_blk, gt_at, up_at, b3_at, b3_at]
    rfl
  · refine (dif_neg h).trans (Eq.trans ?_ (dif_neg h).symm)
    refine (payUp_at _ _ _ s _).trans ?_
    rw [dact_blk, gt_at, b3_at]
    rfl
theorem dh_blk (t : Fin (N m)) (s : Fin 256) (d : Fin 1024) :
    (k0_pay17 (threeQ (b4 m c t) (payU (b2 m c t) (b3 m c t) (b5 m c t))) (lastU (payU (b2 m c t) (b3 m c t) (b5 m c t))) (lastW (b4 m c t)) (ix2 s d) : EReal)
      = dHid (aX m c) (aG m c) (aW1 m c) (aW2 m c) (aT m c) (tok m t s) d := by
  rw [dh_at]
  simp only [payU_blk, col_blk, dHid]
theorem payX_blk (t : Fin (N m)) (s : Fin 256) (d : Fin 1024) :
    (payX (b0 m c t) (b1 m c t) (b2 m c t) (b3 m c t) (b4 m c t) (b5 m c t) (ix2 s d) : EReal) = gradX (aX m c) (aG m c) (aW1 m c) (aW2 m c) (aT m c) (ix2 (tok m t s) d) := by
  refine (dx_at _ _ _ _ _ _ s d).trans ?_
  simp only [dh_blk, r_at, xhat_at, scale_blk, b0_at, b1_at, b2_at]
  rfl
theorem payA_blk (t : Fin (N m)) (s : Fin 256) (j : Fin 2816) : (payA (b3 m c t) (ix2 s j) : EReal) = acts (aX m c) (aG m c) (aW1 m c) (ix2 (tok m t s) j) := by
  refine (payA_at _ s j).trans ?_
  rw [gt_at, up_at, b3_at, b3_at]
  rfl
theorem payH_blk (t : Fin (N m)) (s : Fin 256) (d : Fin 1024) : (payH (b0 m c t) (b1 m c t) (ix2 s d) : EReal) = hids (aX m c) (aG m c) (ix2 (tok m t s) d) := by
  refine (payH_at _ _ s d).trans ?_
  rw [scale_blk, b0_at, b1_at]
  rfl
theorem payD_blk (t : Fin (N m)) (s : Fin 256) (d : Fin 1024) : (payD (b2 m c t) (ix2 s d) : EReal) = aT m c (ix2 (tok m t s) d) :=
  (payD_at _ s d).trans (b2_at m c t s d)

/-- One token's part of the norm weight's gradient. -/
def part (s : ℕ) (d : Fin 1024) : EReal :=
  if h : s < 4096 then dHid (aX m c) (aG m c) (aW1 m c) (aW2 m c) (aT m c) ⟨s, h⟩ d * (aX m c (ix2 ⟨s, h⟩ d) * sc (aX m c) ⟨s, h⟩) else 0

theorem stepG_at (t : Fin (N m)) (xo : Vec Ideal S1x1024 .f32) (d : Fin 1024) :
    (stepG m c t xo (ix2 0 d) : EReal) = xo (ix2 0 d) + ∑ s ∈ Finset.range 256, part m c (256 * t.val + s) d := by
  refine (dg_at _ _ _ _ _ d).trans ?_
  rw [Finset.sum_range]
  refine congrArg (_ + ·) (Finset.sum_congr rfl fun s _ => ?_)
  refine Eq.trans ?_ (dif_pos (tok m t s).isLt).symm
  refine (congrArg₂ (· * ·) (dh_blk m c t s d) ((xhat_at (b0 m c t) s d).trans ?_))
  rw [scale_blk, b0_at]
  rfl

theorem acc_at (n : ℕ) (hn : n < N m) (d : Fin 1024) : (acc m c n (ix2 0 d) : EReal) = ∑ s ∈ Finset.range (256 * (n + 1)), part m c s d := by
  have h16 := N_eq m
  rw [Nat.mul_succ, Finset.sum_range_add]
  induction n with
  | zero =>
    rw [acc_zero m c ⟨0, hn⟩ rfl]
    refine (stepG_at m c ⟨0, hn⟩ _ d).trans ?_
    rw [zero_at]
    simp
  | succ n ih =>
    rw [acc_succ m c ⟨n + 1, hn⟩ (by dsimp only; omega)]
    refine (stepG_at m c ⟨n + 1, hn⟩ _ d).trans (congrArg (· + _) ?_)
    rw [Nat.mul_succ, Finset.sum_range_add]
    exact ih (by omega)

/-! The arrays. -/

theorem arr_X : (dats m 0 c).arrAt 6 (N m) = gradX (aX m c) (aG m c) (aW1 m c) (aW2 m c) (aT m c) := by
  refine (dats m 0 c).arrAt_eq_of_covers 6 _ (covers6 m) fun t hf (y : S256x1024.Idx) => ?_
  blk_simp
  rw [after_6]
  refine (congrArg (payX _ _ _ _ _ _) (eq_ix2 y)).trans ((payX_blk m c t (y 0) (y 1)).trans (congrArg (gradX _ _ _ _ _) ?_))
  blk_ext [tok]
  · exact (place (congrFun (index6 m t) (0 : Fin 2)) (show t.val * 256 + (y (0 : Fin 2)).val = 256 * t.val + (y (0 : Fin 2)).val by omega)).symm
  · exact (place (congrFun (index6 m t) (1 : Fin 2)) (by simp)).symm
theorem arr_U : (dats m 0 c).arrAt 7 (N m) = dProj (aX m c) (aG m c) (aW1 m c) (aW2 m c) (aT m c) := by
  refine (dats m 0 c).arrAt_eq_of_covers 7 _ (covers7 m) fun t hf (y : S256x5632.Idx) => ?_
  blk_simp
  rw [after_7]
  refine (congrArg (payU _ _ _) (eq_ix2 y)).trans ((payU_blk m c t (y 0) (y 1)).trans (congrArg (dProj _ _ _ _ _) ?_))
  blk_ext [tok]
  · exact (place (congrFun (index7 m t) (0 : Fin 2)) (show t.val * 256 + (y (0 : Fin 2)).val = 256 * t.val + (y (0 : Fin 2)).val by omega)).symm
  · exact (place (congrFun (index7 m t) (1 : Fin 2)) (by simp)).symm
theorem arr_A : (dats m 0 c).arrAt 8 (N m) = acts (aX m c) (aG m c) (aW1 m c) := by
  refine (dats m 0 c).arrAt_eq_of_covers 8 _ (covers8 m) fun t hf (y : S256x2816.Idx) => ?_
  blk_simp
  rw [after_8]
  refine (congrArg (payA _) (eq_ix2 y)).trans ((payA_blk m c t (y 0) (y 1)).trans (congrArg (acts _ _ _) ?_))
  blk_ext [tok]
  · exact (place (congrFun (index8 m t) (0 : Fin 2)) (show t.val * 256 + (y (0 : Fin 2)).val = 256 * t.val + (y (0 : Fin 2)).val by omega)).symm
  · exact (place (congrFun (index8 m t) (1 : Fin 2)) (by simp)).symm
theorem arr_H : (dats m 0 c).arrAt 9 (N m) = hids (aX m c) (aG m c) := by
  refine (dats m 0 c).arrAt_eq_of_covers 9 _ (covers9 m) fun t hf (y : S256x1024.Idx) => ?_
  blk_simp
  rw [after_9]
  refine (congrArg (payH _ _) (eq_ix2 y)).trans ((payH_blk m c t (y 0) (y 1)).trans (congrArg (hids _ _) ?_))
  blk_ext [tok]
  · exact (place (congrFun (index9 m t) (0 : Fin 2)) (show t.val * 256 + (y (0 : Fin 2)).val = 256 * t.val + (y (0 : Fin 2)).val by omega)).symm
  · exact (place (congrFun (index9 m t) (1 : Fin 2)) (by simp)).symm
theorem arr_T : (dats m 0 c).arrAt 10 (N m) = aT m c := by
  refine (dats m 0 c).arrAt_eq_of_covers 10 _ (covers10 m) fun t hf (y : S256x1024.Idx) => ?_
  blk_simp
  rw [after_10]
  refine (congrArg (payD _) (eq_ix2 y)).trans ((payD_blk m c t (y 0) (y 1)).trans (congrArg (aT m c) ?_))
  blk_ext [tok]
  · exact (place (congrFun (index10 m t) (0 : Fin 2)) (show t.val * 256 + (y (0 : Fin 2)).val = 256 * t.val + (y (0 : Fin 2)).val by omega)).symm
  · exact (place (congrFun (index10 m t) (1 : Fin 2)) (by simp)).symm
theorem arr_G : (dats m 0 c).arrAt 11 (N m) = gradG (aX m c) (aG m c) (aW1 m c) (aW2 m c) (aT m c) := by
  refine (dats m 0 c).arrAt_eq_of_covers 11 _ (covers11 m) fun t hf (y : S1x1024.Idx) => ?_
  blk_simp
  rw [after_11]
  have ht : t.val = 15 := by
    have := (flush0_11 (adm m (ok m)) t).mp hf
    have := lt_of_lt_of_eq t.isLt (N_eq m)
    omega
  have hy0 : (y (0 : Fin 2)).val = 0 := by
    have : (y (0 : Fin 2)).val < 1 := (y (0 : Fin 2)).isLt
    omega
  have hy : y = ix2 0 (y (1 : Fin 2)) := (eq_ix2 y).trans (congrArg (fun a => ix2 a (y (1 : Fin 2))) (Fin.ext hy0))
  have e1 : (((cfgM m (ok m)).win 11).blk t).view.emb y (1 : Fin 2) = y (1 : Fin 2) := by
    refine Fin.ext ?_
    blk_simp
    exact place (congrFun (index11 m t) (1 : Fin 2)) (by simp)
  refine (congrArg (acc m c t.val) hy).trans ((acc_at m c t.val t.isLt (y (1 : Fin 2))).trans ?_)
  rw [ht]
  unfold gradG
  rw [e1, Finset.sum_range]
  exact Finset.sum_congr rfl fun s _ => dif_pos (show s.val < 4096 from s.isLt)

end Cert.Kernel6Ideal.Val
end
-- ==== Proof.GluRef.lean ====
/-
  The feed-forward backward call's reference, read at an index.
-/
module

public import proofs.«01_k».proof.Proof.GluArr
public import proofs.«01_k».proof.Proof.Gen.Reference6Ideal.Run
public import Idealize.ShloMosaic.Adequacy
public import Idealize.ShloMosaic.Init

@[expose] public section

set_option maxRecDepth 16384

noncomputable section

namespace Cert.Reference6Ideal.Val
open Cert.Reference6Ideal Cert.Reference6Ideal.Gen
open Idealize.ShloMosaic Idealize.ShloMosaic.TcCoe Idealize.SL.Sem
open Cert.Norm (scale level ε)
open Cert.Silu (sg lg)
open Cert.Kernel6Ideal.Val (size eps one sc hid proj dAct)

theorem neg_half : (Ideal.ofBits FTy.f32 0xBF000000#32 : EReal) = ((-1 / 2 : ℝ) : EReal) := by
  simp [Ideal.ofBits, Ideal.ieee]
  rw [← EReal.coe_mul, ← EReal.coe_neg]
  norm_num

section Terms
variable (x : Vec Ideal S4096x1024 .f32) (g : Vec Ideal S1x1024 .f32) (w1 : Vec Ideal S1024x5632 .f32) (w2 : Vec Ideal S2816x1024 .f32) (ct : Vec Ideal S4096x1024 .f32)

/-- The level, the scale, the normed rows, their projection and its two halves, -/
abbrev tLevel : Vec Ideal S4096x1 .f32 :=
  addf (F := Ideal) (φ := .f32) (Host.divf (F := Ideal) (φ := .f32) (broadcastInDim S4096x1 ![0] bcast_S4096_S4096x1_0 (Host.reduceAdd (F := Ideal) (φ := .f32) (mulf (F := Ideal) (φ := .f32) x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32))
abbrev tScale : Vec Ideal S4096x1 .f32 := Host.rsqrt (F := Ideal) (φ := .f32) (tLevel x)
def tHid : Vec Ideal S4096x1024 .f32 :=
  mulf (F := Ideal) (φ := .f32) (mulf (F := Ideal) (φ := .f32) x (broadcastInDim S4096x1024 ![0, 1] bcast_S4096x1_S4096x1024_0_1 (tScale x))) (broadcastInDim S4096x1024 ![0, 1] bcast_S1x1024_S4096x1024_0_1 g)
def tProj (h : Vec Ideal S4096x1024 .f32) : Vec Ideal S4096x5632 .f32 :=
  addf (F := Ideal) (φ := .f32) (Host.dotGeneral (F := Ideal) (φ₁ := .f32) (φ₂ := .f32) dot_S4096x1024_S1024x5632_S4096x5632_1_0_0_1_n_n none h w1) (broadcastInDim S4096x5632 ![] bcast_S_S4096x5632 (constant (F := Ideal) S_ .f32 0x00000000#32))
def tGate (u : Vec Ideal S4096x5632 .f32) : Vec Ideal S4096x2816 .f32 := extractStridedSlice S4096x2816 ![0, 0] u slices_S4096x5632_S4096x2816_0_0
def tValue (u : Vec Ideal S4096x5632 .f32) : Vec Ideal S4096x2816 .f32 := extractStridedSlice S4096x2816 ![0, 2816] u slices_S4096x5632_S4096x2816_0_2816
/-- the logistic function of the gates and the gated values, -/
abbrev tOne : Vec Ideal S4096x2816 .f32 := broadcastInDim S4096x2816 ![] bcast_S_S4096x2816 (constant (F := Ideal) S_ .f32 0x3F800000#32)
def tSig (a : Vec Ideal S4096x2816 .f32) : Vec Ideal S4096x2816 .f32 :=
  Host.divf (F := Ideal) (φ := .f32) tOne (addf (F := Ideal) (φ := .f32) tOne (Host.exp (F := Ideal) (φ := .f32) (Host.negf (F := Ideal) (φ := .f32) a)))
def tAct (a b : Vec Ideal S4096x2816 .f32) : Vec Ideal S4096x2816 .f32 := mulf (F := Ideal) (φ := .f32) (mulf (F := Ideal) (φ := .f32) a (tSig a)) b
/-- the gradients of the gated values, of the gates, of what they multiply and of the projection, -/
def tDAct : Vec Ideal S4096x2816 .f32 :=
  Host.dotGeneral (F := Ideal) (φ₁ := .f32) (φ₂ := .f32) dot_S4096x1024_S2816x1024_S4096x2816_1_1_0_0_n_n none (shapeCast S4096x1024 ct shapeCasts_S4096x1024_S4096x1024) w2
def tDGate (a b d : Vec Ideal S4096x2816 .f32) : Vec Ideal S4096x2816 .f32 :=
  addf (F := Ideal) (φ := .f32) (mulf (F := Ideal) (φ := .f32) (mulf (F := Ideal) (φ := .f32) d b) (tSig a))
    (mulf (F := Ideal) (φ := .f32) (mulf (F := Ideal) (φ := .f32) a (mulf (F := Ideal) (φ := .f32) d b)) (mulf (F := Ideal) (φ := .f32) (tSig a) (subf (F := Ideal) (φ := .f32) tOne (tSig a))))
def tDValue (a d : Vec Ideal S4096x2816 .f32) : Vec Ideal S4096x2816 .f32 := mulf (F := Ideal) (φ := .f32) (mulf (F := Ideal) (φ := .f32) a (tSig a)) d
def tBoth (p q : Vec Ideal S4096x2816 .f32) : Vec Ideal S4096x5632 .f32 :=
  concatenate S4096x5632 1 [⟨S4096x2816, p⟩, ⟨S4096x2816, q⟩] concatenates_S4096x2816_S4096x2816_S4096x5632_d1
/-- that of the normed rows, its product with the weight, -/
def tDHid (u : Vec Ideal S4096x5632 .f32) : Vec Ideal S4096x1024 .f32 := Host.dotGeneral (F := Ideal) (φ₁ := .f32) (φ₂ := .f32) dot_S4096x5632_S1024x5632_S4096x1024_1_1_0_0_n_n none u w1
abbrev tU (dh : Vec Ideal S4096x1024 .f32) : Vec Ideal S4096x1024 .f32 := mulf (F := Ideal) (φ := .f32) dh (broadcastInDim S4096x1024 ![0, 1] bcast_S1x1024_S4096x1024_0_1 g)
/-- the derivative of the mean square, -/
abbrev tK (dh : Vec Ideal S4096x1024 .f32) : Vec Ideal S4096 .f32 :=
  Host.reduceAdd (F := Ideal) (φ := .f32) (Host.divf (F := Ideal) (φ := .f32) (mulf (F := Ideal) (φ := .f32) (shapeCast S4096x1 (Host.reduceAdd (F := Ideal) (φ := .f32) (mulf (F := Ideal) (φ := .f32) x (tU g dh)) (constant (F := Ideal) S_ .f32 0x00000000#32) reducesTo_S4096x1024_S4096_d1 h_S_) shapeCasts_S4096_S4096x1)
    (mulf (F := Ideal) (φ := .f32) (broadcastInDim S4096x1 ![] bcast_S_S4096x1 (constant (F := Ideal) S_ .f32 0xBF000000#32)) (Host.divf (F := Ideal) (φ := .f32) (tScale x) (tLevel x)))) (broadcastInDim S4096x1 ![] bcast_S_S4096x1 (constant (F := Ideal) S_ .f32 0x44800000#32))) (constant (F := Ideal) S_ .f32 0x00000000#32) reducesTo_S4096x1_S4096_d1 h_S_
/-- and the two gradients. -/
def tX (dh : Vec Ideal S4096x1024 .f32) : Vec Ideal S4096x1024 .f32 :=
  addf (F := Ideal) (φ := .f32) (addf (F := Ideal) (φ := .f32) (addf (F := Ideal) (φ := .f32) ct (mulf (F := Ideal) (φ := .f32) (tU g dh) (broadcastInDim S4096x1024 ![0, 1] bcast_S4096x1_S4096x1024_0_1 (tScale x)))) (mulf (F := Ideal) (φ := .f32) x (broadcastInDim S4096x1024 ![0] bcast_S4096_S4096x1024_0 (tK x g dh))))
    (mulf (F := Ideal) (φ := .f32) (broadcastInDim S4096x1024 ![0] bcast_S4096_S4096x1024_0 (tK x g dh)) x)
def tG (dh : Vec Ideal S4096x1024 .f32) : Vec Ideal S1x1024 .f32 :=
  shapeCast S1x1024 (Host.reduceAdd (F := Ideal) (φ := .f32) (mulf (F := Ideal) (φ := .f32) (mulf (F := Ideal) (φ := .f32) x (broadcastInDim S4096x1024 ![0, 1] bcast_S4096x1_S4096x1024_0_1 (tScale x))) dh) (constant (F := Ideal) S_ .f32 0x00000000#32) reducesTo_S4096x1024_S1024_d0 h_S_) shapeCasts_S1024_S1x1024

/-! Each at an index. -/

theorem tHid_at (s : Fin 4096) (d : Fin 1024) : (tHid x g (ix2 s d) : EReal) = hid x g s d := by
  pointwise [tHid]
  simp only [size, eps]
  rfl
theorem tProj_at (h : Vec Ideal S4096x1024 .f32) (s : Fin 4096) (j : Fin 5632) : (tProj w1 h (ix2 s j) : EReal) = ∑ d, h (ix2 s d) * w1 (ix2 d j) := by
  pointwise [tProj]
theorem tGate_at (u : Vec Ideal S4096x5632 .f32) (s : Fin 4096) (j : Fin 2816) : (tGate u (ix2 s j) : EReal) = u (ix2 s ⟨j.val, by omega⟩) := by
  pointwise [tGate]
theorem tValue_at (u : Vec Ideal S4096x5632 .f32) (s : Fin 4096) (j : Fin 2816) : (tValue u (ix2 s j) : EReal) = u (ix2 s ⟨2816 + j.val, by omega⟩) := by
  pointwise [tValue]
theorem tSig_at (a : Vec Ideal S4096x2816 .f32) (s : Fin 4096) (j : Fin 2816) : (tSig a (ix2 s j) : EReal) = lg (a (ix2 s j)) := by
  pointwise [tSig]
  simp only [lg, EReal.coe_one]
theorem tAct_at (a b : Vec Ideal S4096x2816 .f32) (s : Fin 4096) (j : Fin 2816) : (tAct a b (ix2 s j) : EReal) = a (ix2 s j) * lg (a (ix2 s j)) * b (ix2 s j) :=
  congrArg (fun y : EReal => a (ix2 s j) * y * b (ix2 s j)) (tSig_at a s j)
theorem tDAct_at (s : Fin 4096) (j : Fin 2816) : (tDAct w2 ct (ix2 s j) : EReal) = dAct w2 ct s j := by
  pointwise [tDAct]
  rfl
theorem tOne_at (s : Fin 4096) (j : Fin 2816) : (tOne (ix2 s j) : EReal) = ((1 : ℝ) : EReal) := by
  pointwise []
  exact EReal.coe_one.symm
theorem tDGate_at (a b d : Vec Ideal S4096x2816 .f32) (s : Fin 4096) (j : Fin 2816) : (tDGate a b d (ix2 s j) : EReal)
    = d (ix2 s j) * b (ix2 s j) * lg (a (ix2 s j)) + a (ix2 s j) * (d (ix2 s j) * b (ix2 s j)) * (lg (a (ix2 s j)) * (((1 : ℝ) : EReal) - lg (a (ix2 s j)))) :=
  (congrArg₂ (fun y z : EReal => d (ix2 s j) * b (ix2 s j) * y + a (ix2 s j) * (d (ix2 s j) * b (ix2 s j)) * (y * (z - y))) (tSig_at a s j) (tOne_at s j))
theorem tDValue_at (a d : Vec Ideal S4096x2816 .f32) (s : Fin 4096) (j : Fin 2816) : (tDValue a d (ix2 s j) : EReal) = a (ix2 s j) * lg (a (ix2 s j)) * d (ix2 s j) :=
  congrArg (fun y : EReal => a (ix2 s j) * y * d (ix2 s j)) (tSig_at a s j)
theorem tBoth_at (p q : Vec Ideal S4096x2816 .f32) (s : Fin 4096) (j : Fin 5632) : (tBoth p q (ix2 s j) : EReal)
    = if h : j.val < 2816 then p (ix2 s ⟨j.val, h⟩) else q (ix2 s ⟨j.val - 2816, by omega⟩) := by
  pointwise [tBoth]
theorem tDHid_at (u : Vec Ideal S4096x5632 .f32) (s : Fin 4096) (d : Fin 1024) : (tDHid w1 u (ix2 s d) : EReal) = ∑ j, u (ix2 s j) * w1 (ix2 d j) := by
  pointwise [tDHid]
theorem tX_at (dh : Vec Ideal S4096x1024 .f32) (s : Fin 4096) (d : Fin 1024) : (tX x g ct dh (ix2 s d) : EReal)
    = ct (ix2 s d) + dh (ix2 s d) * g (ix2 0 d) * sc x s
      + x (ix2 s d) * Ideal.div ((∑ e, x (ix2 s e) * (dh (ix2 s e) * g (ix2 0 e))) * (((-1 / 2 : ℝ) : EReal) * Ideal.div (sc x s) (level fun e => x (ix2 s e)))) ((1024 : ℝ) : EReal)
      + Ideal.div ((∑ e, x (ix2 s e) * (dh (ix2 s e) * g (ix2 0 e))) * (((-1 / 2 : ℝ) : EReal) * Ideal.div (sc x s) (level fun e => x (ix2 s e)))) ((1024 : ℝ) : EReal) * x (ix2 s d) := by
  pointwise [tX]
  simp only [size, neg_half, eps, Finset.univ_unique, Finset.sum_singleton]
  rfl
theorem tG_at (dh : Vec Ideal S4096x1024 .f32) (d : Fin 1024) : (tG x dh (ix2 0 d) : EReal) = ∑ s, x (ix2 s d) * sc x s * dh (ix2 s d) := by
  pointwise [tG]
  simp only [size, eps]
  rfl

end Terms

theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2.2.2.2, sem_eq_zero_of_no_sems (by decide) r.2⟩) (Value.run (F := Ideal) m ρ)

end Cert.Reference6Ideal.Val
end
-- ==== Proof.GluEqual.lean ====
/-
  The feed-forward backward call and its reference: the same six arrays, where the weights and the cotangent are real.
-/
module

public import proofs.«01_k».proof.Proof.GluRef
public import proofs.«01_k».proof.Proof.Finite
public import Idealize.ShloMosaic.Lib.ReduceAll

@[expose] public section

set_option maxRecDepth 16384

noncomputable section

namespace Cert.Kernel6Ideal.Val
open Cert.Kernel6Ideal Cert.Kernel6Ideal.Gen
open Idealize.ShloMosaic Idealize.ShloMosaic.TcCoe Idealize.SL.Sem
open Cert.Norm (scale level ε)
open Cert.Silu (sg lg)
open Cert.Reference6Ideal.Val

/-- The shape facts of the precondition. -/
theorem bounded_facts : Cert.Pre_bounded.Facts where
  bcast_S_S1x1024 := by decide
  reducesTo_S1x1024_S_d0_1 := by decide
  h_S_ := by decide
  bcast_S_S1024x5632 := by decide
  reducesTo_S1024x5632_S_d0_1 := by decide
  bcast_S_S2816x1024 := by decide
  reducesTo_S2816x1024_S_d0_1 := by decide
  bcast_S_S4096x1024 := by decide
  reducesTo_S4096x1024_S_d0_1 := by decide
  bcast_S_S1 := by decide
  concatenates_S1_S1_S1_S1_S4_d0 := by decide

attribute [local instance] bounded_facts

section
variable {x : Vec Ideal S4096x1024 .f32} {g : Vec Ideal S1x1024 .f32} {w1 : Vec Ideal S1024x5632 .f32} {w2 : Vec Ideal S2816x1024 .f32} {ct : Vec Ideal S4096x1024 .f32}

/-- The four conditions of which the precondition is made. -/
theorem four_true (a b c d : IVec Cert.Pre_bounded.S_ 1) (h : Cert.Pre_bounded.fn_part1 (F := Ideal) a b c d = fun _ => 1#1) (I : Cert.Pre_bounded.S_.Idx) :
    a I = 1#1 ∧ b I = 1#1 ∧ c I = 1#1 ∧ d I = 1#1 := by
  have e0 := congrFun h (ix1 0)
  have e1 := congrFun h (ix1 1)
  have e2 := congrFun h (ix1 2)
  have e3 := congrFun h (ix1 3)
  pointwise [Cert.Pre_bounded.fn_part1] at e0 e1 e2 e3
  have hI : I = Idealize.ShloMosaic.ix0 := Subsingleton.elim _ _
  rw [hI]
  exact ⟨e0, e1, e2, e3⟩

theorem reals (h : Cert.Pre_bounded.fn (F := Ideal) x g w1 w2 ct = fun _ => 1#1) :
    (∀ I, ∃ r : ℝ, (g I : EReal) = (r : EReal)) ∧ (∀ I, ∃ r : ℝ, (w1 I : EReal) = (r : EReal)) ∧ (∀ I, ∃ r : ℝ, (w2 I : EReal) = (r : EReal)) ∧ (∀ I, ∃ r : ℝ, (ct I : EReal) = (r : EReal)) := by
  obtain ⟨h1, h2, h3, h4⟩ := four_true _ _ _ _ h Idealize.ShloMosaic.ix0
  exact ⟨fun I => Cert.KernelIdeal.Val.real_of_abs (Host.reduce_andi_all _ _ _ _ _ h1 I), fun I => Cert.KernelIdeal.Val.real_of_abs (Host.reduce_andi_all _ _ _ _ _ h2 I),
    fun I => Cert.KernelIdeal.Val.real_of_abs (Host.reduce_andi_all _ _ _ _ _ h3 I), fun I => Cert.KernelIdeal.Val.real_of_abs (Host.reduce_andi_all _ _ _ _ _ h4 I)⟩

variable (hg : ∀ I, ∃ r : ℝ, (g I : EReal) = (r : EReal)) (hw1 : ∀ I, ∃ r : ℝ, (w1 I : EReal) = (r : EReal)) (hw2 : ∀ I, ∃ r : ℝ, (w2 I : EReal) = (r : EReal)) (hct : ∀ I, ∃ r : ℝ, (ct I : EReal) = (r : EReal))

include hg in
theorem hid_real (s : Fin 4096) (d : Fin 1024) : ∃ r : ℝ, hid x g s d = (r : EReal) := by
  obtain ⟨a, ha⟩ := Cert.Silu.normed_real (fun e => (x (ix2 s e) : EReal)) d
  obtain ⟨b, hb⟩ := hg (ix2 0 d)
  exact ⟨a * b, by rw [EReal.coe_mul, ← ha, ← hb]; rfl⟩
include hg hw1 in
theorem proj_real (s : Fin 4096) (j : Fin 5632) : ∃ r : ℝ, proj x g w1 s j = (r : EReal) :=
  Cert.Silu.sum_real (hid_real hg s) fun d => hw1 (ix2 d j)
include hw2 hct in
theorem dAct_real (s : Fin 4096) (j : Fin 2816) : ∃ r : ℝ, dAct w2 ct s j = (r : EReal) :=
  Cert.Silu.sum_real (fun e => hct (ix2 s e)) fun e => hw2 (ix2 j e)

/-! The reference's arrays are the call's. -/

variable (x g w1 w2 ct)

abbrev rProj : Vec Ideal S4096x5632 .f32 := tProj w1 (tHid x g)
abbrev rDProj : Vec Ideal S4096x5632 .f32 :=
  tBoth (tDGate (tGate (rProj x g w1)) (tValue (rProj x g w1)) (tDAct w2 ct)) (tDValue (tGate (rProj x g w1)) (tDAct w2 ct))

theorem rProj_at (s : Fin 4096) (j : Fin 5632) : (rProj x g w1 (ix2 s j) : EReal) = proj x g w1 s j := by
  refine (tProj_at _ _ s j).trans ?_
  simp only [tHid_at, proj]
theorem rGate_at (s : Fin 4096) (j : Fin 2816) : (tGate (rProj x g w1) (ix2 s j) : EReal) = gate x g w1 s j := (tGate_at _ s j).trans (rProj_at x g w1 s _)
theorem rValue_at (s : Fin 4096) (j : Fin 2816) : (tValue (rProj x g w1) (ix2 s j) : EReal) = value x g w1 s j := (tValue_at _ s j).trans (rProj_at x g w1 s _)

include hg hw1 in
theorem rAct_at (s : Fin 4096) (j : Fin 2816) : (tAct (tGate (rProj x g w1)) (tValue (rProj x g w1)) (ix2 s j) : EReal) = acts x g w1 (ix2 s j) := by
  obtain ⟨a, ha⟩ := proj_real (x := x) hg hw1 s ⟨j.val, by omega⟩
  refine (tAct_at _ _ s j).trans ?_
  rw [rGate_at, rValue_at]
  show gate x g w1 s j * lg (gate x g w1 s j) * value x g w1 s j = gate x g w1 s j * sg (gate x g w1 s j) * value x g w1 s j
  rw [gate, ha, Cert.Silu.sg_real]
include hg hw1 in
theorem rAct_eq : (tAct (tGate (rProj x g w1)) (tValue (rProj x g w1)) : S4096x2816.Idx → EReal) = acts x g w1 :=
  funext fun I => (congrArg (tAct _ _) (eq_ix2 I)).trans ((rAct_at x g w1 hg hw1 (I 0) (I 1)).trans (congrArg (acts x g w1) (eq_ix2 I).symm))

include hg hw1 hw2 hct in
theorem rDGate_at (s : Fin 4096) (j : Fin 2816) : (tDGate (tGate (rProj x g w1)) (tValue (rProj x g w1)) (tDAct w2 ct) (ix2 s j) : EReal) = dGate x g w1 w2 ct s j := by
  obtain ⟨a, ha⟩ := proj_real (x := x) hg hw1 s ⟨j.val, by omega⟩
  obtain ⟨b, hb⟩ := proj_real (x := x) hg hw1 s ⟨2816 + j.val, by omega⟩
  obtain ⟨d, hd⟩ := dAct_real hw2 hct s j
  refine (tDGate_at _ _ _ s j).trans ?_
  rw [rGate_at, rValue_at, tDAct_at]
  unfold dGate
  rw [gate, value, ha, hb, hd, ← EReal.coe_mul]
  exact (Cert.Silu.grad_eq a (d * b)).symm
include hg hw1 in
theorem rDValue_at (s : Fin 4096) (j : Fin 2816) : (tDValue (tGate (rProj x g w1)) (tDAct w2 ct) (ix2 s j) : EReal) = dValue x g w1 w2 ct s j := by
  obtain ⟨a, ha⟩ := proj_real (x := x) hg hw1 s ⟨j.val, by omega⟩
  refine (tDValue_at _ _ s j).trans ?_
  rw [rGate_at, tDAct_at]
  unfold dValue
  rw [gate, ha, Cert.Silu.sg_real, mul_comm]

include hg hw1 hw2 hct in
theorem rDProj_at (s : Fin 4096) (j : Fin 5632) : (rDProj x g w1 w2 ct (ix2 s j) : EReal) = dProj x g w1 w2 ct (ix2 s j) := by
  have e : dProj x g w1 w2 ct (ix2 s j) = if h : j.val < 2816 then dGate x g w1 w2 ct s ⟨j.val, h⟩ else dValue x g w1 w2 ct s ⟨j.val - 2816, by omega⟩ := rfl
  refine (tBoth_at _ _ s j).trans (Eq.trans ?_ e.symm)
  by_cases h : j.val < 2816
  · rw [dif_pos h, dif_pos h]
    exact rDGate_at x g w1 w2 ct hg hw1 hw2 hct s _
  · rw [dif_neg h, dif_neg h]
    exact rDValue_at x g w1 w2 ct hg hw1 s _
include hg hw1 hw2 hct in
theorem rDProj_eq : (rDProj x g w1 w2 ct : S4096x5632.Idx → EReal) = dProj x g w1 w2 ct :=
  funext fun I => (congrArg (rDProj x g w1 w2 ct) (eq_ix2 I)).trans ((rDProj_at x g w1 w2 ct hg hw1 hw2 hct (I 0) (I 1)).trans (congrArg (dProj x g w1 w2 ct) (eq_ix2 I).symm))

include hg hw1 hw2 hct in
theorem rDHid_at (s : Fin 4096) (d : Fin 1024) : (tDHid w1 (rDProj x g w1 w2 ct) (ix2 s d) : EReal) = dHid x g w1 w2 ct s d :=
  (tDHid_at _ _ s d).trans (Finset.sum_congr rfl fun j _ => congrArg (· * w1 (ix2 d j)) (rDProj_at x g w1 w2 ct hg hw1 hw2 hct s j))

include hg hw1 hw2 hct in
theorem rX_at (s : Fin 4096) (d : Fin 1024) : (tX x g ct (tDHid w1 (rDProj x g w1 w2 ct)) (ix2 s d) : EReal) = gradX x g w1 w2 ct (ix2 s d) := by
  refine (tX_at _ _ _ _ s d).trans ?_
  simp only [rDHid_at x g w1 w2 ct hg hw1 hw2 hct]
  exact (Cert.Norm.grad_eq (fun e => x (ix2 s e)) (fun e => dHid x g w1 w2 ct s e * g (ix2 0 e)) (ct (ix2 s d)) d).symm
include hg hw1 hw2 hct in
theorem rX_eq : (tX x g ct (tDHid w1 (rDProj x g w1 w2 ct)) : S4096x1024.Idx → EReal) = gradX x g w1 w2 ct :=
  funext fun I => (congrArg (tX _ _ _ _) (eq_ix2 I)).trans ((rX_at x g w1 w2 ct hg hw1 hw2 hct (I 0) (I 1)).trans (congrArg (gradX x g w1 w2 ct) (eq_ix2 I).symm))

include hg hw1 hw2 hct in
theorem rG_at (d : Fin 1024) : (tG x (tDHid w1 (rDProj x g w1 w2 ct)) (ix2 0 d) : EReal) = gradG x g w1 w2 ct (ix2 0 d) := by
  refine (tG_at _ _ d).trans (Finset.sum_congr rfl fun s _ => ?_)
  rw [rDHid_at x g w1 w2 ct hg hw1 hw2 hct, mul_comm]
  rfl
include hg hw1 hw2 hct in
theorem rG_eq : (tG x (tDHid w1 (rDProj x g w1 w2 ct)) : S1x1024.Idx → EReal) = gradG x g w1 w2 ct := by
  funext I
  have hI : I = ix2 0 (I 1) := (eq_ix2 I).trans (congrArg (fun a => ix2 a (I 1)) (Fin.ext (Nat.lt_one_iff.mp (I 0).isLt)))
  exact (congrArg (tG _ _) hI).trans ((rG_at x g w1 w2 ct hg hw1 hw2 hct (I 1)).trans (congrArg (gradG x g w1 w2 ct) hI.symm))
theorem rHid_eq : (tHid x g : S4096x1024.Idx → EReal) = hids x g :=
  funext fun I => (congrArg (tHid x g) (eq_ix2 I)).trans (tHid_at x g (I 0) (I 1))
end

section
variable (m : (ℓ : Loc nD τ sig) → Buf (Elt Ideal) ℓ)

/-- The six arrays the call leaves. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v21_0) = gradX (aX m c) (aG m c) (aW1 m c) (aW2 m c) (aT m c)
      ∧ r.2.mem ((c.tc : Thread nD τ).loc main_v21_1) = dProj (aX m c) (aG m c) (aW1 m c) (aW2 m c) (aT m c)
      ∧ r.2.mem ((c.tc : Thread nD τ).loc main_v21_2) = acts (aX m c) (aG m c) (aW1 m c)
      ∧ r.2.mem ((c.tc : Thread nD τ).loc main_v21_3) = hids (aX m c) (aG m c)
      ∧ r.2.mem ((c.tc : Thread nD τ).loc main_v21_4) = aT m c
      ∧ r.2.mem ((c.tc : Thread nD τ).loc main_v21_5) = gradG (aX m c) (aG m c) (aW1 m c) (aW2 m c) (aT m c)) :=
  (θ_run defs _ _).mono (fun _ h c => ⟨((h c).1 6).trans (arr_X m c), ((h c).1 7).trans (arr_U m c), ((h c).1 8).trans (arr_A m c),
    ((h c).1 9).trans (arr_H m c), ((h c).1 10).trans (arr_T m c), ((h c).1 11).trans (arr_G m c)⟩) (run_main m ρ)

theorem algebraic : Cert.algebraic_Kernel6Ideal_Reference6Ideal_pre_bounded := by
  intro m ρ m' ρ' hpre hargs
  refine ⟨fun c => gradX (aX m c) (aG m c) (aW1 m c) (aW2 m c) (aT m c), fun c => dProj (aX m c) (aG m c) (aW1 m c) (aW2 m c) (aT m c), fun c => acts (aX m c) (aG m c) (aW1 m c),
    fun c => hids (aX m c) (aG m c), fun c => aT m c, fun c => gradG (aX m c) (aG m c) (aW1 m c) (aW2 m c) (aT m c), ?_, ?_⟩
  · refine (θ_run defs _ _).mono (fun r h c => ?_) (θ_run_and (run_values m ρ) (frame_main m ρ))
    obtain ⟨e0, e1, e2, e3, e4, e5⟩ := h.1 c
    exact ⟨e0, e1, e2, e3, e4, e5, h.2.1 c⟩
  · refine (θ_run Cert.Reference6Ideal.defs _ _).mono (fun r h c => ?_) (Cert.Reference6Ideal.Value.run (F := Ideal) m' ρ')
    obtain ⟨e0, e1, e2, e3, e4, e5, eargs⟩ := h c
    obtain ⟨h0, h1, h2, h3, h4⟩ := hargs c
    obtain ⟨hg, hw1, hw2, hct⟩ := reals (hpre c)
    refine ⟨e0.trans ?_, e1.trans ?_, e2.trans ?_, e3.trans ?_, e4.trans ?_, e5.trans ?_, eargs⟩
    · refine Eq.trans ?_ (rX_eq (aX m c) (aG m c) (aW1 m c) (aW2 m c) (aT m c) hg hw1 hw2 hct)
      unfold Cert.Reference6Ideal.Value.res_main_v50
      rw [h0, h1, h2, h3, h4]
      rfl
    · refine Eq.trans ?_ (rDProj_eq (aX m c) (aG m c) (aW1 m c) (aW2 m c) (aT m c) hg hw1 hw2 hct)
      unfold Cert.Reference6Ideal.Value.res_main_v51
      rw [h0, h1, h2, h3, h4]
      rfl
    · refine Eq.trans ?_ (rAct_eq (aX m c) (aG m c) (aW1 m c) hg hw1)
      rw [h0, h1, h2]
      rfl
    · refine Eq.trans ?_ (rHid_eq (aX m c) (aG m c))
      rw [h0, h1]
      rfl
    · rw [h4]
      rfl
    · refine Eq.trans ?_ (rG_eq (aX m c) (aG m c) (aW1 m c) (aW2 m c) (aT m c) hg hw1 hw2 hct)
      unfold Cert.Reference6Ideal.Value.res_main_v33
      rw [h0, h1, h2, h3, h4]
      rfl
end

end Cert.Kernel6Ideal.Val
end
-- ==== Proof.GluFrame.lean ====
/-
  The feed-forward backward call's kernel as printed runs and ends at rest: its program is the ideal one's text, whose run is proved at any floats.
-/
module

public import proofs.«01_k».proof.Defs
public import proofs.«01_k».proof.Proof.Gen.Kernel6
public import proofs.«01_k».proof.Proof.GluRun

@[expose] public section

set_option maxRecDepth 100000

namespace Cert.Kernel6Ideal.Val
open Idealize.ShloMosaic Idealize.ShloMosaic.TcCoe Idealize.ShloMosaic.Tactic Idealize.SL.Sem

theorem main_eq {F : FTy → Type} [FloatOps F] : @Cert.Kernel6.main F _ Cert.Kernel6.Gen.facts = @Cert.Kernel6Ideal.main F _ Cert.Kernel6Ideal.Gen.facts := by sl_kernel_rfl
theorem defs_eq {F : FTy → Type} [FloatOps F] : @Cert.Kernel6.defs F _ Cert.Kernel6.Gen.facts = @Cert.Kernel6Ideal.defs F _ Cert.Kernel6Ideal.Gen.facts := by sl_kernel_rfl

theorem frame_printed : Cert.quiescent_Kernel6 (hKernel6 := Cert.Kernel6.Gen.facts) := fun m ρ _ => by
  rw [main_eq, defs_eq]
  exact frame_main (F := Bits) m ρ

end Cert.Kernel6Ideal.Val
-- ==== Proof.Ffn.lean ====
/-
  The feed-forward forward call: its table, what its body leaves of one block of 256 tokens, and that read at an index.
-/
module

public import proofs.«01_k».proof.Proof.GluArr
public import proofs.«01_k».proof.Proof.Gen.Kernel7Ideal.Frame

@[expose] public section

set_option maxRecDepth 16384

noncomputable section

namespace Cert.Kernel7Ideal.Val
open Cert.Kernel7Ideal Cert.Kernel7Ideal.Gen

open Idealize.ShloMosaic Idealize.ShloMosaic.TcCoe Idealize.ShloMosaic.Tactic Idealize.SL.Sem
open Idealize.ShloMosaic.Pipeline
open Cert.Norm (scale level ε)
open Cert.Silu (sg lg)
open Cert.Kernel6Ideal.Val (hz2 hz3 size eps half ldW col col_quarter)

/-! ## The table: its one word, the layer of the stacked weights, is 0 -/

section Table
variable {F : FTy → Type} [FloatOps F] (m : (ℓ : Loc nD τ sig) → Buf (Elt F) ℓ)

def zeros : pre0.Contents (Elt F) := fun | ⟨0, _⟩ => fun _ => 0#32 | ⟨_ + 1, h⟩ => absurd h (by simp)

theorem V_v6 (c : Dev nD) : V m c main_v6 = fun _ => 0#32 := by
  simp only [V, hostOps0, List.flatten_cons, List.flatten_nil, List.append_nil, List.cons_append, List.nil_append]
  after_results_simp <;> rfl

theorem tbl_eq : tbl m = zeros := by
  funext j
  match j with
  | ⟨0, _⟩ => exact V_v6 m 0

theorem ok : Ok m := by
  unfold Ok
  rw [tbl_eq]
  have h2 : ∀ i, cc0_transform_2 inb_S1_S1_0 numel1_S1 (zeros (F := F)) i = ![0, 0, 0, 0] := fun _ => rfl
  have h3 : ∀ i, cc0_transform_3 inb_S1_S1_0 numel1_S1 (zeros (F := F)) i = ![0, 0, 0] := fun _ => rfl
  have w2 : ∀ h, (Rect.block (s := S1x4x1024x1408) S1x4x1024x1408.size ![0, 0, 0, 0] h).WholeWords (EltTy.packing .bf16) := by decide
  have w3 : ∀ h, (Rect.block (s := S1x2816x1024) S1x2816x1024.size ![0, 0, 0] h).WholeWords (EltTy.packing .bf16) := by decide
  refine ⟨fun i => ⟨fun a => by rw [h2]; revert a; decide, Or.inr ?_⟩, fun i => ⟨fun a => by rw [h3]; revert a; decide, Or.inr ?_⟩⟩
  · simp only [h2]; exact w2 _
  · simp only [h3]; exact w3 _
end Table

/-! ## What the body leaves -/

section Body
variable (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1x4x1024x1408 .bf16) (harg4 : arg4.IsWhole) (arg5 : Memref sig .tc .vmem S1x2816x1024 .bf16) (harg5 : arg5.IsWhole) (arg6 : Memref sig .tc .vmem S256x1024 .f32) (harg6 : arg6.IsWhole) (arg7 : Memref sig .tc .vmem S256x5632 .bf16) (harg7 : arg7.IsWhole)
  (x0 : Vec Ideal S256x1024 .f32) (x1 : Vec Ideal S1x1024 .f32) (x2 : Vec Ideal S1x4x1024x1408 .bf16) (x3 : Vec Ideal S1x2816x1024 .bf16) (xt : TbBuf0 (F := Ideal) c tbM0_0)

/-- The projection, a quarter of its columns at a time, and the activations after the two products. -/
abbrev payP : FVec Ideal S256x5632 .f32 := k0_pay2 x0 x1
  (View.ld (Val := Elt Ideal) (e' := .bf16) x2 (Rect.unit ![0, 0, 0, 0] ![1, 1, 1024, 1408] inb_S1x4x1024x1408_S1x1x1024x1408_0_0_0_0))
  (View.ld (Val := Elt Ideal) (e' := .bf16) x2 (Rect.unit ![0, 1, 0, 0] ![1, 1, 1024, 1408] inb_S1x4x1024x1408_S1x1x1024x1408_0_1_0_0))
  (View.ld (Val := Elt Ideal) (e' := .bf16) x2 (Rect.unit ![0, 2, 0, 0] ![1, 1, 1024, 1408] inb_S1x4x1024x1408_S1x1x1024x1408_0_2_0_0))
  (View.ld (Val := Elt Ideal) (e' := .bf16) x2 (Rect.unit ![0, 3, 0, 0] ![1, 1, 1024, 1408] inb_S1x4x1024x1408_S1x1x1024x1408_0_3_0_0))
abbrev payY : FVec Ideal S256x1024 .f32 := k0_pay1 x0 (payP x0 x1 x2) x3
abbrev payU : FVec Ideal S256x5632 .bf16 := truncf (F := Ideal) .bf16 (payP x0 x1 x2) bitsLt_bf16_f32

theorem out_4 : out0_A_4 c i arg2 harg2 arg3 harg3 arg4 harg4 arg5 harg5 arg6 harg6 arg7 harg7 x0 x1 x2 x3 xt = payY x0 x1 x2 x3 := by
  unfold out0_A_4
  rw [View.read_writes_eq_canon _ _ _ (cover0_A_4 c i arg2 harg2 arg3 harg3 arg4 harg4 arg5 harg5 arg6 harg6 arg7 harg7 x0 x1 x2 x3 xt)]
  unfold kernelRun0_A
  dsimp only
  try sl_unfold_words
  rw [View.canon_unit_zero hz2]
  simp only [View.readAt_eq_ld, harg2.read_unread, harg3.read_unread, harg4.read_unread, harg5.read_unread, View.ld_unit_zero (S := S256x1024) hz2, View.ld_unit_zero (S := S1x1024) hz2, View.ld_unit_zero (S := S1x2816x1024) hz3]
theorem out_5 : out0_A_5 c i arg2 harg2 arg3 harg3 arg4 harg4 arg5 harg5 arg6 harg6 arg7 harg7 x0 x1 x2 x3 xt = payU x0 x1 x2 := by
  unfold out0_A_5
  rw [View.read_writes_eq_canon _ _ _ (cover0_A_5 c i arg2 harg2 arg3 harg3 arg4 harg4 arg5 harg5 arg6 harg6 arg7 harg7 x0 x1 x2 x3 xt)]
  unfold kernelRun0_A
  dsimp only
  try sl_unfold_words
  rw [View.canon_unit_zero hz2]
  simp only [View.readAt_eq_ld, harg2.read_unread, harg3.read_unread, harg4.read_unread, harg5.read_unread, View.ld_unit_zero (S := S256x1024) hz2, View.ld_unit_zero (S := S1x1024) hz2]
  rfl
end Body

/-! ## At an index -/

variable (x0 : Vec Ideal S256x1024 .f32) (x1 : Vec Ideal S1x1024 .f32) (x2 : Vec Ideal S1x4x1024x1408 .bf16) (x3 : Vec Ideal S1x2816x1024 .bf16)

/-- A normed row of the block. -/
def row (s : Fin 256) (d : Fin 1024) : EReal := x0 (ix2 s d) * (scale fun e => x0 (ix2 s e)) * x1 (ix2 0 d)

theorem four_at (q0 q1 q2 q3 : Vec Ideal S1x1x1024x1408 .bf16) (s : Fin 256) (j : Fin 5632) :
    (k0_pay2 x0 x1 q0 q1 q2 q3 (ix2 s j) : EReal)
      = if h : j.val < 1408 then ∑ d, row x0 x1 s d * q0 (ix4 0 0 d ⟨j.val, h⟩)
        else if h : j.val - 1408 < 1408 then ∑ d, row x0 x1 s d * q1 (ix4 0 0 d ⟨j.val - 1408, h⟩)
        else if h : j.val - 1408 - 1408 < 1408 then ∑ d, row x0 x1 s d * q2 (ix4 0 0 d ⟨j.val - 1408 - 1408, h⟩)
        else ∑ d, row x0 x1 s d * q3 (ix4 0 0 d ⟨j.val - 1408 - 1408 - 1408, by omega⟩) := by
  pointwise [k0_pay2]
  simp only [size, eps]
  rfl

/-- A quarter's product is the columns'. -/
theorem quarter_sum (k : Fin 4) (inb) (s : Fin 256) (j : Fin 5632) (i : Fin 1408) (hi : 1408 * k.val + i.val = j.val) :
    (∑ d, row x0 x1 s d * View.ld (Val := Elt Ideal) (e' := .bf16) x2 (Rect.unit ![0, k.val, 0, 0] ![1, 1, 1024, 1408] inb) (ix4 0 0 d i) : EReal)
      = ∑ d, row x0 x1 s d * col x2 d j :=
  Finset.sum_congr rfl fun d _ => congrArg (row x0 x1 s d * ·)
    ((ldW x2 k inb d i).trans ((col_quarter x2 k d i (by omega)).symm.trans (congrArg (col x2 d) (Fin.ext hi))))

theorem p_at (s : Fin 256) (j : Fin 5632) : (payP x0 x1 x2 (ix2 s j) : EReal) = ∑ d, row x0 x1 s d * col x2 d j := by
  refine (four_at _ _ _ _ _ _ s j).trans ?_
  split
  · exact quarter_sum x0 x1 x2 0 _ s j _ (by simp)
  split
  · exact quarter_sum x0 x1 x2 1 _ s j _ (by show 1408 * 1 + (j.val - 1408) = j.val; omega)
  split
  · exact quarter_sum x0 x1 x2 2 _ s j _ (by show 1408 * 2 + (j.val - 1408 - 1408) = j.val; omega)
  · exact quarter_sum x0 x1 x2 3 _ s j _ (by show 1408 * 3 + (j.val - 1408 - 1408 - 1408) = j.val; omega)

theorem y_at (p : FVec Ideal S256x5632 .f32) (s : Fin 256) (d : Fin 1024) :
    (k0_pay1 x0 p x3 (ix2 s d) : EReal)
      = x0 (ix2 s d) + ∑ j : Fin 2816, p (ix2 s ⟨j.val, by omega⟩) * sg (p (ix2 s ⟨j.val, by omega⟩)) * p (ix2 s ⟨2816 + j.val, by omega⟩) * x3 (ix3 0 j d) := by
  pointwise [k0_pay1]
  simp only [half]
  rfl

end Cert.Kernel7Ideal.Val
end
-- ==== Proof.FfnArr.lean ====
/-
  The two arrays the feed-forward forward call leaves, of the arguments.
-/
module

public import proofs.«01_k».proof.Proof.Ffn

@[expose] public section

set_option maxRecDepth 16384

noncomputable section

namespace Cert.Kernel7Ideal.Val
open Cert.Kernel7Ideal Cert.Kernel7Ideal.Gen

open Idealize.ShloMosaic Idealize.ShloMosaic.TcCoe Idealize.ShloMosaic.Tactic Idealize.SL.Sem
open Idealize.ShloMosaic.Pipeline
open Cert.Norm (scale level ε)
open Cert.Silu (sg lg)
open Cert.Kernel6Ideal.Val (sc hid proj gate value acts col oW1 oW2 oW1_at oW2_at place rows_covered)

/-! ## The call's results, of its arguments -/

section Spec
variable (x : S4096x1024.Idx → EReal) (g : S1x1024.Idx → EReal) (w1 : S1024x5632.Idx → EReal) (w2 : S2816x1024.Idx → EReal)

/-- The stream with the activations' product added, and the projection. -/
def stream (I : S4096x1024.Idx) : EReal := x (ix2 (I 0) (I 1)) + ∑ j : Fin 2816, acts x g w1 (ix2 (I 0) j) * w2 (ix2 j (I 1))
def projs (I : S4096x5632.Idx) : EReal := proj x g w1 (I 0) (I 1)
end Spec

/-! ## The arguments and the host's operands -/

variable (m : (ℓ : Loc nD τ sig) → Buf (Elt Ideal) ℓ) (c : Dev nD)

/-- The stream, the norm's weight, the two weights. -/
abbrev aX : S4096x1024.Idx → EReal := m ((c : Thread nD τ).loc main_arg0)
abbrev aG : S1x1024.Idx → EReal := m ((c : Thread nD τ).loc main_arg1)
abbrev aW1 : S1024x5632.Idx → EReal := m ((c : Thread nD τ).loc main_arg2)
abbrev aW2 : S2816x1024.Idx → EReal := m ((c : Thread nD τ).loc main_arg3)

theorem V_v3 : V m c main_v3 = oW1 (aW1 m c) := by
  simp only [V, hostOps0, List.flatten_cons, List.flatten_nil, List.append_nil, List.cons_append, List.nil_append]
  after_results_simp <;> rfl
theorem V_v5 : V m c main_v5 = oW2 (aW2 m c) := by
  simp only [V, hostOps0, List.flatten_cons, List.flatten_nil, List.append_nil, List.cons_append, List.nil_append]
  after_results_simp <;> rfl

/-! ## The blocks -/

abbrev N : ℕ := (cfgM m (ok m)).N

theorem N_eq : N m = 16 := N_0

theorem index0 : ∀ t : Fin (N m), ((cfgM m (ok m)).win 0).index t = ![t.val, 0] := (by decide +kernel : ∀ t : Fin grid0.N, cc0_transform_0 (grid0.coords t) = ![t.val, 0])
theorem index1 : ∀ t : Fin (N m), ((cfgM m (ok m)).win 1).index t = ![0, 0] := (by decide +kernel : ∀ t : Fin grid0.N, cc0_transform_1 (grid0.coords t) = ![0, 0])
theorem index2 (t : Fin (N m)) : ((cfgM m (ok m)).win 2).index t = ![0, 0, 0, 0] := by
  show cc0_transform_2 inb_S1_S1_0 numel1_S1 (tbl m) (grid0.coords t) = _
  rw [tbl_eq]
  rfl
theorem index3 (t : Fin (N m)) : ((cfgM m (ok m)).win 3).index t = ![0, 0, 0] := by
  show cc0_transform_3 inb_S1_S1_0 numel1_S1 (tbl m) (grid0.coords t) = _
  rw [tbl_eq]
  rfl
theorem index4 : ∀ t : Fin (N m), ((cfgM m (ok m)).win 4).index t = ![t.val, 0] := (by decide +kernel : ∀ t : Fin grid0.N, cc0_transform_4 (grid0.coords t) = ![t.val, 0])
theorem index5 : ∀ t : Fin (N m), ((cfgM m (ok m)).win 5).index t = ![t.val, 0] := (by decide +kernel : ∀ t : Fin grid0.N, cc0_transform_5 (grid0.coords t) = ![t.val, 0])

abbrev b0 (t : Fin (N m)) : Vec Ideal S256x1024 .f32 := iblk m (ok m) c 0 t
abbrev b1 (t : Fin (N m)) : Vec Ideal S1x1024 .f32 := iblk m (ok m) c 1 t
abbrev b2 (t : Fin (N m)) : Vec Ideal S1x4x1024x1408 .bf16 := iblk m (ok m) c 2 t
abbrev b3 (t : Fin (N m)) : Vec Ideal S1x2816x1024 .bf16 := iblk m (ok m) c 3 t

/-- The token that row `s` of a block is. -/
def tok (t : Fin (N m)) (s : Fin 256) : Fin 4096 := ⟨256 * t.val + s.val, by
  have : t.val < 16 := lt_of_lt_of_eq t.isLt (N_eq m)
  omega⟩

theorem b0_at (t : Fin (N m)) (s : Fin 256) (d : Fin 1024) : (b0 m c t (ix2 s d) : EReal) = aX m c (ix2 (tok m t s) d) := by
  refine Eq.trans ?_ (congrFun (V_main_arg0 m c) _)
  blk_simp [iblk]
  refine congrArg (V m c main_arg0) ?_
  blk_ext [tok]
  · exact place (congrFun (index0 m t) (0 : Fin 2)) (by show t.val * 256 + s.val = 256 * t.val + s.val; omega)
  · exact place (congrFun (index0 m t) (1 : Fin 2)) (by simp)
theorem b1_at (t : Fin (N m)) (d : Fin 1024) : (b1 m c t (ix2 0 d) : EReal) = aG m c (ix2 0 d) := by
  refine Eq.trans ?_ (congrFun (V_main_arg1 m c) _)
  blk_simp [iblk]
  refine congrArg (V m c main_arg1) ?_
  blk_ext []
  · exact (Nat.add_zero _).trans (congrFun (index1 m t) (0 : Fin 2))
  · exact place (congrFun (index1 m t) (1 : Fin 2)) (by simp)
theorem b2_at (t : Fin (N m)) (k : Fin 4) (d : Fin 1024) (j : Fin 1408) : (b2 m c t (ix4 0 k d j) : EReal) = aW1 m c (ix2 d ⟨k.val * 1408 + j.val, by omega⟩) := by
  refine Eq.trans ?_ ((congrFun (V_v3 m c) _).trans (oW1_at _ k d j))
  blk_simp [iblk]
  refine congrArg (V m c main_v3) ?_
  blk_ext []
  · exact (Nat.add_zero _).trans (congrFun (index2 m t) (0 : Fin 4))
  · exact place (congrFun (index2 m t) (1 : Fin 4)) (by simp)
  · exact place (congrFun (index2 m t) (2 : Fin 4)) (by simp)
  · exact place (congrFun (index2 m t) (3 : Fin 4)) (by simp)
theorem b3_at (t : Fin (N m)) (j : Fin 2816) (e : Fin 1024) : (b3 m c t (ix3 0 j e) : EReal) = aW2 m c (ix2 j e) := by
  refine Eq.trans ?_ ((congrFun (V_v5 m c) _).trans (oW2_at _ j e))
  blk_simp [iblk]
  refine congrArg (V m c main_v5) ?_
  blk_ext []
  · exact (Nat.add_zero _).trans (congrFun (index3 m t) (0 : Fin 3))
  · exact place (congrFun (index3 m t) (1 : Fin 3)) (by simp)
  · exact place (congrFun (index3 m t) (2 : Fin 3)) (by simp)

/-! What a point computes, of its tokens. -/

theorem row_blk (t : Fin (N m)) (s : Fin 256) (d : Fin 1024) : row (b0 m c t) (b1 m c t) s d = hid (aX m c) (aG m c) (tok m t s) d := by
  simp only [row, hid, b0_at, b1_at]
theorem col_blk (t : Fin (N m)) (d : Fin 1024) (j : Fin 5632) : col (b2 m c t) d j = aW1 m c (ix2 d j) := by
  refine (b2_at m c t _ d _).trans (congrArg (fun k => aW1 m c (ix2 d k)) (Fin.ext ?_))
  show j.val / 1408 * 1408 + j.val % 1408 = j.val
  omega
theorem p_blk (t : Fin (N m)) (s : Fin 256) (j : Fin 5632) : (payP (b0 m c t) (b1 m c t) (b2 m c t) (ix2 s j) : EReal) = projs (aX m c) (aG m c) (aW1 m c) (ix2 (tok m t s) j) := by
  refine (p_at _ _ _ s j).trans ?_
  simp only [row_blk, col_blk]
  rfl
theorem y_blk (t : Fin (N m)) (s : Fin 256) (d : Fin 1024) :
    (payY (b0 m c t) (b1 m c t) (b2 m c t) (b3 m c t) (ix2 s d) : EReal) = stream (aX m c) (aG m c) (aW1 m c) (aW2 m c) (ix2 (tok m t s) d) := by
  refine (y_at _ _ _ s d).trans ?_
  simp only [p_blk, b0_at, b3_at]
  rfl

/-! ## The arrays after the launch -/

theorem covers4 : ((cfgM m (ok m)).win 4).Covers :=
  rows_covered 1024 (by decide) _ (index4 m) _ (flush0_4 _) _ fun _ => funext fun a => match a with | ⟨0, _⟩ => rfl | ⟨1, _⟩ => rfl
theorem covers5 : ((cfgM m (ok m)).win 5).Covers :=
  rows_covered 5632 (by decide) _ (index5 m) _ (flush0_5 _) _ fun _ => funext fun a => match a with | ⟨0, _⟩ => rfl | ⟨1, _⟩ => rfl

theorem outs_4 (t : Fin (N m)) : (outsAt0 m (ok m) c t).1 = payY (b0 m c t) (b1 m c t) (b2 m c t) (b3 m c t) := by
  unfold outsAt0
  dsimp only
  exact out_4 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (b0 m c t) (b1 m c t) (b2 m c t) (b3 m c t) (tbl m 0)
theorem outs_5 (t : Fin (N m)) : (outsAt0 m (ok m) c t).2 = payU (b0 m c t) (b1 m c t) (b2 m c t) := by
  unfold outsAt0
  dsimp only
  exact out_5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (b0 m c t) (b1 m c t) (b2 m c t) (b3 m c t) (tbl m 0)

theorem arr_Y : (dats m (ok m) 0 c).arrAt 4 (N m) = stream (aX m c) (aG m c) (aW1 m c) (aW2 m c) := by
  refine (dats m (ok m) 0 c).arrAt_eq_of_covers 4 _ (covers4 m) fun t hf (y : S256x1024.Idx) => ?_
  blk_simp
  rw [after0_4]
  refine (congrFun (outs_4 m c t) y).trans ?_
  refine (congrArg (payY _ _ _ _) (eq_ix2 y)).trans ((y_blk m c t (y 0) (y 1)).trans (congrArg (stream _ _ _ _) ?_))
  blk_ext [tok]
  · exact (place (congrFun (index4 m t) (0 : Fin 2)) (show t.val * 256 + (y (0 : Fin 2)).val = 256 * t.val + (y (0 : Fin 2)).val by omega)).symm
  · exact (place (congrFun (index4 m t) (1 : Fin 2)) (by simp)).symm
theorem arr_U : (dats m (ok m) 0 c).arrAt 5 (N m) = projs (aX m c) (aG m c) (aW1 m c) := by
  refine (dats m (ok m) 0 c).arrAt_eq_of_covers 5 _ (covers5 m) fun t hf (y : S256x5632.Idx) => ?_
  blk_simp
  rw [after0_5]
  refine (congrFun (outs_5 m c t) y).trans ?_
  refine (congrArg (payP _ _ _) (eq_ix2 y)).trans ((p_blk m c t (y 0) (y 1)).trans (congrArg (projs _ _ _) ?_))
  blk_ext [tok]
  · exact (place (congrFun (index5 m t) (0 : Fin 2)) (show t.val * 256 + (y (0 : Fin 2)).val = 256 * t.val + (y (0 : Fin 2)).val by omega)).symm
  · exact (place (congrFun (index5 m t) (1 : Fin 2)) (by simp)).symm

end Cert.Kernel7Ideal.Val
end
-- ==== Proof.FfnEqual.lean ====
/-
  The feed-forward forward call and its reference: the same two arrays, whatever the arguments. And the kernel as printed
  runs and ends at rest: its program is the ideal one's text, whose run is proved at any floats.
-/
module

public import proofs.«01_k».proof.Proof.FfnArr
public import proofs.«01_k».proof.Proof.GluRef
public import proofs.«01_k».proof.Proof.Gen.Kernel7
public import proofs.«01_k».proof.Proof.Gen.Reference7Ideal.Run

@[expose] public section

set_option maxRecDepth 100000

noncomputable section

namespace Cert.Reference7Ideal.Val
open Cert.Reference7Ideal Cert.Reference7Ideal.Gen
open Idealize.ShloMosaic Idealize.ShloMosaic.TcCoe Idealize.SL.Sem
open Cert.Silu (sg lg)
open Cert.Kernel6Ideal.Val (hid proj gate value acts)
open Cert.Kernel7Ideal.Val (stream projs)
open Cert.Reference6Ideal.Val (tHid tGate tValue tAct tHid_at tGate_at tValue_at tAct_at)

/-! ## The reference at an index -/

variable (x : Vec Ideal S4096x1024 .f32) (g : Vec Ideal S1x1024 .f32) (w1 : Vec Ideal S1024x5632 .f32) (w2 : Vec Ideal S2816x1024 .f32)

/-- The projection, the gated values, the stream with their product added. -/
def tProj (h : Vec Ideal S4096x1024 .f32) : Vec Ideal S4096x5632 .f32 :=
  Host.dotGeneral (F := Ideal) (φ₁ := .f32) (φ₂ := .f32) dot_S4096x1024_S1024x5632_S4096x5632_1_0_0_1_n_n none h w1
def tAdd (a : Vec Ideal S4096x2816 .f32) : Vec Ideal S4096x1024 .f32 :=
  addf (F := Ideal) (φ := .f32) x (Host.dotGeneral (F := Ideal) (φ₁ := .f32) (φ₂ := .f32) dot_S4096x2816_S2816x1024_S4096x1024_1_0_0_1_n_n none a w2)
abbrev rProj : Vec Ideal S4096x5632 .f32 := tProj w1 (tHid x g)
abbrev rStream : Vec Ideal S4096x1024 .f32 := tAdd x w2 (tAct (tGate (rProj x g w1)) (tValue (rProj x g w1)))

theorem tProj_at (h : Vec Ideal S4096x1024 .f32) (s : Fin 4096) (j : Fin 5632) : (tProj w1 h (ix2 s j) : EReal) = ∑ d, h (ix2 s d) * w1 (ix2 d j) := by
  pointwise [tProj]
theorem tAdd_at (a : Vec Ideal S4096x2816 .f32) (s : Fin 4096) (d : Fin 1024) : (tAdd x w2 a (ix2 s d) : EReal) = x (ix2 s d) + ∑ j, a (ix2 s j) * w2 (ix2 j d) := by
  pointwise [tAdd]

theorem rProj_at (s : Fin 4096) (j : Fin 5632) : (rProj x g w1 (ix2 s j) : EReal) = proj x g w1 s j := by
  refine (tProj_at _ _ s j).trans ?_
  simp only [tHid_at, proj]
theorem rAct_at (s : Fin 4096) (j : Fin 2816) : (tAct (tGate (rProj x g w1)) (tValue (rProj x g w1)) (ix2 s j) : EReal) = acts x g w1 (ix2 s j) := by
  refine (tAct_at _ _ s j).trans ?_
  rw [tGate_at, tValue_at, rProj_at, rProj_at, ← Cert.Silu.sg_eq]
  rfl
theorem rStream_at (s : Fin 4096) (d : Fin 1024) : (rStream x g w1 w2 (ix2 s d) : EReal) = stream x g w1 w2 (ix2 s d) := by
  refine (tAdd_at _ _ _ s d).trans ?_
  simp only [rAct_at]
  rfl

theorem rProj_eq : (rProj x g w1 : S4096x5632.Idx → EReal) = projs x g w1 :=
  funext fun I => (congrArg (rProj x g w1) (eq_ix2 I)).trans (rProj_at x g w1 (I 0) (I 1))
theorem rStream_eq : (rStream x g w1 w2 : S4096x1024.Idx → EReal) = stream x g w1 w2 :=
  funext fun I => (congrArg (rStream x g w1 w2) (eq_ix2 I)).trans ((rStream_at x g w1 w2 (I 0) (I 1)).trans (congrArg (stream x g w1 w2) (eq_ix2 I).symm))

theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems (by decide) r.2⟩) (Value.run (F := Ideal) m ρ)

end Cert.Reference7Ideal.Val

namespace Cert.Kernel7Ideal.Val
open Cert.Kernel7Ideal Cert.Kernel7Ideal.Gen
open Idealize.ShloMosaic Idealize.ShloMosaic.TcCoe Idealize.ShloMosaic.Tactic Idealize.SL.Sem
open Cert.Reference7Ideal.Val

theorem algebraic : Cert.algebraic_Kernel7Ideal_Reference7Ideal := by
  intro m ρ m' ρ' _ hargs
  refine ⟨fun c => stream (aX m c) (aG m c) (aW1 m c) (aW2 m c), fun c => projs (aX m c) (aG m c) (aW1 m c), ?_, ?_⟩
  · refine (θ_run defs _ _).mono (fun r h c => ?_) (θ_run_and (run_main m ρ (ok m)) (frame m ρ (ok m)))
    exact ⟨((h.1 c).1 4).trans (arr_Y m c), ((h.1 c).1 5).trans (arr_U m c), h.2.1 c⟩
  · refine (θ_run Cert.Reference7Ideal.defs _ _).mono (fun r h c => ?_) (Cert.Reference7Ideal.Value.run (F := Ideal) m' ρ')
    obtain ⟨e0, e1, eargs⟩ := h c
    obtain ⟨h0, h1, h2, h3⟩ := hargs c
    refine ⟨e0.trans ?_, e1.trans ?_, eargs⟩
    · refine Eq.trans ?_ (rStream_eq (aX m c) (aG m c) (aW1 m c) (aW2 m c))
      rw [h0, h1, h2, h3]
      rfl
    · refine Eq.trans ?_ (rProj_eq (aX m c) (aG m c) (aW1 m c))
      rw [h0, h1, h2]
      rfl

theorem main_eq {F : FTy → Type} [FloatOps F] : @Cert.Kernel7.main F _ Cert.Kernel7.Gen.facts = @Cert.Kernel7Ideal.main F _ Cert.Kernel7Ideal.Gen.facts := by sl_kernel_rfl
theorem defs_eq {F : FTy → Type} [FloatOps F] : @Cert.Kernel7.defs F _ Cert.Kernel7.Gen.facts = @Cert.Kernel7Ideal.defs F _ Cert.Kernel7Ideal.Gen.facts := by sl_kernel_rfl

theorem frame_printed : Cert.quiescent_Kernel7 (hKernel7 := Cert.Kernel7.Gen.facts) := fun m ρ _ => by
  rw [main_eq, defs_eq]
  exact frame (F := Bits) m ρ (ok m)
theorem frame_ideal : Cert.quiescent_Kernel7Ideal (hKernel7Ideal := Cert.Kernel7Ideal.Gen.facts) := fun m ρ _ => frame m ρ (ok m)

end Cert.Kernel7Ideal.Val
end
-- ==== Proof.InProj.lean ====
/-
  The input projection's forward call: the four arrays it leaves, of the arguments, and its reference's, the same. The
  columns of the projection are in three parts; the second is filled up with zeros.
-/
module

public import proofs.«01_k».proof.Proof.Input
public import proofs.«01_k».proof.Proof.GluRef
public import proofs.«01_k».proof.Proof.Gen.Kernel8Ideal.Frame
public import proofs.«01_k».proof.Proof.Gen.Reference8Ideal.Run

@[expose] public section

set_option maxRecDepth 16384

noncomputable section

namespace Cert.Kernel8Ideal.Val
open Cert.Kernel8Ideal Cert.Kernel8Ideal.Gen

open Idealize.ShloMosaic Idealize.ShloMosaic.TcCoe Idealize.ShloMosaic.Tactic Idealize.SL.Sem
open Idealize.ShloMosaic.Pipeline
open Cert.Norm (scale level ε)
open Cert.Kernel6Ideal.Val (size eps hz2 hid hids)
open Cert.Kernel2Ideal.Val (oWA oWF oWB oWFp zeroB oWA_at oWF_at oWB_at zeroB_at pad_at)

/-! ## The call's results, of its arguments -/

section Spec
variable (x : S4096x1024.Idx → EReal) (g : S1x1024.Idx → EReal) (w : S1024x5640.Idx → EReal)

/-- The projection of the normed rows, and its columns in three parts. -/
def proj (s : Fin 4096) (j : Fin 5640) : EReal := ∑ d, hid x g s d * w (ix2 d j)
def colsA (I : S4096x1536.Idx) : EReal := proj x g w (I 0) ⟨(I 1).val, by have : (I 1).val < 1536 := (I 1).isLt; omega⟩
def colsF (I : S4096x128.Idx) : EReal := if h : (I 1).val < 8 then proj x g w (I 0) ⟨1536 + (I 1).val, by omega⟩ else 0
def colsB (I : S4096x4096.Idx) : EReal := proj x g w (I 0) ⟨1544 + (I 1).val, by have : (I 1).val < 4096 := (I 1).isLt; omega⟩
end Spec

/-! ## A block at an index -/

section Point
variable (x0 : Vec Ideal S256x1024 .f32) (x1 : Vec Ideal S1x1024 .f32)

/-- A normed row of the block. -/
def row (s : Fin 256) (d : Fin 1024) : EReal := x0 (ix2 s d) * (scale fun e => x0 (ix2 s e)) * x1 (ix2 0 d)

theorem h_at (s : Fin 256) (d : Fin 1024) : (k0_pay1 x0 x1 (ix2 s d) : EReal) = row x0 x1 s d := by
  pointwise [k0_pay1]
  simp only [size, eps]
  rfl
theorem a_at (w : Vec Ideal S1024x1536 .bf16) (s : Fin 256) (j : Fin 1536) : (k0_pay2 x0 x1 w (ix2 s j) : EReal) = ∑ d, row x0 x1 s d * w (ix2 d j) := by
  simp only [← h_at]
  pointwise [k0_pay2]
theorem f_at (w : Vec Ideal S1024x128 .bf16) (s : Fin 256) (j : Fin 128) : (k0_pay3 x0 x1 w (ix2 s j) : EReal) = ∑ d, row x0 x1 s d * w (ix2 d j) := by
  simp only [← h_at]
  pointwise [k0_pay3]
theorem b_at (w : Vec Ideal S1024x4096 .bf16) (s : Fin 256) (j : Fin 4096) : (k0_pay4 x0 x1 w (ix2 s j) : EReal) = ∑ d, row x0 x1 s d * w (ix2 d j) := by
  simp only [← h_at]
  pointwise [k0_pay4]

variable (x2 : Vec Ideal S1024x1536 .bf16) (x3 : Vec Ideal S1024x128 .bf16) (x4 : Vec Ideal S1024x4096 .bf16)

theorem out_5 : out0_5 x0 x1 x2 x3 x4 = k0_pay1 x0 x1 := by
  unfold out0_5
  rw [View.canon_unit_zero hz2, View.ld_unit_zero (S := S256x1024) hz2, View.ld_unit_zero (S := S1x1024) hz2]
theorem out_6 : out0_6 x0 x1 x2 x3 x4 = k0_pay2 x0 x1 x2 := by
  unfold out0_6
  rw [View.canon_unit_zero hz2, View.ld_unit_zero (S := S256x1024) hz2, View.ld_unit_zero (S := S1x1024) hz2, View.ld_unit_zero (S := S1024x1536) hz2]
theorem out_7 : out0_7 x0 x1 x2 x3 x4 = k0_pay3 x0 x1 x3 := by
  unfold out0_7
  rw [View.canon_unit_zero hz2, View.ld_unit_zero (S := S256x1024) hz2, View.ld_unit_zero (S := S1x1024) hz2, View.ld_unit_zero (S := S1024x128) hz2]
theorem out_8 : out0_8 x0 x1 x2 x3 x4 = k0_pay4 x0 x1 x4 := by
  unfold out0_8
  rw [View.canon_unit_zero hz2, View.ld_unit_zero (S := S256x1024) hz2, View.ld_unit_zero (S := S1x1024) hz2, View.ld_unit_zero (S := S1024x4096) hz2]
end Point

/-! ## The arguments, the host's operands and the blocks -/

variable (m : (ℓ : Loc nD τ sig) → Buf (Elt Ideal) ℓ) (c : Dev nD)

/-- The stream, the norm's weight, the projection's weight. -/
abbrev aX : S4096x1024.Idx → EReal := m ((c : Thread nD τ).loc main_arg0)
abbrev aG : S1x1024.Idx → EReal := m ((c : Thread nD τ).loc main_arg1)
abbrev aW : S1024x5640.Idx → EReal := m ((c : Thread nD τ).loc main_arg2)

theorem V_v1 : V m c main_v1 = oWA (aW m c) := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp <;> rfl
theorem V_v4 : V m c main_v4 = oWFp (aW m c) := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp <;> rfl
theorem V_v3 : V m c main_v3 = oWB (aW m c) := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp <;> rfl

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)

abbrev b0 (t : Fin cfg0.N) : Vec Ideal S256x1024 .f32 := iblk m c 0 t
abbrev b1 (t : Fin cfg0.N) : Vec Ideal S1x1024 .f32 := iblk m c 1 t
abbrev b2 (t : Fin cfg0.N) : Vec Ideal S1024x1536 .bf16 := iblk m c 2 t
abbrev b3 (t : Fin cfg0.N) : Vec Ideal S1024x128 .bf16 := iblk m c 3 t
abbrev b4 (t : Fin cfg0.N) : Vec Ideal S1024x4096 .bf16 := iblk m c 4 t

/-- The token that row `s` of a point's block is. -/
def tok (t : Fin cfg0.N) (s : Fin 256) : Fin 4096 := ⟨256 * t.val + s.val, by
  have := t.isLt
  have h : cfg0.N = 16 := by decide
  omega⟩

theorem b0_at (t : Fin cfg0.N) (s : Fin 256) (d : Fin 1024) : (b0 m c t (ix2 s d) : EReal) = aX m c (ix2 (tok t s) d) := by
  refine Eq.trans ?_ (congrFun (V_main_arg0 m c) _)
  blk_simp [iblk]
  refine congrArg (V m c main_arg0) ?_
  blk_ext [index0, tok]
theorem b1_at (t : Fin cfg0.N) (d : Fin 1024) : (b1 m c t (ix2 0 d) : EReal) = aG m c (ix2 0 d) := by
  refine Eq.trans ?_ (congrFun (V_main_arg1 m c) _)
  blk_simp [iblk]
  refine congrArg (V m c main_arg1) ?_
  blk_ext [index1]
theorem b2_at (t : Fin cfg0.N) (d : Fin 1024) (j : Fin 1536) : (b2 m c t (ix2 d j) : EReal) = aW m c (ix2 d ⟨j.val, by omega⟩) := by
  refine Eq.trans ?_ ((congrFun (V_v1 m c) _).trans (oWA_at _ d j))
  blk_simp [iblk]
  refine congrArg (V m c main_v1) ?_
  blk_ext [index2]
theorem b3_at (t : Fin cfg0.N) (d : Fin 1024) (j : Fin 128) : (b3 m c t (ix2 d j) : EReal) = if h : j.val < 8 then aW m c (ix2 d ⟨1536 + j.val, by omega⟩) else 0 := by
  refine Eq.trans ?_ ((congrFun (V_v4 m c) (ix2 d j)).trans ((pad_at _ _ _ _ d j).trans ?_))
  · blk_simp [iblk]
    refine congrArg (V m c main_v4) ?_
    blk_ext [index3]
  · by_cases hj : j.val < 8
    · rw [dif_pos hj, dif_pos hj, oWF_at]
    · rw [dif_neg hj, dif_neg hj, zeroB_at]
theorem b4_at (t : Fin cfg0.N) (d : Fin 1024) (j : Fin 4096) : (b4 m c t (ix2 d j) : EReal) = aW m c (ix2 d ⟨1544 + j.val, by omega⟩) := by
  refine Eq.trans ?_ ((congrFun (V_v3 m c) _).trans (oWB_at _ d j))
  blk_simp [iblk]
  refine congrArg (V m c main_v3) ?_
  blk_ext [index4]

/-! What a point computes, of its tokens. -/

theorem row_blk (t : Fin cfg0.N) (s : Fin 256) (d : Fin 1024) : row (b0 m c t) (b1 m c t) s d = hid (aX m c) (aG m c) (tok t s) d := by
  simp only [row, hid, b0_at, b1_at]
theorem h_blk (t : Fin cfg0.N) (s : Fin 256) (d : Fin 1024) : (k0_pay1 (b0 m c t) (b1 m c t) (ix2 s d) : EReal) = hids (aX m c) (aG m c) (ix2 (tok t s) d) :=
  (h_at _ _ s d).trans (row_blk m c t s d)
theorem a_blk (t : Fin cfg0.N) (s : Fin 256) (j : Fin 1536) : (k0_pay2 (b0 m c t) (b1 m c t) (b2 m c t) (ix2 s j) : EReal) = colsA (aX m c) (aG m c) (aW m c) (ix2 (tok t s) j) := by
  refine (a_at _ _ _ s j).trans ?_
  simp only [row_blk, b2_at]
  rfl
theorem f_blk (t : Fin cfg0.N) (s : Fin 256) (j : Fin 128) : (k0_pay3 (b0 m c t) (b1 m c t) (b3 m c t) (ix2 s j) : EReal) = colsF (aX m c) (aG m c) (aW m c) (ix2 (tok t s) j) := by
  refine (f_at _ _ _ s j).trans ?_
  simp only [row_blk, b3_at]
  by_cases hj : j.val < 8
  · simp only [dif_pos hj]
    exact Eq.symm (dif_pos hj : colsF (aX m c) (aG m c) (aW m c) (ix2 (tok t s) j) = _)
  · simp only [dif_neg hj, mul_zero, Finset.sum_const_zero]
    exact Eq.symm (dif_neg hj : colsF (aX m c) (aG m c) (aW m c) (ix2 (tok t s) j) = _)
theorem b_blk (t : Fin cfg0.N) (s : Fin 256) (j : Fin 4096) : (k0_pay4 (b0 m c t) (b1 m c t) (b4 m c t) (ix2 s j) : EReal) = colsB (aX m c) (aG m c) (aW m c) (ix2 (tok t s) j) := by
  refine (b_at _ _ _ s j).trans ?_
  simp only [row_blk, b4_at]
  rfl

/-! ## The arrays after the launch -/

theorem arr_H : (dats m 0 c).arrAt 5 cfg0.N = hids (aX m c) (aG m c) := by
  refine (dats m 0 c).arrAt_eq_of_covers 5 _ (by decide +kernel) fun t hf y => ?_
  blk_simp
  rw [after0_5]
  refine (congrFun (out_5 (b0 m c t) (b1 m c t) (b2 m c t) (b3 m c t) (b4 m c t)) y).trans ?_
  refine (congrArg (k0_pay1 _ _) (eq_ix2 y)).trans ((h_blk m c t (y 0) (y 1)).trans (congrArg (hids _ _) ?_))
  blk_ext [index5, tok]
theorem arr_A : (dats m 0 c).arrAt 6 cfg0.N = colsA (aX m c) (aG m c) (aW m c) := by
  refine (dats m 0 c).arrAt_eq_of_covers 6 _ (by decide +kernel) fun t hf y => ?_
  blk_simp
  rw [after0_6]
  refine (congrFun (out_6 (b0 m c t) (b1 m c t) (b2 m c t) (b3 m c t) (b4 m c t)) y).trans ?_
  refine (congrArg (k0_pay2 _ _ _) (eq_ix2 y)).trans ((a_blk m c t (y 0) (y 1)).trans (congrArg (colsA _ _ _) ?_))
  blk_ext [index6, tok]
theorem arr_F : (dats m 0 c).arrAt 7 cfg0.N = colsF (aX m c) (aG m c) (aW m c) := by
  refine (dats m 0 c).arrAt_eq_of_covers 7 _ (by decide +kernel) fun t hf y => ?_
  blk_simp
  rw [after0_7]
  refine (congrFun (out_7 (b0 m c t) (b1 m c t) (b2 m c t) (b3 m c t) (b4 m c t)) y).trans ?_
  refine (congrArg (k0_pay3 _ _ _) (eq_ix2 y)).trans ((f_blk m c t (y 0) (y 1)).trans (congrArg (colsF _ _ _) ?_))
  blk_ext [index7, tok]
theorem arr_B : (dats m 0 c).arrAt 8 cfg0.N = colsB (aX m c) (aG m c) (aW m c) := by
  refine (dats m 0 c).arrAt_eq_of_covers 8 _ (by decide +kernel) fun t hf y => ?_
  blk_simp
  rw [after0_8]
  refine (congrFun (out_8 (b0 m c t) (b1 m c t) (b2 m c t) (b3 m c t) (b4 m c t)) y).trans ?_
  refine (congrArg (k0_pay4 _ _ _) (eq_ix2 y)).trans ((b_blk m c t (y 0) (y 1)).trans (congrArg (colsB _ _ _) ?_))
  blk_ext [index8, tok]

end Cert.Kernel8Ideal.Val

/-! ## The reference at an index -/

namespace Cert.Reference8Ideal.Val
open Cert.Reference8Ideal Cert.Reference8Ideal.Gen
open Idealize.ShloMosaic Idealize.ShloMosaic.TcCoe Idealize.SL.Sem
open Cert.Kernel6Ideal.Val (hid hids)
open Cert.Kernel8Ideal.Val (proj colsA colsF colsB)
open Cert.Kernel2Ideal.Val (pad_at)
open Cert.Reference6Ideal.Val (tHid tHid_at)

section Terms
variable (p : Vec Ideal S4096x5640 .f32)

/-- The projection of rows and its three parts. -/
def tProj (w : Vec Ideal S1024x5640 .f32) (h : Vec Ideal S4096x1024 .f32) : Vec Ideal S4096x5640 .f32 :=
  Host.dotGeneral (F := Ideal) (φ₁ := .f32) (φ₂ := .f32) dot_S4096x1024_S1024x5640_S4096x5640_1_0_0_1_n_n none h w
def tA : Vec Ideal S4096x1536 .f32 := extractStridedSlice S4096x1536 ![0, 0] p slices_S4096x5640_S4096x1536_0_0
def tF8 : Vec Ideal S4096x8 .f32 := extractStridedSlice S4096x8 ![0, 1536] p slices_S4096x5640_S4096x8_0_1536
def tZero : Vec Ideal S_ .f32 := sitofp (F := Ideal) .f32 (constantI S_ 32 0#32)
def tF : Vec Ideal S4096x128 .f32 := pad S4096x128 ![0, 0] ![0, 120] ![0, 0] (tF8 p) tZero pads_S4096x8_S4096x128_000_01200 h_S_
def tB : Vec Ideal S4096x4096 .f32 := extractStridedSlice S4096x4096 ![0, 1544] p slices_S4096x5640_S4096x4096_0_1544

theorem tProj_at (w : Vec Ideal S1024x5640 .f32) (h : Vec Ideal S4096x1024 .f32) (s : Fin 4096) (j : Fin 5640) : (tProj w h (ix2 s j) : EReal) = ∑ d, h (ix2 s d) * w (ix2 d j) := by
  pointwise [tProj]
theorem tA_at (s : Fin 4096) (j : Fin 1536) : (tA p (ix2 s j) : EReal) = p (ix2 s ⟨j.val, by omega⟩) := by
  pointwise [tA]
theorem tF8_at (s : Fin 4096) (j : Fin 8) : (tF8 p (ix2 s j) : EReal) = p (ix2 s ⟨1536 + j.val, by omega⟩) := by
  pointwise [tF8]
theorem tB_at (s : Fin 4096) (j : Fin 4096) : (tB p (ix2 s j) : EReal) = p (ix2 s ⟨1544 + j.val, by omega⟩) := by
  pointwise [tB]
theorem tZero_at (I : S_.Idx) : (tZero I : EReal) = 0 := by
  pointwise [tZero]
  show (((0#32 : BitVec 32).toInt : ℝ) : EReal) = 0
  simp
theorem tF_at (s : Fin 4096) (j : Fin 128) : (tF p (ix2 s j) : EReal) = if h : j.val < 8 then (p (ix2 s ⟨1536 + j.val, by omega⟩) : EReal) else 0 := by
  refine (pad_at _ _ _ _ s j).trans ?_
  by_cases hj : j.val < 8
  · rw [dif_pos hj, dif_pos hj, tF8_at]
  · rw [dif_neg hj, dif_neg hj, tZero_at]
end Terms

variable (x : Vec Ideal S4096x1024 .f32) (g : Vec Ideal S1x1024 .f32) (w : Vec Ideal S1024x5640 .f32)

abbrev rProj : Vec Ideal S4096x5640 .f32 := tProj w (tHid x g)

theorem rProj_at (s : Fin 4096) (j : Fin 5640) : (rProj x g w (ix2 s j) : EReal) = proj x g w s j := by
  refine (tProj_at _ _ s j).trans ?_
  simp only [tHid_at, proj]
theorem rHid_eq : (tHid x g : S4096x1024.Idx → EReal) = hids x g :=
  funext fun I => (congrArg (tHid x g) (eq_ix2 I)).trans (tHid_at x g (I 0) (I 1))
theorem rA_eq : (tA (rProj x g w) : S4096x1536.Idx → EReal) = colsA x g w :=
  funext fun I => (congrArg (tA _) (eq_ix2 I)).trans ((tA_at _ (I 0) (I 1)).trans (rProj_at x g w (I 0) _))
theorem rF_eq : (tF (rProj x g w) : S4096x128.Idx → EReal) = colsF x g w := by
  funext I
  refine (congrArg (tF _) (eq_ix2 I)).trans ((tF_at _ (I 0) (I 1)).trans ?_)
  by_cases hj : (I 1).val < 8
  · rw [dif_pos hj]
    exact (rProj_at x g w (I 0) _).trans (Eq.symm (dif_pos hj : colsF x g w I = _))
  · rw [dif_neg hj]
    exact Eq.symm (dif_neg hj : colsF x g w I = _)
theorem rB_eq : (tB (rProj x g w) : S4096x4096.Idx → EReal) = colsB x g w :=
  funext fun I => (congrArg (tB _) (eq_ix2 I)).trans ((tB_at _ (I 0) (I 1)).trans (rProj_at x g w (I 0) _))

theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2.2, sem_eq_zero_of_no_sems (by decide) r.2⟩) (Value.run (F := Ideal) m ρ)

end Cert.Reference8Ideal.Val

/-! ## The same arrays -/

namespace Cert.Kernel8Ideal.Val
open Cert.Kernel8Ideal Cert.Kernel8Ideal.Gen
open Idealize.ShloMosaic Idealize.ShloMosaic.TcCoe Idealize.SL.Sem
open Cert.Kernel6Ideal.Val (hids)
open Cert.Reference8Ideal.Val

theorem algebraic : Cert.algebraic_Kernel8Ideal_Reference8Ideal := by
  intro m ρ m' ρ' _ hargs
  refine ⟨fun c => hids (aX m c) (aG m c), fun c => colsA (aX m c) (aG m c) (aW m c), fun c => colsF (aX m c) (aG m c) (aW m c), fun c => colsB (aX m c) (aG m c) (aW m c), ?_, ?_⟩
  · refine (θ_run defs _ _).mono (fun r h c => ?_) (θ_run_and (run_main m ρ) (frame m ρ))
    exact ⟨((h.1 c).1 5).trans (arr_H m c), ((h.1 c).1 6).trans (arr_A m c), ((h.1 c).1 7).trans (arr_F m c), ((h.1 c).1 8).trans (arr_B m c), h.2.1 c⟩
  · refine (θ_run Cert.Reference8Ideal.defs _ _).mono (fun r h c => ?_) (Cert.Reference8Ideal.Value.run (F := Ideal) m' ρ')
    obtain ⟨e0, e1, e2, e3, eargs⟩ := h c
    obtain ⟨h0, h1, h2⟩ := hargs c
    refine ⟨e0.trans ?_, e1.trans ?_, e2.trans ?_, e3.trans ?_, eargs⟩
    · refine Eq.trans ?_ (rHid_eq (aX m c) (aG m c))
      rw [h0, h1]
      rfl
    · refine Eq.trans ?_ (rA_eq (aX m c) (aG m c) (aW m c))
      rw [h0, h1, h2]
      rfl
    · refine Eq.trans ?_ (rF_eq (aX m c) (aG m c) (aW m c))
      rw [h0, h1, h2]
      rfl
    · refine Eq.trans ?_ (rB_eq (aX m c) (aG m c) (aW m c))
      rw [h0, h1, h2]
      rfl

end Cert.Kernel8Ideal.Val
end
-- ==== Proof.Place.lean ====
/-
  Where the entries of a block lie, and the offsets of a whole block.
-/
module

public import Mathlib.Data.Fin.VecNotation
public import Mathlib.Data.Fintype.Basic
public import Mathlib.Tactic.FinCases
public import Mathlib.Data.EReal.Operations

@[expose] public section

namespace Cert.Blocks

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Where a block's entry lies: the block's place times its size, and the entry's. -/
theorem place {i k n s r : ℕ} (h : i = k) (e : k * n + s = r) : i * n + s = r := h ▸ e

end Cert.Blocks
end
-- ==== Proof.IntoRun.lean ====
/-
  The weight gradient accumulated into a layer of a stacked buffer: the body on one block, the table's contents, the
  launch, and the frame, at any floats. The table's one word, the layer, is 0. At the first half of the tokens the block
  is reset, and each half's product is added to it.
-/
module

public import proofs.«01_k».proof.Defs
public import proofs.«01_k».proof.Proof.Place
public import proofs.«01_k».proof.Proof.Gen.Kernel9Ideal.Launch
public import proofs.«01_k».proof.Proof.Gen.Kernel9Ideal.Skeleton
public import Idealize.ShloMosaic.Lib.Pipeline.FrameBody
public import Idealize.ShloMosaic.Lib.Pipeline.ValueKit
public import Idealize.ShloMosaic.Lib.Pipeline.Frame
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel9Ideal.Val
open Cert.Kernel9Ideal Cert.Kernel9Ideal.Gen
open Cert.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's operations before the launch -/

/-- The buffers when the launch is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_arg0 (c : Dev nD) : V m c main_arg0 = m ((c : Thread nD τ).loc main_arg0) := by
  simp only [V, hostOps0]
  after_results_simp <;> rfl
theorem V_arg1 (c : Dev nD) : V m c main_arg1 = m ((c : Thread nD τ).loc main_arg1) := by
  simp only [V, hostOps0]
  after_results_simp <;> rfl
theorem V_x (c : Dev nD) : V m c main_v1 = truncf .bf16 (m ((c : Thread nD τ).loc main_arg0)) bitsLt_bf16_f32 := by
  simp only [V, hostOps0]
  after_results_simp <;> rfl
theorem V_d (c : Dev nD) : V m c main_v2 = truncf .bf16 (m ((c : Thread nD τ).loc main_arg1)) bitsLt_bf16_f32 := by
  simp only [V, hostOps0]
  after_results_simp <;> rfl
theorem V_layer (c : Dev nD) : V m c main_v3 = fun _ => 0#32 := by
  simp only [V, hostOps0]
  after_results_simp <;> rfl

/-! ## The table -/

/-- The table's contents: zero. -/
def zeros : pre0.Contents (Elt F) := fun | ⟨0, _⟩ => fun _ => 0#32 | ⟨_ + 1, h⟩ => absurd h (by simp)

def tbl : pre0.Contents (Elt F) := fun j => V m (0 : Dev nD) (pre0.ref j)
theorem V_pre (c : Dev nD) (j : Fin 1) : V m c (pre0.ref j) = tbl m j := by
  obtain rfl : c = 0 := Subsingleton.elim _ _; rfl

theorem tbl_eq : tbl m = zeros := by
  funext j
  match j with
  | ⟨0, _⟩ => exact V_layer m 0

/-- The block of one point: the layer 0, and one of the four parts of the columns. -/
theorem layer_zero (i : grid0.Coords) : cc0_transform_3 inb_S1_S1_0 numel1_S1 (zeros (F := F)) i = ![0, (i 0).val, 0, 0] := by
  have h : (BitVec.ofNat 32 (i 0).val).toNat = (i 0).val := by
    have h4 : (i 0).val < 4 := (i 0).isLt
    rw [BitVec.toNat_ofNat]
    exact Nat.mod_eq_of_lt (by omega)
  funext a
  match a with
  | ⟨0, _⟩ => rfl
  | ⟨1, _⟩ => exact h
  | ⟨2, _⟩ => rfl
  | ⟨3, _⟩ => rfl

theorem ok : ok0 (F := F) (tbl m) := by
  rw [tbl_eq]
  refine fun i => ⟨fun a => ?_, Or.inl rfl⟩
  rw [layer_zero]
  have h4 : (i 0).val < 4 := (i 0).isLt
  match a with
  | ⟨0, _⟩ => exact (by decide : (0 + 1) * 1 ≤ 1)
  | ⟨1, _⟩ => show ((i 0).val + 1) * 1 ≤ 4; omega
  | ⟨2, _⟩ => exact (by decide : (0 + 1) * 1024 ≤ 1024)
  | ⟨3, _⟩ => exact (by decide : (0 + 1) * 1408 ≤ 1408)

abbrev adm : (pcfg0 (F := F)).Adm := ⟨tbl m, ok m⟩
abbrev cfgM : Pipeline.Cfg sig Λ₀ := cfg0 (adm m)
abbrev N : ℕ := (cfgM m).N
theorem N_eq : N m = 8 := N_0

abbrev tbM : Memref sig .tc .smem S1 .i32 := Memref.whole main_v3

/-! ## The blocks -/

def iblk (c : Dev nD) (w : Fin (cfgM m).W) (t : Fin (N m)) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (N m)) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (N m)) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin (N m)) : Memref sig .tc .vmem S2048x1024 .bf16 := spec0_0.stage ((cfgM m).slots t 0)
abbrev hs0 (t : Fin (N m)) : (ms0 m t).IsWhole := hstage0_0 (((cfgM m).slots t 0).cast nbuf0_0)
abbrev ms1 (t : Fin (N m)) : Memref sig .tc .vmem S2048x1408 .bf16 := spec0_1.stage ((cfgM m).slots t 1)
abbrev hs1 (t : Fin (N m)) : (ms1 m t).IsWhole := hstage0_1 (((cfgM m).slots t 1).cast nbuf0_1)
abbrev ms2 (t : Fin (N m)) : Memref sig .tc .vmem S1x1x1024x1408 .f32 := spec0_2.stage ((cfgM m).slots t 2)
abbrev hs2 (t : Fin (N m)) : (ms2 m t).IsWhole := hstage0_2 (((cfgM m).slots t 2).cast nbuf0_2)

/-- The body at a point. -/
abbrev bodyAt (t : Fin (N m)) : Prog (TpuEff nD τ sig (Elt F) Λ₀ .tc) PUnit :=
  cc0_wgrad_ffn_in (grid0.coords t) tbM (Memref.isWhole_whole _) (Memref.whole main_v0) (Memref.isWhole_whole _) (ms0 m t) (hs0 m t) (ms1 m t) (hs1 m t) (ms2 m t) (hs2 m t)

/-- The body's test: the first half of the tokens. -/
abbrev first (i : grid0.Coords) : Prop := (Scalar.cmpi .ne (Scalar.extui (Scalar.cmpi .eq (BitVec.ofNat 32 (i 1).val) 0#32)) 0#32) = 1#1
theorem first_iff : ∀ t : Fin grid0.N, first (grid0.coords t) ↔ t.val % 2 = 0 := by
  intro t
  have e1 : (grid0.coords t 1).val = t.val / 1 % 2 := Pipeline.Grid.coords_val t 1 (by decide) rfl
  simp only [first, e1]
  word_cmp

/-! ## The body on one block -/

section Body
variable (c : Dev nD) (i : grid0.Coords) (arg2 : Memref sig .tc .smem S1 .i32) (harg2 : arg2.IsWhole) (arg3 : Memref sig .tc .hbm S1x4x1024x1408 .f32) (harg3 : arg3.IsWhole)
  (arg4 : Memref sig .tc .vmem S2048x1024 .bf16) (harg4 : arg4.IsWhole) (arg5 : Memref sig .tc .vmem S2048x1408 .bf16) (harg5 : arg5.IsWhole)
  (arg6 : Memref sig .tc .vmem S1x1x1024x1408 .f32) (harg6 : arg6.IsWhole)
  (x0 : Vec F S2048x1024 .bf16) (x1 : Vec F S2048x1408 .bf16) (xo : Vec F S1x1x1024x1408 .f32)

/-- The first half's run: the pieces it writes over whatever the block held. -/
def runFirst (hc : first i) :
    { L : List (View.Piece (Elt F) S1x1x1024x1408 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d)
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc0_wgrad_ffn_in i arg2 harg2 arg3 harg3 arg4 harg4 arg5 harg5 arg6 harg6) K } := by
  refine ⟨?_, fun E K => ?run⟩
  case run =>
    simp only [cc0_wgrad_ffn_in_eq_skeleton]; unfold cc0_wgrad_ffn_in_skel
    unfold owns
    iintro ⟨⟨%f0, %hf0, H0⟩, ⟨%f1, %hf1, H1⟩, ⟨%d2, %f2, -, H2⟩, Hk⟩
    obtain rfl := harg4.eq_unread hf0; obtain rfl := harg5.eq_unread hf1
    sl_exec (disch := first | sl_exact hc)
    sl_step
    iapply Hk
    isplitl [H0]
    · iexists _; isplitr; · ipureintro; exact harg4.read_unread _
      iexact H0
    isplitl [H1]
    · iexists _; isplitr; · ipureintro; exact harg5.read_unread _
      iexact H1
    iexists _; iexact H2

/-- The second half's: over what the first left. -/
def runSecond (hc : ¬first i) :
    { L : List (View.Piece (Elt F) S1x1x1024x1408 .f32) //
      ∀ (E : Set ℕ) (K : PUnit → sProp 𝕄),
        iprop(owns (c : Thread nD τ) arg4 fullShare x0 ∗ owns (c : Thread nD τ) arg5 fullShare x1 ∗ owns (c : Thread nD τ) arg6 fullShare xo
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc0_wgrad_ffn_in i arg2 harg2 arg3 harg3 arg4 harg4 arg5 harg5 arg6 harg6) K } := by
  refine ⟨?_, fun E K => ?run⟩
  case run =>
    simp only [cc0_wgrad_ffn_in_eq_skeleton]; unfold cc0_wgrad_ffn_in_skel
    unfold owns
    iintro ⟨⟨%f0, %hf0, H0⟩, ⟨%f1, %hf1, H1⟩, ⟨%f2, %hf2, H2⟩, Hk⟩
    obtain rfl := harg4.eq_unread hf0; obtain rfl := harg5.eq_unread hf1; obtain rfl := harg6.eq_unread hf2
    sl_exec (disch := first | sl_exact hc)
    sl_step
    iapply Hk
    isplitl [H0]
    · iexists _; isplitr; · ipureintro; exact harg4.read_unread _
      iexact H0
    isplitl [H1]
    · iexists _; isplitr; · ipureintro; exact harg5.read_unread _
      iexact H1
    iexists _; iexact H2

/-- The first half leaves its product over zeros. -/
theorem first_reads (hc : first i) (f) :
    arg6.view.read (Elt F) (arg6.view.writes (Elt F) f (runFirst c i arg2 harg2 arg3 harg3 arg4 harg4 arg5 harg5 arg6 harg6 x0 x1 hc).1) = k0_pay2 k0_pay1 x0 x1 := by
  rw [View.read_writes_eq_canon _ _ _ (View.cover_of_tiledL _ S1x1x1024x1408.size (by sl_kernel_rfl))]
  unfold runFirst
  dsimp only
  try sl_unfold_words
  rw [View.canon_cons_unit_zero hz4]
  simp only [View.readAt_eq_ld, harg4.read_unread, harg5.read_unread, View.ld_unit_zero (S := S2048x1024) hz2, View.ld_unit_zero (S := S2048x1408) hz2,
    View.readCov_unit_zero (S := S1x1x1024x1408) _ hz4]
  try rfl

/-- The second half leaves its product over what the first left. -/
theorem second_reads (hc : ¬first i) (f) :
    arg6.view.read (Elt F) (arg6.view.writes (Elt F) f (runSecond c i arg2 harg2 arg3 harg3 arg4 harg4 arg5 harg5 arg6 harg6 x0 x1 xo hc).1) = k0_pay2 xo x0 x1 := by
  rw [View.read_writes_eq_canon _ _ _ (View.cover_of_tiledL _ S1x1x1024x1408.size (by sl_kernel_rfl))]
  unfold runSecond
  dsimp only
  try sl_unfold_words
  rw [View.canon_unit_zero hz4]
  simp only [View.readAt_eq_ld, harg4.read_unread, harg5.read_unread, harg6.read_unread, View.ld_unit_zero (S := S2048x1024) hz2, View.ld_unit_zero (S := S2048x1408) hz2,
    View.ld_unit_zero (S := S1x1x1024x1408) hz4]
  try rfl
end Body

/-! ## What each point leaves -/

/-- The blocks of the activations and of the columns' gradient at a point. -/
abbrev blkX (c : Dev nD) (t : Fin (N m)) : Vec F S2048x1024 .bf16 := iblk m c 0 t
abbrev blkD (c : Dev nD) (t : Fin (N m)) : Vec F S2048x1408 .bf16 := iblk m c 1 t

/-- The point before. -/
def prev (t : Fin (N m)) : Fin (N m) := ⟨t.val - 1, lt_of_le_of_lt (Nat.sub_le _ _) t.isLt⟩

abbrev once (c : Dev nD) (t : Fin (N m)) : Vec F S1x1x1024x1408 .f32 := k0_pay2 k0_pay1 (blkX m c t) (blkD m c t)
abbrev twice (c : Dev nD) (t : Fin (N m)) : Vec F S1x1x1024x1408 .f32 := k0_pay2 (once m c (prev m t)) (blkX m c t) (blkD m c t)
def left (c : Dev nD) (t : Fin (N m)) : Vec F S1x1x1024x1408 .f32 := if t.val % 2 = 0 then once m c t else twice m c t

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => left m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_0 (c : Dev nD) (t : Fin (N m)) : (dats m 0 c).after 0 t = iblk m c 0 t := by dsimp only [dats]; try rfl
theorem after_1 (c : Dev nD) (t : Fin (N m)) : (dats m 0 c).after 1 t = iblk m c 1 t := by dsimp only [dats]; try rfl
theorem after_2 (c : Dev nD) (t : Fin (N m)) : (dats m 0 c).after 2 t = left m c t := by dsimp only [dats]; try rfl
theorem before_0 (c : Dev nD) (t : Fin (N m)) (d) : (dats m 0 c).before 0 t d = iblk m c 0 t :=
  before_0_of m (dats m 0 c) (A_eq m c 0) (after_0 m c) t d
theorem before_1 (c : Dev nD) (t : Fin (N m)) (d) : (dats m 0 c).before 1 t d = iblk m c 1 t :=
  before_1_of m (dats m 0 c) (A_eq m c 1) (after_1 m c) t d

/-- The block is written back after the second half. -/
theorem flush_iff (t : Fin (N m)) : ((cfgM m).win 2).flush t = true ↔ t.val % 2 = 1 := by
  have h : ∀ t : Fin grid0.N, Pipeline.Window.flushOf grid0 true (fun i : grid0.Coords => (![0, (i 0).val, 0, 0] : Fin 4 → ℕ)) t = true ↔ t.val % 2 = 1 := by decide +kernel
  have e : cc0_transform_3 inb_S1_S1_0 numel1_S1 (tbl m) = fun i : grid0.Coords => (![0, (i 0).val, 0, 0] : Fin 4 → ℕ) := by
    rw [tbl_eq]
    exact funext layer_zero
  show Pipeline.Window.flushOf grid0 true (cc0_transform_3 inb_S1_S1_0 numel1_S1 (tbl m)) t = true ↔ _
  rw [e]
  exact h t

theorem left_first (c : Dev nD) (t : Fin (N m)) (h : t.val % 2 = 0) : left m c t = once m c t := if_pos h
theorem left_second (c : Dev nD) (t : Fin (N m)) (h : ¬t.val % 2 = 0) : left m c t = twice m c t := if_neg h

/-- At the second half the block is as the first left it. -/
theorem before_2 (c : Dev nD) (t : Fin (N m)) (h : ¬t.val % 2 = 0) (d) : (dats m 0 c).before 2 t d = once m c (prev m t) := by
  have hN : t.val < 8 := lt_of_lt_of_eq t.isLt (N_eq m)
  rw [Dat.before_out_kept _ 2 rfl t (by omega) (Bool.eq_false_iff.mpr fun h' => by have := (flush_iff m _).mp h'; dsimp only at this; omega)
    (fun _ => rfl) (fun _ _ => rfl)]
  exact left_first m c (prev m t) (by unfold prev; dsimp only; omega)

/-! ## The body at a point -/

def bodyPre (c : Dev nD) (t : Fin (N m)) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

def bodyPost (c : Dev nD) (t : Fin (N m)) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

set_option maxHeartbeats 1600000 in
theorem sound_body (c : Dev nD) (t : Fin (N m)) :
    bodyPre m c t ⊢ wp frame (wpE (defs₀ (F := F)) Variants.none c none) Set.univ (bodyAt m t) (fun _ => bodyPost m c t) := by
  unfold bodyPre bodyPost bodyAt
  simp only [before_0, before_1]
  rw [show (dats m 0 c).Φ t.succ = (dats m 0 c).Φ t.castSucc from rfl,
    show (dats m 0 c).owesAt () t.succ = (dats m 0 c).owesAt () t.castSucc from rfl,
    after_0, after_1, after_2]
  by_cases h0 : t.val % 2 = 0
  · rw [left_first m c t h0]
    iintro ⟨HΦ, Ho, ⟨%d0, H0⟩, ⟨%d1, H1⟩, ⟨%d2, H2⟩⟩
    iapply ((runFirst c (grid0.coords t) _ _ _ _ _ _ _ _ _ _ (iblk m c 0 t) (iblk m c 1 t) ((first_iff t).mpr h0)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact first_reads c (grid0.coords t) _ _ _ _ _ _ _ _ _ _ (iblk m c 0 t) (iblk m c 1 t) ((first_iff t).mpr h0) _
  · rw [left_second m c t h0]
    simp only [before_2 m c t h0]
    iintro ⟨HΦ, Ho, ⟨%d0, H0⟩, ⟨%d1, H1⟩, ⟨%d2, H2⟩⟩
    iapply ((runSecond c (grid0.coords t) _ _ _ _ _ _ _ _ _ _ (iblk m c 0 t) (iblk m c 1 t) _ (fun h => h0 ((first_iff t).mp h))).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact second_reads c (grid0.coords t) _ _ _ _ _ _ _ _ _ _ (iblk m c 0 t) (iblk m c 1 t) _ (fun h => h0 ((first_iff t).mp h)) _

theorem defs₀_row (t : Fin (N m)) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-! ## The launch, and the frame -/

set_option backward.isDefEq.respectTransparency.types false in
theorem run_rest : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

theorem run_main : θ_run defs (onTc (τ := τ) (main (F := F))) (s₀ m ρ) (Pipeline.FramePost (Pipeline.pin pcfgs fun _ => adm m) (dats m) 0 (V m)) :=
  (θ_run defs _ _).mono (fun _ h => h.1) (run_rest m ρ)

theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c |>.2 main_arg0 (by decide : main_arg0 ∈ Pipeline.restRefs sig spec0)).trans (V_arg0 m c),
    (h.1 c |>.2 main_arg1 (by decide : main_arg1 ∈ Pipeline.restRefs sig spec0)).trans (V_arg1 m c)⟩, h.2⟩) (run_rest m ρ)

end Cert.Kernel9Ideal.Val
end
-- ==== Proof.Into.lean ====
/-
  The weight gradient accumulated into a layer of a stacked buffer: the array after the launch is the product of the
  transposed activations with the columns' gradient, in four parts by columns, as the reference computes it.
-/
module

public import proofs.«01_k».proof.Defs
public import proofs.«01_k».proof.Proof.Halves
public import proofs.«01_k».proof.Proof.IntoRun
public import proofs.«01_k».proof.Proof.Gen.Kernel9
public import proofs.«01_k».proof.Proof.Gen.Reference9Ideal.Run
public import Idealize.ShloMosaic.Adequacy
public import Idealize.ShloMosaic.Init

@[expose] public section

set_option maxRecDepth 100000

noncomputable section

namespace Cert.Kernel9Ideal.Val
open Cert.Kernel9Ideal Cert.Kernel9Ideal.Gen
open Cert.Blocks

open Idealize.ShloMosaic Idealize.ShloMosaic.TcCoe Idealize.ShloMosaic.Tactic Idealize.SL.Sem
open Idealize.ShloMosaic.Pipeline

/-! ## The result, of the arguments -/

/-- The product of the transposed activations with a part of the columns' gradient. -/
def grad (x : S4096x1024.Idx → EReal) (dy : S4096x5632.Idx → EReal) (I : S1x4x1024x1408.Idx) : EReal :=
  ∑ s : Fin 4096, x (ix2 s (I 2)) * dy (ix2 s ⟨(I 1).val * 1408 + (I 3).val, by
    have h1 : (I 1).val < 4 := (I 1).isLt
    have h3 : (I 3).val < 1408 := (I 3).isLt
    omega⟩)

variable (m : (ℓ : Loc nD τ sig) → Buf (Elt Ideal) ℓ) (ρ : Dev nD → PrngReg) (c : Dev nD)

/-- The activations and the columns' gradient. -/
abbrev aX : S4096x1024.Idx → EReal := m ((c : Thread nD τ).loc main_arg0)
abbrev aD : S4096x5632.Idx → EReal := m ((c : Thread nD τ).loc main_arg1)

/-! ## One point -/

theorem zero_at (I : S1x1x1024x1408.Idx) : (k0_pay1 (F := Ideal) I : EReal) = 0 := by
  pointwise [k0_pay1]

theorem step_at (a : Vec Ideal S1x1x1024x1408 .f32) (x : Vec Ideal S2048x1024 .bf16) (y : Vec Ideal S2048x1408 .bf16) (i : Fin 1024) (j : Fin 1408) :
    (k0_pay2 a x y (ix4 0 0 i j) : EReal) = a (ix4 0 0 i j) + ∑ s, x (ix2 s i) * y (ix2 s j) := by
  pointwise [k0_pay2]

theorem index0 : ∀ t : Fin (N m), ((cfgM m).win 0).index t = ![t.val % 2, 0] := (by decide +kernel : ∀ t : Fin grid0.N, cc0_transform_1 (grid0.coords t) = ![t.val % 2, 0])
theorem index1 : ∀ t : Fin (N m), ((cfgM m).win 1).index t = ![t.val % 2, t.val / 2] := (by decide +kernel : ∀ t : Fin grid0.N, cc0_transform_2 (grid0.coords t) = ![t.val % 2, t.val / 2])
theorem part_of : ∀ t : Fin grid0.N, (grid0.coords t 0).val = t.val / 2 := by decide +kernel
theorem index2 (t : Fin (N m)) : ((cfgM m).win 2).index t = ![0, t.val / 2, 0, 0] := by
  show cc0_transform_3 inb_S1_S1_0 numel1_S1 (tbl m) (grid0.coords t) = _
  rw [tbl_eq, layer_zero, part_of]

/-- The product of one half of the tokens. -/
theorem half_at (t : Fin (N m)) (k : ℕ) (hk : t.val % 2 = k) (b : ℕ) (hb : t.val / 2 = b) (h2 : k < 2) (h4 : b < 4) (i : Fin 1024) (j : Fin 1408) :
    (∑ s : Fin 2048, (blkX m c t (ix2 s i) : EReal) * blkD m c t (ix2 s j))
      = ∑ s : Fin 2048, aX m c (ix2 ⟨2048 * k + s.val, by omega⟩ i) * aD m c (ix2 ⟨2048 * k + s.val, by omega⟩ ⟨b * 1408 + j.val, by omega⟩) := by
  subst hk hb
  refine Finset.sum_congr rfl fun s _ => congrArg₂ (· * ·) ?_ ?_
  · refine Eq.trans ?_ (congrFun (V_x m c) _)
    blk_simp [iblk]
    refine congrArg (V m c main_v1) ?_
    blk_ext []
    · exact place (congrFun (index0 m t) (0 : Fin 2)) (by show t.val % 2 * 2048 + s.val = 2048 * (t.val % 2) + s.val; omega)
    · exact place (congrFun (index0 m t) (1 : Fin 2)) (by simp)
  · refine Eq.trans ?_ (congrFun (V_d m c) _)
    blk_simp [iblk]
    refine congrArg (V m c main_v2) ?_
    blk_ext []
    · exact place (congrFun (index1 m t) (0 : Fin 2)) (by show t.val % 2 * 2048 + s.val = 2048 * (t.val % 2) + s.val; omega)
    · exact place (congrFun (index1 m t) (1 : Fin 2)) (by simp)

/-- After the second half a part is the whole product's. -/
theorem twice_at (t : Fin (N m)) (h : t.val % 2 = 1) (i : Fin 1024) (j : Fin 1408) (h4 : t.val / 2 < 4) :
    (twice m c t (ix4 0 0 i j) : EReal) = grad (aX m c) (aD m c) (ix4 0 ⟨t.val / 2, h4⟩ i j) := by
  have hp : (prev m t).val = t.val - 1 := rfl
  refine (step_at _ _ _ i j).trans ?_
  refine (congrArg (· + _) (step_at _ _ _ i j)).trans ?_
  rw [zero_at, zero_add, half_at m c (prev m t) 0 (by omega) (t.val / 2) (by omega) (by decide) h4, half_at m c t 1 h (t.val / 2) rfl (by decide) h4]
  exact Cert.Tokens.sum_halves fun s => aX m c (ix2 s i) * aD m c (ix2 s ⟨t.val / 2 * 1408 + j.val, by omega⟩)

/-! ## The array after the launch -/

theorem covers : ((cfgM m).win 2).Covers :=
  ⟨(by decide : ∀ a : Fin 4, 0 < (![1, 1, 1024, 1408] : Fin 4 → ℕ) a), fun β => by
    have h1 : (β (1 : Fin 4)).val < 4 := lt_of_lt_of_eq (β (1 : Fin 4)).isLt (by decide : (4 + 1 - 1) / 1 = 4)
    have hN := N_eq m
    refine ⟨(⟨2 * (β (1 : Fin 4)).val + 1, by omega⟩ : Fin (N m)), (flush_iff m _).mpr (by dsimp only; omega), fun a => ⟨(congrFun (index2 m _) a).trans ?_, Or.inl ?_⟩⟩
    · match a with
      | ⟨0, _⟩ => exact (Nat.lt_one_iff.mp (lt_of_lt_of_eq (β (0 : Fin 4)).isLt (by decide : (1 + 1 - 1) / 1 = 1))).symm
      | ⟨1, _⟩ => show (2 * (β (1 : Fin 4)).val + 1) / 2 = (β (1 : Fin 4)).val; omega
      | ⟨2, _⟩ => exact (Nat.lt_one_iff.mp (lt_of_lt_of_eq (β (2 : Fin 4)).isLt (by decide : (1024 + 1024 - 1) / 1024 = 1))).symm
      | ⟨3, _⟩ => exact (Nat.lt_one_iff.mp (lt_of_lt_of_eq (β (3 : Fin 4)).isLt (by decide : (1408 + 1408 - 1) / 1408 = 1))).symm
    · match a with
      | ⟨0, _⟩ => rfl
      | ⟨1, _⟩ => rfl
      | ⟨2, _⟩ => rfl
      | ⟨3, _⟩ => rfl⟩

theorem arr : (dats m 0 c).arrAt 2 (N m) = grad (aX m c) (aD m c) := by
  refine (dats m 0 c).arrAt_eq_of_covers 2 _ (covers m) fun t hf (y : S1x1x1024x1408.Idx) => ?_
  have h : t.val % 2 = 1 := (flush_iff m t).mp hf
  have hN : t.val < 8 := lt_of_lt_of_eq t.isLt (N_eq m)
  have h0 : (y 0).val < 1 := (y 0).isLt
  have h1 : (y 1).val < 1 := (y 1).isLt
  have hy : y = ix4 0 0 (y 2) (y 3) := (eq_ix4 y).trans (congrArg₂ (fun a b => ix4 a b (y 2) (y 3)) (Fin.ext (Nat.lt_one_iff.mp h0)) (Fin.ext (Nat.lt_one_iff.mp h1)))
  blk_simp
  rw [after_2, left_second m c t (by omega)]
  refine (congrArg (twice m c t) hy).trans ((twice_at m c t h (y 2) (y 3) (by omega)).trans (congrArg (grad _ _) ?_))
  blk_ext []
  · exact (congrFun (index2 m t) (0 : Fin 4)).symm
  · exact (congrFun (index2 m t) (1 : Fin 4)).symm
  · exact (place (congrFun (index2 m t) (2 : Fin 4)) (by simp)).symm
  · exact (place (congrFun (index2 m t) (3 : Fin 4)) (by simp)).symm

/-! ## The reference -/

section Ref
variable (x : Vec Ideal S4096x1024 .f32) (dy : Vec Ideal S4096x5632 .f32)

abbrev rProd : Vec Ideal Cert.Reference9Ideal.S5632x1024 .f32 :=
  Host.dotGeneral (F := Ideal) (φ₁ := .f32) (φ₂ := .f32) Cert.Reference9Ideal.dot_S4096x5632_S4096x1024_S5632x1024_0_0_1_1_n_n none dy x
/-- The product's four parts by columns. -/
def rParts (p : Vec Ideal Cert.Reference9Ideal.S5632x1024 .f32) : Vec Ideal S1x4x1024x1408 .f32 :=
  broadcastInDim S1x4x1024x1408 ![1, 2, 3] Cert.Reference9Ideal.Facts₀.bcast_S4x1024x1408_S1x4x1024x1408_1_2_3
    (transpose Cert.Reference9Ideal.S4x1024x1408 [1, 0, 2] (shapeCast Cert.Reference9Ideal.S1024x4x1408
      (transpose Cert.Reference9Ideal.S1024x5632 [1, 0] p Cert.Reference9Ideal.Facts₀.transposes_S5632x1024_S1024x5632_1_0)
      Cert.Reference9Ideal.Facts₀.shapeCasts_S1024x5632_S1024x4x1408) Cert.Reference9Ideal.Facts₀.transposes_S1024x4x1408_S4x1024x1408_1_0_2)

theorem rParts_at (p : Vec Ideal Cert.Reference9Ideal.S5632x1024 .f32) (k : Fin 4) (i : Fin 1024) (j : Fin 1408) :
    (rParts p (ix4 0 k i j) : EReal) = p (ix2 ⟨k.val * 1408 + j.val, by omega⟩ i) := by
  pointwise [rParts]
theorem rProd_at (j : Fin 5632) (i : Fin 1024) : (rProd x dy (ix2 j i) : EReal) = ∑ s, dy (ix2 s j) * x (ix2 s i) := by
  pointwise []

theorem ref_eq : (rParts (rProd x dy) : S1x4x1024x1408.Idx → EReal) = grad x dy := funext fun I => by
  have h0 : (I 0).val < 1 := (I 0).isLt
  have hI : I = ix4 0 (I 1) (I 2) (I 3) := (eq_ix4 I).trans (congrArg (fun a => ix4 a (I 1) (I 2) (I 3)) (Fin.ext (Nat.lt_one_iff.mp h0)))
  refine (congrArg (rParts (rProd x dy)) hI).trans ((rParts_at _ (I 1) (I 2) (I 3)).trans ((rProd_at x dy _ _).trans ?_))
  exact Finset.sum_congr rfl fun s _ => mul_comm _ _
end Ref

theorem frame_ref (m : (ℓ : Loc Cert.Reference9Ideal.nD Cert.Reference9Ideal.τ Cert.Reference9Ideal.sig) → Buf (Elt Ideal) ℓ) (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0) :=
  (θ_run Cert.Reference9Ideal.defs _ _).mono (fun r h => ⟨fun c => (h c).2, sem_eq_zero_of_no_sems (by decide) r.2⟩)
    (Cert.Reference9Ideal.Value.run (F := Ideal) m ρ)

/-! ## The claims -/

theorem algebraic : Cert.algebraic_Kernel9Ideal_Reference9Ideal := by
  intro m ρ m' ρ' _ hargs
  refine ⟨fun c => grad (aX m c) (aD m c), ?_, ?_⟩
  · refine (θ_run defs _ _).mono (fun r h c => ?_) (θ_run_and (run_main m ρ) (frame_main m ρ))
    exact ⟨((h.1 c).1 2).trans (arr m c), h.2.1 c⟩
  · refine (θ_run Cert.Reference9Ideal.defs _ _).mono (fun r h c => ⟨(h c).1.trans ?_, (h c).2⟩) (Cert.Reference9Ideal.Value.run (F := Ideal) m' ρ')
    refine Eq.trans ?_ (ref_eq (aX m c) (aD m c))
    rw [(hargs c).1, (hargs c).2]
    rfl

theorem main_eq {F : FTy → Type} [FloatOps F] : @Cert.Kernel9.main F _ Cert.Kernel9.Gen.facts = @Cert.Kernel9Ideal.main F _ Cert.Kernel9Ideal.Gen.facts := by sl_kernel_rfl
theorem defs_eq {F : FTy → Type} [FloatOps F] : @Cert.Kernel9.defs F _ Cert.Kernel9.Gen.facts = @Cert.Kernel9Ideal.defs F _ Cert.Kernel9Ideal.Gen.facts := by sl_kernel_rfl

theorem frame_printed : Cert.quiescent_Kernel9 (hKernel9 := Cert.Kernel9.Gen.facts) := fun m ρ _ => by
  rw [main_eq, defs_eq]
  exact frame_main (F := Bits) m ρ
theorem frame_ideal : Cert.quiescent_Kernel9Ideal (hKernel9Ideal := Cert.Kernel9Ideal.Gen.facts) := fun m ρ _ => frame_main m ρ

end Cert.Kernel9Ideal.Val
end
-- ==== Proof.IntoOutRun.lean ====
/-
  The weight gradient of the feed-forward layer's output, accumulated into a layer of a stacked buffer: the body on one
  block, the table's contents, the launch, and the frame, at any floats. As in Proof/IntoRun, with one block over the
  whole layer and the tokens in four quarters.
-/
module

public import proofs.«01_k».proof.Defs
public import proofs.«01_k».proof.Proof.Place
public import proofs.«01_k».proof.Proof.Gen.Kernel10Ideal.Launch
public import proofs.«01_k».proof.Proof.Gen.Kernel10Ideal.Skeleton
public import Idealize.ShloMosaic.Lib.Pipeline.FrameBody
public import Idealize.ShloMosaic.Lib.Pipeline.ValueKit
public import Idealize.ShloMosaic.Lib.Pipeline.Frame
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel10Ideal.Val
open Cert.Kernel10Ideal Cert.Kernel10Ideal.Gen
open Cert.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's operations before the launch -/

/-- The buffers when the launch is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_arg0 (c : Dev nD) : V m c main_arg0 = m ((c : Thread nD τ).loc main_arg0) := by
  simp only [V, hostOps0]
  after_results_simp <;> rfl
theorem V_arg1 (c : Dev nD) : V m c main_arg1 = m ((c : Thread nD τ).loc main_arg1) := by
  simp only [V, hostOps0]
  after_results_simp <;> rfl
theorem V_x (c : Dev nD) : V m c main_v1 = truncf .bf16 (m ((c : Thread nD τ).loc main_arg0)) bitsLt_bf16_f32 := by
  simp only [V, hostOps0]
  after_results_simp <;> rfl
theorem V_d (c : Dev nD) : V m c main_v2 = truncf .bf16 (m ((c : Thread nD τ).loc main_arg1)) bitsLt_bf16_f32 := by
  simp only [V, hostOps0]
  after_results_simp <;> rfl
theorem V_layer (c : Dev nD) : V m c main_v3 = fun _ => 0#32 := by
  simp only [V, hostOps0]
  after_results_simp <;> rfl

/-! ## The table -/

/-- The table's contents: zero. -/
def zeros : pre0.Contents (Elt F) := fun | ⟨0, _⟩ => fun _ => 0#32 | ⟨_ + 1, h⟩ => absurd h (by simp)

def tbl : pre0.Contents (Elt F) := fun j => V m (0 : Dev nD) (pre0.ref j)
theorem V_pre (c : Dev nD) (j : Fin 1) : V m c (pre0.ref j) = tbl m j := by
  obtain rfl : c = 0 := Subsingleton.elim _ _; rfl

theorem tbl_eq : tbl m = zeros := by
  funext j
  match j with
  | ⟨0, _⟩ => exact V_layer m 0

/-- The block is the layer 0. -/
theorem layer_zero (i : grid0.Coords) : cc0_transform_3 inb_S1_S1_0 numel1_S1 (zeros (F := F)) i = ![0, 0, 0] := by
  have h : (BitVec.ofNat 32 (i 0).val).toNat = 0 := by
    rw [show (i 0).val = 0 from Nat.lt_one_iff.mp (i 0).isLt]
    rfl
  funext a
  match a with
  | ⟨0, _⟩ => rfl
  | ⟨1, _⟩ => rfl
  | ⟨2, _⟩ => exact h

theorem ok : ok0 (F := F) (tbl m) := by
  rw [tbl_eq]
  refine fun i => ⟨fun a => ?_, Or.inl rfl⟩
  rw [layer_zero]
  revert a
  decide

abbrev adm : (pcfg0 (F := F)).Adm := ⟨tbl m, ok m⟩
abbrev cfgM : Pipeline.Cfg sig Λ₀ := cfg0 (adm m)
abbrev N : ℕ := (cfgM m).N
theorem N_eq : N m = 4 := N_0

abbrev tbM : Memref sig .tc .smem S1 .i32 := Memref.whole main_v3

/-! ## The blocks -/

def iblk (c : Dev nD) (w : Fin (cfgM m).W) (t : Fin (N m)) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (N m)) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (N m)) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin (N m)) : Memref sig .tc .vmem S1024x2816 .bf16 := spec0_0.stage ((cfgM m).slots t 0)
abbrev hs0 (t : Fin (N m)) : (ms0 m t).IsWhole := hstage0_0 (((cfgM m).slots t 0).cast nbuf0_0)
abbrev ms1 (t : Fin (N m)) : Memref sig .tc .vmem S1024x1024 .bf16 := spec0_1.stage ((cfgM m).slots t 1)
abbrev hs1 (t : Fin (N m)) : (ms1 m t).IsWhole := hstage0_1 (((cfgM m).slots t 1).cast nbuf0_1)
abbrev ms2 (t : Fin (N m)) : Memref sig .tc .vmem S1x2816x1024 .f32 := spec0_2.stage ((cfgM m).slots t 2)
abbrev hs2 (t : Fin (N m)) : (ms2 m t).IsWhole := hstage0_2 (((cfgM m).slots t 2).cast nbuf0_2)

/-- The body at a point. -/
abbrev bodyAt (t : Fin (N m)) : Prog (TpuEff nD τ sig (Elt F) Λ₀ .tc) PUnit :=
  cc0_wgrad_ffn_out (grid0.coords t) tbM (Memref.isWhole_whole _) (Memref.whole main_v0) (Memref.isWhole_whole _) (ms0 m t) (hs0 m t) (ms1 m t) (hs1 m t) (ms2 m t) (hs2 m t)

/-- The body's test: the first quarter of the tokens. -/
abbrev first (i : grid0.Coords) : Prop := (Scalar.cmpi .ne (Scalar.extui (Scalar.cmpi .eq (BitVec.ofNat 32 (i 1).val) 0#32)) 0#32) = 1#1
theorem first_iff : ∀ t : Fin grid0.N, first (grid0.coords t) ↔ t.val % 4 = 0 := by
  intro t
  have e1 : (grid0.coords t 1).val = t.val / 1 % 4 := Pipeline.Grid.coords_val t 1 (by decide) rfl
  simp only [first, e1]
  word_cmp

/-! ## The body on one block -/

section Body
variable (c : Dev nD) (i : grid0.Coords) (arg2 : Memref sig .tc .smem S1 .i32) (harg2 : arg2.IsWhole) (arg3 : Memref sig .tc .hbm S1x2816x1024 .f32) (harg3 : arg3.IsWhole)
  (arg4 : Memref sig .tc .vmem S1024x2816 .bf16) (harg4 : arg4.IsWhole) (arg5 : Memref sig .tc .vmem S1024x1024 .bf16) (harg5 : arg5.IsWhole)
  (arg6 : Memref sig .tc .vmem S1x2816x1024 .f32) (harg6 : arg6.IsWhole)
  (x0 : Vec F S1024x2816 .bf16) (x1 : Vec F S1024x1024 .bf16) (xo : Vec F S1x2816x1024 .f32)

/-- The first quarter's run: the pieces it writes over whatever the block held. -/
def runFirst (hc : first i) :
    { L : List (View.Piece (Elt F) S1x2816x1024 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d)
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc0_wgrad_ffn_out i arg2 harg2 arg3 harg3 arg4 harg4 arg5 harg5 arg6 harg6) K } := by
  refine ⟨?_, fun E K => ?run⟩
  case run =>
    simp only [cc0_wgrad_ffn_out_eq_skeleton]; unfold cc0_wgrad_ffn_out_skel
    unfold owns
    iintro ⟨⟨%f0, %hf0, H0⟩, ⟨%f1, %hf1, H1⟩, ⟨%d2, %f2, -, H2⟩, Hk⟩
    obtain rfl := harg4.eq_unread hf0; obtain rfl := harg5.eq_unread hf1
    sl_exec (disch := first | sl_exact hc)
    sl_step
    iapply Hk
    isplitl [H0]
    · iexists _; isplitr; · ipureintro; exact harg4.read_unread _
      iexact H0
    isplitl [H1]
    · iexists _; isplitr; · ipureintro; exact harg5.read_unread _
      iexact H1
    iexists _; iexact H2

/-- A later quarter's: over what the one before left. -/
def runLater (hc : ¬first i) :
    { L : List (View.Piece (Elt F) S1x2816x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare xo
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc0_wgrad_ffn_out i arg2 harg2 arg3 harg3 arg4 harg4 arg5 harg5 arg6 harg6) K } := by
  refine ⟨?_, fun E K => ?run⟩
  case run =>
    simp only [cc0_wgrad_ffn_out_eq_skeleton]; unfold cc0_wgrad_ffn_out_skel
    unfold owns
    iintro ⟨⟨%f0, %hf0, H0⟩, ⟨%f1, %hf1, H1⟩, ⟨%f2, %hf2, H2⟩, Hk⟩
    obtain rfl := harg4.eq_unread hf0; obtain rfl := harg5.eq_unread hf1; obtain rfl := harg6.eq_unread hf2
    sl_exec (disch := first | sl_exact hc)
    sl_step
    iapply Hk
    isplitl [H0]
    · iexists _; isplitr; · ipureintro; exact harg4.read_unread _
      iexact H0
    isplitl [H1]
    · iexists _; isplitr; · ipureintro; exact harg5.read_unread _
      iexact H1
    iexists _; iexact H2

/-- The first quarter leaves its product over zeros. -/
theorem first_reads (hc : first i) (f) :
    arg6.view.read (Elt F) (arg6.view.writes (Elt F) f (runFirst c i arg2 harg2 arg3 harg3 arg4 harg4 arg5 harg5 arg6 harg6 x0 x1 hc).1) = k0_pay2 k0_pay1 x0 x1 := by
  rw [View.read_writes_eq_canon _ _ _ (View.cover_of_tiledL _ S1x2816x1024.size (by sl_kernel_rfl))]
  unfold runFirst
  dsimp only
  try sl_unfold_words
  rw [View.canon_cons_unit_zero hz3]
  simp only [View.readAt_eq_ld, harg4.read_unread, harg5.read_unread, View.ld_unit_zero (S := S1024x2816) hz2, View.ld_unit_zero (S := S1024x1024) hz2,
    View.readCov_unit_zero (S := S1x2816x1024) _ hz3]
  try rfl

/-- A later quarter leaves its product over what the one before left. -/
theorem later_reads (hc : ¬first i) (f) :
    arg6.view.read (Elt F) (arg6.view.writes (Elt F) f (runLater c i arg2 harg2 arg3 harg3 arg4 harg4 arg5 harg5 arg6 harg6 x0 x1 xo hc).1) = k0_pay2 xo x0 x1 := by
  rw [View.read_writes_eq_canon _ _ _ (View.cover_of_tiledL _ S1x2816x1024.size (by sl_kernel_rfl))]
  unfold runLater
  dsimp only
  try sl_unfold_words
  rw [View.canon_unit_zero hz3]
  simp only [View.readAt_eq_ld, harg4.read_unread, harg5.read_unread, harg6.read_unread, View.ld_unit_zero (S := S1024x2816) hz2, View.ld_unit_zero (S := S1024x1024) hz2,
    View.ld_unit_zero (S := S1x2816x1024) hz3]
  try rfl
end Body

/-! ## What each point leaves -/

/-- The blocks of the activations and of the columns' gradient at a point. -/
abbrev blkX (c : Dev nD) (t : Fin (N m)) : Vec F S1024x2816 .bf16 := iblk m c 0 t
abbrev blkD (c : Dev nD) (t : Fin (N m)) : Vec F S1024x1024 .bf16 := iblk m c 1 t

/-- A quarter's product on top of `xo`; after the first `n + 1` quarters. -/
abbrev stepW (c : Dev nD) (t : Fin (N m)) (xo : Vec F S1x2816x1024 .f32) : Vec F S1x2816x1024 .f32 := k0_pay2 xo (blkX m c t) (blkD m c t)
def acc (c : Dev nD) : ℕ → Vec F S1x2816x1024 .f32
  | 0 => stepW m c ⟨0, by rw [N_eq]; decide⟩ k0_pay1
  | n + 1 => if h : n + 1 < N m then stepW m c ⟨n + 1, h⟩ (acc c n) else acc c n

theorem acc_zero (c : Dev nD) (t : Fin (N m)) (h : t.val % 4 = 0) : acc m c t.val = stepW m c t k0_pay1 := by
  obtain ⟨n, hn⟩ := t
  obtain rfl : n = 0 := by have : n < 4 := lt_of_lt_of_eq hn (N_eq m); dsimp only at h; omega
  rfl
theorem acc_succ (c : Dev nD) (t : Fin (N m)) (h : ¬t.val % 4 = 0) : acc m c t.val = stepW m c t (acc m c (t.val - 1)) := by
  obtain ⟨n, hn⟩ := t
  cases n with
  | zero => exact absurd rfl h
  | succ n => exact (acc.eq_2 m c n).trans (dif_pos hn)

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => acc m c t.val
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_0 (c : Dev nD) (t : Fin (N m)) : (dats m 0 c).after 0 t = iblk m c 0 t := by dsimp only [dats]; try rfl
theorem after_1 (c : Dev nD) (t : Fin (N m)) : (dats m 0 c).after 1 t = iblk m c 1 t := by dsimp only [dats]; try rfl
theorem after_2 (c : Dev nD) (t : Fin (N m)) : (dats m 0 c).after 2 t = acc m c t.val := by dsimp only [dats]; try rfl
theorem before_0 (c : Dev nD) (t : Fin (N m)) (d) : (dats m 0 c).before 0 t d = iblk m c 0 t :=
  before_0_of m (dats m 0 c) (A_eq m c 0) (after_0 m c) t d
theorem before_1 (c : Dev nD) (t : Fin (N m)) (d) : (dats m 0 c).before 1 t d = iblk m c 1 t :=
  before_1_of m (dats m 0 c) (A_eq m c 1) (after_1 m c) t d

/-- The block is written back after the last quarter. -/
theorem flush_iff (t : Fin (N m)) : ((cfgM m).win 2).flush t = true ↔ t.val % 4 = 3 := by
  have h : ∀ t : Fin grid0.N, Pipeline.Window.flushOf grid0 true (fun _ : grid0.Coords => (![0, 0, 0] : Fin 3 → ℕ)) t = true ↔ t.val % 4 = 3 := by decide +kernel
  have e : cc0_transform_3 inb_S1_S1_0 numel1_S1 (tbl m) = fun _ : grid0.Coords => (![0, 0, 0] : Fin 3 → ℕ) := by
    rw [tbl_eq]
    exact funext layer_zero
  show Pipeline.Window.flushOf grid0 true (cc0_transform_3 inb_S1_S1_0 numel1_S1 (tbl m)) t = true ↔ _
  rw [e]
  exact h t

/-- At a later quarter the block is as the one before left it. -/
theorem before_2 (c : Dev nD) (t : Fin (N m)) (h : ¬t.val % 4 = 0) (d) : (dats m 0 c).before 2 t d = acc m c (t.val - 1) := by
  have hN : t.val < 4 := lt_of_lt_of_eq t.isLt (N_eq m)
  rw [Dat.before_out_kept _ 2 rfl t (by omega) (Bool.eq_false_iff.mpr fun h' => by have := (flush_iff m _).mp h'; dsimp only at this; omega)
    (fun _ => rfl) (fun _ _ => rfl)]
  dsimp only [dats]
  try rfl

/-! ## The body at a point -/

def bodyPre (c : Dev nD) (t : Fin (N m)) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

def bodyPost (c : Dev nD) (t : Fin (N m)) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

set_option maxHeartbeats 1600000 in
theorem sound_body (c : Dev nD) (t : Fin (N m)) :
    bodyPre m c t ⊢ wp frame (wpE (defs₀ (F := F)) Variants.none c none) Set.univ (bodyAt m t) (fun _ => bodyPost m c t) := by
  unfold bodyPre bodyPost bodyAt
  simp only [before_0, before_1]
  rw [show (dats m 0 c).Φ t.succ = (dats m 0 c).Φ t.castSucc from rfl,
    show (dats m 0 c).owesAt () t.succ = (dats m 0 c).owesAt () t.castSucc from rfl,
    after_0, after_1, after_2]
  by_cases h0 : t.val % 4 = 0
  · rw [acc_zero m c t h0]
    iintro ⟨HΦ, Ho, ⟨%d0, H0⟩, ⟨%d1, H1⟩, ⟨%d2, H2⟩⟩
    iapply ((runFirst c (grid0.coords t) _ _ _ _ _ _ _ _ _ _ (iblk m c 0 t) (iblk m c 1 t) ((first_iff t).mpr h0)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact first_reads c (grid0.coords t) _ _ _ _ _ _ _ _ _ _ (iblk m c 0 t) (iblk m c 1 t) ((first_iff t).mpr h0) _
  · rw [acc_succ m c t h0]
    simp only [before_2 m c t h0]
    iintro ⟨HΦ, Ho, ⟨%d0, H0⟩, ⟨%d1, H1⟩, ⟨%d2, H2⟩⟩
    iapply ((runLater c (grid0.coords t) _ _ _ _ _ _ _ _ _ _ (iblk m c 0 t) (iblk m c 1 t) _ (fun h => h0 ((first_iff t).mp h))).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact later_reads c (grid0.coords t) _ _ _ _ _ _ _ _ _ _ (iblk m c 0 t) (iblk m c 1 t) _ (fun h => h0 ((first_iff t).mp h)) _

theorem defs₀_row (t : Fin (N m)) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-! ## The launch, and the frame -/

set_option backward.isDefEq.respectTransparency.types false in
theorem run_rest : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

theorem run_main : θ_run defs (onTc (τ := τ) (main (F := F))) (s₀ m ρ) (Pipeline.FramePost (Pipeline.pin pcfgs fun _ => adm m) (dats m) 0 (V m)) :=
  (θ_run defs _ _).mono (fun _ h => h.1) (run_rest m ρ)

theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c |>.2 main_arg0 (by decide : main_arg0 ∈ Pipeline.restRefs sig spec0)).trans (V_arg0 m c),
    (h.1 c |>.2 main_arg1 (by decide : main_arg1 ∈ Pipeline.restRefs sig spec0)).trans (V_arg1 m c)⟩, h.2⟩) (run_rest m ρ)

end Cert.Kernel10Ideal.Val
end
-- ==== Proof.IntoOut.lean ====
/-
  The weight gradient of the feed-forward layer's output, accumulated into a layer of a stacked buffer: the array after
  the launch is the product of the transposed activations with the output's gradient, as the reference computes it.
-/
module

public import proofs.«01_k».proof.Defs
public import proofs.«01_k».proof.Proof.IntoOutRun
public import proofs.«01_k».proof.Proof.Gen.Kernel10
public import proofs.«01_k».proof.Proof.Gen.Reference10Ideal.Run
public import Idealize.ShloMosaic.Adequacy
public import Idealize.ShloMosaic.Init

@[expose] public section

set_option maxRecDepth 100000

noncomputable section

namespace Cert.Kernel10Ideal.Val
open Cert.Kernel10Ideal Cert.Kernel10Ideal.Gen
open Cert.Blocks

open Idealize.ShloMosaic Idealize.ShloMosaic.TcCoe Idealize.ShloMosaic.Tactic Idealize.SL.Sem
open Idealize.ShloMosaic.Pipeline

/-! ## The result, of the arguments -/

/-- The product of the transposed activations with the output's gradient. -/
def grad (x : S4096x2816.Idx → EReal) (dy : S4096x1024.Idx → EReal) (I : S1x2816x1024.Idx) : EReal :=
  ∑ s : Fin 4096, x (ix2 s (I 1)) * dy (ix2 s (I 2))

variable (m : (ℓ : Loc nD τ sig) → Buf (Elt Ideal) ℓ) (ρ : Dev nD → PrngReg) (c : Dev nD)

/-- The activations and the output's gradient. -/
abbrev aX : S4096x2816.Idx → EReal := m ((c : Thread nD τ).loc main_arg0)
abbrev aD : S4096x1024.Idx → EReal := m ((c : Thread nD τ).loc main_arg1)

/-! ## One point -/

theorem zero_at (I : S1x2816x1024.Idx) : (k0_pay1 (F := Ideal) I : EReal) = 0 := by
  pointwise [k0_pay1]

theorem step_at (a : Vec Ideal S1x2816x1024 .f32) (x : Vec Ideal S1024x2816 .bf16) (y : Vec Ideal S1024x1024 .bf16) (i : Fin 2816) (j : Fin 1024) :
    (k0_pay2 a x y (ix3 0 i j) : EReal) = a (ix3 0 i j) + ∑ s, x (ix2 s i) * y (ix2 s j) := by
  pointwise [k0_pay2]

theorem index0 : ∀ t : Fin (N m), ((cfgM m).win 0).index t = ![t.val, 0] := (by decide +kernel : ∀ t : Fin grid0.N, cc0_transform_1 (grid0.coords t) = ![t.val, 0])
theorem index1 : ∀ t : Fin (N m), ((cfgM m).win 1).index t = ![t.val, 0] := (by decide +kernel : ∀ t : Fin grid0.N, cc0_transform_2 (grid0.coords t) = ![t.val, 0])
theorem index2 (t : Fin (N m)) : ((cfgM m).win 2).index t = ![0, 0, 0] := by
  show cc0_transform_3 inb_S1_S1_0 numel1_S1 (tbl m) (grid0.coords t) = _
  rw [tbl_eq, layer_zero]

/-- The token that row `s` of a block is. -/
def tok (t : Fin (N m)) (s : Fin 1024) : Fin 4096 := ⟨1024 * t.val + s.val, by
  have : t.val < 4 := lt_of_lt_of_eq t.isLt (N_eq m)
  omega⟩

theorem blkX_at (t : Fin (N m)) (s : Fin 1024) (i : Fin 2816) : (blkX m c t (ix2 s i) : EReal) = aX m c (ix2 (tok m t s) i) := by
  refine Eq.trans ?_ (congrFun (V_x m c) _)
  blk_simp [iblk]
  refine congrArg (V m c main_v1) ?_
  blk_ext [tok]
  · exact place (congrFun (index0 m t) (0 : Fin 2)) (by show t.val * 1024 + s.val = 1024 * t.val + s.val; omega)
  · exact place (congrFun (index0 m t) (1 : Fin 2)) (by simp)
theorem blkD_at (t : Fin (N m)) (s : Fin 1024) (j : Fin 1024) : (blkD m c t (ix2 s j) : EReal) = aD m c (ix2 (tok m t s) j) := by
  refine Eq.trans ?_ (congrFun (V_d m c) _)
  blk_simp [iblk]
  refine congrArg (V m c main_v2) ?_
  blk_ext [tok]
  · exact place (congrFun (index1 m t) (0 : Fin 2)) (by show t.val * 1024 + s.val = 1024 * t.val + s.val; omega)
  · exact place (congrFun (index1 m t) (1 : Fin 2)) (by simp)

/-! ## The running sum over the tokens -/

/-- One token's part. -/
def part (i : Fin 2816) (j : Fin 1024) (s : ℕ) : EReal := if h : s < 4096 then aX m c (ix2 ⟨s, h⟩ i) * aD m c (ix2 ⟨s, h⟩ j) else 0

theorem stepW_at (t : Fin (N m)) (xo : Vec Ideal S1x2816x1024 .f32) (i : Fin 2816) (j : Fin 1024) :
    (stepW m c t xo (ix3 0 i j) : EReal) = xo (ix3 0 i j) + ∑ s ∈ Finset.range 1024, part m c i j (1024 * t.val + s) := by
  refine (step_at _ _ _ i j).trans ?_
  rw [Finset.sum_range]
  refine congrArg (_ + ·) (Finset.sum_congr rfl fun s _ => ?_)
  refine Eq.trans ?_ (dif_pos (tok m t s).isLt).symm
  exact congrArg₂ (· * ·) (blkX_at m c t s i) (blkD_at m c t s j)

theorem acc_at (n : ℕ) (hn : n < N m) (i : Fin 2816) (j : Fin 1024) : (acc m c n (ix3 0 i j) : EReal) = ∑ s ∈ Finset.range (1024 * (n + 1)), part m c i j s := by
  have h4 := N_eq m
  rw [Nat.mul_succ, Finset.sum_range_add]
  induction n with
  | zero =>
    rw [acc_zero m c ⟨0, hn⟩ rfl]
    refine (stepW_at m c ⟨0, hn⟩ _ i j).trans ?_
    rw [zero_at]
    simp
  | succ n ih =>
    rw [acc_succ m c ⟨n + 1, hn⟩ (by dsimp only; omega)]
    refine (stepW_at m c ⟨n + 1, hn⟩ _ i j).trans (congrArg (· + _) ?_)
    rw [Nat.mul_succ, Finset.sum_range_add]
    exact ih (by omega)

/-- After the last quarter the sum is over all tokens. -/
theorem acc_last (t : Fin (N m)) (h : t.val % 4 = 3) (i : Fin 2816) (j : Fin 1024) : (acc m c t.val (ix3 0 i j) : EReal) = grad (aX m c) (aD m c) (ix3 0 i j) := by
  have hN : t.val < 4 := lt_of_lt_of_eq t.isLt (N_eq m)
  refine (acc_at m c t.val t.isLt i j).trans ?_
  rw [show 1024 * (t.val + 1) = 4096 by omega, Finset.sum_range]
  exact Finset.sum_congr rfl fun s _ => dif_pos s.isLt

/-! ## The array after the launch -/

theorem covers : ((cfgM m).win 2).Covers :=
  ⟨(by decide : ∀ a : Fin 3, 0 < (![1, 2816, 1024] : Fin 3 → ℕ) a), fun β => ⟨(⟨3, by decide⟩ : Fin grid0.N), (flush_iff m _).mpr rfl,
    fun a => ⟨(congrFun (index2 m _) a).trans (match a with
      | ⟨0, _⟩ => (Nat.lt_one_iff.mp (lt_of_lt_of_eq (β (0 : Fin 3)).isLt (by decide : (1 + 1 - 1) / 1 = 1))).symm
      | ⟨1, _⟩ => (Nat.lt_one_iff.mp (lt_of_lt_of_eq (β (1 : Fin 3)).isLt (by decide : (2816 + 2816 - 1) / 2816 = 1))).symm
      | ⟨2, _⟩ => (Nat.lt_one_iff.mp (lt_of_lt_of_eq (β (2 : Fin 3)).isLt (by decide : (1024 + 1024 - 1) / 1024 = 1))).symm),
      Or.inl (match a with | ⟨0, _⟩ => rfl | ⟨1, _⟩ => rfl | ⟨2, _⟩ => rfl)⟩⟩⟩

theorem arr : (dats m 0 c).arrAt 2 (N m) = grad (aX m c) (aD m c) := by
  refine (dats m 0 c).arrAt_eq_of_covers 2 _ (covers m) fun t hf (y : S1x2816x1024.Idx) => ?_
  have h0 : (y 0).val < 1 := (y 0).isLt
  have hy : y = ix3 0 (y 1) (y 2) := (eq_ix3 y).trans (congrArg (fun a => ix3 a (y 1) (y 2)) (Fin.ext (Nat.lt_one_iff.mp h0)))
  blk_simp
  rw [after_2]
  refine (congrArg (acc m c t.val) hy).trans ((acc_last m c t ((flush_iff m t).mp hf) (y 1) (y 2)).trans (congrArg (grad _ _) ?_))
  blk_ext []
  · exact (congrFun (index2 m t) (0 : Fin 3)).symm
  · exact (place (congrFun (index2 m t) (1 : Fin 3)) (by simp)).symm
  · exact (place (congrFun (index2 m t) (2 : Fin 3)) (by simp)).symm

/-! ## The reference -/

section Ref
variable (x : Vec Ideal S4096x2816 .f32) (dy : Vec Ideal S4096x1024 .f32)

def rGrad : Vec Ideal S1x2816x1024 .f32 :=
  broadcastInDim S1x2816x1024 ![1, 2] Cert.Reference10Ideal.Facts₀.bcast_S2816x1024_S1x2816x1024_1_2
    (transpose Cert.Reference10Ideal.S2816x1024 [1, 0] (Host.dotGeneral (F := Ideal) (φ₁ := .f32) (φ₂ := .f32) Cert.Reference10Ideal.dot_S4096x1024_S4096x2816_S1024x2816_0_0_1_1_n_n none dy x)
      Cert.Reference10Ideal.Facts₀.transposes_S1024x2816_S2816x1024_1_0)

theorem rGrad_at (i : Fin 2816) (j : Fin 1024) : (rGrad x dy (ix3 0 i j) : EReal) = ∑ s, dy (ix2 s j) * x (ix2 s i) := by
  pointwise [rGrad]

theorem ref_eq : (rGrad x dy : S1x2816x1024.Idx → EReal) = grad x dy := funext fun I => by
  have h0 : (I 0).val < 1 := (I 0).isLt
  have hI : I = ix3 0 (I 1) (I 2) := (eq_ix3 I).trans (congrArg (fun a => ix3 a (I 1) (I 2)) (Fin.ext (Nat.lt_one_iff.mp h0)))
  refine (congrArg (rGrad x dy) hI).trans ((rGrad_at x dy (I 1) (I 2)).trans ?_)
  exact Finset.sum_congr rfl fun s _ => mul_comm _ _
end Ref

theorem frame_ref (m : (ℓ : Loc Cert.Reference10Ideal.nD Cert.Reference10Ideal.τ Cert.Reference10Ideal.sig) → Buf (Elt Ideal) ℓ) (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0) :=
  (θ_run Cert.Reference10Ideal.defs _ _).mono (fun r h => ⟨fun c => (h c).2, sem_eq_zero_of_no_sems (by decide) r.2⟩)
    (Cert.Reference10Ideal.Value.run (F := Ideal) m ρ)

/-! ## The claims -/

theorem algebraic : Cert.algebraic_Kernel10Ideal_Reference10Ideal := by
  intro m ρ m' ρ' _ hargs
  refine ⟨fun c => grad (aX m c) (aD m c), ?_, ?_⟩
  · refine (θ_run defs _ _).mono (fun r h c => ?_) (θ_run_and (run_main m ρ) (frame_main m ρ))
    exact ⟨((h.1 c).1 2).trans (arr m c), h.2.1 c⟩
  · refine (θ_run Cert.Reference10Ideal.defs _ _).mono (fun r h c => ⟨(h c).1.trans ?_, (h c).2⟩) (Cert.Reference10Ideal.Value.run (F := Ideal) m' ρ')
    refine Eq.trans ?_ (ref_eq (aX m c) (aD m c))
    rw [(hargs c).1, (hargs c).2]
    rfl

theorem main_eq {F : FTy → Type} [FloatOps F] : @Cert.Kernel10.main F _ Cert.Kernel10.Gen.facts = @Cert.Kernel10Ideal.main F _ Cert.Kernel10Ideal.Gen.facts := by sl_kernel_rfl
theorem defs_eq {F : FTy → Type} [FloatOps F] : @Cert.Kernel10.defs F _ Cert.Kernel10.Gen.facts = @Cert.Kernel10Ideal.defs F _ Cert.Kernel10Ideal.Gen.facts := by sl_kernel_rfl

theorem frame_printed : Cert.quiescent_Kernel10 (hKernel10 := Cert.Kernel10.Gen.facts) := fun m ρ _ => by
  rw [main_eq, defs_eq]
  exact frame_main (F := Bits) m ρ
theorem frame_ideal : Cert.quiescent_Kernel10Ideal (hKernel10Ideal := Cert.Kernel10Ideal.Gen.facts) := fun m ρ _ => frame_main m ρ

end Cert.Kernel10Ideal.Val
end
-- ==== Proof.Loss.lean ====
/-
  The loss head: its two arrays on all arguments. The output's gradient is one product per element; the loss is gathered over
  the blocks of tokens, a half of each block's mean squares, where the reference takes half of the whole sum.
-/
module

public import proofs.«01_k».proof.Defs
public import proofs.«01_k».proof.Proof.Gen.Kernel11Ideal.Value
public import proofs.«01_k».proof.Proof.Gen.Kernel11
public import proofs.«01_k».proof.Proof.Gen.Reference11Ideal.Run
public import proofs.«01_k».proof.Proof.Norm
public import proofs.«01_k».proof.Proof.Place
public import Idealize.ShloMosaic.Adequacy
public import Idealize.ShloMosaic.Init
public import Idealize.ShloMosaic.Lib.Pipeline.ValueKit

@[expose] public section

set_option maxRecDepth 16384

noncomputable section

namespace Cert.Kernel11Ideal.Val
open Cert.Kernel11Ideal Cert.Kernel11Ideal.Gen Cert.Kernel11Ideal.Value

open Idealize.ShloMosaic Idealize.ShloMosaic.TcCoe Idealize.ShloMosaic.Tactic Idealize.SL.Sem
open Idealize.ShloMosaic.Pipeline
open Cert.Blocks (hz2)

/-! ## What the body leaves -/

section Body
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .smem S1x1 .f32) (harg3 : arg3.IsWhole) (arg4 : Memref sig .tc .vmem S256x1024 .f32) (harg4 : arg4.IsWhole)
  (x0 x1 : Vec Ideal S256x1024 .f32) (xo : Vec Ideal S1x1 .f32)

theorem out_A_3 (hc0 : cond0_0 i) : out0_A_3 c i arg1 harg1 arg2 harg2 arg3 harg3 arg4 harg4 hc0 x0 x1 = k0_pay2 x0 x1 := by
  unfold out0_A_3
  rw [View.read_writes_eq_canon _ _ _ (cover0_A_3 c i arg1 harg1 arg2 harg2 arg3 harg3 arg4 harg4 hc0 x0 x1)]
  unfold kernelRun0_A
  dsimp only
  try sl_unfold_words
  rw [View.canon_unit_zero hz2]
  simp only [View.readAt_eq_ld, harg1.read_unread, harg2.read_unread, View.ld_unit_zero (S := S256x1024) hz2, shapeCast_self]

theorem out_B_3 (hc0 : ¬cond0_0 i) : out0_B_3 c i arg1 harg1 arg2 harg2 arg3 harg3 arg4 harg4 hc0 x0 x1 xo = k0_pay2 x0 x1 := by
  unfold out0_B_3
  rw [View.read_writes_eq_canon _ _ _ (cover0_B_3 c i arg1 harg1 arg2 harg2 arg3 harg3 arg4 harg4 hc0 x0 x1 xo)]
  unfold kernelRun0_B
  dsimp only
  try sl_unfold_words
  rw [View.canon_unit_zero hz2]
  simp only [View.readAt_eq_ld, harg1.read_unread, harg2.read_unread, View.ld_unit_zero (S := S256x1024) hz2, shapeCast_self]

theorem out_A_2 (hc0 : cond0_0 i) : out0_A_2 c i arg1 harg1 arg2 harg2 arg3 harg3 arg4 harg4 hc0 x0 x1 = fun _ => k0_pay3 x0 x1 (Ideal.ofBits FTy.f32 0x00000000#32) := by
  unfold out0_A_2
  rw [View.read_writes_eq_canon _ _ _ (cover0_A_2 c i arg1 harg1 arg2 harg2 arg3 harg3 arg4 harg4 hc0 x0 x1)]
  unfold kernelRun0_A
  dsimp only
  try sl_unfold_words
  rw [View.canon_cons_unit_zero (S := S1x1) hz2]
  simp only [View.readAt_eq_ld, harg1.read_unread, harg2.read_unread, harg3.read_unread, View.ld_unit_zero (S := S256x1024) hz2, View.ld_unit_zero (S := S1x1) hz2, shapeCast_self]
  rfl

theorem out_B_2 (hc0 : ¬cond0_0 i) : out0_B_2 c i arg1 harg1 arg2 harg2 arg3 harg3 arg4 harg4 hc0 x0 x1 xo = fun _ => k0_pay3 x0 x1 (xo (ix2 0 0)) := by
  unfold out0_B_2
  rw [View.read_writes_eq_canon _ _ _ (cover0_B_2 c i arg1 harg1 arg2 harg2 arg3 harg3 arg4 harg4 hc0 x0 x1 xo)]
  unfold kernelRun0_B
  dsimp only
  try sl_unfold_words
  rw [View.canon_unit_zero hz2]
  simp only [View.readAt_eq_ld, harg1.read_unread, harg2.read_unread, harg3.read_unread, View.ld_unit_zero (S := S256x1024) hz2, View.ld_unit_zero (S := S1x1) hz2, shapeCast_self]
  refine funext fun _ => congrArg (k0_pay3 x0 x1) (congrArg xo (funext fun a => Fin.ext ?_))
  fin_cases a <;> rfl

end Body

/-! ## The payloads read at an index -/

theorem size : (Ideal.ofBits FTy.f32 0x44800000#32 : EReal) = ((1024 : ℝ) : EReal) := by
  simp [Ideal.ofBits, Ideal.ieee]
  rw [← EReal.coe_mul]
  norm_num
theorem inv_size : (Ideal.ofBits FTy.f32 0x3A800000#32 : EReal) = ((1 / 1024 : ℝ) : EReal) := by
  simp [Ideal.ofBits, Ideal.ieee]
  rw [← EReal.coe_mul]
  norm_num
theorem half : (Ideal.ofBits FTy.f32 0x3F000000#32 : EReal) = ((1 / 2 : ℝ) : EReal) := by
  simp [Ideal.ofBits, Ideal.ieee]
  rw [← EReal.coe_mul]
  norm_num
theorem two : (Ideal.ofBits FTy.f32 0x40000000#32 : EReal) = ((2 : ℝ) : EReal) := by
  simp [Ideal.ofBits, Ideal.ieee]
  rw [← EReal.coe_mul]
  norm_num

theorem dy_at (x y : Vec Ideal S256x1024 .f32) (s : Fin 256) (d : Fin 1024) : (k0_pay2 x y (ix2 s d) : EReal) = (x (ix2 s d) - y (ix2 s d)) * ((1 / 1024 : ℝ) : EReal) := by
  pointwise [k0_pay2, k0_pay1]
  rw [inv_size]

/-- One token's mean square. -/
def square {n : ℕ} (x y : (⟨2, ![n, 1024]⟩ : Shape).Idx → EReal) (s : Fin n) : EReal :=
  Ideal.div (∑ d : Fin 1024, (x (ix2 s d) - y (ix2 s d)) * (x (ix2 s d) - y (ix2 s d))) ((1024 : ℝ) : EReal)

theorem loss_at (x y : Vec Ideal S256x1024 .f32) (v : EReal) : (k0_pay3 (F := Ideal) x y v : EReal) = v + ((1 / 2 : ℝ) : EReal) * ∑ s, square x y s := by
  unfold k0_pay3 k0_pay1
  pointwise []
  rw [half, size]
  rfl

/-! ## The arguments, the blocks and the two arrays -/

variable (m : (ℓ : Loc nD τ sig) → Buf (Elt Ideal) ℓ) (c : Dev nD)

/-- The last layer's output and its target. -/
abbrev aY : S4096x1024.Idx → EReal := m ((c : Thread nD τ).loc main_arg0)
abbrev aT : S4096x1024.Idx → EReal := m ((c : Thread nD τ).loc main_arg1)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)

abbrev b0 (t : Fin cfg0.N) : Vec Ideal S256x1024 .f32 := iblk m c 0 t
abbrev b1 (t : Fin cfg0.N) : Vec Ideal S256x1024 .f32 := iblk m c 1 t

/-- The token that row `s` of a point's block is. -/
def tok (t : Fin cfg0.N) (s : Fin 256) : Fin 4096 := ⟨256 * t.val + s.val, by
  have := t.isLt
  have h : cfg0.N = 16 := by decide
  omega⟩

theorem b0_at (t : Fin cfg0.N) (s : Fin 256) (d : Fin 1024) : (b0 m c t (ix2 s d) : EReal) = aY m c (ix2 (tok t s) d) := by
  refine Eq.trans ?_ (congrFun (V_main_arg0 m c) _)
  blk_simp [iblk]
  refine congrArg (V m c main_arg0) ?_
  blk_ext [index0, tok]
theorem b1_at (t : Fin cfg0.N) (s : Fin 256) (d : Fin 1024) : (b1 m c t (ix2 s d) : EReal) = aT m c (ix2 (tok t s) d) := by
  refine Eq.trans ?_ (congrFun (V_main_arg1 m c) _)
  blk_simp [iblk]
  refine congrArg (V m c main_arg1) ?_
  blk_ext [index1, tok]

/-- The output's gradient, -/
def gradY : S4096x1024.Idx → EReal := fun I => (aY m c (ix2 (I 0) (I 1)) - aT m c (ix2 (I 0) (I 1))) * ((1 / 1024 : ℝ) : EReal)

/-- and the loss. -/
def loss : S1x1.Idx → EReal := fun _ => ((1 / 2 : ℝ) : EReal) * ∑ s, square (aY m c) (aT m c) s

theorem arr_Y : (dats m 0 c).arrAt 3 cfg0.N = gradY m c := by
  refine (dats m 0 c).arrAt_eq_of_covers 3 _ (by decide +kernel) fun t hf y => ?_
  blk_simp
  rw [after0_3]
  have hout : (outsAt0 m c t.val t.isLt).2 = k0_pay2 (b0 m c t) (b1 m c t) := by
    by_cases h0 : t.val % 16 = 0
    · rw [outsAt0_A m c t h0, out_A_3]
    · rw [outsAt0_B m c t h0, out_B_3]
  rw [hout]
  refine (congrArg (k0_pay2 _ _) (eq_ix2 y)).trans (((dy_at _ _ (y 0) (y 1)).trans (congrArg (· * _) (congrArg₂ (· - ·) (b0_at m c t _ _) (b1_at m c t _ _)))).trans ?_)
  refine congrArg (gradY m c) (?_ : ix2 (tok t (y 0)) (y 1) = _)
  blk_ext [index3, tok]

/-- One token's part of the loss. -/
def part (s : ℕ) : EReal := if h : s < 4096 then square (aY m c) (aT m c) ⟨s, h⟩ else 0

theorem pay_at (t : Fin cfg0.N) (v : EReal) :
    (k0_pay3 (F := Ideal) (b0 m c t) (b1 m c t) v : EReal) = v + ((1 / 2 : ℝ) : EReal) * ∑ s ∈ Finset.range 256, part m c (256 * t.val + s) := by
  refine (loss_at _ _ v).trans ?_
  rw [Finset.sum_range]
  refine congrArg (fun z => v + _ * z) (Finset.sum_congr rfl fun s _ => ?_)
  refine Eq.trans ?_ (dif_pos (tok t s).isLt).symm
  unfold square
  simp only [b0_at, b1_at]
  rfl

theorem zero_bits : (Ideal.ofBits FTy.f32 0x00000000#32 : EReal) = 0 := by
  simp [Ideal.ofBits, Ideal.ieee]

theorem acc_at (n : ℕ) (hn : n < cfg0.N) (I : S1x1.Idx) : ((outsAt0 m c n hn).1 I : EReal) = ((1 / 2 : ℝ) : EReal) * ∑ s ∈ Finset.range (256 * (n + 1)), part m c s := by
  have h16 : cfg0.N = 16 := by decide
  rw [Nat.mul_succ, Finset.sum_range_add, EReal.left_distrib_of_nonneg_of_ne_top (by exact_mod_cast (by norm_num : (0 : ℝ) ≤ 1 / 2)) (EReal.coe_ne_top _)]
  induction n generalizing I with
  | zero =>
    rw [outsAt0_A m c ⟨0, hn⟩ rfl, out_A_2]
    refine (pay_at m c ⟨0, hn⟩ _).trans ?_
    rw [zero_bits]
    simp
  | succ n ih =>
    rw [outsAt0_B m c ⟨n + 1, hn⟩ (by dsimp only; omega), out_B_2]
    refine (pay_at m c ⟨n + 1, hn⟩ _).trans (congrArg (· + _) ?_)
    rw [Nat.mul_succ, Finset.sum_range_add, EReal.left_distrib_of_nonneg_of_ne_top (by exact_mod_cast (by norm_num : (0 : ℝ) ≤ 1 / 2)) (EReal.coe_ne_top _)]
    exact ih (by omega) _

theorem arr_L : (dats m 0 c).arrAt 2 cfg0.N = loss m c := by
  refine (dats m 0 c).arrAt_eq_of_covers 2 _ (by decide +kernel) fun t hf y => ?_
  blk_simp
  rw [after0_2]
  have h16 : cfg0.N = 16 := by decide
  have ht : t.val = 15 := by
    have := (flush0_2 t).mp hf
    have := t.isLt
    omega
  refine (acc_at m c t.val t.isLt _).trans ?_
  rw [ht]
  unfold loss
  rw [Finset.sum_range]
  exact congrArg (_ * ·) (Finset.sum_congr rfl fun s _ => dif_pos (show s.val < 4096 from s.isLt))

/-! ## The reference -/

/-- The reference's two arrays of the arguments. -/
abbrev refL (a b : Vec Ideal S4096x1024 .f32) : Vec Ideal S1x1 .f32 :=
  shapeCast _ (mulf (F := Ideal) (constant Cert.Reference11Ideal.S_ .f32 0x3F000000#32) (Host.reduceAdd (Host.divf (Host.reduceAdd (mulf (F := Ideal) (φ := .f32) (subf (φ := .f32) a b) (subf (φ := .f32) a b)) (constant Cert.Reference11Ideal.S_ .f32 0x00000000#32) Cert.Reference11Ideal.Gen.reducesTo_S4096x1024_S4096_d1 Cert.Reference11Ideal.Gen.h_S_) (broadcastInDim Cert.Reference11Ideal.S4096 ![] Cert.Reference11Ideal.Gen.bcast_S_S4096 (constant Cert.Reference11Ideal.S_ .f32 0x44800000#32))) (constant Cert.Reference11Ideal.S_ .f32 0x00000000#32) Cert.Reference11Ideal.Gen.reducesTo_S4096_S_d0 Cert.Reference11Ideal.Gen.h_S_)) Cert.Reference11Ideal.Gen.shapeCasts_S_S1x1
abbrev refY (a b : Vec Ideal S4096x1024 .f32) : Vec Ideal S4096x1024 .f32 :=
  mulf (F := Ideal) (broadcastInDim Cert.Reference11Ideal.S4096x1024 ![0] Cert.Reference11Ideal.Gen.bcast_S4096_S4096x1024_0 (Host.divf (broadcastInDim Cert.Reference11Ideal.S4096 ![] Cert.Reference11Ideal.Gen.bcast_S_S4096 (mulf (constant Cert.Reference11Ideal.S_ .f32 0x3F000000#32) (constant Cert.Reference11Ideal.S_ .f32 0x3F800000#32))) (broadcastInDim Cert.Reference11Ideal.S4096 ![] Cert.Reference11Ideal.Gen.bcast_S_S4096 (constant Cert.Reference11Ideal.S_ .f32 0x44800000#32)))) (mulf (broadcastInDim Cert.Reference11Ideal.S4096x1024 ![] Cert.Reference11Ideal.Gen.bcast_S_S4096x1024 (constant Cert.Reference11Ideal.S_ .f32 0x40000000#32)) (subf (φ := .f32) a b))

theorem refY_at (a b : Vec Ideal S4096x1024 .f32) (s : Fin 4096) (d : Fin 1024) :
    (refY a b (ix2 s d) : EReal) = (a (ix2 s d) - b (ix2 s d)) * ((1 / 1024 : ℝ) : EReal) := by
  pointwise []
  rw [half, two, size, Cert.Norm.div_real, mul_comm (_ - _), ← mul_assoc, ← EReal.coe_mul, ← EReal.coe_mul]
  norm_num

theorem refL_at (a b : Vec Ideal S4096x1024 .f32) (I : S1x1.Idx) :
    (refL a b I : EReal) = ((1 / 2 : ℝ) : EReal) * ∑ s, square (n := 4096) a b s := by
  pointwise []
  rw [half, size]
  rfl

/-! ## The claims -/

theorem frame_ref (m : (ℓ : Loc Cert.Reference11Ideal.nD Cert.Reference11Ideal.τ Cert.Reference11Ideal.sig) → Buf (Elt Ideal) ℓ) (ρ : Dev Cert.Reference11Ideal.nD → PrngReg) :
    θ_run (Cert.Reference11Ideal.defs (F := Ideal)) (onTc (τ := Cert.Reference11Ideal.τ) (Cert.Reference11Ideal.main (F := Ideal))) ⟨m, fun _ => 0, ρ⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0) :=
  (θ_run Cert.Reference11Ideal.defs _ _).mono (fun r h => ⟨fun c => (h c).2.2, sem_eq_zero_of_no_sems (by decide) r.2⟩)
    (Cert.Reference11Ideal.Value.run (F := Ideal) m ρ)

theorem algebraic : Cert.algebraic_Kernel11Ideal_Reference11Ideal := by
  intro m ρ m' ρ' _ hargs
  refine ⟨fun c => loss m c, fun c => gradY m c, (θ_run defs _ _).mono (fun r h c => ⟨(h c).1.trans (arr_L m c), (h c).2.1.trans (arr_Y m c), (h c).2.2⟩) (run_blocks (F := Ideal) m ρ), ?_⟩
  refine (θ_run Cert.Reference11Ideal.defs _ _).mono (fun r h c => ?_) (Cert.Reference11Ideal.Value.run (F := Ideal) m' ρ')
  obtain ⟨h0, h1⟩ := hargs c
  obtain ⟨eL, eY, eargs⟩ := h c
  rw [h0, h1] at eL eY
  refine ⟨eL.trans (funext fun I => refL_at _ _ I), eY.trans (funext fun I => ?_), eargs⟩
  rw [eq_ix2 I]
  exact refY_at _ _ _ _

end Cert.Kernel11Ideal.Val
end
-- ==== Proof.Adam.lean ====
/-
  The optimiser's update of the feed-forward layer's output weight: the call's three arrays are the reference's, on all
  arguments. Both are one formula per element, and its terms agree as they stand; the call's blocks of 256 rows make up the whole arrays.
-/
module

public import proofs.«01_k».proof.Defs
public import proofs.«01_k».proof.Proof.Gen.Kernel12Ideal.Value
public import proofs.«01_k».proof.Proof.Gen.Kernel12
public import proofs.«01_k».proof.Proof.Gen.Reference12Ideal.Run
public import Idealize.ShloMosaic.Adequacy
public import Idealize.ShloMosaic.Init

@[expose] public section

set_option maxRecDepth 16384

noncomputable section

namespace Cert.Kernel12Ideal.Val
open Cert.Kernel12Ideal Cert.Kernel12Ideal.Gen Cert.Kernel12Ideal.Value

open Idealize.ShloMosaic Idealize.ShloMosaic.TcCoe Idealize.ShloMosaic.Tactic Idealize.SL.Sem

theorem frame_ref (m : (ℓ : Loc Cert.Reference12Ideal.nD Cert.Reference12Ideal.τ Cert.Reference12Ideal.sig) → Buf (Elt Ideal) ℓ) (ρ : Dev Cert.Reference12Ideal.nD → PrngReg) :
    θ_run (Cert.Reference12Ideal.defs (F := Ideal)) (onTc (τ := Cert.Reference12Ideal.τ) (Cert.Reference12Ideal.main (F := Ideal))) ⟨m, fun _ => 0, ρ⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0) :=
  (θ_run Cert.Reference12Ideal.defs _ _).mono (fun r h => ⟨fun c => (h c).2.2.2, sem_eq_zero_of_no_sems (by decide) r.2⟩)
    (Cert.Reference12Ideal.Value.run (F := Ideal) m ρ)

theorem algebraic : Cert.algebraic_Kernel12Ideal_Reference12Ideal := by
  intro m ρ m' ρ' _ hargs
  refine ⟨_, _, _, Value.run (F := Ideal) m ρ, ?_⟩
  refine (θ_run Cert.Reference12Ideal.defs _ _).mono (fun r h c => ?_) (Cert.Reference12Ideal.Value.run (F := Ideal) m' ρ')
  obtain ⟨h0, h1, h2, h3⟩ := hargs c
  obtain ⟨e0, e1, e2, eargs⟩ := h c
  rw [h0, h1, h2, h3] at e0
  rw [h1, h2] at e1
  rw [h1, h3] at e2
  exact ⟨e0.trans rfl, e1.trans rfl, e2.trans rfl, eargs⟩

end Cert.Kernel12Ideal.Val
end
-- ==== Proof.lean ====
/-
  The claims. Of each call: both programs of the kernel run and leave the machine at rest, and the ideal program computes,
  of the forward pass, what the plain lines compute, and of the backward pass the gradients that reverse differentiation of them computes.

  The backward attention, its ideal program the kernel's with the mask's constant named −∞, on finite arguments:
    Proof/Pay, Sem, Diag, Rect, Loop, Store, Body   the kernel's body on one block, as sums over its rows
    Proof/Run, Out                                  the launch, and the three arrays it leaves
    Proof/Host, Final                               the host's operands before the launch and the results after it
    Proof/Ref                                       the reference's four results as terms
    Proof/Frame                                     the frame of the kernel as printed
    Proof/Read, Math, Equal, Finite                 both read at an index, over the reals, and equal there
  The input projection's backward pass, with the norm before it, on all arguments:
    Proof/Point                                     what one point leaves, read at an index
    Proof/Input                                     the host's operands, and the two arrays after the launch
    Proof/Norm                                      the norm's gradient in a row, over the extended reals
    Proof/Norms                                     the reference, and the equality
  The projection's weight gradients by groups of columns, on all arguments:
    Proof/Qkv, Gate, Rest (and Halves)              the queries', keys' and values' columns, the gates', and the rest
  The feed-forward layer's backward pass, with the norm before it, where the weights and the cotangent are finite:
    Proof/Table                                     the call's table of layer numbers is the host's zeros
    Proof/Glu, GluRun                               the body on one block, and the launch, at any floats
    Proof/Silu                                      the gate's derivative, two ways
    Proof/GluPoint, GluArr                          a point read at an index, and the six arrays after the launch
    Proof/GluRef, GluEqual                          the reference, and the equality
    Proof/GluFrame                                  the frame of the kernel as printed
  The feed-forward layer's forward call, on all arguments:
    Proof/Ffn, FfnArr                               a point read at an index, and the two arrays after the launch
    Proof/FfnEqual                                  the reference, the equality, and the frames
  The weight gradients of the feed-forward layer's input and output, accumulated into stacked buffers, on all arguments:
    Proof/IntoRun, IntoOutRun                       the body on one block, the table, and the launch, at any floats
    Proof/Into, IntoOut                             the array after the launch, the reference, the equality, and the frames
  The input projection's forward call, on all arguments:
    Proof/InProj                                    a point, the four arrays after the launch, the reference, and the equality
  The loss head, and the optimiser's update of the feed-forward layer's output weight, on all arguments:
    Proof/Loss                                      a point, the two arrays after the launch, the reference, and the equality
    Proof/Adam                                      the three arrays are the reference's, term for term
-/
module

public import proofs.«01_k».proof.Defs
public import proofs.«01_k».proof.Proof.Finite
public import proofs.«01_k».proof.Proof.Frame
public import proofs.«01_k».proof.Proof.Norms
public import proofs.«01_k».proof.Proof.Qkv
public import proofs.«01_k».proof.Proof.Gate
public import proofs.«01_k».proof.Proof.Rest
public import proofs.«01_k».proof.Proof.Gen.Kernel
public import proofs.«01_k».proof.Proof.Gen.KernelIdeal
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6
public import proofs.«01_k».proof.Proof.GluEqual
public import proofs.«01_k».proof.Proof.GluFrame
public import proofs.«01_k».proof.Proof.Gen.Reference6Ideal.Run
public import proofs.«01_k».proof.Proof.FfnEqual
public import proofs.«01_k».proof.Proof.InProj
public import proofs.«01_k».proof.Proof.Gen.Kernel7
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Into
public import proofs.«01_k».proof.Proof.Gen.Kernel9
public import proofs.«01_k».proof.Proof.IntoOut
public import proofs.«01_k».proof.Proof.Gen.Kernel11.Frame
public import proofs.«01_k».proof.Proof.Gen.Kernel12.Frame
public import proofs.«01_k».proof.Proof.Loss
public import proofs.«01_k».proof.Proof.Adam
public import proofs.«01_k».proof.Proof.Gen.Kernel10
public import proofs.«01_k».proof.Proof.Gen.Reference10Ideal.Run
public import proofs.«01_k».proof.Proof.Gen.Reference9Ideal.Run
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem
open Cert.KernelIdeal.Val

attribute [local instance] finite_facts

/-- The reference runs, leaves its arguments, and has no semaphore. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2.2, sem_eq_zero_of_no_sems (by decide) r.2⟩)
    (Cert.ReferenceIdeal.Value.run (F := Ideal) m ρ)

/-- On finite arguments the kernel's four gradients are the reference's. -/
theorem algebraic : Cert.algebraic_KernelIdeal_ReferenceIdeal_pre_finite (hKernelIdeal := Cert.KernelIdeal.Gen.facts) (hReferenceIdeal := Cert.ReferenceIdeal.Gen.facts) (hPre_finite := finite_facts) := by
  intro m ρ m' ρ' hpre hargs
  refine ⟨fun c => fDq (outQ m c), fun c => fDk (outKs m c) hLn2, fun c => fDv (outVs m c), fun c => revCum (fDc (outQ m c) (outKs m c)), ?_, ?_⟩
  · exact (θ_run Cert.KernelIdeal.defs _ _).mono (fun r h c => ⟨(h.1 c).1, (h.1 c).2.1, (h.1 c).2.2.1, (h.1 c).2.2.2, h.2.1 c⟩) (θ_run_and (run_values m ρ) (frame_ideal m ρ))
  · refine (θ_run Cert.ReferenceIdeal.defs _ _).mono (fun r h c => ?_) (Cert.ReferenceIdeal.Value.run (F := Ideal) m' ρ')
    obtain ⟨q', k', v', g', C, M, R⟩ := exists_real (hpre c)
    obtain ⟨h0, h1, h2, h3, h4⟩ := hargs c
    obtain ⟨e0, e1, e2, e3, eargs⟩ := h c
    have hQ : Cert.ReferenceIdeal.Val.bQ m' c = aQ m c := h0
    have hK : Cert.ReferenceIdeal.Val.bK m' c = aK m c := h1
    have hV : Cert.ReferenceIdeal.Val.bV m' c = aV m c := h2
    have hF : Cert.ReferenceIdeal.Val.bF m' c = aF m c := h3
    have hG : Cert.ReferenceIdeal.Val.bG m' c = aG m c := h4
    refine ⟨e0.trans ?_, e1.trans ?_, e2.trans ?_, e3.trans ?_, eargs⟩
    · show _ = fDq (outQ m c)
      rw [Cert.ReferenceIdeal.Val.res_dq, outQ_eq, hQ, hK, hV, hF, hG]
      exact (Cert.ReferenceIdeal.Val.dq_eq R).symm
    · show _ = fDk (outKs m c) hLn2
      rw [Cert.ReferenceIdeal.Val.res_dk, outKs_eq, hQ, hK, hV, hF, hG]
      exact (Cert.ReferenceIdeal.Val.dk_eq R).symm
    · show _ = fDv (outVs m c)
      rw [Cert.ReferenceIdeal.Val.res_dv, outVs_eq, hQ, hK, hF, hG]
      exact (Cert.ReferenceIdeal.Val.dv_eq R).symm
    · show _ = revCum (fDc (outQ m c) (outKs m c))
      rw [Cert.ReferenceIdeal.Val.res_df, outQ_eq, outKs_eq, hQ, hK, hV, hF, hG]
      exact (Cert.ReferenceIdeal.Val.df_eq R).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts, Cert.Kernel10Ideal.Gen.facts, Cert.Reference10Ideal.Gen.facts,
    Cert.Kernel11.Gen.facts, Cert.Kernel11Ideal.Gen.facts, Cert.Reference11Ideal.Gen.facts, Cert.Kernel12.Gen.facts, Cert.Kernel12Ideal.Gen.facts, Cert.Reference12Ideal.Gen.facts,
    finite_facts, Cert.Kernel6Ideal.Val.bounded_facts,
    fun m ρ _ => Cert.Kernel.Val.frame m ρ, fun m ρ _ => frame_ideal m ρ, fun m ρ _ => frame_ideal m ρ,
    fun m ρ _ => frame_ref m ρ, fun m ρ _ => frame_ref m ρ,
    fun m ρ _ => Cert.Kernel2.Gen.frame (F := Bits) m ρ, fun m ρ _ => Cert.Kernel2Ideal.Gen.frame (F := Ideal) m ρ, fun m ρ _ => Cert.Reference2Ideal.Val.frame_ref m ρ,
    fun m ρ _ => Cert.Kernel3.Gen.frame (F := Bits) m ρ, fun m ρ _ => Cert.Kernel3Ideal.Gen.frame (F := Ideal) m ρ, fun m ρ _ => Cert.Kernel3Ideal.Val.frame_ref m ρ,
    fun m ρ _ => Cert.Kernel4.Gen.frame (F := Bits) m ρ, fun m ρ _ => Cert.Kernel4Ideal.Gen.frame (F := Ideal) m ρ, fun m ρ _ => Cert.Kernel4Ideal.Val.frame_ref m ρ,
    fun m ρ _ => Cert.Kernel5.Gen.frame (F := Bits) m ρ, fun m ρ _ => Cert.Kernel5Ideal.Gen.frame (F := Ideal) m ρ, fun m ρ _ => Cert.Kernel5Ideal.Val.frame_ref m ρ,
    Cert.Kernel6Ideal.Val.frame_printed, fun m ρ _ => Cert.Kernel6Ideal.Val.frame_main m ρ, fun m ρ _ => Cert.Kernel6Ideal.Val.frame_main m ρ,
    fun m ρ _ => Cert.Reference6Ideal.Val.frame_ref m ρ, fun m ρ _ => Cert.Reference6Ideal.Val.frame_ref m ρ,
    Cert.Kernel7Ideal.Val.frame_printed, Cert.Kernel7Ideal.Val.frame_ideal, fun m ρ _ => Cert.Reference7Ideal.Val.frame_ref m ρ,
    fun m ρ _ => Cert.Kernel8.Gen.frame (F := Bits) m ρ, fun m ρ _ => Cert.Kernel8Ideal.Gen.frame (F := Ideal) m ρ, fun m ρ _ => Cert.Reference8Ideal.Val.frame_ref m ρ,
    Cert.Kernel9Ideal.Val.frame_printed, Cert.Kernel9Ideal.Val.frame_ideal, fun m ρ _ => Cert.Kernel9Ideal.Val.frame_ref m ρ,
    Cert.Kernel10Ideal.Val.frame_printed, Cert.Kernel10Ideal.Val.frame_ideal, fun m ρ _ => Cert.Kernel10Ideal.Val.frame_ref m ρ,
    fun m ρ _ => Cert.Kernel11.Gen.frame (F := Bits) m ρ, fun m ρ _ => Cert.Kernel11Ideal.Gen.frame (F := Ideal) m ρ, fun m ρ _ => Cert.Kernel11Ideal.Val.frame_ref m ρ,
    fun m ρ _ => Cert.Kernel12.Gen.frame (F := Bits) m ρ, fun m ρ _ => Cert.Kernel12Ideal.Gen.frame (F := Ideal) m ρ, fun m ρ _ => Cert.Kernel12Ideal.Val.frame_ref m ρ,
    IdealRules.named_const.statement Cert.KernelIdeal.κ "mask" .f32 0xF149F2CA#32 ⊥ rfl, algebraic,
    trivial, Cert.Kernel2Ideal.Val.algebraic, trivial, Cert.Kernel3Ideal.Val.algebraic, trivial, Cert.Kernel4Ideal.Val.algebraic,
    trivial, Cert.Kernel5Ideal.Val.algebraic, trivial, Cert.Kernel6Ideal.Val.algebraic, trivial, Cert.Kernel7Ideal.Val.algebraic, trivial, Cert.Kernel8Ideal.Val.algebraic, trivial, Cert.Kernel9Ideal.Val.algebraic, trivial, Cert.Kernel10Ideal.Val.algebraic,
    trivial, Cert.Kernel11Ideal.Val.algebraic, trivial, Cert.Kernel12Ideal.Val.algebraic⟩

end Cert.Proof

end
